-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mix2 [hPre_finite_mix2 : Cert.Pre_finite_mix2.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mix2.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mix2 [hPre_finite_mix2 : Cert.Pre_finite_mix2.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mix2.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_mix [hPre_finite_mix : Cert.Pre_finite_mix.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_mix.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_mix [hPre_finite_mix : Cert.Pre_finite_mix.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_mix.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite_mix2 [hKernel4Ideal : Cert.Kernel4Ideal.Facts] [hPre_finite_mix2 : Cert.Pre_finite_mix2.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mix2 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite_mix2 [hReference4Ideal : Cert.Reference4Ideal.Facts] [hPre_finite_mix2 : Cert.Pre_finite_mix2.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mix2 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite_mix [hKernel5Ideal : Cert.Kernel5Ideal.Facts] [hPre_finite_mix : Cert.Pre_finite_mix.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_mix m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite_mix [hReference5Ideal : Cert.Reference5Ideal.Facts] [hPre_finite_mix : Cert.Pre_finite_mix.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_mix m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  IdealRules.named_const.Statement Cert.KernelIdeal.κ "neg" .f32 0xF149F2CA#32 ⊥
  ∧ IdealRules.named_const.Statement Cert.KernelIdeal.κ "half_neg" .f32 0xF0C9F2CA#32 ⊥
  ∧ IdealRules.named_const.Statement Cert.KernelIdeal.κ "pos" .f32 0x7149F2CA#32 ⊤

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_mix2 [hKernel4Ideal : Cert.Kernel4Ideal.Facts] [hReference4Ideal : Cert.Reference4Ideal.Facts] [hPre_finite_mix2 : Cert.Pre_finite_mix2.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mix2 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal_pre_finite_mix [hKernel5Ideal : Cert.Kernel5Ideal.Facts] [hReference5Ideal : Cert.Reference5Ideal.Facts] [hPre_finite_mix : Cert.Pre_finite_mix.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_mix m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v65) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v22)) (v1 : (c : Dev Cert.Kernel7Ideal.nD) → Buf (Elt Ideal) ((c.tc : Thread Cert.Kernel7Ideal.nD Cert.Kernel7Ideal.τ).loc Cert.Kernel7Ideal.main_v23)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22) = v0 c
          ∧ r.2.mem ((c.tc : Thread Cert.Kernel7Ideal.nD Cert.Kernel7Ideal.τ).loc Cert.Kernel7Ideal.main_v23) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qk : Cert.Pre_finite_qk.Facts) (hPre_finite_mix2 : Cert.Pre_finite_mix2.Facts) (hPre_finite_mix : Cert.Pre_finite_mix.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_mix2 (hKernel4Ideal := hKernel4Ideal) (hPre_finite_mix2 := hPre_finite_mix2)
    ∧ quiescent_Reference4Ideal (hReference4Ideal := hReference4Ideal)
    ∧ quiescent_Reference4Ideal_pre_finite_mix2 (hReference4Ideal := hReference4Ideal) (hPre_finite_mix2 := hPre_finite_mix2)
    ∧ quiescent_Kernel5 (hKernel5 := hKernel5)
    ∧ quiescent_Kernel5Ideal (hKernel5Ideal := hKernel5Ideal)
    ∧ quiescent_Kernel5Ideal_pre_finite_mix (hKernel5Ideal := hKernel5Ideal) (hPre_finite_mix := hPre_finite_mix)
    ∧ quiescent_Reference5Ideal (hReference5Ideal := hReference5Ideal)
    ∧ quiescent_Reference5Ideal_pre_finite_mix (hReference5Ideal := hReference5Ideal) (hPre_finite_mix := hPre_finite_mix)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_mix2 (hKernel4Ideal := hKernel4Ideal) (hReference4Ideal := hReference4Ideal) (hPre_finite_mix2 := hPre_finite_mix2)
    ∧ preserves_Kernel5_Kernel5Ideal
    ∧ algebraic_Kernel5Ideal_Reference5Ideal_pre_finite_mix (hKernel5Ideal := hKernel5Ideal) (hReference5Ideal := hReference5Ideal) (hPre_finite_mix := hPre_finite_mix)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_mix.lean ====
abbrev S16384x1024 : Shape := ⟨2, ![16384, 1024]⟩
abbrev S1024x1024 : Shape := ⟨2, ![1024, 1024]⟩
abbrev S1024 : Shape := ⟨1, ![1024]⟩
abbrev S256 : Shape := ⟨1, ![256]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_v29 : IVec S_ 1) (main_v33 : IVec S256x1024 1) (main_c_11 : IVec S_ 1) : IVec S_ 1 :=
  let main_v34 : IVec S_ 1 := (fun x v => Host.reduce IntOp.andi x v reducesTo_S256x1024_S_d0_1 h_S_) main_v33 main_c_11
  let main_v35 : IVec S_ 1 := andi main_v29 main_v34
  main_v35

def fn_part1 {F : FTy → Type} [FloatOps F] (main_arg4 : FVec F S1024x1024 .f32) (main_arg5 : FVec F S256 .f32) (main_arg6 : FVec F S256x1024 .bf16) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S1024x1024 .f32 := Host.absf main_arg4
  let main_cst_6 : FVec F S_ .f32 := constant S_ .f32 0x7F800000#32
  let main_v21 : FVec F S1024x1024 .f32 := broadcastInDim S1024x1024 ![] bcast_S_S1024x1024 main_cst_6
  let main_v22 : IVec S1024x1024 1 := cmpf .olt main_v20 main_v21
  let main_c_7 : IVec S_ 1 := constantI S_ 1 1#1
  let main_v23 : IVec S_ 1 := (fun x v => Host.reduce IntOp.andi x v reducesTo_S1024x1024_S_d0_1 h_S_) main_v22 main_c_7
  let main_v24 : IVec S_ 1 := andi main_v19 main_v23
  let main_v25 : FVec F S256 .f32 := Host.absf main_arg5
  let main_cst_8 : FVec F S_ .f32 := constant S_ .f32 0x7F800000#32
  let main_v26 : FVec F S256 .f32 := broadcastInDim S256 ![] bcast_S_S256 main_cst_8
  let main_v27 : IVec S256 1 := cmpf .olt main_v25 main_v26
  let main_c_9 : IVec S_ 1 := constantI S_ 1 1#1
  let main_v28 : IVec S_ 1 := (fun x v => Host.reduce IntOp.andi x v reducesTo_S256_S_d0 h_S_) main_v27 main_c_9
  let main_v29 : IVec S_ 1 := andi main_v24 main_v28
  let main_v30 : FVec F S256x1024 .f32 := (extf .f32 · bitsLt_bf16_f32) main_arg6
  let main_v31 : FVec F S256x1024 .f32 := Host.absf main_v30
  let main_cst_10 : FVec F S_ .f32 := constant S_ .f32 0x7F800000#32
  let main_v32 : FVec F S256x1024 .f32 := broadcastInDim S256x1024 ![] bcast_S_S256x1024 main_cst_10
  let main_v33 : IVec S256x1024 1 := cmpf .olt main_v31 main_v32
  let main_c_11 : IVec S_ 1 := constantI S_ 1 1#1
  fn_part2 (F := F) main_v29 main_v33 main_c_11

def fn {F : FTy → Type} [FloatOps F] (main_arg0 : FVec F S16384x1024 .f32) (main_arg1 : FVec F S16384x1024 .bf16) (main_arg2 : FVec F S1024x1024 .f32) (main_arg3 : FVec F S1024 .f32) (main_arg4 : FVec F S1024x1024 .f32) (main_arg5 : FVec F S256 .f32) (main_arg6 : FVec F S256x1024 .bf16) (main_arg7 : FVec F S256x1024 .bf16) (main_arg8 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : IVec S_ 1 := andi main_v3 main_v8
  let main_v10 : FVec F S1024x1024 .f32 := Host.absf main_arg2
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_c_3 : IVec S_ 1 := constantI S_ 1 1#1
  let main_v13 : IVec S_ 1 := (fun x v => Host.reduce IntOp.andi x v reducesTo_S1024x1024_S_d0_1 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_arg4 main_arg5 main_arg6 main_v14 main_v15 main_v16
-- ==== Pre_finite_mix2.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S256 : Shape := ⟨1, ![256]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_arg7 : FVec F S256x1024 .bf16) (main_v30 : IVec S_ 1) (main_v33 : IVec S256 1) (main_c_11 : IVec S_ 1) : IVec S_ 1 :=
  let main_v34 : IVec S_ 1 := (fun x v => Host.reduce IntOp.andi x v reducesTo_S256_S_d0 h_S_) main_v33 main_c_11
  let main_v35 : IVec S_ 1 := andi main_v30 main_v34
  let main_v36 : FVec F S256x1024 .f32 := (extf .f32 · bitsLt_bf16_f32) main_arg7
  let main_v37 : FVec F S256x1024 .f32 := Host.absf main_v36
  let main_cst_12 : FVec F S_ .f32 := constant S_ .f32 0x7F800000#32
  let main_v38 : FVec F S256x1024 .f32 := broadcastInDim S256x1024 ![] bcast_S_S256x1024 main_cst_12
  let main_v39 : IVec S256x1024 1 := cmpf .olt main_v37 main_v38
  let main_c_13 : IVec S_ 1 := constantI S_ 1 1#1
  let main_v40 : IVec S_ 1 := (fun x v => Host.reduce IntOp.andi x v reducesTo_S256x1024_S_d0_1 h_S_) main_v39 main_c_13
  let main_v41 : IVec S_ 1 := andi main_v35 main_v40
  main_v41

def fn_part1 {F : FTy → Type} [FloatOps F] (main_arg4 : FVec F S1024 .f32) (main_arg5 : FVec F S1024x1024 .f32) (main_arg6 : FVec F S256 .f32) (main_arg7 : FVec F S256x1024 .bf16) (main_v15 : IVec S_ 1) (main_v16 : FVec F S1024x1024 .f32) (main_cst_4 : FVec F S_ .f32) : IVec S_ 1 :=
  let main_v17 : FVec F S1024x1024 .f32 := broadcastInDim S1024x1024 ![] bcast_S_S1024x1024 main_cst_4
  let main_v18 : IVec S1024x1024 1 := cmpf .olt main_v16 main_v17
  let main_c_5 : IVec S_ 1 := constantI S_ 1 1#1
  let main_v19 : IVec S_ 1 := (fun x v => Host.reduce IntOp.andi x v reducesTo_S1024x1024_S_d0_1 h_S_) main_v18 main_c_5
  let main_v20 : IVec S_ 1 := andi main_v15 main_v19
  let main_v21 : FVec F S1024 .f32 := Host.absf main_arg4
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_c_7 : IVec S_ 1 := constantI S_ 1 1#1
  let main_v24 : IVec S_ 1 := (fun x v => Host.reduce IntOp.andi x v reducesTo_S1024_S_d0 h_S_) main_v23 main_c_7
  let main_v25 : IVec S_ 1 := andi main_v20 main_v24
  let main_v26 : FVec F S1024x1024 .f32 := Host.absf main_arg5
  let main_cst_8 : FVec F S_ .f32 := constant S_ .f32 0x7F800000#32
  let main_v27 : FVec F S1024x1024 .f32 := broadcastInDim S1024x1024 ![] bcast_S_S1024x1024 main_cst_8
  let main_v28 : IVec S1024x1024 1 := cmpf .olt main_v26 main_v27
  let main_c_9 : IVec S_ 1 := constantI S_ 1 1#1
  let main_v29 : IVec S_ 1 := (fun x v => Host.reduce IntOp.andi x v reducesTo_S1024x1024_S_d0_1 h_S_) main_v28 main_c_9
  let main_v30 : IVec S_ 1 := andi main_v25 main_v29
  let main_v31 : FVec F S256 .f32 := Host.absf main_arg6
  let main_cst_10 : FVec F S_ .f32 := constant S_ .f32 0x7F800000#32
  let main_v32 : FVec F S256 .f32 := broadcastInDim S256 ![] bcast_S_S256 main_cst_10
  let main_v33 : IVec S256 1 := cmpf .olt main_v31 main_v32
  let main_c_11 : IVec S_ 1 := constantI S_ 1 1#1
  fn_part2 (F := F) main_arg7 main_v30 main_v33 main_c_11

def fn {F : FTy → Type} [FloatOps F] (main_arg0 : FVec F S16384x1024 .f32) (main_arg1 : FVec F S16384x512 .bf16) (main_arg2 : FVec F S16384x512 .bf16) (main_arg3 : FVec F S1024x1024 .f32) (main_arg4 : FVec F S1024 .f32) (main_arg5 : FVec F S1024x1024 .f32) (main_arg6 : FVec F S256 .f32) (main_arg7 : FVec F S256x1024 .bf16) (main_arg8 : FVec F S256x1024 .bf16) (main_arg9 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_c_1 : IVec S_ 1 := constantI S_ 1 1#1
  let main_v8 : IVec S_ 1 := (fun x v => Host.reduce IntOp.andi x v reducesTo_S16384x512_S_d0_1 h_S_) main_v7 main_c_1
  let main_v9 : IVec S_ 1 := andi main_v3 main_v8
  let main_v10 : FVec F S16384x512 .f32 := (extf .f32 · bitsLt_bf16_f32) main_arg2
  let main_v11 : FVec F S16384x512 .f32 := Host.absf main_v10
  let main_cst_2 : FVec F S_ .f32 := constant S_ .f32 0x7F800000#32
  let main_v12 : FVec F S16384x512 .f32 := broadcastInDim S16384x512 ![] bcast_S_S16384x512 main_cst_2
  let main_v13 : IVec S16384x512 1 := cmpf .olt main_v11 main_v12
  let main_c_3 : IVec S_ 1 := constantI S_ 1 1#1
  let main_v14 : IVec S_ 1 := (fun x v => Host.reduce IntOp.andi x v reducesTo_S16384x512_S_d0_1 h_S_) main_v13 main_c_3
  let main_v15 : IVec S_ 1 := andi main_v9 main_v14
  let main_v16 : FVec F S1024x1024 .f32 := Host.absf main_arg3
  let main_cst_4 : FVec F S_ .f32 := constant S_ .f32 0x7F800000#32
  fn_part1 (F := F) main_arg4 main_arg5 main_arg6 main_arg7 main_v15 main_v16 main_cst_4
-- ==== Pre_finite_qk.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : FVec F S16384x512 .f32) (main_arg2 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Kernel.lean ====
abbrev S16384x512 : Shape := ⟨2, ![16384, 512]⟩
abbrev S_ : Shape := ⟨0, ![]⟩
abbrev S512x16384 : Shape := ⟨2, ![512, 16384]⟩
abbrev S64x256x8x64 : Shape := ⟨4, ![64, 256, 8, 64]⟩
abbrev S64x8x64x256 : Shape := ⟨4, ![64, 8, 64, 256]⟩
abbrev S64x8x16x256 : Shape := ⟨4, ![64, 8, 16, 256]⟩
abbrev S64x8x80x256 : Shape := ⟨4, ![64, 8, 80, 256]⟩
abbrev S64x256x512 : Shape := ⟨3, ![64, 256, 512]⟩
abbrev S64x512 : Shape := ⟨2, ![64, 512]⟩
abbrev S128x512 : Shape := ⟨2, ![128, 512]⟩
abbrev S16384x128 : Shape := ⟨2, ![16384, 128]⟩
abbrev S64x2x80x256 : Shape := ⟨4, ![64, 2, 80, 256]⟩
abbrev S128x128 : Shape := ⟨2, ![128, 128]⟩
abbrev S512x128 : Shape := ⟨2, ![512, 128]⟩
abbrev S2x8x256 : Shape := ⟨3, ![2, 8, 256]⟩
abbrev S2x80x256 : Shape := ⟨3, ![2, 80, 256]⟩
abbrev S2x2x256x256 : Shape := ⟨4, ![2, 2, 256, 256]⟩
abbrev S128x256 : Shape := ⟨2, ![128, 256]⟩
abbrev S256x256 : Shape := ⟨2, ![256, 256]⟩
abbrev S256x128 : Shape := ⟨2, ![256, 128]⟩
abbrev S256 : Shape := ⟨1, ![256]⟩
abbrev S1x256 : Shape := ⟨2, ![1, 256]⟩
abbrev S1x1x256 : Shape := ⟨3, ![1, 1, 256]⟩
abbrev S8x256 : Shape := ⟨2, ![8, 256]⟩
abbrev S1x8x256 : Shape := ⟨3, ![1, 8, 256]⟩
abbrev S1x1x80x256 : Shape := ⟨4, ![1, 1, 80, 256]⟩
abbrev S80x256 : Shape := ⟨2, ![80, 256]⟩
abbrev S1x80x256 : Shape := ⟨3, ![1, 80, 256]⟩
abbrev S1x1x256x256 : Shape := ⟨4, ![1, 1, 256, 256]⟩
abbrev S80x512 : Shape := ⟨2, ![80, 512]⟩
abbrev S512x256 : Shape := ⟨2, ![512, 256]⟩
abbrev S64x256 : Shape := ⟨2, ![64, 256]⟩

abbrev nBuf : Space → Nat
  | .hbm => 29
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16384x512, .f32⟩
  | .hbm, ⟨8, _⟩ => ⟨S16384x512, .f32⟩
  | .hbm, ⟨9, _⟩ => ⟨S512x16384, .f32⟩
  | .hbm, ⟨10, _⟩ => ⟨S512x16384, .bf16⟩
  | .hbm, ⟨11, _⟩ => ⟨S16384x512, .bf16⟩
  | .hbm, ⟨12, _⟩ => ⟨S64x256x8x64, .f32⟩
  | .hbm, ⟨13, _⟩ => ⟨S64x8x64x256, .f32⟩
  | .hbm, ⟨14, _⟩ => ⟨S_, .f32⟩
  | .hbm, ⟨15, _⟩ => ⟨S64x8x16x256, .f32⟩
  | .hbm, ⟨16, _⟩ => ⟨S64x8x80x256, .f32⟩
  | .hbm, ⟨17, _⟩ => ⟨S64x8x80x256, .bf16⟩
  | .hbm, ⟨18, _⟩ => ⟨S64x256x512, .f32⟩
  | .hbm, ⟨19, _⟩ => ⟨S_, .f32⟩
  | .hbm, ⟨20, _⟩ => ⟨S64x512, .f32⟩
  | .hbm, ⟨21, _⟩ => ⟨S_, .f32⟩
  | .hbm, ⟨22, _⟩ => ⟨S64x512, .f32⟩
  | .hbm, ⟨23, _⟩ => ⟨S64x512, .f32⟩
  | .hbm, ⟨24, _⟩ => ⟨S_, .i32⟩
  | .hbm, ⟨25, _⟩ => ⟨S_, .f32⟩
  | .hbm, ⟨26, _⟩ => ⟨S128x512, .f32⟩
  | .hbm, ⟨27, _⟩ => ⟨S128x512, .bf16⟩
  | .hbm, ⟨28, _⟩ => ⟨S16384x512, .bf16⟩
  | .local _ .vmem, ⟨0, _⟩ => ⟨S128x512, .bf16⟩
  | .local _ .vmem, ⟨1, _⟩ => ⟨S128x512, .bf16⟩
  | .local _ .vmem, ⟨2, _⟩ => ⟨S16384x128, .bf16⟩
  | .local _ .vmem, ⟨3, _⟩ => ⟨S16384x128, .bf16⟩
  | .local _ .vmem, ⟨4, _⟩ => ⟨S64x2x80x256, .bf16⟩
  | .local _ .vmem, ⟨5, _⟩ => ⟨S64x2x80x256, .bf16⟩
  | .local _ .vmem, ⟨6, _⟩ => ⟨S128x128, .bf16⟩
  | .local _ .vmem, ⟨7, _⟩ => ⟨S128x128, .bf16⟩
  | .local _ .vmem, ⟨8, _⟩ => ⟨S512x128, .bf16⟩
  | .local _ .vmem, ⟨9, _⟩ => ⟨S512x128, .bf16⟩
  | .local _ .vmem, ⟨10, _⟩ => ⟨S2x8x256, .f32⟩
  | .local _ .vmem, ⟨11, _⟩ => ⟨S2x80x256, .f32⟩
  | .local _ .vmem, ⟨12, _⟩ => ⟨S2x8x256, .f32⟩
  | .local _ .vmem, ⟨13, _⟩ => ⟨S2x2x256x256, .f32⟩
  | .local _ .vmem, ⟨14, _⟩ => ⟨S2x2x256x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c256_i32 : BitVec 32 := 256#32
  let v24 : BitVec 32 := Scalar.muli v1 c256_i32
  v24
def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let v1 : BitVec 32 := Scalar.addi v0 c0_i32
  let c256_i32 : BitVec 32 := 256#32
  let v24 : BitVec 32 := Scalar.muli v1 c256_i32
  let v25 : BitVec 32 := v24
  let v26 : Index := Scalar.indexCast v25
  let c0_5 : Index := 0#32
  ![v26.toNat, 0]
def k0_off2 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let v1 : BitVec 32 := Scalar.addi v0 c0_i32
  let v100 : Index := Scalar.indexCast v1
  let c0_40 : Index := 0#32
  let c0_41 : Index := 0#32
  let c0_42 : Index := 0#32
  ![v100.toNat, 0, 0, 0]
def k0_off3 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let v1 : BitVec 32 := Scalar.addi v0 c0_i32
  let v182 : Index := Scalar.indexCast v1
  let c1_83 : Index := 1#32
  let c0_84 : Index := 0#32
  let c0_85 : Index := 0#32
  ![v182.toNat, 1, 0, 0]
def k0_mult2 : BitVec 32 :=
  let c0_i32_90 : BitVec 32 := 0#32
  let c63_i32 : BitVec 32 := 63#32
  let v193 : BitVec 32 := Scalar.minsi c0_i32_90 c63_i32
  let c256_i32_91 : BitVec 32 := 256#32
  let v194 : BitVec 32 := Scalar.muli v193 c256_i32_91
  v194
def k0_off4 (c0_i32_90 : BitVec 32) : Fin 2 → Nat :=
  let c63_i32 : BitVec 32 := 63#32
  let v193 : BitVec 32 := Scalar.minsi c0_i32_90 c63_i32
  let c256_i32_91 : BitVec 32 := 256#32
  let v194 : BitVec 32 := Scalar.muli v193 c256_i32_91
  let v195 : BitVec 32 := v194
  let v196 : Index := Scalar.indexCast v195
  let c0_92 : Index := 0#32
  ![v196.toNat, 0]
def k0_mult3 : BitVec 32 :=
  let c1_i32 : BitVec 32 := 1#32
  let c63_i32_103 : BitVec 32 := 63#32
  let v207 : BitVec 32 := Scalar.minsi c1_i32 c63_i32_103
  let c256_i32_104 : BitVec 32 := 256#32
  let v208 : BitVec 32 := Scalar.muli v207 c256_i32_104
  v208
@[reducible] def k0_t1_loop (i : grid0.Coords) : Scf.Loop 32 :=
  let c0_i32_123 : BitVec 32 := 0#32
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c3_i32 : BitVec 32 := 3#32
  let v221 : BitVec 32 := Scalar.addi v1 c3_i32
  let c0_i32_116 : BitVec 32 := 0#32
  let v223 : BitVec 1 := Scalar.cmpi .sgt v221 c0_i32_116
  let v224 : BitVec 32 := Scalar.extui v223
  let c0_i32_117 : BitVec 32 := 0#32
  let v225 : BitVec 1 := Scalar.cmpi .slt v221 c0_i32_117
  let v226 : BitVec 32 := Scalar.extui v225
  let v227 : BitVec 32 := Scalar.subi v224 v226
  let c4_i32 : BitVec 32 := 4#32
  let c0_i32_118 : BitVec 32 := 0#32
  let v228 : BitVec 1 := Scalar.cmpi .sgt c4_i32 c0_i32_118
  let v229 : BitVec 32 := Scalar.extui v228
  let c0_i32_119 : BitVec 32 := 0#32
  let v230 : BitVec 1 := Scalar.cmpi .slt c4_i32 c0_i32_119
  let v231 : BitVec 32 := Scalar.extui v230
  let v232 : BitVec 32 := Scalar.subi v229 v231
  let v233 : BitVec 1 := Scalar.cmpi .ne v227 v232
  let v234 : BitVec 32 := Scalar.remsi v221 c4_i32
  let c0_i32_120 : BitVec 32 := 0#32
  let v235 : BitVec 1 := Scalar.cmpi .ne v234 c0_i32_120
  let v236 : BitVec 1 := Scalar.andi v233 v235
  let v222 : BitVec 32 := Scalar.divsi v221 c4_i32
  let c1_i32_121 : BitVec 32 := 1#32
  let v237 : BitVec 32 := Scalar.subi v222 c1_i32_121
  let v238 : BitVec 32 := Scalar.select v236 v237 v222
  let v239 : BitVec 32 := Scalar.subi v238 c0_i32_123
  let c1_i32_124 : BitVec 32 := 1#32
  let v241 : BitVec 32 := Scalar.divsi v239 c1_i32_124
  let v242 : BitVec 32 := Scalar.muli v241 c1_i32_124
  let v243 : BitVec 32 := Scalar.addi c0_i32_123 v242
  let c1_i32_125 : BitVec 32 := 1#32
  ⟨c0_i32_123, v243, c1_i32_125⟩
def k0_mult4 (i : grid0.Coords) (k0_t1 : Fin (k0_t1_loop i).trips) : BitVec 32 :=
  let c2_i32_297 : BitVec 32 := 2#32
  let c2_i32_295 : BitVec 32 := 2#32
  let c0_i32_123 : BitVec 32 := 0#32
  let c1_i32_125 : BitVec 32 := 1#32
  let arg12 : BitVec 32 := Scf.iv c0_i32_123 c1_i32_125 k0_t1
  let v528 : BitVec 32 := Scalar.muli c2_i32_295 arg12
  let c1_i32_296 : BitVec 32 := 1#32
  let v529 : BitVec 32 := Scalar.addi v528 c1_i32_296
  let v530 : BitVec 32 := Scalar.muli c2_i32_297 v529
  let c0_i32_298 : BitVec 32 := 0#32
  let v531 : BitVec 32 := Scalar.addi v530 c0_i32_298
  let c63_i32_299 : BitVec 32 := 63#32
  let v532 : BitVec 32 := Scalar.minsi v531 c63_i32_299
  let c256_i32_300 : BitVec 32 := 256#32
  let v533 : BitVec 32 := Scalar.muli v532 c256_i32_300
  v533
def k0_off5 (i : grid0.Coords) (k0_t1 : Fin (k0_t1_loop i).trips) (c1_i32_296 : BitVec 32) (c0_i32_298 : BitVec 32) : Fin 2 → Nat :=
  let c2_i32_297 : BitVec 32 := 2#32
  let c2_i32_295 : BitVec 32 := 2#32
  let c0_i32_123 : BitVec 32 := 0#32
  let c1_i32_125 : BitVec 32 := 1#32
  let arg12 : BitVec 32 := Scf.iv c0_i32_123 c1_i32_125 k0_t1
  let v528 : BitVec 32 := Scalar.muli c2_i32_295 arg12
  let v529 : BitVec 32 := Scalar.addi v528 c1_i32_296
  let v530 : BitVec 32 := Scalar.muli c2_i32_297 v529
  let v531 : BitVec 32 := Scalar.addi v530 c0_i32_298
  let c63_i32_299 : BitVec 32 := 63#32
  let v532 : BitVec 32 := Scalar.minsi v531 c63_i32_299
  let c256_i32_300 : BitVec 32 := 256#32
  let v533 : BitVec 32 := Scalar.muli v532 c256_i32_300
  let v534 : BitVec 32 := v533
  let v535 : Index := Scalar.indexCast v534
  let c0_301 : Index := 0#32
  ![v535.toNat, 0]
def k0_mult5 (i : grid0.Coords) (k0_t1 : Fin (k0_t1_loop i).trips) : BitVec 32 :=
  let c2_i32_312 : BitVec 32 := 2#32
  let c2_i32_295 : BitVec 32 := 2#32
  let c0_i32_123 : BitVec 32 := 0#32
  let c1_i32_125 : BitVec 32 := 1#32
  let arg12 : BitVec 32 := Scf.iv c0_i32_123 c1_i32_125 k0_t1
  let v528 : BitVec 32 := Scalar.muli c2_i32_295 arg12
  let c1_i32_296 : BitVec 32 := 1#32
  let v529 : BitVec 32 := Scalar.addi v528 c1_i32_296
  let v546 : BitVec 32 := Scalar.muli c2_i32_312 v529
  let c1_i32_313 : BitVec 32 := 1#32
  let v547 : BitVec 32 := Scalar.addi v546 c1_i32_313
  let c63_i32_314 : BitVec 32 := 63#32
  let v548 : BitVec 32 := Scalar.minsi v547 c63_i32_314
  let c256_i32_315 : BitVec 32 := 256#32
  let v549 : BitVec 32 := Scalar.muli v548 c256_i32_315
  v549
def k0_off6 (i : grid0.Coords) (k0_t1 : Fin (k0_t1_loop i).trips) (c0_i32_329 : BitVec 32) : Fin 4 → Nat :=
  let c2_i32_328 : BitVec 32 := 2#32
  let c2_i32_327 : BitVec 32 := 2#32
  let c0_i32_123 : BitVec 32 := 0#32
  let c1_i32_125 : BitVec 32 := 1#32
  let arg12 : BitVec 32 := Scf.iv c0_i32_123 c1_i32_125 k0_t1
  let v562 : BitVec 32 := Scalar.muli c2_i32_327 arg12
  let v563 : BitVec 32 := Scalar.muli c2_i32_328 v562
  let v564 : BitVec 32 := Scalar.addi v563 c0_i32_329
  let c63_i32_330 : BitVec 32 := 63#32
  let v565 : BitVec 32 := Scalar.minsi v564 c63_i32_330
  let v566 : Index := Scalar.indexCast v565
  let c0_331 : Index := 0#32
  let c0_332 : Index := 0#32
  let c0_333 : Index := 0#32
  ![v566.toNat, 0, 0, 0]
def k0_off7 (i : grid0.Coords) (k0_t1 : Fin (k0_t1_loop i).trips) (c0_i32_386 : BitVec 32) : Fin 4 → Nat :=
  let c2_i32_328 : BitVec 32 := 2#32
  let c2_i32_327 : BitVec 32 := 2#32
  let c0_i32_123 : BitVec 32 := 0#32
  let c1_i32_125 : BitVec 32 := 1#32
  let arg12 : BitVec 32 := Scf.iv c0_i32_123 c1_i32_125 k0_t1
  let v562 : BitVec 32 := Scalar.muli c2_i32_327 arg12
  let v563 : BitVec 32 := Scalar.muli c2_i32_328 v562
  let v652 : BitVec 32 := Scalar.addi v563 c0_i32_386
  let c63_i32_387 : BitVec 32 := 63#32
  let v653 : BitVec 32 := Scalar.minsi v652 c63_i32_387
  let v654 : Index := Scalar.indexCast v653
  let c1_388 : Index := 1#32
  let c0_389 : Index := 0#32
  let c0_390 : Index := 0#32
  ![v654.toNat, 1, 0, 0]
def k0_mult6 (i : grid0.Coords) (k0_t1 : Fin (k0_t1_loop i).trips) : BitVec 32 :=
  let c2_i32_445 : BitVec 32 := 2#32
  let c2_i32_443 : BitVec 32 := 2#32
  let c0_i32_123 : BitVec 32 := 0#32
  let c1_i32_125 : BitVec 32 := 1#32
  let arg12 : BitVec 32 := Scf.iv c0_i32_123 c1_i32_125 k0_t1
  let v740 : BitVec 32 := Scalar.muli c2_i32_443 arg12
  let c2_i32_444 : BitVec 32 := 2#32
  let v741 : BitVec 32 := Scalar.addi v740 c2_i32_444
  let v742 : BitVec 32 := Scalar.muli c2_i32_445 v741
  let c0_i32_446 : BitVec 32 := 0#32
  let v743 : BitVec 32 := Scalar.addi v742 c0_i32_446
  let c63_i32_447 : BitVec 32 := 63#32
  let v744 : BitVec 32 := Scalar.minsi v743 c63_i32_447
  let c256_i32_448 : BitVec 32 := 256#32
  let v745 : BitVec 32 := Scalar.muli v744 c256_i32_448
  v745
def k0_mult7 (i : grid0.Coords) (k0_t1 : Fin (k0_t1_loop i).trips) : BitVec 32 :=
  let c2_i32_460 : BitVec 32 := 2#32
  let c2_i32_443 : BitVec 32 := 2#32
  let c0_i32_123 : BitVec 32 := 0#32
  let c1_i32_125 : BitVec 32 := 1#32
  let arg12 : BitVec 32 := Scf.iv c0_i32_123 c1_i32_125 k0_t1
  let v740 : BitVec 32 := Scalar.muli c2_i32_443 arg12
  let c2_i32_444 : BitVec 32 := 2#32
  let v741 : BitVec 32 := Scalar.addi v740 c2_i32_444
  let v758 : BitVec 32 := Scalar.muli c2_i32_460 v741
  let c1_i32_461 : BitVec 32 := 1#32
  let v759 : BitVec 32 := Scalar.addi v758 c1_i32_461
  let c63_i32_462 : BitVec 32 := 63#32
  let v760 : BitVec 32 := Scalar.minsi v759 c63_i32_462
  let c256_i32_463 : BitVec 32 := 256#32
  let v761 : BitVec 32 := Scalar.muli v760 c256_i32_463
  v761
def k0_off8 (i : grid0.Coords) (k0_t1 : Fin (k0_t1_loop i).trips) (c0_i32_478 : BitVec 32) : Fin 4 → Nat :=
  let c2_i32_477 : BitVec 32 := 2#32
  let c2_i32_475 : BitVec 32 := 2#32
  let c0_i32_123 : BitVec 32 := 0#32
  let c1_i32_125 : BitVec 32 := 1#32
  let arg12 : BitVec 32 := Scf.iv c0_i32_123 c1_i32_125 k0_t1
  let v774 : BitVec 32 := Scalar.muli c2_i32_475 arg12
  let c1_i32_476 : BitVec 32 := 1#32
  let v775 : BitVec 32 := Scalar.addi v774 c1_i32_476
  let v776 : BitVec 32 := Scalar.muli c2_i32_477 v775
  let v777 : BitVec 32 := Scalar.addi v776 c0_i32_478
  let c63_i32_479 : BitVec 32 := 63#32
  let v778 : BitVec 32 := Scalar.minsi v777 c63_i32_479
  let v779 : Index := Scalar.indexCast v778
  let c0_480 : Index := 0#32
  let c0_481 : Index := 0#32
  let c0_482 : Index := 0#32
  ![v779.toNat, 0, 0, 0]
def k0_off9 (i : grid0.Coords) (k0_t1 : Fin (k0_t1_loop i).trips) (c0_i32_535 : BitVec 32) : Fin 4 → Nat :=
  let c2_i32_477 : BitVec 32 := 2#32
  let c2_i32_475 : BitVec 32 := 2#32
  let c0_i32_123 : BitVec 32 := 0#32
  let c1_i32_125 : BitVec 32 := 1#32
  let arg12 : BitVec 32 := Scf.iv c0_i32_123 c1_i32_125 k0_t1
  let v774 : BitVec 32 := Scalar.muli c2_i32_475 arg12
  let c1_i32_476 : BitVec 32 := 1#32
  let v775 : BitVec 32 := Scalar.addi v774 c1_i32_476
  let v776 : BitVec 32 := Scalar.muli c2_i32_477 v775
  let v865 : BitVec 32 := Scalar.addi v776 c0_i32_535
  let c63_i32_536 : BitVec 32 := 63#32
  let v866 : BitVec 32 := Scalar.minsi v865 c63_i32_536
  let v867 : Index := Scalar.indexCast v866
  let c1_537 : Index := 1#32
  let c0_538 : Index := 0#32
  let c0_539 : Index := 0#32
  ![v867.toNat, 1, 0, 0]
@[reducible] def k0_t2_loop (i : grid0.Coords) : Scf.Loop 32 :=
  let c0_i32_123 : BitVec 32 := 0#32
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c3_i32 : BitVec 32 := 3#32
  let v221 : BitVec 32 := Scalar.addi v1 c3_i32
  let c0_i32_116 : BitVec 32 := 0#32
  let v223 : BitVec 1 := Scalar.cmpi .sgt v221 c0_i32_116
  let v224 : BitVec 32 := Scalar.extui v223
  let c0_i32_117 : BitVec 32 := 0#32
  let v225 : BitVec 1 := Scalar.cmpi .slt v221 c0_i32_117
  let v226 : BitVec 32 := Scalar.extui v225
  let v227 : BitVec 32 := Scalar.subi v224 v226
  let c4_i32 : BitVec 32 := 4#32
  let c0_i32_118 : BitVec 32 := 0#32
  let v228 : BitVec 1 := Scalar.cmpi .sgt c4_i32 c0_i32_118
  let v229 : BitVec 32 := Scalar.extui v228
  let c0_i32_119 : BitVec 32 := 0#32
  let v230 : BitVec 1 := Scalar.cmpi .slt c4_i32 c0_i32_119
  let v231 : BitVec 32 := Scalar.extui v230
  let v232 : BitVec 32 := Scalar.subi v229 v231
  let v233 : BitVec 1 := Scalar.cmpi .ne v227 v232
  let v234 : BitVec 32 := Scalar.remsi v221 c4_i32
  let c0_i32_120 : BitVec 32 := 0#32
  let v235 : BitVec 1 := Scalar.cmpi .ne v234 c0_i32_120
  let v236 : BitVec 1 := Scalar.andi v233 v235
  let v222 : BitVec 32 := Scalar.divsi v221 c4_i32
  let c1_i32_121 : BitVec 32 := 1#32
  let v237 : BitVec 32 := Scalar.subi v222 c1_i32_121
  let v238 : BitVec 32 := Scalar.select v236 v237 v222
  let v239 : BitVec 32 := Scalar.subi v238 c0_i32_123
  let c1_i32_124 : BitVec 32 := 1#32
  let v241 : BitVec 32 := Scalar.divsi v239 c1_i32_124
  let v242 : BitVec 32 := Scalar.muli v241 c1_i32_124
  let v243 : BitVec 32 := Scalar.addi c0_i32_123 v242
  let v240 : BitVec 32 := Scalar.addi c0_i32_123 v239
  let c1_i32_126 : BitVec 32 := 1#32
  ⟨v243, v240, c1_i32_126⟩
def k0_mult8 (i : grid0.Coords) (k0_t2 : Fin (k0_t2_loop i).trips) : BitVec 32 :=
  let c2_i32_297 : BitVec 32 := 2#32
  let c2_i32_295 : BitVec 32 := 2#32
  let c0_i32_123 : BitVec 32 := 0#32
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c3_i32 : BitVec 32 := 3#32
  let v221 : BitVec 32 := Scalar.addi v1 c3_i32
  let c0_i32_116 : BitVec 32 := 0#32
  let v223 : BitVec 1 := Scalar.cmpi .sgt v221 c0_i32_116
  let v224 : BitVec 32 := Scalar.extui v223
  let c0_i32_117 : BitVec 32 := 0#32
  let v225 : BitVec 1 := Scalar.cmpi .slt v221 c0_i32_117
  let v226 : BitVec 32 := Scalar.extui v225
  let v227 : BitVec 32 := Scalar.subi v224 v226
  let c4_i32 : BitVec 32 := 4#32
  let c0_i32_118 : BitVec 32 := 0#32
  let v228 : BitVec 1 := Scalar.cmpi .sgt c4_i32 c0_i32_118
  let v229 : BitVec 32 := Scalar.extui v228
  let c0_i32_119 : BitVec 32 := 0#32
  let v230 : BitVec 1 := Scalar.cmpi .slt c4_i32 c0_i32_119
  let v231 : BitVec 32 := Scalar.extui v230
  let v232 : BitVec 32 := Scalar.subi v229 v231
  let v233 : BitVec 1 := Scalar.cmpi .ne v227 v232
  let v234 : BitVec 32 := Scalar.remsi v221 c4_i32
  let c0_i32_120 : BitVec 32 := 0#32
  let v235 : BitVec 1 := Scalar.cmpi .ne v234 c0_i32_120
  let v236 : BitVec 1 := Scalar.andi v233 v235
  let v222 : BitVec 32 := Scalar.divsi v221 c4_i32
  let c1_i32_121 : BitVec 32 := 1#32
  let v237 : BitVec 32 := Scalar.subi v222 c1_i32_121
  let v238 : BitVec 32 := Scalar.select v236 v237 v222
  let v239 : BitVec 32 := Scalar.subi v238 c0_i32_123
  let c1_i32_124 : BitVec 32 := 1#32
  let v241 : BitVec 32 := Scalar.divsi v239 c1_i32_124
  let v242 : BitVec 32 := Scalar.muli v241 c1_i32_124
  let v243 : BitVec 32 := Scalar.addi c0_i32_123 v242
  let c1_i32_126 : BitVec 32 := 1#32
  let arg12 : BitVec 32 := Scf.iv v243 c1_i32_126 k0_t2
  let v528 : BitVec 32 := Scalar.muli c2_i32_295 arg12
  let c1_i32_296 : BitVec 32 := 1#32
  let v529 : BitVec 32 := Scalar.addi v528 c1_i32_296
  let v530 : BitVec 32 := Scalar.muli c2_i32_297 v529
  let c0_i32_298 : BitVec 32 := 0#32
  let v531 : BitVec 32 := Scalar.addi v530 c0_i32_298
  let c63_i32_299 : BitVec 32 := 63#32
  let v532 : BitVec 32 := Scalar.minsi v531 c63_i32_299
  let c256_i32_300 : BitVec 32 := 256#32
  let v533 : BitVec 32 := Scalar.muli v532 c256_i32_300
  v533
def k0_off10 (i : grid0.Coords) (k0_t2 : Fin (k0_t2_loop i).trips) (c1_i32_296 : BitVec 32) (c0_i32_298 : BitVec 32) : Fin 2 → Nat :=
  let c2_i32_297 : BitVec 32 := 2#32
  let c2_i32_295 : BitVec 32 := 2#32
  let c0_i32_123 : BitVec 32 := 0#32
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c3_i32 : BitVec 32 := 3#32
  let v221 : BitVec 32 := Scalar.addi v1 c3_i32
  let c0_i32_116 : BitVec 32 := 0#32
  let v223 : BitVec 1 := Scalar.cmpi .sgt v221 c0_i32_116
  let v224 : BitVec 32 := Scalar.extui v223
  let c0_i32_117 : BitVec 32 := 0#32
  let v225 : BitVec 1 := Scalar.cmpi .slt v221 c0_i32_117
  let v226 : BitVec 32 := Scalar.extui v225
  let v227 : BitVec 32 := Scalar.subi v224 v226
  let c4_i32 : BitVec 32 := 4#32
  let c0_i32_118 : BitVec 32 := 0#32
  let v228 : BitVec 1 := Scalar.cmpi .sgt c4_i32 c0_i32_118
  let v229 : BitVec 32 := Scalar.extui v228
  let c0_i32_119 : BitVec 32 := 0#32
  let v230 : BitVec 1 := Scalar.cmpi .slt c4_i32 c0_i32_119
  let v231 : BitVec 32 := Scalar.extui v230
  let v232 : BitVec 32 := Scalar.subi v229 v231
  let v233 : BitVec 1 := Scalar.cmpi .ne v227 v232
  let v234 : BitVec 32 := Scalar.remsi v221 c4_i32
  let c0_i32_120 : BitVec 32 := 0#32
  let v235 : BitVec 1 := Scalar.cmpi .ne v234 c0_i32_120
  let v236 : BitVec 1 := Scalar.andi v233 v235
  let v222 : BitVec 32 := Scalar.divsi v221 c4_i32
  let c1_i32_121 : BitVec 32 := 1#32
  let v237 : BitVec 32 := Scalar.subi v222 c1_i32_121
  let v238 : BitVec 32 := Scalar.select v236 v237 v222
  let v239 : BitVec 32 := Scalar.subi v238 c0_i32_123
  let c1_i32_124 : BitVec 32 := 1#32
  let v241 : BitVec 32 := Scalar.divsi v239 c1_i32_124
  let v242 : BitVec 32 := Scalar.muli v241 c1_i32_124
  let v243 : BitVec 32 := Scalar.addi c0_i32_123 v242
  let c1_i32_126 : BitVec 32 := 1#32
  let arg12 : BitVec 32 := Scf.iv v243 c1_i32_126 k0_t2
  let v528 : BitVec 32 := Scalar.muli c2_i32_295 arg12
  let v529 : BitVec 32 := Scalar.addi v528 c1_i32_296
  let v530 : BitVec 32 := Scalar.muli c2_i32_297 v529
  let v531 : BitVec 32 := Scalar.addi v530 c0_i32_298
  let c63_i32_299 : BitVec 32 := 63#32
  let v532 : BitVec 32 := Scalar.minsi v531 c63_i32_299
  let c256_i32_300 : BitVec 32 := 256#32
  let v533 : BitVec 32 := Scalar.muli v532 c256_i32_300
  let v534 : BitVec 32 := v533
  let v535 : Index := Scalar.indexCast v534
  let c0_301 : Index := 0#32
  ![v535.toNat, 0]
def k0_mult9 (i : grid0.Coords) (k0_t2 : Fin (k0_t2_loop i).trips) : BitVec 32 :=
  let c2_i32_312 : BitVec 32 := 2#32
  let c2_i32_295 : BitVec 32 := 2#32
  let c0_i32_123 : BitVec 32 := 0#32
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c3_i32 : BitVec 32 := 3#32
  let v221 : BitVec 32 := Scalar.addi v1 c3_i32
  let c0_i32_116 : BitVec 32 := 0#32
  let v223 : BitVec 1 := Scalar.cmpi .sgt v221 c0_i32_116
  let v224 : BitVec 32 := Scalar.extui v223
  let c0_i32_117 : BitVec 32 := 0#32
  let v225 : BitVec 1 := Scalar.cmpi .slt v221 c0_i32_117
  let v226 : BitVec 32 := Scalar.extui v225
  let v227 : BitVec 32 := Scalar.subi v224 v226
  let c4_i32 : BitVec 32 := 4#32
  let c0_i32_118 : BitVec 32 := 0#32
  let v228 : BitVec 1 := Scalar.cmpi .sgt c4_i32 c0_i32_118
  let v229 : BitVec 32 := Scalar.extui v228
  let c0_i32_119 : BitVec 32 := 0#32
  let v230 : BitVec 1 := Scalar.cmpi .slt c4_i32 c0_i32_119
  let v231 : BitVec 32 := Scalar.extui v230
  let v232 : BitVec 32 := Scalar.subi v229 v231
  let v233 : BitVec 1 := Scalar.cmpi .ne v227 v232
  let v234 : BitVec 32 := Scalar.remsi v221 c4_i32
  let c0_i32_120 : BitVec 32 := 0#32
  let v235 : BitVec 1 := Scalar.cmpi .ne v234 c0_i32_120
  let v236 : BitVec 1 := Scalar.andi v233 v235
  let v222 : BitVec 32 := Scalar.divsi v221 c4_i32
  let c1_i32_121 : BitVec 32 := 1#32
  let v237 : BitVec 32 := Scalar.subi v222 c1_i32_121
  let v238 : BitVec 32 := Scalar.select v236 v237 v222
  let v239 : BitVec 32 := Scalar.subi v238 c0_i32_123
  let c1_i32_124 : BitVec 32 := 1#32
  let v241 : BitVec 32 := Scalar.divsi v239 c1_i32_124
  let v242 : BitVec 32 := Scalar.muli v241 c1_i32_124
  let v243 : BitVec 32 := Scalar.addi c0_i32_123 v242
  let c1_i32_126 : BitVec 32 := 1#32
  let arg12 : BitVec 32 := Scf.iv v243 c1_i32_126 k0_t2
  let v528 : BitVec 32 := Scalar.muli c2_i32_295 arg12
  let c1_i32_296 : BitVec 32 := 1#32
  let v529 : BitVec 32 := Scalar.addi v528 c1_i32_296
  let v546 : BitVec 32 := Scalar.muli c2_i32_312 v529
  let c1_i32_313 : BitVec 32 := 1#32
  let v547 : BitVec 32 := Scalar.addi v546 c1_i32_313
  let c63_i32_314 : BitVec 32 := 63#32
  let v548 : BitVec 32 := Scalar.minsi v547 c63_i32_314
  let c256_i32_315 : BitVec 32 := 256#32
  let v549 : BitVec 32 := Scalar.muli v548 c256_i32_315
  v549
def k0_off11 (i : grid0.Coords) (k0_t2 : Fin (k0_t2_loop i).trips) (c0_i32_329 : BitVec 32) : Fin 4 → Nat :=
  let c2_i32_328 : BitVec 32 := 2#32
  let c2_i32_327 : BitVec 32 := 2#32
  let c0_i32_123 : BitVec 32 := 0#32
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c3_i32 : BitVec 32 := 3#32
  let v221 : BitVec 32 := Scalar.addi v1 c3_i32
  let c0_i32_116 : BitVec 32 := 0#32
  let v223 : BitVec 1 := Scalar.cmpi .sgt v221 c0_i32_116
  let v224 : BitVec 32 := Scalar.extui v223
  let c0_i32_117 : BitVec 32 := 0#32
  let v225 : BitVec 1 := Scalar.cmpi .slt v221 c0_i32_117
  let v226 : BitVec 32 := Scalar.extui v225
  let v227 : BitVec 32 := Scalar.subi v224 v226
  let c4_i32 : BitVec 32 := 4#32
  let c0_i32_118 : BitVec 32 := 0#32
  let v228 : BitVec 1 := Scalar.cmpi .sgt c4_i32 c0_i32_118
  let v229 : BitVec 32 := Scalar.extui v228
  let c0_i32_119 : BitVec 32 := 0#32
  let v230 : BitVec 1 := Scalar.cmpi .slt c4_i32 c0_i32_119
  let v231 : BitVec 32 := Scalar.extui v230
  let v232 : BitVec 32 := Scalar.subi v229 v231
  let v233 : BitVec 1 := Scalar.cmpi .ne v227 v232
  let v234 : BitVec 32 := Scalar.remsi v221 c4_i32
  let c0_i32_120 : BitVec 32 := 0#32
  let v235 : BitVec 1 := Scalar.cmpi .ne v234 c0_i32_120
  let v236 : BitVec 1 := Scalar.andi v233 v235
  let v222 : BitVec 32 := Scalar.divsi v221 c4_i32
  let c1_i32_121 : BitVec 32 := 1#32
  let v237 : BitVec 32 := Scalar.subi v222 c1_i32_121
  let v238 : BitVec 32 := Scalar.select v236 v237 v222
  let v239 : BitVec 32 := Scalar.subi v238 c0_i32_123
  let c1_i32_124 : BitVec 32 := 1#32
  let v241 : BitVec 32 := Scalar.divsi v239 c1_i32_124
  let v242 : BitVec 32 := Scalar.muli v241 c1_i32_124
  let v243 : BitVec 32 := Scalar.addi c0_i32_123 v242
  let c1_i32_126 : BitVec 32 := 1#32
  let arg12 : BitVec 32 := Scf.iv v243 c1_i32_126 k0_t2
  let v562 : BitVec 32 := Scalar.muli c2_i32_327 arg12
  let v563 : BitVec 32 := Scalar.muli c2_i32_328 v562
  let v564 : BitVec 32 := Scalar.addi v563 c0_i32_329
  let c63_i32_330 : BitVec 32 := 63#32
  let v565 : BitVec 32 := Scalar.minsi v564 c63_i32_330
  let v566 : Index := Scalar.indexCast v565
  let c0_331 : Index := 0#32
  let c0_332 : Index := 0#32
  let c0_333 : Index := 0#32
  ![v566.toNat, 0, 0, 0]
def k0_off12 (i : grid0.Coords) (k0_t2 : Fin (k0_t2_loop i).trips) (c0_i32_386 : BitVec 32) : Fin 4 → Nat :=
  let c2_i32_328 : BitVec 32 := 2#32
  let c2_i32_327 : BitVec 32 := 2#32
  let c0_i32_123 : BitVec 32 := 0#32
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c3_i32 : BitVec 32 := 3#32
  let v221 : BitVec 32 := Scalar.addi v1 c3_i32
  let c0_i32_116 : BitVec 32 := 0#32
  let v223 : BitVec 1 := Scalar.cmpi .sgt v221 c0_i32_116
  let v224 : BitVec 32 := Scalar.extui v223
  let c0_i32_117 : BitVec 32 := 0#32
  let v225 : BitVec 1 := Scalar.cmpi .slt v221 c0_i32_117
  let v226 : BitVec 32 := Scalar.extui v225
  let v227 : BitVec 32 := Scalar.subi v224 v226
  let c4_i32 : BitVec 32 := 4#32
  let c0_i32_118 : BitVec 32 := 0#32
  let v228 : BitVec 1 := Scalar.cmpi .sgt c4_i32 c0_i32_118
  let v229 : BitVec 32 := Scalar.extui v228
  let c0_i32_119 : BitVec 32 := 0#32
  let v230 : BitVec 1 := Scalar.cmpi .slt c4_i32 c0_i32_119
  let v231 : BitVec 32 := Scalar.extui v230
  let v232 : BitVec 32 := Scalar.subi v229 v231
  let v233 : BitVec 1 := Scalar.cmpi .ne v227 v232
  let v234 : BitVec 32 := Scalar.remsi v221 c4_i32
  let c0_i32_120 : BitVec 32 := 0#32
  let v235 : BitVec 1 := Scalar.cmpi .ne v234 c0_i32_120
  let v236 : BitVec 1 := Scalar.andi v233 v235
  let v222 : BitVec 32 := Scalar.divsi v221 c4_i32
  let c1_i32_121 : BitVec 32 := 1#32
  let v237 : BitVec 32 := Scalar.subi v222 c1_i32_121
  let v238 : BitVec 32 := Scalar.select v236 v237 v222
  let v239 : BitVec 32 := Scalar.subi v238 c0_i32_123
  let c1_i32_124 : BitVec 32 := 1#32
  let v241 : BitVec 32 := Scalar.divsi v239 c1_i32_124
  let v242 : BitVec 32 := Scalar.muli v241 c1_i32_124
  let v243 : BitVec 32 := Scalar.addi c0_i32_123 v242
  let c1_i32_126 : BitVec 32 := 1#32
  let arg12 : BitVec 32 := Scf.iv v243 c1_i32_126 k0_t2
  let v562 : BitVec 32 := Scalar.muli c2_i32_327 arg12
  let v563 : BitVec 32 := Scalar.muli c2_i32_328 v562
  let v652 : BitVec 32 := Scalar.addi v563 c0_i32_386
  let c63_i32_387 : BitVec 32 := 63#32
  let v653 : BitVec 32 := Scalar.minsi v652 c63_i32_387
  let v654 : Index := Scalar.indexCast v653
  let c1_388 : Index := 1#32
  let c0_389 : Index := 0#32
  let c0_390 : Index := 0#32
  ![v654.toNat, 1, 0, 0]
def k0_mult10 (i : grid0.Coords) (k0_t2 : Fin (k0_t2_loop i).trips) : BitVec 32 :=
  let c2_i32_445 : BitVec 32 := 2#32
  let c2_i32_443 : BitVec 32 := 2#32
  let c0_i32_123 : BitVec 32 := 0#32
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c3_i32 : BitVec 32 := 3#32
  let v221 : BitVec 32 := Scalar.addi v1 c3_i32
  let c0_i32_116 : BitVec 32 := 0#32
  let v223 : BitVec 1 := Scalar.cmpi .sgt v221 c0_i32_116
  let v224 : BitVec 32 := Scalar.extui v223
  let c0_i32_117 : BitVec 32 := 0#32
  let v225 : BitVec 1 := Scalar.cmpi .slt v221 c0_i32_117
  let v226 : BitVec 32 := Scalar.extui v225
  let v227 : BitVec 32 := Scalar.subi v224 v226
  let c4_i32 : BitVec 32 := 4#32
  let c0_i32_118 : BitVec 32 := 0#32
  let v228 : BitVec 1 := Scalar.cmpi .sgt c4_i32 c0_i32_118
  let v229 : BitVec 32 := Scalar.extui v228
  let c0_i32_119 : BitVec 32 := 0#32
  let v230 : BitVec 1 := Scalar.cmpi .slt c4_i32 c0_i32_119
  let v231 : BitVec 32 := Scalar.extui v230
  let v232 : BitVec 32 := Scalar.subi v229 v231
  let v233 : BitVec 1 := Scalar.cmpi .ne v227 v232
  let v234 : BitVec 32 := Scalar.remsi v221 c4_i32
  let c0_i32_120 : BitVec 32 := 0#32
  let v235 : BitVec 1 := Scalar.cmpi .ne v234 c0_i32_120
  let v236 : BitVec 1 := Scalar.andi v233 v235
  let v222 : BitVec 32 := Scalar.divsi v221 c4_i32
  let c1_i32_121 : BitVec 32 := 1#32
  let v237 : BitVec 32 := Scalar.subi v222 c1_i32_121
  let v238 : BitVec 32 := Scalar.select v236 v237 v222
  let v239 : BitVec 32 := Scalar.subi v238 c0_i32_123
  let c1_i32_124 : BitVec 32 := 1#32
  let v241 : BitVec 32 := Scalar.divsi v239 c1_i32_124
  let v242 : BitVec 32 := Scalar.muli v241 c1_i32_124
  let v243 : BitVec 32 := Scalar.addi c0_i32_123 v242
  let c1_i32_126 : BitVec 32 := 1#32
  let arg12 : BitVec 32 := Scf.iv v243 c1_i32_126 k0_t2
  let v740 : BitVec 32 := Scalar.muli c2_i32_443 arg12
  let c2_i32_444 : BitVec 32 := 2#32
  let v741 : BitVec 32 := Scalar.addi v740 c2_i32_444
  let v742 : BitVec 32 := Scalar.muli c2_i32_445 v741
  let c0_i32_446 : BitVec 32 := 0#32
  let v743 : BitVec 32 := Scalar.addi v742 c0_i32_446
  let c63_i32_447 : BitVec 32 := 63#32
  let v744 : BitVec 32 := Scalar.minsi v743 c63_i32_447
  let c256_i32_448 : BitVec 32 := 256#32
  let v745 : BitVec 32 := Scalar.muli v744 c256_i32_448
  v745
def k0_mult11 (i : grid0.Coords) (k0_t2 : Fin (k0_t2_loop i).trips) : BitVec 32 :=
  let c2_i32_460 : BitVec 32 := 2#32
  let c2_i32_443 : BitVec 32 := 2#32
  let c0_i32_123 : BitVec 32 := 0#32
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c3_i32 : BitVec 32 := 3#32
  let v221 : BitVec 32 := Scalar.addi v1 c3_i32
  let c0_i32_116 : BitVec 32 := 0#32
  let v223 : BitVec 1 := Scalar.cmpi .sgt v221 c0_i32_116
  let v224 : BitVec 32 := Scalar.extui v223
  let c0_i32_117 : BitVec 32 := 0#32
  let v225 : BitVec 1 := Scalar.cmpi .slt v221 c0_i32_117
  let v226 : BitVec 32 := Scalar.extui v225
  let v227 : BitVec 32 := Scalar.subi v224 v226
  let c4_i32 : BitVec 32 := 4#32
  let c0_i32_118 : BitVec 32 := 0#32
  let v228 : BitVec 1 := Scalar.cmpi .sgt c4_i32 c0_i32_118
  let v229 : BitVec 32 := Scalar.extui v228
  let c0_i32_119 : BitVec 32 := 0#32
  let v230 : BitVec 1 := Scalar.cmpi .slt c4_i32 c0_i32_119
  let v231 : BitVec 32 := Scalar.extui v230
  let v232 : BitVec 32 := Scalar.subi v229 v231
  let v233 : BitVec 1 := Scalar.cmpi .ne v227 v232
  let v234 : BitVec 32 := Scalar.remsi v221 c4_i32
  let c0_i32_120 : BitVec 32 := 0#32
  let v235 : BitVec 1 := Scalar.cmpi .ne v234 c0_i32_120
  let v236 : BitVec 1 := Scalar.andi v233 v235
  let v222 : BitVec 32 := Scalar.divsi v221 c4_i32
  let c1_i32_121 : BitVec 32 := 1#32
  let v237 : BitVec 32 := Scalar.subi v222 c1_i32_121
  let v238 : BitVec 32 := Scalar.select v236 v237 v222
  let v239 : BitVec 32 := Scalar.subi v238 c0_i32_123
  let c1_i32_124 : BitVec 32 := 1#32
  let v241 : BitVec 32 := Scalar.divsi v239 c1_i32_124
  let v242 : BitVec 32 := Scalar.muli v241 c1_i32_124
  let v243 : BitVec 32 := Scalar.addi c0_i32_123 v242
  let c1_i32_126 : BitVec 32 := 1#32
  let arg12 : BitVec 32 := Scf.iv v243 c1_i32_126 k0_t2
  let v740 : BitVec 32 := Scalar.muli c2_i32_443 arg12
  let c2_i32_444 : BitVec 32 := 2#32
  let v741 : BitVec 32 := Scalar.addi v740 c2_i32_444
  let v758 : BitVec 32 := Scalar.muli c2_i32_460 v741
  let c1_i32_461 : BitVec 32 := 1#32
  let v759 : BitVec 32 := Scalar.addi v758 c1_i32_461
  let c63_i32_462 : BitVec 32 := 63#32
  let v760 : BitVec 32 := Scalar.minsi v759 c63_i32_462
  let c256_i32_463 : BitVec 32 := 256#32
  let v761 : BitVec 32 := Scalar.muli v760 c256_i32_463
  v761
def k0_off13 (i : grid0.Coords) (k0_t2 : Fin (k0_t2_loop i).trips) (c0_i32_478 : BitVec 32) : Fin 4 → Nat :=
  let c2_i32_477 : BitVec 32 := 2#32
  let c2_i32_475 : BitVec 32 := 2#32
  let c0_i32_123 : BitVec 32 := 0#32
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c3_i32 : BitVec 32 := 3#32
  let v221 : BitVec 32 := Scalar.addi v1 c3_i32
  let c0_i32_116 : BitVec 32 := 0#32
  let v223 : BitVec 1 := Scalar.cmpi .sgt v221 c0_i32_116
  let v224 : BitVec 32 := Scalar.extui v223
  let c0_i32_117 : BitVec 32 := 0#32
  let v225 : BitVec 1 := Scalar.cmpi .slt v221 c0_i32_117
  let v226 : BitVec 32 := Scalar.extui v225
  let v227 : BitVec 32 := Scalar.subi v224 v226
  let c4_i32 : BitVec 32 := 4#32
  let c0_i32_118 : BitVec 32 := 0#32
  let v228 : BitVec 1 := Scalar.cmpi .sgt c4_i32 c0_i32_118
  let v229 : BitVec 32 := Scalar.extui v228
  let c0_i32_119 : BitVec 32 := 0#32
  let v230 : BitVec 1 := Scalar.cmpi .slt c4_i32 c0_i32_119
  let v231 : BitVec 32 := Scalar.extui v230
  let v232 : BitVec 32 := Scalar.subi v229 v231
  let v233 : BitVec 1 := Scalar.cmpi .ne v227 v232
  let v234 : BitVec 32 := Scalar.remsi v221 c4_i32
  let c0_i32_120 : BitVec 32 := 0#32
  let v235 : BitVec 1 := Scalar.cmpi .ne v234 c0_i32_120
  let v236 : BitVec 1 := Scalar.andi v233 v235
  let v222 : BitVec 32 := Scalar.divsi v221 c4_i32
  let c1_i32_121 : BitVec 32 := 1#32
  let v237 : BitVec 32 := Scalar.subi v222 c1_i32_121
  let v238 : BitVec 32 := Scalar.select v236 v237 v222
  let v239 : BitVec 32 := Scalar.subi v238 c0_i32_123
  let c1_i32_124 : BitVec 32 := 1#32
  let v241 : BitVec 32 := Scalar.divsi v239 c1_i32_124
  let v242 : BitVec 32 := Scalar.muli v241 c1_i32_124
  let v243 : BitVec 32 := Scalar.addi c0_i32_123 v242
  let c1_i32_126 : BitVec 32 := 1#32
  let arg12 : BitVec 32 := Scf.iv v243 c1_i32_126 k0_t2
  let v774 : BitVec 32 := Scalar.muli c2_i32_475 arg12
  let c1_i32_476 : BitVec 32 := 1#32
  let v775 : BitVec 32 := Scalar.addi v774 c1_i32_476
  let v776 : BitVec 32 := Scalar.muli c2_i32_477 v775
  let v777 : BitVec 32 := Scalar.addi v776 c0_i32_478
  let c63_i32_479 : BitVec 32 := 63#32
  let v778 : BitVec 32 := Scalar.minsi v777 c63_i32_479
  let v779 : Index := Scalar.indexCast v778
  let c0_480 : Index := 0#32
  let c0_481 : Index := 0#32
  let c0_482 : Index := 0#32
  ![v779.toNat, 0, 0, 0]
def k0_off14 (i : grid0.Coords) (k0_t2 : Fin (k0_t2_loop i).trips) (c0_i32_535 : BitVec 32) : Fin 4 → Nat :=
  let c2_i32_477 : BitVec 32 := 2#32
  let c2_i32_475 : BitVec 32 := 2#32
  let c0_i32_123 : BitVec 32 := 0#32
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c3_i32 : BitVec 32 := 3#32
  let v221 : BitVec 32 := Scalar.addi v1 c3_i32
  let c0_i32_116 : BitVec 32 := 0#32
  let v223 : BitVec 1 := Scalar.cmpi .sgt v221 c0_i32_116
  let v224 : BitVec 32 := Scalar.extui v223
  let c0_i32_117 : BitVec 32 := 0#32
  let v225 : BitVec 1 := Scalar.cmpi .slt v221 c0_i32_117
  let v226 : BitVec 32 := Scalar.extui v225
  let v227 : BitVec 32 := Scalar.subi v224 v226
  let c4_i32 : BitVec 32 := 4#32
  let c0_i32_118 : BitVec 32 := 0#32
  let v228 : BitVec 1 := Scalar.cmpi .sgt c4_i32 c0_i32_118
  let v229 : BitVec 32 := Scalar.extui v228
  let c0_i32_119 : BitVec 32 := 0#32
  let v230 : BitVec 1 := Scalar.cmpi .slt c4_i32 c0_i32_119
  let v231 : BitVec 32 := Scalar.extui v230
  let v232 : BitVec 32 := Scalar.subi v229 v231
  let v233 : BitVec 1 := Scalar.cmpi .ne v227 v232
  let v234 : BitVec 32 := Scalar.remsi v221 c4_i32
  let c0_i32_120 : BitVec 32 := 0#32
  let v235 : BitVec 1 := Scalar.cmpi .ne v234 c0_i32_120
  let v236 : BitVec 1 := Scalar.andi v233 v235
  let v222 : BitVec 32 := Scalar.divsi v221 c4_i32
  let c1_i32_121 : BitVec 32 := 1#32
  let v237 : BitVec 32 := Scalar.subi v222 c1_i32_121
  let v238 : BitVec 32 := Scalar.select v236 v237 v222
  let v239 : BitVec 32 := Scalar.subi v238 c0_i32_123
  let c1_i32_124 : BitVec 32 := 1#32
  let v241 : BitVec 32 := Scalar.divsi v239 c1_i32_124
  let v242 : BitVec 32 := Scalar.muli v241 c1_i32_124
  let v243 : BitVec 32 := Scalar.addi c0_i32_123 v242
  let c1_i32_126 : BitVec 32 := 1#32
  let arg12 : BitVec 32 := Scf.iv v243 c1_i32_126 k0_t2
  let v774 : BitVec 32 := Scalar.muli c2_i32_475 arg12
  let c1_i32_476 : BitVec 32 := 1#32
  let v775 : BitVec 32 := Scalar.addi v774 c1_i32_476
  let v776 : BitVec 32 := Scalar.muli c2_i32_477 v775
  let v865 : BitVec 32 := Scalar.addi v776 c0_i32_535
  let c63_i32_536 : BitVec 32 := 63#32
  let v866 : BitVec 32 := Scalar.minsi v865 c63_i32_536
  let v867 : Index := Scalar.indexCast v866
  let c1_537 : Index := 1#32
  let c0_538 : Index := 0#32
  let c0_539 : Index := 0#32
  ![v867.toNat, 1, 0, 0]
def k0_mult12 (i : grid0.Coords) : BitVec 32 :=
  let arg1 : BitVec 32 := BitVec.ofNat 32 (i 1).val
  let c2_i32_141 : BitVec 32 := 2#32
  let v264 : BitVec 32 := Scalar.muli arg1 c2_i32_141
  let c1_i32_142 : BitVec 32 := 1#32
  let v265 : BitVec 32 := Scalar.addi v264 c1_i32_142
  let c256_i32_152 : BitVec 32 := 256#32
  let v288 : BitVec 32 := Scalar.muli v265 c256_i32_152
  v288
def k0_mult13 : BitVec 32 :=
  let c0_i32_240 : BitVec 32 := 0#32
  let c63_i32_241 : BitVec 32 := 63#32
  let v457 : BitVec 32 := Scalar.minsi c0_i32_240 c63_i32_241
  let c256_i32_242 : BitVec 32 := 256#32
  let v458 : BitVec 32 := Scalar.muli v457 c256_i32_242
  v458
def k0_mult14 : BitVec 32 :=
  let c1_i32_254 : BitVec 32 := 1#32
  let c63_i32_255 : BitVec 32 := 63#32
  let v471 : BitVec 32 := Scalar.minsi c1_i32_254 c63_i32_255
  let c256_i32_256 : BitVec 32 := 256#32
  let v472 : BitVec 32 := Scalar.muli v471 c256_i32_256
  v472
@[reducible] def k0_t3_loop (i : grid0.Coords) : Scf.Loop 32 :=
  let c0_i32_277 : BitVec 32 := 0#32
  let arg1 : BitVec 32 := BitVec.ofNat 32 (i 1).val
  let c2_i32_141 : BitVec 32 := 2#32
  let v264 : BitVec 32 := Scalar.muli arg1 c2_i32_141
  let c1_i32_142 : BitVec 32 := 1#32
  let v265 : BitVec 32 := Scalar.addi v264 c1_i32_142
  let c3_i32_268 : BitVec 32 := 3#32
  let v485 : BitVec 32 := Scalar.addi v265 c3_i32_268
  let c0_i32_270 : BitVec 32 := 0#32
  let v487 : BitVec 1 := Scalar.cmpi .sgt v485 c0_i32_270
  let v488 : BitVec 32 := Scalar.extui v487
  let c0_i32_271 : BitVec 32 := 0#32
  let v489 : BitVec 1 := Scalar.cmpi .slt v485 c0_i32_271
  let v490 : BitVec 32 := Scalar.extui v489
  let v491 : BitVec 32 := Scalar.subi v488 v490
  let c4_i32_269 : BitVec 32 := 4#32
  let c0_i32_272 : BitVec 32 := 0#32
  let v492 : BitVec 1 := Scalar.cmpi .sgt c4_i32_269 c0_i32_272
  let v493 : BitVec 32 := Scalar.extui v492
  let c0_i32_273 : BitVec 32 := 0#32
  let v494 : BitVec 1 := Scalar.cmpi .slt c4_i32_269 c0_i32_273
  let v495 : BitVec 32 := Scalar.extui v494
  let v496 : BitVec 32 := Scalar.subi v493 v495
  let v497 : BitVec 1 := Scalar.cmpi .ne v491 v496
  let v498 : BitVec 32 := Scalar.remsi v485 c4_i32_269
  let c0_i32_274 : BitVec 32 := 0#32
  let v499 : BitVec 1 := Scalar.cmpi .ne v498 c0_i32_274
  let v500 : BitVec 1 := Scalar.andi v497 v499
  let v486 : BitVec 32 := Scalar.divsi v485 c4_i32_269
  let c1_i32_275 : BitVec 32 := 1#32
  let v501 : BitVec 32 := Scalar.subi v486 c1_i32_275
  let v502 : BitVec 32 := Scalar.select v500 v501 v486
  let v503 : BitVec 32 := Scalar.subi v502 c0_i32_277
  let c1_i32_278 : BitVec 32 := 1#32
  let v505 : BitVec 32 := Scalar.divsi v503 c1_i32_278
  let v506 : BitVec 32 := Scalar.muli v505 c1_i32_278
  let v507 : BitVec 32 := Scalar.addi c0_i32_277 v506
  let c1_i32_279 : BitVec 32 := 1#32
  ⟨c0_i32_277, v507, c1_i32_279⟩
def k0_mult15 (i : grid0.Coords) (k0_t3 : Fin (k0_t3_loop i).trips) : BitVec 32 :=
  let c2_i32_297 : BitVec 32 := 2#32
  let c2_i32_295 : BitVec 32 := 2#32
  let c0_i32_277 : BitVec 32 := 0#32
  let c1_i32_279 : BitVec 32 := 1#32
  let arg12 : BitVec 32 := Scf.iv c0_i32_277 c1_i32_279 k0_t3
  let v528 : BitVec 32 := Scalar.muli c2_i32_295 arg12
  let c1_i32_296 : BitVec 32 := 1#32
  let v529 : BitVec 32 := Scalar.addi v528 c1_i32_296
  let v530 : BitVec 32 := Scalar.muli c2_i32_297 v529
  let c0_i32_298 : BitVec 32 := 0#32
  let v531 : BitVec 32 := Scalar.addi v530 c0_i32_298
  let c63_i32_299 : BitVec 32 := 63#32
  let v532 : BitVec 32 := Scalar.minsi v531 c63_i32_299
  let c256_i32_300 : BitVec 32 := 256#32
  let v533 : BitVec 32 := Scalar.muli v532 c256_i32_300
  v533
def k0_off15 (i : grid0.Coords) (k0_t3 : Fin (k0_t3_loop i).trips) (c1_i32_296 : BitVec 32) (c0_i32_298 : BitVec 32) : Fin 2 → Nat :=
  let c2_i32_297 : BitVec 32 := 2#32
  let c2_i32_295 : BitVec 32 := 2#32
  let c0_i32_277 : BitVec 32 := 0#32
  let c1_i32_279 : BitVec 32 := 1#32
  let arg12 : BitVec 32 := Scf.iv c0_i32_277 c1_i32_279 k0_t3
  let v528 : BitVec 32 := Scalar.muli c2_i32_295 arg12
  let v529 : BitVec 32 := Scalar.addi v528 c1_i32_296
  let v530 : BitVec 32 := Scalar.muli c2_i32_297 v529
  let v531 : BitVec 32 := Scalar.addi v530 c0_i32_298
  let c63_i32_299 : BitVec 32 := 63#32
  let v532 : BitVec 32 := Scalar.minsi v531 c63_i32_299
  let c256_i32_300 : BitVec 32 := 256#32
  let v533 : BitVec 32 := Scalar.muli v532 c256_i32_300
  let v534 : BitVec 32 := v533
  let v535 : Index := Scalar.indexCast v534
  let c0_301 : Index := 0#32
  ![v535.toNat, 0]
def k0_mult16 (i : grid0.Coords) (k0_t3 : Fin (k0_t3_loop i).trips) : BitVec 32 :=
  let c2_i32_312 : BitVec 32 := 2#32
  let c2_i32_295 : BitVec 32 := 2#32
  let c0_i32_277 : BitVec 32 := 0#32
  let c1_i32_279 : BitVec 32 := 1#32
  let arg12 : BitVec 32 := Scf.iv c0_i32_277 c1_i32_279 k0_t3
  let v528 : BitVec 32 := Scalar.muli c2_i32_295 arg12
  let c1_i32_296 : BitVec 32 := 1#32
  let v529 : BitVec 32 := Scalar.addi v528 c1_i32_296
  let v546 : BitVec 32 := Scalar.muli c2_i32_312 v529
  let c1_i32_313 : BitVec 32 := 1#32
  let v547 : BitVec 32 := Scalar.addi v546 c1_i32_313
  let c63_i32_314 : BitVec 32 := 63#32
  let v548 : BitVec 32 := Scalar.minsi v547 c63_i32_314
  let c256_i32_315 : BitVec 32 := 256#32
  let v549 : BitVec 32 := Scalar.muli v548 c256_i32_315
  v549
def k0_off16 (i : grid0.Coords) (k0_t3 : Fin (k0_t3_loop i).trips) (c0_i32_329 : BitVec 32) : Fin 4 → Nat :=
  let c2_i32_328 : BitVec 32 := 2#32
  let c2_i32_327 : BitVec 32 := 2#32
  let c0_i32_277 : BitVec 32 := 0#32
  let c1_i32_279 : BitVec 32 := 1#32
  let arg12 : BitVec 32 := Scf.iv c0_i32_277 c1_i32_279 k0_t3
  let v562 : BitVec 32 := Scalar.muli c2_i32_327 arg12
  let v563 : BitVec 32 := Scalar.muli c2_i32_328 v562
  let v564 : BitVec 32 := Scalar.addi v563 c0_i32_329
  let c63_i32_330 : BitVec 32 := 63#32
  let v565 : BitVec 32 := Scalar.minsi v564 c63_i32_330
  let v566 : Index := Scalar.indexCast v565
  let c0_331 : Index := 0#32
  let c0_332 : Index := 0#32
  let c0_333 : Index := 0#32
  ![v566.toNat, 0, 0, 0]
def k0_off17 (i : grid0.Coords) (k0_t3 : Fin (k0_t3_loop i).trips) (c0_i32_386 : BitVec 32) : Fin 4 → Nat :=
  let c2_i32_328 : BitVec 32 := 2#32
  let c2_i32_327 : BitVec 32 := 2#32
  let c0_i32_277 : BitVec 32 := 0#32
  let c1_i32_279 : BitVec 32 := 1#32
  let arg12 : BitVec 32 := Scf.iv c0_i32_277 c1_i32_279 k0_t3
  let v562 : BitVec 32 := Scalar.muli c2_i32_327 arg12
  let v563 : BitVec 32 := Scalar.muli c2_i32_328 v562
  let v652 : BitVec 32 := Scalar.addi v563 c0_i32_386
  let c63_i32_387 : BitVec 32 := 63#32
  let v653 : BitVec 32 := Scalar.minsi v652 c63_i32_387
  let v654 : Index := Scalar.indexCast v653
  let c1_388 : Index := 1#32
  let c0_389 : Index := 0#32
  let c0_390 : Index := 0#32
  ![v654.toNat, 1, 0, 0]
def k0_mult17 (i : grid0.Coords) (k0_t3 : Fin (k0_t3_loop i).trips) : BitVec 32 :=
  let c2_i32_445 : BitVec 32 := 2#32
  let c2_i32_443 : BitVec 32 := 2#32
  let c0_i32_277 : BitVec 32 := 0#32
  let c1_i32_279 : BitVec 32 := 1#32
  let arg12 : BitVec 32 := Scf.iv c0_i32_277 c1_i32_279 k0_t3
  let v740 : BitVec 32 := Scalar.muli c2_i32_443 arg12
  let c2_i32_444 : BitVec 32 := 2#32
  let v741 : BitVec 32 := Scalar.addi v740 c2_i32_444
  let v742 : BitVec 32 := Scalar.muli c2_i32_445 v741
  let c0_i32_446 : BitVec 32 := 0#32
  let v743 : BitVec 32 := Scalar.addi v742 c0_i32_446
  let c63_i32_447 : BitVec 32 := 63#32
  let v744 : BitVec 32 := Scalar.minsi v743 c63_i32_447
  let c256_i32_448 : BitVec 32 := 256#32
  let v745 : BitVec 32 := Scalar.muli v744 c256_i32_448
  v745
def k0_mult18 (i : grid0.Coords) (k0_t3 : Fin (k0_t3_loop i).trips) : BitVec 32 :=
  let c2_i32_460 : BitVec 32 := 2#32
  let c2_i32_443 : BitVec 32 := 2#32
  let c0_i32_277 : BitVec 32 := 0#32
  let c1_i32_279 : BitVec 32 := 1#32
  let arg12 : BitVec 32 := Scf.iv c0_i32_277 c1_i32_279 k0_t3
  let v740 : BitVec 32 := Scalar.muli c2_i32_443 arg12
  let c2_i32_444 : BitVec 32 := 2#32
  let v741 : BitVec 32 := Scalar.addi v740 c2_i32_444
  let v758 : BitVec 32 := Scalar.muli c2_i32_460 v741
  let c1_i32_461 : BitVec 32 := 1#32
  let v759 : BitVec 32 := Scalar.addi v758 c1_i32_461
  let c63_i32_462 : BitVec 32 := 63#32
  let v760 : BitVec 32 := Scalar.minsi v759 c63_i32_462
  let c256_i32_463 : BitVec 32 := 256#32
  let v761 : BitVec 32 := Scalar.muli v760 c256_i32_463
  v761
def k0_off18 (i : grid0.Coords) (k0_t3 : Fin (k0_t3_loop i).trips) (c0_i32_478 : BitVec 32) : Fin 4 → Nat :=
  let c2_i32_477 : BitVec 32 := 2#32
  let c2_i32_475 : BitVec 32 := 2#32
  let c0_i32_277 : BitVec 32 := 0#32
  let c1_i32_279 : BitVec 32 := 1#32
  let arg12 : BitVec 32 := Scf.iv c0_i32_277 c1_i32_279 k0_t3
  let v774 : BitVec 32 := Scalar.muli c2_i32_475 arg12
  let c1_i32_476 : BitVec 32 := 1#32
  let v775 : BitVec 32 := Scalar.addi v774 c1_i32_476
  let v776 : BitVec 32 := Scalar.muli c2_i32_477 v775
  let v777 : BitVec 32 := Scalar.addi v776 c0_i32_478
  let c63_i32_479 : BitVec 32 := 63#32
  let v778 : BitVec 32 := Scalar.minsi v777 c63_i32_479
  let v779 : Index := Scalar.indexCast v778
  let c0_480 : Index := 0#32
  let c0_481 : Index := 0#32
  let c0_482 : Index := 0#32
  ![v779.toNat, 0, 0, 0]
def k0_off19 (i : grid0.Coords) (k0_t3 : Fin (k0_t3_loop i).trips) (c0_i32_535 : BitVec 32) : Fin 4 → Nat :=
  let c2_i32_477 : BitVec 32 := 2#32
  let c2_i32_475 : BitVec 32 := 2#32
  let c0_i32_277 : BitVec 32 := 0#32
  let c1_i32_279 : BitVec 32 := 1#32
  let arg12 : BitVec 32 := Scf.iv c0_i32_277 c1_i32_279 k0_t3
  let v774 : BitVec 32 := Scalar.muli c2_i32_475 arg12
  let c1_i32_476 : BitVec 32 := 1#32
  let v775 : BitVec 32 := Scalar.addi v774 c1_i32_476
  let v776 : BitVec 32 := Scalar.muli c2_i32_477 v775
  let v865 : BitVec 32 := Scalar.addi v776 c0_i32_535
  let c63_i32_536 : BitVec 32 := 63#32
  let v866 : BitVec 32 := Scalar.minsi v865 c63_i32_536
  let v867 : Index := Scalar.indexCast v866
  let c1_537 : Index := 1#32
  let c0_538 : Index := 0#32
  let c0_539 : Index := 0#32
  ![v867.toNat, 1, 0, 0]
@[reducible] def k0_t4_loop (i : grid0.Coords) : Scf.Loop 32 :=
  let c0_i32_277 : BitVec 32 := 0#32
  let arg1 : BitVec 32 := BitVec.ofNat 32 (i 1).val
  let c2_i32_141 : BitVec 32 := 2#32
  let v264 : BitVec 32 := Scalar.muli arg1 c2_i32_141
  let c1_i32_142 : BitVec 32 := 1#32
  let v265 : BitVec 32 := Scalar.addi v264 c1_i32_142
  let c3_i32_268 : BitVec 32 := 3#32
  let v485 : BitVec 32 := Scalar.addi v265 c3_i32_268
  let c0_i32_270 : BitVec 32 := 0#32
  let v487 : BitVec 1 := Scalar.cmpi .sgt v485 c0_i32_270
  let v488 : BitVec 32 := Scalar.extui v487
  let c0_i32_271 : BitVec 32 := 0#32
  let v489 : BitVec 1 := Scalar.cmpi .slt v485 c0_i32_271
  let v490 : BitVec 32 := Scalar.extui v489
  let v491 : BitVec 32 := Scalar.subi v488 v490
  let c4_i32_269 : BitVec 32 := 4#32
  let c0_i32_272 : BitVec 32 := 0#32
  let v492 : BitVec 1 := Scalar.cmpi .sgt c4_i32_269 c0_i32_272
  let v493 : BitVec 32 := Scalar.extui v492
  let c0_i32_273 : BitVec 32 := 0#32
  let v494 : BitVec 1 := Scalar.cmpi .slt c4_i32_269 c0_i32_273
  let v495 : BitVec 32 := Scalar.extui v494
  let v496 : BitVec 32 := Scalar.subi v493 v495
  let v497 : BitVec 1 := Scalar.cmpi .ne v491 v496
  let v498 : BitVec 32 := Scalar.remsi v485 c4_i32_269
  let c0_i32_274 : BitVec 32 := 0#32
  let v499 : BitVec 1 := Scalar.cmpi .ne v498 c0_i32_274
  let v500 : BitVec 1 := Scalar.andi v497 v499
  let v486 : BitVec 32 := Scalar.divsi v485 c4_i32_269
  let c1_i32_275 : BitVec 32 := 1#32
  let v501 : BitVec 32 := Scalar.subi v486 c1_i32_275
  let v502 : BitVec 32 := Scalar.select v500 v501 v486
  let v503 : BitVec 32 := Scalar.subi v502 c0_i32_277
  let c1_i32_278 : BitVec 32 := 1#32
  let v505 : BitVec 32 := Scalar.divsi v503 c1_i32_278
  let v506 : BitVec 32 := Scalar.muli v505 c1_i32_278
  let v507 : BitVec 32 := Scalar.addi c0_i32_277 v506
  let v504 : BitVec 32 := Scalar.addi c0_i32_277 v503
  let c1_i32_280 : BitVec 32 := 1#32
  ⟨v507, v504, c1_i32_280⟩
def k0_mult19 (i : grid0.Coords) (k0_t4 : Fin (k0_t4_loop i).trips) : BitVec 32 :=
  let c2_i32_297 : BitVec 32 := 2#32
  let c2_i32_295 : BitVec 32 := 2#32
  let c0_i32_277 : BitVec 32 := 0#32
  let arg1 : BitVec 32 := BitVec.ofNat 32 (i 1).val
  let c2_i32_141 : BitVec 32 := 2#32
  let v264 : BitVec 32 := Scalar.muli arg1 c2_i32_141
  let c1_i32_142 : BitVec 32 := 1#32
  let v265 : BitVec 32 := Scalar.addi v264 c1_i32_142
  let c3_i32_268 : BitVec 32 := 3#32
  let v485 : BitVec 32 := Scalar.addi v265 c3_i32_268
  let c0_i32_270 : BitVec 32 := 0#32
  let v487 : BitVec 1 := Scalar.cmpi .sgt v485 c0_i32_270
  let v488 : BitVec 32 := Scalar.extui v487
  let c0_i32_271 : BitVec 32 := 0#32
  let v489 : BitVec 1 := Scalar.cmpi .slt v485 c0_i32_271
  let v490 : BitVec 32 := Scalar.extui v489
  let v491 : BitVec 32 := Scalar.subi v488 v490
  let c4_i32_269 : BitVec 32 := 4#32
  let c0_i32_272 : BitVec 32 := 0#32
  let v492 : BitVec 1 := Scalar.cmpi .sgt c4_i32_269 c0_i32_272
  let v493 : BitVec 32 := Scalar.extui v492
  let c0_i32_273 : BitVec 32 := 0#32
  let v494 : BitVec 1 := Scalar.cmpi .slt c4_i32_269 c0_i32_273
  let v495 : BitVec 32 := Scalar.extui v494
  let v496 : BitVec 32 := Scalar.subi v493 v495
  let v497 : BitVec 1 := Scalar.cmpi .ne v491 v496
  let v498 : BitVec 32 := Scalar.remsi v485 c4_i32_269
  let c0_i32_274 : BitVec 32 := 0#32
  let v499 : BitVec 1 := Scalar.cmpi .ne v498 c0_i32_274
  let v500 : BitVec 1 := Scalar.andi v497 v499
  let v486 : BitVec 32 := Scalar.divsi v485 c4_i32_269
  let c1_i32_275 : BitVec 32 := 1#32
  let v501 : BitVec 32 := Scalar.subi v486 c1_i32_275
  let v502 : BitVec 32 := Scalar.select v500 v501 v486
  let v503 : BitVec 32 := Scalar.subi v502 c0_i32_277
  let c1_i32_278 : BitVec 32 := 1#32
  let v505 : BitVec 32 := Scalar.divsi v503 c1_i32_278
  let v506 : BitVec 32 := Scalar.muli v505 c1_i32_278
  let v507 : BitVec 32 := Scalar.addi c0_i32_277 v506
  let c1_i32_280 : BitVec 32 := 1#32
  let arg12 : BitVec 32 := Scf.iv v507 c1_i32_280 k0_t4
  let v528 : BitVec 32 := Scalar.muli c2_i32_295 arg12
  let c1_i32_296 : BitVec 32 := 1#32
  let v529 : BitVec 32 := Scalar.addi v528 c1_i32_296
  let v530 : BitVec 32 := Scalar.muli c2_i32_297 v529
  let c0_i32_298 : BitVec 32 := 0#32
  let v531 : BitVec 32 := Scalar.addi v530 c0_i32_298
  let c63_i32_299 : BitVec 32 := 63#32
  let v532 : BitVec 32 := Scalar.minsi v531 c63_i32_299
  let c256_i32_300 : BitVec 32 := 256#32
  let v533 : BitVec 32 := Scalar.muli v532 c256_i32_300
  v533
def k0_off20 (i : grid0.Coords) (k0_t4 : Fin (k0_t4_loop i).trips) (c1_i32_296 : BitVec 32) (c0_i32_298 : BitVec 32) : Fin 2 → Nat :=
  let c2_i32_297 : BitVec 32 := 2#32
  let c2_i32_295 : BitVec 32 := 2#32
  let c0_i32_277 : BitVec 32 := 0#32
  let arg1 : BitVec 32 := BitVec.ofNat 32 (i 1).val
  let c2_i32_141 : BitVec 32 := 2#32
  let v264 : BitVec 32 := Scalar.muli arg1 c2_i32_141
  let c1_i32_142 : BitVec 32 := 1#32
  let v265 : BitVec 32 := Scalar.addi v264 c1_i32_142
  let c3_i32_268 : BitVec 32 := 3#32
  let v485 : BitVec 32 := Scalar.addi v265 c3_i32_268
  let c0_i32_270 : BitVec 32 := 0#32
  let v487 : BitVec 1 := Scalar.cmpi .sgt v485 c0_i32_270
  let v488 : BitVec 32 := Scalar.extui v487
  let c0_i32_271 : BitVec 32 := 0#32
  let v489 : BitVec 1 := Scalar.cmpi .slt v485 c0_i32_271
  let v490 : BitVec 32 := Scalar.extui v489
  let v491 : BitVec 32 := Scalar.subi v488 v490
  let c4_i32_269 : BitVec 32 := 4#32
  let c0_i32_272 : BitVec 32 := 0#32
  let v492 : BitVec 1 := Scalar.cmpi .sgt c4_i32_269 c0_i32_272
  let v493 : BitVec 32 := Scalar.extui v492
  let c0_i32_273 : BitVec 32 := 0#32
  let v494 : BitVec 1 := Scalar.cmpi .slt c4_i32_269 c0_i32_273
  let v495 : BitVec 32 := Scalar.extui v494
  let v496 : BitVec 32 := Scalar.subi v493 v495
  let v497 : BitVec 1 := Scalar.cmpi .ne v491 v496
  let v498 : BitVec 32 := Scalar.remsi v485 c4_i32_269
  let c0_i32_274 : BitVec 32 := 0#32
  let v499 : BitVec 1 := Scalar.cmpi .ne v498 c0_i32_274
  let v500 : BitVec 1 := Scalar.andi v497 v499
  let v486 : BitVec 32 := Scalar.divsi v485 c4_i32_269
  let c1_i32_275 : BitVec 32 := 1#32
  let v501 : BitVec 32 := Scalar.subi v486 c1_i32_275
  let v502 : BitVec 32 := Scalar.select v500 v501 v486
  let v503 : BitVec 32 := Scalar.subi v502 c0_i32_277
  let c1_i32_278 : BitVec 32 := 1#32
  let v505 : BitVec 32 := Scalar.divsi v503 c1_i32_278
  let v506 : BitVec 32 := Scalar.muli v505 c1_i32_278
  let v507 : BitVec 32 := Scalar.addi c0_i32_277 v506
  let c1_i32_280 : BitVec 32 := 1#32
  let arg12 : BitVec 32 := Scf.iv v507 c1_i32_280 k0_t4
  let v528 : BitVec 32 := Scalar.muli c2_i32_295 arg12
  let v529 : BitVec 32 := Scalar.addi v528 c1_i32_296
  let v530 : BitVec 32 := Scalar.muli c2_i32_297 v529
  let v531 : BitVec 32 := Scalar.addi v530 c0_i32_298
  let c63_i32_299 : BitVec 32 := 63#32
  let v532 : BitVec 32 := Scalar.minsi v531 c63_i32_299
  let c256_i32_300 : BitVec 32 := 256#32
  let v533 : BitVec 32 := Scalar.muli v532 c256_i32_300
  let v534 : BitVec 32 := v533
  let v535 : Index := Scalar.indexCast v534
  let c0_301 : Index := 0#32
  ![v535.toNat, 0]
def k0_mult20 (i : grid0.Coords) (k0_t4 : Fin (k0_t4_loop i).trips) : BitVec 32 :=
  let c2_i32_312 : BitVec 32 := 2#32
  let c2_i32_295 : BitVec 32 := 2#32
  let c0_i32_277 : BitVec 32 := 0#32
  let arg1 : BitVec 32 := BitVec.ofNat 32 (i 1).val
  let c2_i32_141 : BitVec 32 := 2#32
  let v264 : BitVec 32 := Scalar.muli arg1 c2_i32_141
  let c1_i32_142 : BitVec 32 := 1#32
  let v265 : BitVec 32 := Scalar.addi v264 c1_i32_142
  let c3_i32_268 : BitVec 32 := 3#32
  let v485 : BitVec 32 := Scalar.addi v265 c3_i32_268
  let c0_i32_270 : BitVec 32 := 0#32
  let v487 : BitVec 1 := Scalar.cmpi .sgt v485 c0_i32_270
  let v488 : BitVec 32 := Scalar.extui v487
  let c0_i32_271 : BitVec 32 := 0#32
  let v489 : BitVec 1 := Scalar.cmpi .slt v485 c0_i32_271
  let v490 : BitVec 32 := Scalar.extui v489
  let v491 : BitVec 32 := Scalar.subi v488 v490
  let c4_i32_269 : BitVec 32 := 4#32
  let c0_i32_272 : BitVec 32 := 0#32
  let v492 : BitVec 1 := Scalar.cmpi .sgt c4_i32_269 c0_i32_272
  let v493 : BitVec 32 := Scalar.extui v492
  let c0_i32_273 : BitVec 32 := 0#32
  let v494 : BitVec 1 := Scalar.cmpi .slt c4_i32_269 c0_i32_273
  let v495 : BitVec 32 := Scalar.extui v494
  let v496 : BitVec 32 := Scalar.subi v493 v495
  let v497 : BitVec 1 := Scalar.cmpi .ne v491 v496
  let v498 : BitVec 32 := Scalar.remsi v485 c4_i32_269
  let c0_i32_274 : BitVec 32 := 0#32
  let v499 : BitVec 1 := Scalar.cmpi .ne v498 c0_i32_274
  let v500 : BitVec 1 := Scalar.andi v497 v499
  let v486 : BitVec 32 := Scalar.divsi v485 c4_i32_269
  let c1_i32_275 : BitVec 32 := 1#32
  let v501 : BitVec 32 := Scalar.subi v486 c1_i32_275
  let v502 : BitVec 32 := Scalar.select v500 v501 v486
  let v503 : BitVec 32 := Scalar.subi v502 c0_i32_277
  let c1_i32_278 : BitVec 32 := 1#32
  let v505 : BitVec 32 := Scalar.divsi v503 c1_i32_278
  let v506 : BitVec 32 := Scalar.muli v505 c1_i32_278
  let v507 : BitVec 32 := Scalar.addi c0_i32_277 v506
  let c1_i32_280 : BitVec 32 := 1#32
  let arg12 : BitVec 32 := Scf.iv v507 c1_i32_280 k0_t4
  let v528 : BitVec 32 := Scalar.muli c2_i32_295 arg12
  let c1_i32_296 : BitVec 32 := 1#32
  let v529 : BitVec 32 := Scalar.addi v528 c1_i32_296
  let v546 : BitVec 32 := Scalar.muli c2_i32_312 v529
  let c1_i32_313 : BitVec 32 := 1#32
  let v547 : BitVec 32 := Scalar.addi v546 c1_i32_313
  let c63_i32_314 : BitVec 32 := 63#32
  let v548 : BitVec 32 := Scalar.minsi v547 c63_i32_314
  let c256_i32_315 : BitVec 32 := 256#32
  let v549 : BitVec 32 := Scalar.muli v548 c256_i32_315
  v549
def k0_off21 (i : grid0.Coords) (k0_t4 : Fin (k0_t4_loop i).trips) (c0_i32_329 : BitVec 32) : Fin 4 → Nat :=
  let c2_i32_328 : BitVec 32 := 2#32
  let c2_i32_327 : BitVec 32 := 2#32
  let c0_i32_277 : BitVec 32 := 0#32
  let arg1 : BitVec 32 := BitVec.ofNat 32 (i 1).val
  let c2_i32_141 : BitVec 32 := 2#32
  let v264 : BitVec 32 := Scalar.muli arg1 c2_i32_141
  let c1_i32_142 : BitVec 32 := 1#32
  let v265 : BitVec 32 := Scalar.addi v264 c1_i32_142
  let c3_i32_268 : BitVec 32 := 3#32
  let v485 : BitVec 32 := Scalar.addi v265 c3_i32_268
  let c0_i32_270 : BitVec 32 := 0#32
  let v487 : BitVec 1 := Scalar.cmpi .sgt v485 c0_i32_270
  let v488 : BitVec 32 := Scalar.extui v487
  let c0_i32_271 : BitVec 32 := 0#32
  let v489 : BitVec 1 := Scalar.cmpi .slt v485 c0_i32_271
  let v490 : BitVec 32 := Scalar.extui v489
  let v491 : BitVec 32 := Scalar.subi v488 v490
  let c4_i32_269 : BitVec 32 := 4#32
  let c0_i32_272 : BitVec 32 := 0#32
  let v492 : BitVec 1 := Scalar.cmpi .sgt c4_i32_269 c0_i32_272
  let v493 : BitVec 32 := Scalar.extui v492
  let c0_i32_273 : BitVec 32 := 0#32
  let v494 : BitVec 1 := Scalar.cmpi .slt c4_i32_269 c0_i32_273
  let v495 : BitVec 32 := Scalar.extui v494
  let v496 : BitVec 32 := Scalar.subi v493 v495
  let v497 : BitVec 1 := Scalar.cmpi .ne v491 v496
  let v498 : BitVec 32 := Scalar.remsi v485 c4_i32_269
  let c0_i32_274 : BitVec 32 := 0#32
  let v499 : BitVec 1 := Scalar.cmpi .ne v498 c0_i32_274
  let v500 : BitVec 1 := Scalar.andi v497 v499
  let v486 : BitVec 32 := Scalar.divsi v485 c4_i32_269
  let c1_i32_275 : BitVec 32 := 1#32
  let v501 : BitVec 32 := Scalar.subi v486 c1_i32_275
  let v502 : BitVec 32 := Scalar.select v500 v501 v486
  let v503 : BitVec 32 := Scalar.subi v502 c0_i32_277
  let c1_i32_278 : BitVec 32 := 1#32
  let v505 : BitVec 32 := Scalar.divsi v503 c1_i32_278
  let v506 : BitVec 32 := Scalar.muli v505 c1_i32_278
  let v507 : BitVec 32 := Scalar.addi c0_i32_277 v506
  let c1_i32_280 : BitVec 32 := 1#32
  let arg12 : BitVec 32 := Scf.iv v507 c1_i32_280 k0_t4
  let v562 : BitVec 32 := Scalar.muli c2_i32_327 arg12
  let v563 : BitVec 32 := Scalar.muli c2_i32_328 v562
  let v564 : BitVec 32 := Scalar.addi v563 c0_i32_329
  let c63_i32_330 : BitVec 32 := 63#32
  let v565 : BitVec 32 := Scalar.minsi v564 c63_i32_330
  let v566 : Index := Scalar.indexCast v565
  let c0_331 : Index := 0#32
  let c0_332 : Index := 0#32
  let c0_333 : Index := 0#32
  ![v566.toNat, 0, 0, 0]
def k0_off22 (i : grid0.Coords) (k0_t4 : Fin (k0_t4_loop i).trips) (c0_i32_386 : BitVec 32) : Fin 4 → Nat :=
  let c2_i32_328 : BitVec 32 := 2#32
  let c2_i32_327 : BitVec 32 := 2#32
  let c0_i32_277 : BitVec 32 := 0#32
  let arg1 : BitVec 32 := BitVec.ofNat 32 (i 1).val
  let c2_i32_141 : BitVec 32 := 2#32
  let v264 : BitVec 32 := Scalar.muli arg1 c2_i32_141
  let c1_i32_142 : BitVec 32 := 1#32
  let v265 : BitVec 32 := Scalar.addi v264 c1_i32_142
  let c3_i32_268 : BitVec 32 := 3#32
  let v485 : BitVec 32 := Scalar.addi v265 c3_i32_268
  let c0_i32_270 : BitVec 32 := 0#32
  let v487 : BitVec 1 := Scalar.cmpi .sgt v485 c0_i32_270
  let v488 : BitVec 32 := Scalar.extui v487
  let c0_i32_271 : BitVec 32 := 0#32
  let v489 : BitVec 1 := Scalar.cmpi .slt v485 c0_i32_271
  let v490 : BitVec 32 := Scalar.extui v489
  let v491 : BitVec 32 := Scalar.subi v488 v490
  let c4_i32_269 : BitVec 32 := 4#32
  let c0_i32_272 : BitVec 32 := 0#32
  let v492 : BitVec 1 := Scalar.cmpi .sgt c4_i32_269 c0_i32_272
  let v493 : BitVec 32 := Scalar.extui v492
  let c0_i32_273 : BitVec 32 := 0#32
  let v494 : BitVec 1 := Scalar.cmpi .slt c4_i32_269 c0_i32_273
  let v495 : BitVec 32 := Scalar.extui v494
  let v496 : BitVec 32 := Scalar.subi v493 v495
  let v497 : BitVec 1 := Scalar.cmpi .ne v491 v496
  let v498 : BitVec 32 := Scalar.remsi v485 c4_i32_269
  let c0_i32_274 : BitVec 32 := 0#32
  let v499 : BitVec 1 := Scalar.cmpi .ne v498 c0_i32_274
  let v500 : BitVec 1 := Scalar.andi v497 v499
  let v486 : BitVec 32 := Scalar.divsi v485 c4_i32_269
  let c1_i32_275 : BitVec 32 := 1#32
  let v501 : BitVec 32 := Scalar.subi v486 c1_i32_275
  let v502 : BitVec 32 := Scalar.select v500 v501 v486
  let v503 : BitVec 32 := Scalar.subi v502 c0_i32_277
  let c1_i32_278 : BitVec 32 := 1#32
  let v505 : BitVec 32 := Scalar.divsi v503 c1_i32_278
  let v506 : BitVec 32 := Scalar.muli v505 c1_i32_278
  let v507 : BitVec 32 := Scalar.addi c0_i32_277 v506
  let c1_i32_280 : BitVec 32 := 1#32
  let arg12 : BitVec 32 := Scf.iv v507 c1_i32_280 k0_t4
  let v562 : BitVec 32 := Scalar.muli c2_i32_327 arg12
  let v563 : BitVec 32 := Scalar.muli c2_i32_328 v562
  let v652 : BitVec 32 := Scalar.addi v563 c0_i32_386
  let c63_i32_387 : BitVec 32 := 63#32
  let v653 : BitVec 32 := Scalar.minsi v652 c63_i32_387
  let v654 : Index := Scalar.indexCast v653
  let c1_388 : Index := 1#32
  let c0_389 : Index := 0#32
  let c0_390 : Index := 0#32
  ![v654.toNat, 1, 0, 0]
def k0_mult21 (i : grid0.Coords) (k0_t4 : Fin (k0_t4_loop i).trips) : BitVec 32 :=
  let c2_i32_445 : BitVec 32 := 2#32
  let c2_i32_443 : BitVec 32 := 2#32
  let c0_i32_277 : BitVec 32 := 0#32
  let arg1 : BitVec 32 := BitVec.ofNat 32 (i 1).val
  let c2_i32_141 : BitVec 32 := 2#32
  let v264 : BitVec 32 := Scalar.muli arg1 c2_i32_141
  let c1_i32_142 : BitVec 32 := 1#32
  let v265 : BitVec 32 := Scalar.addi v264 c1_i32_142
  let c3_i32_268 : BitVec 32 := 3#32
  let v485 : BitVec 32 := Scalar.addi v265 c3_i32_268
  let c0_i32_270 : BitVec 32 := 0#32
  let v487 : BitVec 1 := Scalar.cmpi .sgt v485 c0_i32_270
  let v488 : BitVec 32 := Scalar.extui v487
  let c0_i32_271 : BitVec 32 := 0#32
  let v489 : BitVec 1 := Scalar.cmpi .slt v485 c0_i32_271
  let v490 : BitVec 32 := Scalar.extui v489
  let v491 : BitVec 32 := Scalar.subi v488 v490
  let c4_i32_269 : BitVec 32 := 4#32
  let c0_i32_272 : BitVec 32 := 0#32
  let v492 : BitVec 1 := Scalar.cmpi .sgt c4_i32_269 c0_i32_272
  let v493 : BitVec 32 := Scalar.extui v492
  let c0_i32_273 : BitVec 32 := 0#32
  let v494 : BitVec 1 := Scalar.cmpi .slt c4_i32_269 c0_i32_273
  let v495 : BitVec 32 := Scalar.extui v494
  let v496 : BitVec 32 := Scalar.subi v493 v495
  let v497 : BitVec 1 := Scalar.cmpi .ne v491 v496
  let v498 : BitVec 32 := Scalar.remsi v485 c4_i32_269
  let c0_i32_274 : BitVec 32 := 0#32
  let v499 : BitVec 1 := Scalar.cmpi .ne v498 c0_i32_274
  let v500 : BitVec 1 := Scalar.andi v497 v499
  let v486 : BitVec 32 := Scalar.divsi v485 c4_i32_269
  let c1_i32_275 : BitVec 32 := 1#32
  let v501 : BitVec 32 := Scalar.subi v486 c1_i32_275
  let v502 : BitVec 32 := Scalar.select v500 v501 v486
  let v503 : BitVec 32 := Scalar.subi v502 c0_i32_277
  let c1_i32_278 : BitVec 32 := 1#32
  let v505 : BitVec 32 := Scalar.divsi v503 c1_i32_278
  let v506 : BitVec 32 := Scalar.muli v505 c1_i32_278
  let v507 : BitVec 32 := Scalar.addi c0_i32_277 v506
  let c1_i32_280 : BitVec 32 := 1#32
  let arg12 : BitVec 32 := Scf.iv v507 c1_i32_280 k0_t4
  let v740 : BitVec 32 := Scalar.muli c2_i32_443 arg12
  let c2_i32_444 : BitVec 32 := 2#32
  let v741 : BitVec 32 := Scalar.addi v740 c2_i32_444
  let v742 : BitVec 32 := Scalar.muli c2_i32_445 v741
  let c0_i32_446 : BitVec 32 := 0#32
  let v743 : BitVec 32 := Scalar.addi v742 c0_i32_446
  let c63_i32_447 : BitVec 32 := 63#32
  let v744 : BitVec 32 := Scalar.minsi v743 c63_i32_447
  let c256_i32_448 : BitVec 32 := 256#32
  let v745 : BitVec 32 := Scalar.muli v744 c256_i32_448
  v745
def k0_mult22 (i : grid0.Coords) (k0_t4 : Fin (k0_t4_loop i).trips) : BitVec 32 :=
  let c2_i32_460 : BitVec 32 := 2#32
  let c2_i32_443 : BitVec 32 := 2#32
  let c0_i32_277 : BitVec 32 := 0#32
  let arg1 : BitVec 32 := BitVec.ofNat 32 (i 1).val
  let c2_i32_141 : BitVec 32 := 2#32
  let v264 : BitVec 32 := Scalar.muli arg1 c2_i32_141
  let c1_i32_142 : BitVec 32 := 1#32
  let v265 : BitVec 32 := Scalar.addi v264 c1_i32_142
  let c3_i32_268 : BitVec 32 := 3#32
  let v485 : BitVec 32 := Scalar.addi v265 c3_i32_268
  let c0_i32_270 : BitVec 32 := 0#32
  let v487 : BitVec 1 := Scalar.cmpi .sgt v485 c0_i32_270
  let v488 : BitVec 32 := Scalar.extui v487
  let c0_i32_271 : BitVec 32 := 0#32
  let v489 : BitVec 1 := Scalar.cmpi .slt v485 c0_i32_271
  let v490 : BitVec 32 := Scalar.extui v489
  let v491 : BitVec 32 := Scalar.subi v488 v490
  let c4_i32_269 : BitVec 32 := 4#32
  let c0_i32_272 : BitVec 32 := 0#32
  let v492 : BitVec 1 := Scalar.cmpi .sgt c4_i32_269 c0_i32_272
  let v493 : BitVec 32 := Scalar.extui v492
  let c0_i32_273 : BitVec 32 := 0#32
  let v494 : BitVec 1 := Scalar.cmpi .slt c4_i32_269 c0_i32_273
  let v495 : BitVec 32 := Scalar.extui v494
  let v496 : BitVec 32 := Scalar.subi v493 v495
  let v497 : BitVec 1 := Scalar.cmpi .ne v491 v496
  let v498 : BitVec 32 := Scalar.remsi v485 c4_i32_269
  let c0_i32_274 : BitVec 32 := 0#32
  let v499 : BitVec 1 := Scalar.cmpi .ne v498 c0_i32_274
  let v500 : BitVec 1 := Scalar.andi v497 v499
  let v486 : BitVec 32 := Scalar.divsi v485 c4_i32_269
  let c1_i32_275 : BitVec 32 := 1#32
  let v501 : BitVec 32 := Scalar.subi v486 c1_i32_275
  let v502 : BitVec 32 := Scalar.select v500 v501 v486
  let v503 : BitVec 32 := Scalar.subi v502 c0_i32_277
  let c1_i32_278 : BitVec 32 := 1#32
  let v505 : BitVec 32 := Scalar.divsi v503 c1_i32_278
  let v506 : BitVec 32 := Scalar.muli v505 c1_i32_278
  let v507 : BitVec 32 := Scalar.addi c0_i32_277 v506
  let c1_i32_280 : BitVec 32 := 1#32
  let arg12 : BitVec 32 := Scf.iv v507 c1_i32_280 k0_t4
  let v740 : BitVec 32 := Scalar.muli c2_i32_443 arg12
  let c2_i32_444 : BitVec 32 := 2#32
  let v741 : BitVec 32 := Scalar.addi v740 c2_i32_444
  let v758 : BitVec 32 := Scalar.muli c2_i32_460 v741
  let c1_i32_461 : BitVec 32 := 1#32
  let v759 : BitVec 32 := Scalar.addi v758 c1_i32_461
  let c63_i32_462 : BitVec 32 := 63#32
  let v760 : BitVec 32 := Scalar.minsi v759 c63_i32_462
  let c256_i32_463 : BitVec 32 := 256#32
  let v761 : BitVec 32 := Scalar.muli v760 c256_i32_463
  v761
def k0_off23 (i : grid0.Coords) (k0_t4 : Fin (k0_t4_loop i).trips) (c0_i32_478 : BitVec 32) : Fin 4 → Nat :=
  let c2_i32_477 : BitVec 32 := 2#32
  let c2_i32_475 : BitVec 32 := 2#32
  let c0_i32_277 : BitVec 32 := 0#32
  let arg1 : BitVec 32 := BitVec.ofNat 32 (i 1).val
  let c2_i32_141 : BitVec 32 := 2#32
  let v264 : BitVec 32 := Scalar.muli arg1 c2_i32_141
  let c1_i32_142 : BitVec 32 := 1#32
  let v265 : BitVec 32 := Scalar.addi v264 c1_i32_142
  let c3_i32_268 : BitVec 32 := 3#32
  let v485 : BitVec 32 := Scalar.addi v265 c3_i32_268
  let c0_i32_270 : BitVec 32 := 0#32
  let v487 : BitVec 1 := Scalar.cmpi .sgt v485 c0_i32_270
  let v488 : BitVec 32 := Scalar.extui v487
  let c0_i32_271 : BitVec 32 := 0#32
  let v489 : BitVec 1 := Scalar.cmpi .slt v485 c0_i32_271
  let v490 : BitVec 32 := Scalar.extui v489
  let v491 : BitVec 32 := Scalar.subi v488 v490
  let c4_i32_269 : BitVec 32 := 4#32
  let c0_i32_272 : BitVec 32 := 0#32
  let v492 : BitVec 1 := Scalar.cmpi .sgt c4_i32_269 c0_i32_272
  let v493 : BitVec 32 := Scalar.extui v492
  let c0_i32_273 : BitVec 32 := 0#32
  let v494 : BitVec 1 := Scalar.cmpi .slt c4_i32_269 c0_i32_273
  let v495 : BitVec 32 := Scalar.extui v494
  let v496 : BitVec 32 := Scalar.subi v493 v495
  let v497 : BitVec 1 := Scalar.cmpi .ne v491 v496
  let v498 : BitVec 32 := Scalar.remsi v485 c4_i32_269
  let c0_i32_274 : BitVec 32 := 0#32
  let v499 : BitVec 1 := Scalar.cmpi .ne v498 c0_i32_274
  let v500 : BitVec 1 := Scalar.andi v497 v499
  let v486 : BitVec 32 := Scalar.divsi v485 c4_i32_269
  let c1_i32_275 : BitVec 32 := 1#32
  let v501 : BitVec 32 := Scalar.subi v486 c1_i32_275
  let v502 : BitVec 32 := Scalar.select v500 v501 v486
  let v503 : BitVec 32 := Scalar.subi v502 c0_i32_277
  let c1_i32_278 : BitVec 32 := 1#32
  let v505 : BitVec 32 := Scalar.divsi v503 c1_i32_278
  let v506 : BitVec 32 := Scalar.muli v505 c1_i32_278
  let v507 : BitVec 32 := Scalar.addi c0_i32_277 v506
  let c1_i32_280 : BitVec 32 := 1#32
  let arg12 : BitVec 32 := Scf.iv v507 c1_i32_280 k0_t4
  let v774 : BitVec 32 := Scalar.muli c2_i32_475 arg12
  let c1_i32_476 : BitVec 32 := 1#32
  let v775 : BitVec 32 := Scalar.addi v774 c1_i32_476
  let v776 : BitVec 32 := Scalar.muli c2_i32_477 v775
  let v777 : BitVec 32 := Scalar.addi v776 c0_i32_478
  let c63_i32_479 : BitVec 32 := 63#32
  let v778 : BitVec 32 := Scalar.minsi v777 c63_i32_479
  let v779 : Index := Scalar.indexCast v778
  let c0_480 : Index := 0#32
  let c0_481 : Index := 0#32
  let c0_482 : Index := 0#32
  ![v779.toNat, 0, 0, 0]
def k0_off24 (i : grid0.Coords) (k0_t4 : Fin (k0_t4_loop i).trips) (c0_i32_535 : BitVec 32) : Fin 4 → Nat :=
  let c2_i32_477 : BitVec 32 := 2#32
  let c2_i32_475 : BitVec 32 := 2#32
  let c0_i32_277 : BitVec 32 := 0#32
  let arg1 : BitVec 32 := BitVec.ofNat 32 (i 1).val
  let c2_i32_141 : BitVec 32 := 2#32
  let v264 : BitVec 32 := Scalar.muli arg1 c2_i32_141
  let c1_i32_142 : BitVec 32 := 1#32
  let v265 : BitVec 32 := Scalar.addi v264 c1_i32_142
  let c3_i32_268 : BitVec 32 := 3#32
  let v485 : BitVec 32 := Scalar.addi v265 c3_i32_268
  let c0_i32_270 : BitVec 32 := 0#32
  let v487 : BitVec 1 := Scalar.cmpi .sgt v485 c0_i32_270
  let v488 : BitVec 32 := Scalar.extui v487
  let c0_i32_271 : BitVec 32 := 0#32
  let v489 : BitVec 1 := Scalar.cmpi .slt v485 c0_i32_271
  let v490 : BitVec 32 := Scalar.extui v489
  let v491 : BitVec 32 := Scalar.subi v488 v490
  let c4_i32_269 : BitVec 32 := 4#32
  let c0_i32_272 : BitVec 32 := 0#32
  let v492 : BitVec 1 := Scalar.cmpi .sgt c4_i32_269 c0_i32_272
  let v493 : BitVec 32 := Scalar.extui v492
  let c0_i32_273 : BitVec 32 := 0#32
  let v494 : BitVec 1 := Scalar.cmpi .slt c4_i32_269 c0_i32_273
  let v495 : BitVec 32 := Scalar.extui v494
  let v496 : BitVec 32 := Scalar.subi v493 v495
  let v497 : BitVec 1 := Scalar.cmpi .ne v491 v496
  let v498 : BitVec 32 := Scalar.remsi v485 c4_i32_269
  let c0_i32_274 : BitVec 32 := 0#32
  let v499 : BitVec 1 := Scalar.cmpi .ne v498 c0_i32_274
  let v500 : BitVec 1 := Scalar.andi v497 v499
  let v486 : BitVec 32 := Scalar.divsi v485 c4_i32_269
  let c1_i32_275 : BitVec 32 := 1#32
  let v501 : BitVec 32 := Scalar.subi v486 c1_i32_275
  let v502 : BitVec 32 := Scalar.select v500 v501 v486
  let v503 : BitVec 32 := Scalar.subi v502 c0_i32_277
  let c1_i32_278 : BitVec 32 := 1#32
  let v505 : BitVec 32 := Scalar.divsi v503 c1_i32_278
  let v506 : BitVec 32 := Scalar.muli v505 c1_i32_278
  let v507 : BitVec 32 := Scalar.addi c0_i32_277 v506
  let c1_i32_280 : BitVec 32 := 1#32
  let arg12 : BitVec 32 := Scf.iv v507 c1_i32_280 k0_t4
  let v774 : BitVec 32 := Scalar.muli c2_i32_475 arg12
  let c1_i32_476 : BitVec 32 := 1#32
  let v775 : BitVec 32 := Scalar.addi v774 c1_i32_476
  let v776 : BitVec 32 := Scalar.muli c2_i32_477 v775
  let v865 : BitVec 32 := Scalar.addi v776 c0_i32_535
  let c63_i32_536 : BitVec 32 := 63#32
  let v866 : BitVec 32 := Scalar.minsi v865 c63_i32_536
  let v867 : Index := Scalar.indexCast v866
  let c1_537 : Index := 1#32
  let c0_538 : Index := 0#32
  let c0_539 : Index := 0#32
  ![v867.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x2x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "half_neg" => some ⊥
  | "neg" => some ⊥
  | "pos" => some ⊤
  | _ => none
-- ==== ReferenceIdeal.lean ====
abbrev S16384x512 : Shape := ⟨2, ![16384, 512]⟩
abbrev S16384x8x64 : Shape := ⟨3, ![16384, 8, 64]⟩
abbrev S64x256x8x64 : Shape := ⟨4, ![64, 256, 8, 64]⟩
abbrev S_ : Shape := ⟨0, ![]⟩
abbrev S64x8x64 : Shape := ⟨3, ![64, 8, 64]⟩
abbrev S16384 : Shape := ⟨1, ![16384]⟩
abbrev S8x64x16384 : Shape := ⟨3, ![8, 64, 16384]⟩
abbrev S64 : Shape := ⟨1, ![64]⟩
abbrev S1x64 : Shape := ⟨2, ![1, 64]⟩
abbrev S16384x1 : Shape := ⟨2, ![16384, 1]⟩
abbrev S16384x64 : Shape := ⟨2, ![16384, 64]⟩
abbrev S16384x1x64 : Shape := ⟨3, ![16384, 1, 64]⟩
abbrev S16384x8x3 : Shape := ⟨3, ![16384, 8, 3]⟩
abbrev S16384x1x1 : Shape := ⟨3, ![16384, 1, 1]⟩
abbrev S16384x8x1 : Shape := ⟨3, ![16384, 8, 1]⟩
abbrev S16384x8x4 : Shape := ⟨3, ![16384, 8, 4]⟩
abbrev S8 : Shape := ⟨1, ![8]⟩
abbrev S1x8x1 : Shape := ⟨3, ![1, 8, 1]⟩
abbrev S16384x8x4x1 : Shape := ⟨4, ![16384, 8, 4, 1]⟩
abbrev S16384x8x4x2 : Shape := ⟨4, ![16384, 8, 4, 2]⟩
abbrev S16384x8x4x256x64 : Shape := ⟨5, ![16384, 8, 4, 256, 64]⟩
abbrev S256 : Shape := ⟨1, ![256]⟩
abbrev S1x1x1x256 : Shape := ⟨4, ![1, 1, 1, 256]⟩
abbrev S16384x8x4x256 : Shape := ⟨4, ![16384, 8, 4, 256]⟩
abbrev S16384x1x1x1 : Shape := ⟨4, ![16384, 1, 1, 1]⟩
abbrev S16384x8x1024 : Shape := ⟨3, ![16384, 8, 1024]⟩
abbrev S16384x8 : Shape := ⟨2, ![16384, 8]⟩

abbrev nBuf : Space → Nat
  | .hbm => 136
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x8x64, .f32⟩
  | 4 => ⟨S64x256x8x64, .f32⟩
  | 5 => ⟨S64x256x8x64, .f32⟩
  | 6 => ⟨S_, .f32⟩
  | 7 => ⟨S64x8x64, .f32⟩
  | 8 => ⟨S_, .f32⟩
  | 9 => ⟨S64x8x64, .f32⟩
  | 10 => ⟨S64x8x64, .f32⟩
  | 11 => ⟨S16384, .i32⟩
  | 12 => ⟨S_, .i32⟩
  | 13 => ⟨S_, .i32⟩
  | 14 => ⟨S16384, .i32⟩
  | 15 => ⟨S16384, .i32⟩
  | 16 => ⟨S16384, .i32⟩
  | 17 => ⟨S_, .i32⟩
  | 18 => ⟨S16384, .i32⟩
  | 19 => ⟨S16384, .i1⟩
  | 20 => ⟨S16384, .i32⟩
  | 21 => ⟨S16384, .i32⟩
  | 22 => ⟨S_, .i32⟩
  | 23 => ⟨S16384, .i32⟩
  | 24 => ⟨S16384, .i1⟩
  | 25 => ⟨S16384, .i1⟩
  | 26 => ⟨S_, .i32⟩
  | 27 => ⟨S16384, .i32⟩
  | 28 => ⟨S16384, .i32⟩
  | 29 => ⟨S16384, .i32⟩
  | 30 => ⟨S8x64x16384, .f32⟩
  | 31 => ⟨S16384x8x64, .f32⟩
  | 32 => ⟨S64, .i32⟩
  | 33 => ⟨S1x64, .i32⟩
  | 34 => ⟨S16384x1, .i32⟩
  | 35 => ⟨S16384x64, .i32⟩
  | 36 => ⟨S16384x64, .i32⟩
  | 37 => ⟨S16384x64, .i1⟩
  | 38 => ⟨S16384x1x64, .i1⟩
  | 39 => ⟨S_, .f32⟩
  | 40 => ⟨S_, .f32⟩
  | 41 => ⟨S16384x8x64, .i1⟩
  | 42 => ⟨S16384x8x64, .f32⟩
  | 43 => ⟨S16384x8x64, .f32⟩
  | 44 => ⟨S16384x8x3, .f32⟩
  | 45 => ⟨S16384x8x3, .i32⟩
  | 46 => ⟨S16384x1x1, .i32⟩
  | 47 => ⟨S16384x8x1, .i32⟩
  | 48 => ⟨S16384x8x4, .i32⟩
  | 49 => ⟨S16384x8x3, .i32⟩
  | 50 => ⟨S16384x8x3, .i1⟩
  | 51 => ⟨S_, .i1⟩
  | 52 => ⟨S16384x8x1, .i1⟩
  | 53 => ⟨S16384x8x4, .i1⟩
  | 54 => ⟨S8, .i32⟩
  | 55 => ⟨S1x8x1, .i32⟩
  | 56 => ⟨S_, .i32⟩
  | 57 => ⟨S16384x8x4, .i32⟩
  | 58 => ⟨S16384x8x4, .i1⟩
  | 59 => ⟨S_, .i32⟩
  | 60 => ⟨S16384x8x4, .i32⟩
  | 61 => ⟨S16384x8x4, .i32⟩
  | 62 => ⟨S16384x8x4, .i32⟩
  | 63 => ⟨S_, .i32⟩
  | 64 => ⟨S1x8x1, .i32⟩
  | 65 => ⟨S1x8x1, .i1⟩
  | 66 => ⟨S_, .i32⟩
  | 67 => ⟨S1x8x1, .i32⟩
  | 68 => ⟨S1x8x1, .i32⟩
  | 69 => ⟨S1x8x1, .i32⟩
  | 70 => ⟨S16384x8x4, .i32⟩
  | 71 => ⟨S16384x8x4x1, .i32⟩
  | 72 => ⟨S16384x8x4x1, .i32⟩
  | 73 => ⟨S16384x8x4x2, .i32⟩
  | 74 => ⟨S16384x8x4x256x64, .f32⟩
  | 75 => ⟨S_, .i32⟩
  | 76 => ⟨S16384x8x4, .i32⟩
  | 77 => ⟨S16384x8x4, .i1⟩
  | 78 => ⟨S_, .i32⟩
  | 79 => ⟨S16384x8x4, .i32⟩
  | 80 => ⟨S16384x8x4, .i32⟩
  | 81 => ⟨S16384x8x4, .i32⟩
  | 82 => ⟨S_, .i32⟩
  | 83 => ⟨S1x8x1, .i32⟩
  | 84 => ⟨S1x8x1, .i1⟩
  | 85 => ⟨S_, .i32⟩
  | 86 => ⟨S1x8x1, .i32⟩
  | 87 => ⟨S1x8x1, .i32⟩
  | 88 => ⟨S1x8x1, .i32⟩
  | 89 => ⟨S16384x8x4, .i32⟩
  | 90 => ⟨S16384x8x4x1, .i32⟩
  | 91 => ⟨S16384x8x4x1, .i32⟩
  | 92 => ⟨S16384x8x4x2, .i32⟩
  | 93 => ⟨S16384x8x4x256x64, .f32⟩
  | 94 => ⟨S16384x8x4x1, .i32⟩
  | 95 => ⟨S_, .i32⟩
  | 96 => ⟨S16384x8x4x1, .i32⟩
  | 97 => ⟨S16384x8x4x1, .i32⟩
  | 98 => ⟨S256, .i32⟩
  | 99 => ⟨S1x1x1x256, .i32⟩
  | 100 => ⟨S16384x8x4x256, .i32⟩
  | 101 => ⟨S16384x8x4x256, .i32⟩
  | 102 => ⟨S16384x8x4x256, .i32⟩
  | 103 => ⟨S16384x8x4x1, .i1⟩
  | 104 => ⟨S16384x1x1x1, .i32⟩
  | 105 => ⟨S16384x8x4x256, .i32⟩
  | 106 => ⟨S16384x8x4x256, .i1⟩
  | 107 => ⟨S16384x8x4x256, .i1⟩
  | 108 => ⟨S16384x8x4x256, .i1⟩
  | 109 => ⟨S16384x8x4x256, .f32⟩
  | 110 => ⟨S_, .f32⟩
  | 111 => ⟨S16384x8x4x256, .f32⟩
  | 112 => ⟨S16384x8x4x256, .f32⟩
  | 113 => ⟨S_, .f32⟩
  | 114 => ⟨S_, .f32⟩
  | 115 => ⟨S16384x8x4x256, .f32⟩
  | 116 => ⟨S16384x8x4x256, .f32⟩
  | 117 => ⟨S16384x8x1024, .f32⟩
  | 118 => ⟨S_, .f32⟩
  | 119 => ⟨S16384x8, .f32⟩
  | 120 => ⟨S_, .f32⟩
  | 121 => ⟨S16384x8, .f32⟩
  | 122 => ⟨S16384x8, .f32⟩
  | 123 => ⟨S16384x8x1, .f32⟩
  | 124 => ⟨S16384x8x1024, .f32⟩
  | 125 => ⟨S16384x8x1024, .f32⟩
  | 126 => ⟨S16384x8x1024, .f32⟩
  | 127 => ⟨S_, .f32⟩
  | _ => ⟨S16384x512, .f32⟩

abbrev hbmTy0_1 (i : Nat) : BufTy := match i % 128 with
  | 0 => ⟨S16384x8, .f32⟩
  | 1 => ⟨S16384x8x1, .f32⟩
  | 2 => ⟨S16384x8x1024, .f32⟩
  | 3 => ⟨S16384x8x1024, .f32⟩
  | 4 => ⟨S16384x8x4x256, .f32⟩
  | 5 => ⟨S16384x8x64, .f32⟩
  | 6 => ⟨S16384x512, .f32⟩
  | 7 => ⟨S16384x512, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v17 : Ref sig .tc := ⟨.hbm, 43, rfl⟩
abbrev main_values : Ref sig .tc := ⟨.hbm, 44, rfl⟩
abbrev main_indices : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_3 : Ref sig .tc := ⟨.hbm, 56, rfl⟩
abbrev main_v27 : Ref sig .tc := ⟨.hbm, 57, rfl⟩
abbrev main_v28 : Ref sig .tc := ⟨.hbm, 58, rfl⟩
abbrev main_c_4 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_c_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_7 : Ref sig .tc := ⟨.hbm, 75, rfl⟩
abbrev main_v42 : Ref sig .tc := ⟨.hbm, 76, rfl⟩
abbrev main_v43 : Ref sig .tc := ⟨.hbm, 77, rfl⟩
abbrev main_c_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_9 : Ref sig .tc := ⟨.hbm, 82, rfl⟩
abbrev main_v47 : Ref sig .tc := ⟨.hbm, 83, rfl⟩
abbrev main_v48 : Ref sig .tc := ⟨.hbm, 84, rfl⟩
abbrev main_c_10 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c_11 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_12 : Ref sig .tc := ⟨.hbm, 110, rfl⟩
abbrev main_v72 : Ref sig .tc := ⟨.hbm, 111, rfl⟩
abbrev main_v73 : Ref sig .tc := ⟨.hbm, 112, rfl⟩
abbrev main_cst_13 : Ref sig .tc := ⟨.hbm, 113, rfl⟩
abbrev main_call2_v0 : Ref sig .tc := ⟨.hbm, 114, rfl⟩
abbrev main_call2_v1 : Ref sig .tc := ⟨.hbm, 115, rfl⟩
abbrev main_v74 : Ref sig .tc := ⟨.hbm, 116, rfl⟩
abbrev main_v75 : Ref sig .tc := ⟨.hbm, 117, rfl⟩
abbrev main_cst_14 : Ref sig .tc := ⟨.hbm, 118, rfl⟩
abbrev main_v76 : Ref sig .tc := ⟨.hbm, 119, rfl⟩
abbrev main_cst_15 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_16 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel3.lean ====
abbrev S256x1024 : Shape := ⟨2, ![256, 1024]⟩
abbrev S1024 : Shape := ⟨1, ![1024]⟩
abbrev S1024x1024 : Shape := ⟨2, ![1024, 1024]⟩
abbrev S256 : Shape := ⟨1, ![256]⟩
abbrev S1x1024 : Shape := ⟨2, ![1, 1024]⟩
abbrev S1x256 : Shape := ⟨2, ![1, 256]⟩
abbrev S256x1 : Shape := ⟨2, ![256, 1]⟩
abbrev S256x256 : Shape := ⟨2, ![256, 256]⟩

abbrev nBuf : Space → Nat
  | .hbm => 13
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S1x256, .f32⟩
  | .hbm, ⟨9, _⟩ => ⟨S256x1024, .f32⟩
  | .hbm, ⟨10, _⟩ => ⟨S256x1024, .f32⟩
  | .hbm, ⟨11, _⟩ => ⟨S256x1024, .bf16⟩
  | .hbm, ⟨12, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x256, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S256x1024 : Shape := ⟨2, ![256, 1024]⟩
abbrev S1024 : Shape := ⟨1, ![1024]⟩
abbrev S1024x1024 : Shape := ⟨2, ![1024, 1024]⟩
abbrev S256 : Shape := ⟨1, ![256]⟩
abbrev S_ : Shape := ⟨0, ![]⟩
abbrev S256x1 : Shape := ⟨2, ![256, 1]⟩
abbrev S1x1024 : Shape := ⟨2, ![1, 1024]⟩
abbrev S256x4x256 : Shape := ⟨3, ![256, 4, 256]⟩
abbrev S256x4 : Shape := ⟨2, ![256, 4]⟩
abbrev S256x4x1 : Shape := ⟨3, ![256, 4, 1]⟩
abbrev S1x1x256 : Shape := ⟨3, ![1, 1, 256]⟩

abbrev nBuf : Space → Nat
  | .hbm => 43
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x4x256, .f32⟩
  | .hbm, ⟨23, _⟩ => ⟨S256x4x256, .f32⟩
  | .hbm, ⟨24, _⟩ => ⟨S_, .f32⟩
  | .hbm, ⟨25, _⟩ => ⟨S256x4, .f32⟩
  | .hbm, ⟨26, _⟩ => ⟨S256x4x1, .f32⟩
  | .hbm, ⟨27, _⟩ => ⟨S_, .f32⟩
  | .hbm, ⟨28, _⟩ => ⟨S256x4x1, .f32⟩
  | .hbm, ⟨29, _⟩ => ⟨S256x4x1, .f32⟩
  | .hbm, ⟨30, _⟩ => ⟨S_, .f32⟩
  | .hbm, ⟨31, _⟩ => ⟨S256x4x1, .f32⟩
  | .hbm, ⟨32, _⟩ => ⟨S256x4x1, .f32⟩
  | .hbm, ⟨33, _⟩ => ⟨S256x4x1, .f32⟩
  | .hbm, ⟨34, _⟩ => ⟨S256x4x256, .f32⟩
  | .hbm, ⟨35, _⟩ => ⟨S256x4x256, .f32⟩
  | .hbm, ⟨36, _⟩ => ⟨S1x1x256, .f32⟩
  | .hbm, ⟨37, _⟩ => ⟨S256x4x256, .f32⟩
  | .hbm, ⟨38, _⟩ => ⟨S256x4x256, .f32⟩
  | .hbm, ⟨39, _⟩ => ⟨S256x1024, .f32⟩
  | .hbm, ⟨40, _⟩ => ⟨S256x1024, .f32⟩
  | .hbm, ⟨41, _⟩ => ⟨S256x1024, .bf16⟩
  | .hbm, ⟨42, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S256 : Shape := ⟨1, ![256]⟩
abbrev S256x1024 : Shape := ⟨2, ![256, 1024]⟩
abbrev S512x1024 : Shape := ⟨2, ![512, 1024]⟩
abbrev S1x1024 : Shape := ⟨2, ![1, 1024]⟩
abbrev S1x256 : Shape := ⟨2, ![1, 256]⟩
abbrev S1024x512 : Shape := ⟨2, ![1024, 512]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 18
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S256, .f32⟩
  | .hbm, ⟨7, _⟩ => ⟨S256x1024, .bf16⟩
  | .hbm, ⟨8, _⟩ => ⟨S256x1024, .bf16⟩
  | .hbm, ⟨9, _⟩ => ⟨S1024x1024, .f32⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1x1024, .f32⟩
  | .hbm, ⟨14, _⟩ => ⟨S1024x1024, .bf16⟩
  | .hbm, ⟨15, _⟩ => ⟨S1x256, .f32⟩
  | .hbm, ⟨16, _⟩ => ⟨S1024x1024, .bf16⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1x256, .f32⟩
  | .local _ .vmem, ⟨11, _⟩ => ⟨S256x1024, .bf16⟩
  | .local _ .vmem, ⟨12, _⟩ => ⟨S256x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S256 : Shape := ⟨1, ![256]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x256 : Shape := ⟨3, ![16384, 4, 256]⟩
abbrev S16384x4 : Shape := ⟨2, ![16384, 4]⟩
abbrev S16384x4x1 : Shape := ⟨3, ![16384, 4, 1]⟩
abbrev S1x1x256 : Shape := ⟨3, ![1, 1, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S256, .f32⟩
  | .hbm, ⟨7, _⟩ => ⟨S256x1024, .bf16⟩
  | .hbm, ⟨8, _⟩ => ⟨S256x1024, .bf16⟩
  | .hbm, ⟨9, _⟩ => ⟨S1024x1024, .f32⟩
  | .hbm, ⟨10, _⟩ => ⟨S16384x512, .f32⟩
  | .hbm, ⟨11, _⟩ => ⟨S16384x512, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x4x256, .f32⟩
  | .hbm, ⟨33, _⟩ => ⟨S16384x4x256, .f32⟩
  | .hbm, ⟨34, _⟩ => ⟨S_, .f32⟩
  | .hbm, ⟨35, _⟩ => ⟨S16384x4, .f32⟩
  | .hbm, ⟨36, _⟩ => ⟨S16384x4x1, .f32⟩
  | .hbm, ⟨37, _⟩ => ⟨S_, .f32⟩
  | .hbm, ⟨38, _⟩ => ⟨S16384x4x1, .f32⟩
  | .hbm, ⟨39, _⟩ => ⟨S16384x4x1, .f32⟩
  | .hbm, ⟨40, _⟩ => ⟨S_, .f32⟩
  | .hbm, ⟨41, _⟩ => ⟨S16384x4x1, .f32⟩
  | .hbm, ⟨42, _⟩ => ⟨S16384x4x1, .f32⟩
  | .hbm, ⟨43, _⟩ => ⟨S16384x4x1, .f32⟩
  | .hbm, ⟨44, _⟩ => ⟨S16384x4x256, .f32⟩
  | .hbm, ⟨45, _⟩ => ⟨S16384x4x256, .f32⟩
  | .hbm, ⟨46, _⟩ => ⟨S1x1x256, .f32⟩
  | .hbm, ⟨47, _⟩ => ⟨S16384x4x256, .f32⟩
  | .hbm, ⟨48, _⟩ => ⟨S16384x4x256, .f32⟩
  | .hbm, ⟨49, _⟩ => ⟨S256x1024, .f32⟩
  | .hbm, ⟨50, _⟩ => ⟨S256x4x256, .f32⟩
  | .hbm, ⟨51, _⟩ => ⟨S256x1024, .f32⟩
  | .hbm, ⟨52, _⟩ => ⟨S256x4x256, .f32⟩
  | .hbm, ⟨53, _⟩ => ⟨S4x16384x256, .f32⟩
  | .hbm, ⟨54, _⟩ => ⟨S_, .f32⟩
  | .hbm, ⟨55, _⟩ => ⟨S4x16384x256, .f32⟩
  | .hbm, ⟨56, _⟩ => ⟨S4x16384x256, .f32⟩
  | .hbm, ⟨57, _⟩ => ⟨S_, .f32⟩
  | .hbm, ⟨58, _⟩ => ⟨S4x16384, .f32⟩
  | .hbm, ⟨59, _⟩ => ⟨S_, .f32⟩
  | .hbm, ⟨60, _⟩ => ⟨S4x16384, .f32⟩
  | .hbm, ⟨61, _⟩ => ⟨S4x16384, .f32⟩
  | .hbm, ⟨62, _⟩ => ⟨S4x16384x1, .f32⟩
  | .hbm, ⟨63, _⟩ => ⟨S4x16384x256, .f32⟩
  | .hbm, ⟨64, _⟩ => ⟨S4x16384x256, .f32⟩
  | .hbm, ⟨65, _⟩ => ⟨S4x16384x256, .f32⟩
  | .hbm, ⟨66, _⟩ => ⟨S_, .f32⟩
  | .hbm, ⟨67, _⟩ => ⟨S4x16384, .f32⟩
  | .hbm, ⟨68, _⟩ => ⟨S4x16384x1, .f32⟩
  | .hbm, ⟨69, _⟩ => ⟨S4x16384x256, .f32⟩
  | .hbm, ⟨70, _⟩ => ⟨S4x16384x256, .f32⟩
  | .hbm, ⟨71, _⟩ => ⟨S4x256x16384, .f32⟩
  | .hbm, ⟨72, _⟩ => ⟨S16384x4x256, .f32⟩
  | .hbm, ⟨73, _⟩ => ⟨S16384x1024, .f32⟩
  | .hbm, ⟨74, _⟩ => ⟨S16384x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel5.lean ====
abbrev S16384x1024 : Shape := ⟨2, ![16384, 1024]⟩
abbrev S1024x1024 : Shape := ⟨2, ![1024, 1024]⟩
abbrev S1024 : Shape := ⟨1, ![1024]⟩
abbrev S256 : Shape := ⟨1, ![256]⟩
abbrev S256x1024 : Shape := ⟨2, ![256, 1024]⟩
abbrev S1x1024 : Shape := ⟨2, ![1, 1024]⟩
abbrev S1x256 : Shape := ⟨2, ![1, 256]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 15
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S256, .f32⟩
  | .hbm, ⟨6, _⟩ => ⟨S256x1024, .bf16⟩
  | .hbm, ⟨7, _⟩ => ⟨S256x1024, .bf16⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024x1024, .bf16⟩
  | .hbm, ⟨12, _⟩ => ⟨S1x256, .f32⟩
  | .hbm, ⟨13, _⟩ => ⟨S1024x1024, .bf16⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x256, .f32⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x1024 : Shape := ⟨2, ![16384, 1024]⟩
abbrev S1024x1024 : Shape := ⟨2, ![1024, 1024]⟩
abbrev S1024 : Shape := ⟨1, ![1024]⟩
abbrev S256 : Shape := ⟨1, ![256]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x256 : Shape := ⟨3, ![16384, 4, 256]⟩
abbrev S16384x4 : Shape := ⟨2, ![16384, 4]⟩
abbrev S16384x4x1 : Shape := ⟨3, ![16384, 4, 1]⟩
abbrev S1x1x256 : Shape := ⟨3, ![1, 1, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S256, .f32⟩
  | .hbm, ⟨6, _⟩ => ⟨S256x1024, .bf16⟩
  | .hbm, ⟨7, _⟩ => ⟨S256x1024, .bf16⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x4x256, .f32⟩
  | .hbm, ⟨30, _⟩ => ⟨S16384x4x256, .f32⟩
  | .hbm, ⟨31, _⟩ => ⟨S_, .f32⟩
  | .hbm, ⟨32, _⟩ => ⟨S16384x4, .f32⟩
  | .hbm, ⟨33, _⟩ => ⟨S16384x4x1, .f32⟩
  | .hbm, ⟨34, _⟩ => ⟨S_, .f32⟩
  | .hbm, ⟨35, _⟩ => ⟨S16384x4x1, .f32⟩
  | .hbm, ⟨36, _⟩ => ⟨S16384x4x1, .f32⟩
  | .hbm, ⟨37, _⟩ => ⟨S_, .f32⟩
  | .hbm, ⟨38, _⟩ => ⟨S16384x4x1, .f32⟩
  | .hbm, ⟨39, _⟩ => ⟨S16384x4x1, .f32⟩
  | .hbm, ⟨40, _⟩ => ⟨S16384x4x1, .f32⟩
  | .hbm, ⟨41, _⟩ => ⟨S16384x4x256, .f32⟩
  | .hbm, ⟨42, _⟩ => ⟨S16384x4x256, .f32⟩
  | .hbm, ⟨43, _⟩ => ⟨S1x1x256, .f32⟩
  | .hbm, ⟨44, _⟩ => ⟨S16384x4x256, .f32⟩
  | .hbm, ⟨45, _⟩ => ⟨S16384x4x256, .f32⟩
  | .hbm, ⟨46, _⟩ => ⟨S256x1024, .f32⟩
  | .hbm, ⟨47, _⟩ => ⟨S256x4x256, .f32⟩
  | .hbm, ⟨48, _⟩ => ⟨S256x1024, .f32⟩
  | .hbm, ⟨49, _⟩ => ⟨S256x4x256, .f32⟩
  | .hbm, ⟨50, _⟩ => ⟨S4x16384x256, .f32⟩
  | .hbm, ⟨51, _⟩ => ⟨S_, .f32⟩
  | .hbm, ⟨52, _⟩ => ⟨S4x16384x256, .f32⟩
  | .hbm, ⟨53, _⟩ => ⟨S4x16384x256, .f32⟩
  | .hbm, ⟨54, _⟩ => ⟨S_, .f32⟩
  | .hbm, ⟨55, _⟩ => ⟨S4x16384, .f32⟩
  | .hbm, ⟨56, _⟩ => ⟨S_, .f32⟩
  | .hbm, ⟨57, _⟩ => ⟨S4x16384, .f32⟩
  | .hbm, ⟨58, _⟩ => ⟨S4x16384, .f32⟩
  | .hbm, ⟨59, _⟩ => ⟨S4x16384x1, .f32⟩
  | .hbm, ⟨60, _⟩ => ⟨S4x16384x256, .f32⟩
  | .hbm, ⟨61, _⟩ => ⟨S4x16384x256, .f32⟩
  | .hbm, ⟨62, _⟩ => ⟨S4x16384x256, .f32⟩
  | .hbm, ⟨63, _⟩ => ⟨S_, .f32⟩
  | .hbm, ⟨64, _⟩ => ⟨S4x16384, .f32⟩
  | .hbm, ⟨65, _⟩ => ⟨S4x16384x1, .f32⟩
  | .hbm, ⟨66, _⟩ => ⟨S4x16384x256, .f32⟩
  | .hbm, ⟨67, _⟩ => ⟨S4x16384x256, .f32⟩
  | .hbm, ⟨68, _⟩ => ⟨S4x256x16384, .f32⟩
  | .hbm, ⟨69, _⟩ => ⟨S16384x4x256, .f32⟩
  | .hbm, ⟨70, _⟩ => ⟨S16384x1024, .f32⟩
  | .hbm, ⟨71, _⟩ => ⟨S16384x1024, .f32⟩
  | .hbm, ⟨72, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x2048 : Shape := ⟨2, ![1024, 2048]⟩
abbrev S4x128x128 : Shape := ⟨3, ![4, 128, 128]⟩
abbrev S4x128 : Shape := ⟨2, ![4, 128]⟩
abbrev S128x4 : Shape := ⟨2, ![128, 4]⟩
abbrev S128x4x256 : Shape := ⟨3, ![128, 4, 256]⟩
abbrev S128x1024 : Shape := ⟨2, ![128, 1024]⟩
abbrev S1x1024 : Shape := ⟨2, ![1, 1024]⟩
abbrev S1024x1024 : Shape := ⟨2, ![1024, 1024]⟩
abbrev S1024x1 : Shape := ⟨2, ![1024, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 15
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S4x128x128, .f32⟩
  | .hbm, ⟨6, _⟩ => ⟨S4x128, .f32⟩
  | .hbm, ⟨7, _⟩ => ⟨S128x4, .f32⟩
  | .hbm, ⟨8, _⟩ => ⟨S128x4x256, .f32⟩
  | .hbm, ⟨9, _⟩ => ⟨S128x1024, .f32⟩
  | .hbm, ⟨10, _⟩ => ⟨S1x1024, .f32⟩
  | .hbm, ⟨11, _⟩ => ⟨S1024x2048, .bf16⟩
  | .hbm, ⟨12, _⟩ => ⟨S1x1024, .f32⟩
  | .hbm, ⟨13, _⟩ => ⟨S1x1024, .f32⟩
  | .hbm, ⟨14, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S4x128x128, .f32⟩
  | .local _ .vmem, ⟨7, _⟩ => ⟨S128x1024, .f32⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16384x1024 : Shape := ⟨2, ![16384, 1024]⟩
abbrev S1024 : Shape := ⟨1, ![1024]⟩
abbrev S1024x2048 : Shape := ⟨2, ![1024, 2048]⟩
abbrev S4x128x128 : Shape := ⟨3, ![4, 128, 128]⟩
abbrev S4x128 : Shape := ⟨2, ![4, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S128x128x4x256 : Shape := ⟨4, ![128, 128, 4, 256]⟩
abbrev S128x128 : Shape := ⟨2, ![128, 128]⟩
abbrev S1x128x128 : Shape := ⟨3, ![1, 128, 128]⟩
abbrev S4x128x256x128 : Shape := ⟨4, ![4, 128, 256, 128]⟩
abbrev S128x4 : Shape := ⟨2, ![128, 4]⟩
abbrev S1x128x4x1 : Shape := ⟨4, ![1, 128, 4, 1]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S4x128x128, .f32⟩
  | .hbm, ⟨6, _⟩ => ⟨S4x128, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S128x128x4x256, .f32⟩
  | .hbm, ⟨71, _⟩ => ⟨S_, .f32⟩
  | .hbm, ⟨72, _⟩ => ⟨S128x128, .f32⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S_, .f32⟩
  | .hbm, ⟨80, _⟩ => ⟨S128x128, .f32⟩
  | .hbm, ⟨81, _⟩ => ⟨S128x128, .f32⟩
  | .hbm, ⟨82, _⟩ => ⟨S1x128x128, .f32⟩
  | .hbm, ⟨83, _⟩ => ⟨S4x128x128, .f32⟩
  | .hbm, ⟨84, _⟩ => ⟨S4x128x128, .f32⟩
  | .hbm, ⟨85, _⟩ => ⟨S4x128x256x128, .f32⟩
  | .hbm, ⟨86, _⟩ => ⟨S128x128x4x256, .f32⟩
  | .hbm, ⟨87, _⟩ => ⟨S128x4, .f32⟩
  | .hbm, ⟨88, _⟩ => ⟨S1x128x4x1, .f32⟩
  | .hbm, ⟨89, _⟩ => ⟨S128x128x4x256, .f32⟩
  | .hbm, ⟨90, _⟩ => ⟨S128x128x4x256, .f32⟩
  | .hbm, ⟨91, _⟩ => ⟨S16384x1024, .f32⟩
  | .hbm, ⟨92, _⟩ => ⟨S16384x1024, .f32⟩
  | .hbm, ⟨93, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_cst : Ref sig .tc := ⟨.hbm, 79, rfl⟩
abbrev main_call0_v5 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S1024x3072 : Shape := ⟨2, ![1024, 3072]⟩
abbrev S64 : Shape := ⟨1, ![64]⟩
abbrev S3x512 : Shape := ⟨2, ![3, 512]⟩
abbrev S8 : Shape := ⟨1, ![8]⟩
abbrev S_ : Shape := ⟨0, ![]⟩
abbrev S1x64 : Shape := ⟨2, ![1, 64]⟩
abbrev S8x64 : Shape := ⟨2, ![8, 64]⟩
abbrev S512 : Shape := ⟨1, ![512]⟩
abbrev S1x1024 : Shape := ⟨2, ![1, 1024]⟩
abbrev S1024x1536 : Shape := ⟨2, ![1024, 1536]⟩
abbrev S1536x1024 : Shape := ⟨2, ![1536, 1024]⟩
abbrev S512x1 : Shape := ⟨2, ![512, 1]⟩
abbrev S8x1 : Shape := ⟨2, ![8, 1]⟩
abbrev S512x16384 : Shape := ⟨2, ![512, 16384]⟩
abbrev S16384x512 : Shape := ⟨2, ![16384, 512]⟩
abbrev S64x8x80x256 : Shape := ⟨4, ![64, 8, 80, 256]⟩
abbrev S16x4x512 : Shape := ⟨3, ![16, 4, 512]⟩
abbrev S8x512 : Shape := ⟨2, ![8, 512]⟩
abbrev S1024x1024 : Shape := ⟨2, ![1024, 1024]⟩
abbrev S512x1024 : Shape := ⟨2, ![512, 1024]⟩
abbrev S1024x512 : Shape := ⟨2, ![1024, 512]⟩
abbrev S4x8x80x256 : Shape := ⟨4, ![4, 8, 80, 256]⟩
abbrev S1x4x512 : Shape := ⟨3, ![1, 4, 512]⟩
abbrev S1032x512 : Shape := ⟨2, ![1032, 512]⟩
abbrev S1024x1 : Shape := ⟨2, ![1024, 1]⟩
abbrev S8x1024 : Shape := ⟨2, ![8, 1024]⟩
abbrev S64x1024 : Shape := ⟨2, ![64, 1024]⟩
abbrev S64x1 : Shape := ⟨2, ![64, 1]⟩
abbrev S48x1024 : Shape := ⟨2, ![48, 1024]⟩
abbrev S256x512 : Shape := ⟨2, ![256, 512]⟩
abbrev S1x512 : Shape := ⟨2, ![1, 512]⟩
abbrev S1x1x512 : Shape := ⟨3, ![1, 1, 512]⟩
abbrev S16x256 : Shape := ⟨2, ![16, 256]⟩
abbrev S64x256 : Shape := ⟨2, ![64, 256]⟩
abbrev S1x1x64x256 : Shape := ⟨4, ![1, 1, 64, 256]⟩
abbrev S1x1x16x256 : Shape := ⟨4, ![1, 1, 16, 256]⟩
abbrev S8x64x16384 : Shape := ⟨3, ![8, 64, 16384]⟩
abbrev S16384x8x64 : Shape := ⟨3, ![16384, 8, 64]⟩
abbrev S2x512 : Shape := ⟨2, ![2, 512]⟩

abbrev nBuf : Space → Nat
  | .hbm => 39
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S3x512, .f32⟩
  | .hbm, ⟨6, _⟩ => ⟨S1024x3072, .bf16⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S1x64, .f32⟩
  | .hbm, ⟨16, _⟩ => ⟨S8x64, .f32⟩
  | .hbm, ⟨17, _⟩ => ⟨S512, .f32⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x1024, .f32⟩
  | .hbm, ⟨22, _⟩ => ⟨S1024x1536, .bf16⟩
  | .hbm, ⟨23, _⟩ => ⟨S1024x1536, .bf16⟩
  | .hbm, ⟨24, _⟩ => ⟨S1536x1024, .bf16⟩
  | .hbm, ⟨25, _⟩ => ⟨S512x1, .f32⟩
  | .hbm, ⟨26, _⟩ => ⟨S512x1, .f32⟩
  | .hbm, ⟨27, _⟩ => ⟨S8x1, .f32⟩
  | .hbm, ⟨28, _⟩ => ⟨S512x16384, .bf16⟩
  | .hbm, ⟨29, _⟩ => ⟨S512x16384, .f32⟩
  | .hbm, ⟨30, _⟩ => ⟨S16384x512, .bf16⟩
  | .hbm, ⟨31, _⟩ => ⟨S512x16384, .f32⟩
  | .hbm, ⟨32, _⟩ => ⟨S64x8x80x256, .bf16⟩
  | .hbm, ⟨33, _⟩ => ⟨S16384x512, .bf16⟩
  | .hbm, ⟨34, _⟩ => ⟨S16x4x512, .f32⟩
  | .hbm, ⟨35, _⟩ => ⟨S8x512, .f32⟩
  | .hbm, ⟨36, _⟩ => ⟨S8x64x16384, .f32⟩
  | .hbm, ⟨37, _⟩ => ⟨S16384x8x64, .f32⟩
  | .hbm, ⟨38, _⟩ => ⟨S2x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1536x1024, .bf16⟩
  | .local _ .vmem, ⟨5, _⟩ => ⟨S512x1, .f32⟩
  | .local _ .vmem, ⟨6, _⟩ => ⟨S512x1, .f32⟩
  | .local _ .vmem, ⟨7, _⟩ => ⟨S8x1, .f32⟩
  | .local _ .vmem, ⟨8, _⟩ => ⟨S3x512, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S1024x512, .bf16⟩
  | .local _ .vmem, ⟨14, _⟩ => ⟨S1024x512, .bf16⟩
  | .local _ .vmem, ⟨15, _⟩ => ⟨S512x1024, .f32⟩
  | .local _ .vmem, ⟨16, _⟩ => ⟨S512x1024, .f32⟩
  | .local _ .vmem, ⟨17, _⟩ => ⟨S4x8x80x256, .bf16⟩
  | .local _ .vmem, ⟨18, _⟩ => ⟨S4x8x80x256, .bf16⟩
  | .local _ .vmem, ⟨19, _⟩ => ⟨S1024x512, .bf16⟩
  | .local _ .vmem, ⟨20, _⟩ => ⟨S1024x512, .bf16⟩
  | .local _ .vmem, ⟨21, _⟩ => ⟨S1x4x512, .f32⟩
  | .local _ .vmem, ⟨22, _⟩ => ⟨S1x4x512, .f32⟩
  | .local _ .vmem, ⟨23, _⟩ => ⟨S8x512, .f32⟩
  | .local _ .vmem, ⟨24, _⟩ => ⟨S1032x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev main_v20_5 : Ref sig .tc := ⟨.hbm, 33, rfl⟩
abbrev main_v20_6 : Ref sig .tc := ⟨.hbm, 34, rfl⟩
abbrev main_v20_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x8x80x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference7Ideal.lean ====
abbrev S16384x1024 : Shape := ⟨2, ![16384, 1024]⟩
abbrev S1024 : Shape := ⟨1, ![1024]⟩
abbrev S1024x3072 : Shape := ⟨2, ![1024, 3072]⟩
abbrev S64 : Shape := ⟨1, ![64]⟩
abbrev S3x512 : Shape := ⟨2, ![3, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S16384x512 : Shape := ⟨2, ![16384, 512]⟩
abbrev S16384x8x64 : Shape := ⟨3, ![16384, 8, 64]⟩
abbrev S2x512 : Shape := ⟨2, ![2, 512]⟩
abbrev S16386x512 : Shape := ⟨2, ![16386, 512]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S3x512, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x3072, .f32⟩
  | .hbm, ⟨23, _⟩ => ⟨S16384x512, .f32⟩
  | .hbm, ⟨24, _⟩ => ⟨S16384x8x64, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S2x512, .f32⟩
  | .hbm, ⟨29, _⟩ => ⟨S16384x512, .f32⟩
  | .hbm, ⟨30, _⟩ => ⟨S16386x512, .f32⟩
  | .hbm, ⟨31, _⟩ => ⟨S2x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.F2Val.lean ====
/-
  What the feed-forward network's grid points leave: the row block's normalised rows, the sum over the hidden tiles so far, and the row block of the result.
-/
module

public import Idealize.ShloMosaic.Lib.Pipeline.ReadBack
public import proofs.«01_k».proof.Proof.Gen.Kernel2Ideal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic Idealize.SL.Sem

/-! ## The body's arithmetic at a place -/

/-- The mean square's divisor, 1024. -/
abbrev c1024 : EReal := Ideal.ofBits .f32 1149239296#32
/-- The number added to the mean square. -/
abbrev ceps : EReal := Ideal.ofBits .f32 897988541#32

theorem pay1_eq (x : FVec Ideal S1024x1024 .f32) : k0_pay1 (F := Ideal) x = x := by
  funext i
  have e : i = ix2 (⟨(i 0).val, (i 0).isLt⟩ : Fin 1024) (⟨(i 1).val, (i 1).isLt⟩ : Fin 1024) := eq_ix2 i
  rw [e]
  pointwise [k0_pay1]

theorem pay2_at (x : FVec Ideal S1024x1024 .f32) (g : FVec Ideal S1x1024 .f32) (r k : Fin 1024) :
    k0_pay2 (F := Ideal) x g (ix2 r k) = x (ix2 r k) * Ideal.rsqrt (Ideal.div (∑ l, x (ix2 r l) * x (ix2 r l)) c1024 + ceps) * g (ix2 0 k) := by
  pointwise [k0_pay2]

theorem pay3_at (r k : Fin 1024) : k0_pay3 (F := Ideal) (ix2 r k) = (0 : EReal) := by
  pointwise [k0_pay3]

theorem pay4_at (xn w1 : FVec Ideal S1024x1024 .bf16) (acc : FVec Ideal S1024x1024 .f32) (w2 : FVec Ideal S1024x1024 .bf16) (r d : Fin 1024) :
    k0_pay4 (F := Ideal) xn w1 acc w2 (ix2 r d) = acc (ix2 r d)
      + ∑ f, max (∑ k, xn (ix2 r k) * w1 (ix2 k f)) 0 * max (∑ k, xn (ix2 r k) * w1 (ix2 k f)) 0 * w2 (ix2 f d) := by
  pointwise [k0_pay4]

theorem pay5_at (x y : FVec Ideal S1024x1024 .f32) (r d : Fin 1024) : k0_pay5 (F := Ideal) x y (ix2 r d) = (x (ix2 r d) + y (ix2 r d) : EReal) := by
  pointwise [k0_pay5]

/-! ## The contents after each kind of point -/

variable (m : (ℓ : Loc nD τ sig) → Buf (Elt Ideal) ℓ) (c : Dev nD)

/-- The first point of a row block: the rows kept, their normalisation, the first hidden tile's part. -/
theorem first (t : Fin cfg0.N) (h0 : t.val % 4 = 0) :
    (outsAt0 m c t.val t.isLt).2 = (iblk m c 0 t, k0_pay2 (iblk m c 0 t) (iblk m c 1 t),
      k0_pay4 (k0_pay2 (iblk m c 0 t) (iblk m c 1 t)) (iblk m c 2 t) (k0_pay3 (F := Ideal)) (iblk m c 3 t)) := by
  rw [outsAt0_A m c t h0 (by omega)]
  refine Prod.ext ?_ (Prod.ext ?_ ?_)
  · frame_out
    exact pay1_eq _
  · frame_out
  · frame_out

/-- A middle point: the hidden tile's part added. -/
theorem middle (t : Fin cfg0.N) (h0 : ¬t.val % 4 = 0) (h1 : ¬t.val % 4 = 3) (p : FVec Ideal S1024x1024 .f32 × FVec Ideal S1024x1024 .bf16 × FVec Ideal S1024x1024 .f32)
    (hp : (outsAt0 m c (t.val - 1) (Nat.lt_of_le_of_lt (Nat.sub_le _ _) t.isLt)).2 = p) :
    (outsAt0 m c t.val t.isLt).2 = (p.1, p.2.1, k0_pay4 p.2.1 (iblk m c 2 t) p.2.2 (iblk m c 3 t)) := by
  rw [outsAt0_B m c t h0 h1, ← hp]
  refine Prod.ext ?_ (Prod.ext ?_ ?_)
  · rfl
  · rfl
  · frame_out
    simp only [read_unread_whole]

/-- The last point: the row block's result. -/
theorem last (t : Fin cfg0.N) (h1 : t.val % 4 = 3) (p : FVec Ideal S1024x1024 .f32 × FVec Ideal S1024x1024 .bf16 × FVec Ideal S1024x1024 .f32)
    (hp : (outsAt0 m c (t.val - 1) (Nat.lt_of_le_of_lt (Nat.sub_le _ _) t.isLt)).2 = p) :
    (outsAt0 m c t.val t.isLt).1 = k0_pay5 p.1 (k0_pay4 p.2.1 (iblk m c 2 t) p.2.2 (iblk m c 3 t)) := by
  rw [outsAt0_C m c t (by omega) h1, ← hp]
  frame_out
  simp only [read_unread_whole]

/-! ## The blocks of the arrays -/

theorem coords_0 : ∀ t : Fin grid0.N, (grid0.coords t 0).val = t.val / 4 := by decide +kernel
theorem coords_1 : ∀ t : Fin grid0.N, (grid0.coords t 1).val = t.val % 4 := by decide +kernel
theorem lt_64 (t : Fin cfg0.N) : t.val < 64 := lt_of_lt_of_eq t.isLt N_0

theorem idx0 : ∀ t : Fin grid0.N, win0_0.index t (0 : Fin 2) = t.val / 4 ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = t.val % 4 := by decide +kernel
theorem idx3 : ∀ t : Fin grid0.N, win0_3.index t (0 : Fin 2) = t.val % 4 ∧ win0_3.index t (1 : Fin 2) = 0 := by decide +kernel
theorem idx4 : ∀ t : Fin grid0.N, win0_4.index t (0 : Fin 2) = t.val / 4 ∧ win0_4.index t (1 : Fin 2) = 0 := by decide +kernel

theorem emb0 (t : Fin cfg0.N) (r k : Fin 1024) : ((cfg0.win 0).blk t).view.emb (ix2 r k)
    = (ix2 (⟨1024 * (t.val / 4) + r.val, by have := lt_64 t; omega⟩ : Fin 16384) k : S16384x1024.Idx) := by
  obtain ⟨e0, e1⟩ := idx0 t
  funext a; apply Fin.ext
  match a with
  | ⟨0, _⟩ => show win0_0.index t (0 : Fin 2) * 1024 + 1 * r.val = _; rw [e0]; show _ = 1024 * (t.val / 4) + r.val; ring
  | ⟨1, _⟩ => show win0_0.index t (1 : Fin 2) * 1024 + 1 * k.val = _; rw [e1]; show _ = k.val; ring
theorem emb1 (t : Fin cfg0.N) (k : Fin 1024) : ((cfg0.win 1).blk t).view.emb (ix2 (0 : Fin 1) k) = (ix2 (0 : Fin 1) k : S1x1024.Idx) := by
  obtain ⟨e0, e1⟩ := idx1 t
  funext a; apply Fin.ext
  match a with
  | ⟨0, _⟩ => show win0_1.index t (0 : Fin 2) * 1 + 1 * 0 = _; rw [e0]; rfl
  | ⟨1, _⟩ => show win0_1.index t (1 : Fin 2) * 1024 + 1 * k.val = _; rw [e1]; show _ = k.val; ring
theorem emb2 (t : Fin cfg0.N) (k f : Fin 1024) : ((cfg0.win 2).blk t).view.emb (ix2 k f)
    = (ix2 k (⟨1024 * (t.val % 4) + f.val, by omega⟩ : Fin 4096) : S1024x4096.Idx) := by
  obtain ⟨e0, e1⟩ := idx2 t
  funext a; apply Fin.ext
  match a with
  | ⟨0, _⟩ => show win0_2.index t (0 : Fin 2) * 1024 + 1 * k.val = _; rw [e0]; show _ = k.val; ring
  | ⟨1, _⟩ => show win0_2.index t (1 : Fin 2) * 1024 + 1 * f.val = _; rw [e1]; show _ = 1024 * (t.val % 4) + f.val; ring
theorem emb3 (t : Fin cfg0.N) (f d : Fin 1024) : ((cfg0.win 3).blk t).view.emb (ix2 f d)
    = (ix2 (⟨1024 * (t.val % 4) + f.val, by omega⟩ : Fin 4096) d : S4096x1024.Idx) := by
  obtain ⟨e0, e1⟩ := idx3 t
  funext a; apply Fin.ext
  match a with
  | ⟨0, _⟩ => show win0_3.index t (0 : Fin 2) * 1024 + 1 * f.val = _; rw [e0]; show _ = 1024 * (t.val % 4) + f.val; ring
  | ⟨1, _⟩ => show win0_3.index t (1 : Fin 2) * 1024 + 1 * d.val = _; rw [e1]; show _ = d.val; ring
theorem emb4 (t : Fin cfg0.N) (r k : Fin 1024) : ((cfg0.win 4).blk t).view.emb (ix2 r k)
    = (ix2 (⟨1024 * (t.val / 4) + r.val, by have := lt_64 t; omega⟩ : Fin 16384) k : S16384x1024.Idx) := by
  obtain ⟨e0, e1⟩ := idx4 t
  funext a; apply Fin.ext
  match a with
  | ⟨0, _⟩ => show win0_4.index t (0 : Fin 2) * 1024 + 1 * r.val = _; rw [e0]; show _ = 1024 * (t.val / 4) + r.val; ring
  | ⟨1, _⟩ => show win0_4.index t (1 : Fin 2) * 1024 + 1 * k.val = _; rw [e1]; show _ = k.val; ring

/-! ## The arrays' entries, and the result's formula -/

/-- The rows, the gain and the two weights as the call is given them. -/
def X0 : S16384x1024.Idx → EReal := m ((c : Thread nD τ).loc main_arg0)
@[inherit_doc X0] def X1 : S1024.Idx → EReal := m ((c : Thread nD τ).loc main_arg1)
@[inherit_doc X0] def X2 : S1024x4096.Idx → EReal := m ((c : Thread nD τ).loc main_arg2)
@[inherit_doc X0] def X3 : S4096x1024.Idx → EReal := m ((c : Thread nD τ).loc main_arg3)

theorem V0 (i : S16384x1024.Idx) : (V (F := Ideal) m c main_arg0 : S16384x1024.Idx → EReal) i = X0 m c i := congrFun (V_main_arg0 m c) i
theorem V1 (k : Fin 1024) : (V (F := Ideal) m c main_v0 : S1x1024.Idx → EReal) (ix2 (0 : Fin 1) k) = X1 m c (ix1 k) := by
  unfold V X1
  after_reads_at
theorem V2 (k : Fin 1024) (f : Fin 4096) : (V (F := Ideal) m c main_v1 : S1024x4096.Idx → EReal) (ix2 k f) = X2 m c (ix2 k f) := by
  unfold V X2
  after_reads_at
theorem V3 (f : Fin 4096) (d : Fin 1024) : (V (F := Ideal) m c main_v2 : S4096x1024.Idx → EReal) (ix2 f d) = X3 m c (ix2 f d) := by
  unfold V X3
  after_reads_at

/-- The normalised row `t` at `k`. -/
def normed (x : S16384x1024.Idx → EReal) (g : S1024.Idx → EReal) (t : Fin 16384) (k : Fin 1024) : EReal :=
  x (ix2 t k) * Ideal.rsqrt (Ideal.div (∑ l : Fin 1024, x (ix2 t l) * x (ix2 t l)) c1024 + ceps) * g (ix1 k)

/-- The hidden unit `f` of row `t`, before it is squared. -/
def hidden (x : S16384x1024.Idx → EReal) (g : S1024.Idx → EReal) (w1 : S1024x4096.Idx → EReal) (t : Fin 16384) (f : Fin 4096) : EReal :=
  max (∑ k : Fin 1024, normed x g t k * w1 (ix2 k f)) 0

/-- The result at row `t`, column `d`: the row plus the squared hidden units through the second weight. -/
def ffnAt (x : S16384x1024.Idx → EReal) (g : S1024.Idx → EReal) (w1 : S1024x4096.Idx → EReal) (w2 : S4096x1024.Idx → EReal) (t : Fin 16384) (d : Fin 1024) : EReal :=
  x (ix2 t d) + ∑ f : Fin 4096, hidden x g w1 t f * hidden x g w1 t f * w2 (ix2 f d)

/-- The part of the sum that the hidden tile `s` gives. -/
def part (x : S16384x1024.Idx → EReal) (g : S1024.Idx → EReal) (w1 : S1024x4096.Idx → EReal) (w2 : S4096x1024.Idx → EReal) (t : Fin 16384) (d : Fin 1024) (s : ℕ) (hs : s < 4) : EReal :=
  ∑ f : Fin 1024, hidden x g w1 t ⟨1024 * s + f.val, by omega⟩ * hidden x g w1 t ⟨1024 * s + f.val, by omega⟩ * w2 (ix2 (⟨1024 * s + f.val, by omega⟩ : Fin 4096) d)

/-- A sum over the hidden units is the sum over the four tiles. -/
theorem sum_4096 (f : Fin 4096 → EReal) : ∑ y : Fin 4096, f y = ∑ s : Fin 4, ∑ r : Fin 1024, f ⟨1024 * s.val + r.val, by omega⟩ := by
  rw [← (finProdFinEquiv : Fin 4 × Fin 1024 ≃ Fin (4 * 1024)).sum_comp, ← Finset.univ_product_univ, Finset.sum_product]
  refine Finset.sum_congr rfl fun j _ => Finset.sum_congr rfl fun r _ => congrArg f (Fin.ext ?_)
  show r.val + 1024 * j.val = 1024 * j.val + r.val
  omega

theorem ffnAt_parts (x : S16384x1024.Idx → EReal) (g : S1024.Idx → EReal) (w1 : S1024x4096.Idx → EReal) (w2 : S4096x1024.Idx → EReal) (t : Fin 16384) (d : Fin 1024) :
    ffnAt x g w1 w2 t d = x (ix2 t d) + ((((0 + part x g w1 w2 t d 0 (by norm_num)) + part x g w1 w2 t d 1 (by norm_num)) + part x g w1 w2 t d 2 (by norm_num))
      + part x g w1 w2 t d 3 (by norm_num)) := by
  rw [ffnAt, sum_4096, Fin.sum_univ_four, zero_add]
  rfl

/-! ## A row block -/

/-- The global row of row `r` of the block at point `t`. -/
abbrev row (t : Fin cfg0.N) (r : Fin 1024) : Fin 16384 := ⟨1024 * (t.val / 4) + r.val, by have := lt_64 t; omega⟩

theorem in0 (t : Fin cfg0.N) (r k : Fin 1024) : iblk m c 0 t (ix2 r k) = X0 m c (ix2 (row t r) k) := by
  show V m c main_arg0 (((cfg0.win 0).blk t).view.emb (ix2 r k)) = _
  rw [emb0]; exact V0 m c _
theorem in1 (t : Fin cfg0.N) (k : Fin 1024) : iblk m c 1 t (ix2 (0 : Fin 1) k) = X1 m c (ix1 k) := by
  show V m c main_v0 (((cfg0.win 1).blk t).view.emb (ix2 (0 : Fin 1) k)) = _
  rw [emb1]; exact V1 m c _
theorem in2 (t : Fin cfg0.N) (k f : Fin 1024) : iblk m c 2 t (ix2 k f) = X2 m c (ix2 k (⟨1024 * (t.val % 4) + f.val, by omega⟩ : Fin 4096)) := by
  show V m c main_v1 (((cfg0.win 2).blk t).view.emb (ix2 k f)) = _
  rw [emb2]; exact V2 m c _ _
theorem in3 (t : Fin cfg0.N) (f d : Fin 1024) : iblk m c 3 t (ix2 f d) = X3 m c (ix2 (⟨1024 * (t.val % 4) + f.val, by omega⟩ : Fin 4096) d) := by
  show V m c main_v2 (((cfg0.win 3).blk t).view.emb (ix2 f d)) = _
  rw [emb3]; exact V3 m c _ _

theorem normed_blk (t : Fin cfg0.N) (r k : Fin 1024) : k0_pay2 (F := Ideal) (iblk m c 0 t) (iblk m c 1 t) (ix2 r k) = normed (X0 m c) (X1 m c) (row t r) k := by
  refine (pay2_at _ _ _ _).trans ?_
  unfold normed
  refine congrArg₂ (fun a b : EReal => a * b) (congrArg₂ (fun a b : EReal => a * b) (in0 m c t r k) (congrArg (fun a : EReal => Ideal.rsqrt (Ideal.div a c1024 + ceps)) (Finset.sum_congr rfl fun l _ => ?_))) (in1 m c t k)
  exact congrArg₂ (fun a b : EReal => a * b) (in0 m c t r l) (in0 m c t r l)

/-- One point's step: the tile's part is added to the accumulator. -/
theorem step (t : Fin cfg0.N) (xn : FVec Ideal S1024x1024 .bf16) (acc : FVec Ideal S1024x1024 .f32) (r d : Fin 1024) (R : Fin 16384) (s : ℕ) (hs : s < 4) (ht : t.val % 4 = s)
    (hx : ∀ k, xn (ix2 r k) = normed (X0 m c) (X1 m c) R k) :
    k0_pay4 (F := Ideal) xn (iblk m c 2 t) acc (iblk m c 3 t) (ix2 r d) = (acc (ix2 r d) + part (X0 m c) (X1 m c) (X2 m c) (X3 m c) R d s hs : EReal) := by
  subst ht
  refine (pay4_at _ _ _ _ _ _).trans (congrArg (fun a : EReal => acc (ix2 r d) + a) ?_)
  unfold part hidden
  have e : ∀ f : Fin 1024, (∑ k, xn (ix2 r k) * iblk m c 2 t (ix2 k f) : EReal)
      = ∑ k : Fin 1024, normed (X0 m c) (X1 m c) R k * X2 m c (ix2 k (⟨1024 * (t.val % 4) + f.val, by omega⟩ : Fin 4096)) := fun f =>
    Finset.sum_congr rfl fun k _ => congrArg₂ (fun a b : EReal => a * b) (hx k) (in2 m c t k f)
  refine Finset.sum_congr rfl fun f _ => ?_
  exact congrArg₂ (fun a b : EReal => max a 0 * max a 0 * b) (e f) (in3 m c t f d)

/-- What the last point of a row block leaves in the output's buffer: the block of the result. -/
theorem out_last (q : ℕ) (h : 4 * q + 3 < cfg0.N) (r d : Fin 1024) : (outsAt0 m c (4 * q + 3) h).1 (ix2 r d)
    = ffnAt (X0 m c) (X1 m c) (X2 m c) (X3 m c) ⟨1024 * q + r.val, by have := lt_of_lt_of_eq h N_0; omega⟩ d := by
  have hN : (4 * q + 3 : ℕ) < 64 := lt_of_lt_of_eq h N_0
  have e0 := first m c ⟨4 * q, by omega⟩ (by show 4 * q % 4 = 0; omega)
  have e1 := middle m c ⟨4 * q + 1, by omega⟩ (by show ¬ (4 * q + 1) % 4 = 0; omega) (by show ¬ (4 * q + 1) % 4 = 3; omega) _ e0
  have e2 := middle m c ⟨4 * q + 2, by omega⟩ (by show ¬ (4 * q + 2) % 4 = 0; omega) (by show ¬ (4 * q + 2) % 4 = 3; omega) _ e1
  have e3 := last m c ⟨4 * q + 3, h⟩ (by show (4 * q + 3) % 4 = 3; omega) _ e2
  have hrow : row ⟨4 * q, by omega⟩ r = ⟨1024 * q + r.val, by omega⟩ := Fin.ext (by show 1024 * (4 * q / 4) + r.val = 1024 * q + r.val; omega)
  have hx : ∀ k, k0_pay2 (F := Ideal) (iblk m c 0 ⟨4 * q, by omega⟩) (iblk m c 1 ⟨4 * q, by omega⟩) (ix2 r k)
      = normed (X0 m c) (X1 m c) ⟨1024 * q + r.val, by omega⟩ k := fun k => by rw [normed_blk, hrow]
  refine (congrFun e3 (ix2 r d)).trans ?_
  rw [ffnAt_parts]
  refine (pay5_at _ _ _ _).trans (congrArg₂ (fun a b : EReal => a + b) ((in0 m c _ r d).trans (by rw [hrow])) ?_)
  refine (step m c _ _ _ r d _ 3 (by norm_num) (by show (4 * q + 3) % 4 = 3; omega) hx).trans (congrArg (fun a : EReal => a + _) ?_)
  refine (step m c _ _ _ r d _ 2 (by norm_num) (by show (4 * q + 2) % 4 = 2; omega) hx).trans (congrArg (fun a : EReal => a + _) ?_)
  refine (step m c _ _ _ r d _ 1 (by norm_num) (by show (4 * q + 1) % 4 = 1; omega) hx).trans (congrArg (fun a : EReal => a + _) ?_)
  exact (step m c _ _ _ r d _ 0 (by norm_num) (by show (4 * q) % 4 = 0; omega) hx).trans (congrArg (fun a : EReal => a + _) (pay3_at r d))

/-! ## The result array -/

/-- The result array's formula. -/
def G : S16384x1024.Idx → EReal := fun j => ffnAt (X0 m c) (X1 m c) (X2 m c) (X3 m c) ⟨(j 0).val, (j 0).isLt⟩ ⟨(j 1).val, (j 1).isLt⟩

theorem block_val (t : Fin cfg0.N) (hf : (cfg0.win 4).flush t = true) (y : S1024x1024.Idx) : (dats m 0 c).after 4 t y = G m c (((cfg0.win 4).blk t).view.emb y) := by
  have h3 : t.val % 4 = 3 := (flush0_4 t).1 hf
  have hl := lt_64 t
  obtain ⟨r, d, rfl⟩ : ∃ (r d : Fin 1024), y = ix2 r d := ⟨y 0, y 1, by funext a; fin_cases a <;> rfl⟩
  rw [after0_4, emb4]
  have ht : t = ⟨4 * (t.val / 4) + 3, by have := t.isLt; omega⟩ := Fin.ext (by show t.val = 4 * (t.val / 4) + 3; omega)
  have e := out_last m c (t.val / 4) (by have := t.isLt; omega) r d
  have hn : ∀ n (hn : n < cfg0.N), n = t.val → (outsAt0 m c t.val t.isLt).1 = (outsAt0 m c n hn).1 := fun n hn e => by subst e; rfl
  rw [hn (4 * (t.val / 4) + 3) (by have := t.isLt; omega) (by omega)]
  exact e

theorem cover (j : S16384x1024.Idx) : ∃ t : Fin cfg0.N, (cfg0.win 4).flush t = true ∧ j ∈ ((cfg0.win 4).blk t).view.set := by
  have h0 : (j 0).val < 16384 := (j 0).isLt
  have h1 : (j 1).val < 1024 := (j 1).isLt
  obtain ⟨t, ht⟩ : ∃ t : Fin cfg0.N, t.val = 4 * ((j 0).val / 1024) + 3 := ⟨⟨_, lt_of_lt_of_eq (by omega) N_0.symm⟩, rfl⟩
  refine ⟨t, (flush0_4 t).2 (by omega), ?_⟩
  have e := ((cfg0.win 4).blk t).view.emb_mem_set (ix2 (⟨(j 0).val % 1024, Nat.mod_lt _ (by decide)⟩ : Fin 1024) (⟨(j 1).val, h1⟩ : Fin 1024))
  rw [emb4] at e
  have ej : (ix2 (row t ⟨(j 0).val % 1024, Nat.mod_lt _ (by decide)⟩) (⟨(j 1).val, h1⟩ : Fin 1024) : S16384x1024.Idx) = j := by
    funext a; apply Fin.ext
    match a with
    | ⟨0, _⟩ => show 1024 * (t.val / 4) + (j 0).val % 1024 = (j 0).val; omega
    | ⟨1, _⟩ => rfl
  exact ej ▸ e

/-- The result array after the last grid point. -/
theorem final : (dats m 0 c).arrAt 4 cfg0.N = G m c :=
  (dats m 0 c).arrAt_eq_of_cover 4 (G m c) (fun t hf => funext fun y => block_val m c t hf y) cover

/-- Every run of the program ends with the result array at the formula's values and the arguments' arrays unchanged. -/
theorem value_k (ρ : Dev nD → PrngReg) : θ_run defs (onTc (τ := τ) (main (F := Ideal))) ⟨m, fun _ => 0, ρ⟩ (fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final m c), h.2 c⟩) (θ_run_and (run_main m ρ) (unchanged m ρ))

end Cert.Kernel2Ideal.Hand

end
-- ==== Proof.R2Val.lean ====
/-
  The feed-forward network's reference at a place, which is the formula the kernel's result array has.
-/
module

public import proofs.«01_k».proof.Proof.F2Val
public import proofs.«01_k».proof.Proof.Gen.Reference2Ideal.Read

@[expose] public section

set_option maxRecDepth 16384

noncomputable section

namespace Cert.Reference2Ideal.Hand

open Cert.Reference2Ideal Cert.Reference2Ideal.Read
open Idealize.ShloMosaic Idealize.ShloMosaic.Tactic
open Cert.Kernel2Ideal.Hand (normed hidden ffnAt c1024 ceps)

variable (x0 : FVec Ideal S16384x1024 .f32) (x1 : FVec Ideal S1024 .f32) (x2 : FVec Ideal S1024x4096 .f32) (x3 : FVec Ideal S4096x1024 .f32)

/-- The reference's normalised rows. -/
theorem normed_at (t : Fin 16384) (k : Fin 1024) : val_main_v12 (F := Ideal) x0 x1 (ix2 t k) = normed x0 x1 t k := by
  unfold normed
  pointwise [val_main_v12, val_main_v11, val_main_v10, val_main_v9, val_main_v8, val_main_v7, val_main_v6, val_main_v5, val_main_v4, val_main_v3, val_main_v2, val_main_v1,
    val_main_v0, val_main_cst, val_main_cst_0, val_main_cst_1]

/-- The reference's result is the formula. -/
theorem result_at (t : Fin 16384) (d : Fin 1024) : val_main_v17 (F := Ideal) x0 x1 x2 x3 (ix2 t d) = ffnAt x0 x1 x2 x3 t d := by
  have e : val_main_v17 (F := Ideal) x0 x1 x2 x3 (ix2 t d) = (x0 (ix2 t d) + ∑ f, max (∑ k, val_main_v12 (F := Ideal) x0 x1 (ix2 t k) * x2 (ix2 k f)) 0
      * max (∑ k, val_main_v12 (F := Ideal) x0 x1 (ix2 t k) * x2 (ix2 k f)) 0 * x3 (ix2 f d) : EReal) := by
    generalize hx : val_main_v12 (F := Ideal) x0 x1 = xn
    pointwise [val_main_v17, val_main_v16, val_main_v15, val_main_v14, val_main_v13, val_main_call0_v0, val_main_call0_cst, hx]
  rw [e]
  simp only [normed_at]
  rfl

end Cert.Reference2Ideal.Hand

end
-- ==== Proof.Spec.lean ====
/-
  One query's attention over the key blocks it is allowed, on extended reals: the running sums under a moving reference
  exponent, and the choice of the three best blocks by their rank.
-/
module

public import Idealize.ShloMosaic.PureOps.Ideal
public import Idealize.ShloMosaic.PureOps.Ideal.Laws

@[expose] public section

noncomputable section

namespace Cert.Moba

open Idealize.ShloMosaic

/-! ## Powers of two -/

/-- `2 ^ x`, an extended real. -/
def w2 (x : ℝ) : EReal := ((Real.rpow 2 x : ℝ) : EReal)

theorem w2_pos (x : ℝ) : 0 < w2 x := EReal.coe_pos.2 (Real.rpow_pos_of_pos two_pos x)
theorem w2_ne_top (x : ℝ) : w2 x ≠ ⊤ := EReal.coe_ne_top _
theorem w2_ne_bot (x : ℝ) : w2 x ≠ ⊥ := EReal.coe_ne_bot _
theorem w2_ne_zero (x : ℝ) : w2 x ≠ 0 := (w2_pos x).ne'

/-- The exponents of a product add. -/
theorem w2_add (x y : ℝ) : w2 (x + y) = w2 x * w2 y := by
  unfold w2; rw [← EReal.coe_mul]; exact congrArg _ (Real.rpow_add two_pos x y)

theorem exp2_real (x : ℝ) : Ideal.exp2 (x : EReal) = w2 x := rfl

/-- A nonnegative finite factor goes into a sum. -/
theorem mul_sum_of_nonneg {ι : Type*} (S : Finset ι) (c : EReal) (h0 : 0 ≤ c) (hT : c ≠ ⊤) (f : ι → EReal) :
    c * ∑ i ∈ S, f i = ∑ i ∈ S, c * f i := by
  classical
  induction S using Finset.induction_on with
  | empty => simp
  | insert a S ha ih => rw [Finset.sum_insert ha, Finset.sum_insert ha, EReal.left_distrib_of_nonneg_of_ne_top h0 hT, ih]

theorem w2_mul_sum {ι : Type*} (S : Finset ι) (x : ℝ) (f : ι → EReal) : w2 x * ∑ i ∈ S, f i = ∑ i ∈ S, w2 x * f i :=
  mul_sum_of_nonneg S _ (w2_pos x).le (w2_ne_top x) f

theorem w2_mul_add (x : ℝ) (a b : EReal) : w2 x * (a + b) = w2 x * a + w2 x * b :=
  EReal.left_distrib_of_nonneg_of_ne_top (w2_pos x).le (w2_ne_top x) a b

theorem w2_shift (μ μ' t : ℝ) (v : EReal) : w2 (μ - μ') * (v * w2 (t - μ)) = v * w2 (t - μ') := by
  rw [mul_left_comm, ← w2_add]; congr 2; ring

/-- A common positive finite factor of both sides of a quotient cancels. -/
theorem div_mul_left (c : ℝ) (hc : 0 < c) (x y : EReal) : Ideal.div ((c : EReal) * x) ((c : EReal) * y) = Ideal.div x y := by
  have hc0 : (c : EReal) ≠ 0 := by exact_mod_cast hc.ne'
  have hcp : (0 : EReal) < (c : EReal) := by exact_mod_cast hc
  unfold Ideal.div
  by_cases hy : y = 0
  · subst hy
    rw [mul_zero, if_pos rfl, if_pos rfl]
    have : (0 < (c : EReal) * x) ↔ 0 < x := by
      constructor
      · intro h
        by_contra hx
        exact absurd h (not_lt.2 (EReal.mul_nonpos_iff.2 (Or.inl ⟨hcp.le, not_lt.1 hx⟩)))
      · intro h; exact EReal.mul_pos hcp h
    simp only [this]
  · rw [if_neg hy, if_neg (mul_ne_zero hc0 hy), EReal.mul_inv]
    calc (c : EReal) * x * ((c : EReal)⁻¹ * y⁻¹) = ((c : EReal) * (c : EReal)⁻¹) * (x * y⁻¹) := by
          rw [mul_mul_mul_comm]
      _ = x * y⁻¹ := by
          rw [← EReal.coe_inv, ← EReal.coe_mul, mul_inv_cancel₀ hc.ne', EReal.coe_one, one_mul]

/-! ## The running sums of one query -/

section Acc

variable (s : ℕ → Fin 256 → ℝ) (v : ℕ → Fin 256 → EReal) (P : ℕ → Prop) [DecidablePred P] (i : ℕ) (c : Fin 256)

/-- What the query's own block gives, its keys up to the query, relative to `2 ^ μ`. -/
def own (μ : ℝ) : EReal := ∑ r : Fin 256, v i r * (if r ≤ c then w2 (s i r - μ) else 0)

/-- What block `n` gives when it is picked. -/
def past (μ : ℝ) (n : ℕ) : EReal := if P n then ∑ r : Fin 256, v n r * w2 (s n r - μ) else 0

/-- The own block and the picked ones among the first `j`, relative to `2 ^ μ`. -/
def acc (μ : ℝ) (j : ℕ) : EReal := own s v i c μ + ∑ n ∈ Finset.range j, past s v P μ n

/-- The attention of the query: the weighted values over the weights. -/
def attend : EReal := Ideal.div (acc s v P i c 0 i) (acc s (fun _ _ => 1) P i c 0 i)

theorem acc_zero (μ : ℝ) : acc s v P i c μ 0 = own s v i c μ := by
  unfold acc; rw [Finset.range_zero, Finset.sum_empty, add_zero]

theorem acc_succ (μ : ℝ) (j : ℕ) : acc s v P i c μ (j + 1) = acc s v P i c μ j + past s v P μ j := by
  unfold acc; rw [Finset.sum_range_succ, add_assoc]

/-- Moving the reference exponent scales the sums. -/
theorem acc_shift (μ μ' : ℝ) (j : ℕ) : w2 (μ - μ') * acc s v P i c μ j = acc s v P i c μ' j := by
  unfold acc own past
  rw [w2_mul_add, w2_mul_sum, w2_mul_sum]
  congr 1
  · refine Finset.sum_congr rfl fun r _ => ?_
    split
    · exact w2_shift _ _ _ _
    · rw [mul_zero, mul_zero]
  · refine Finset.sum_congr rfl fun n _ => ?_
    split
    · rw [w2_mul_sum]; exact Finset.sum_congr rfl fun r _ => w2_shift _ _ _ _
    · rw [mul_zero]

variable {P} in
/-- No block from the own one on is picked: the sums stop there. -/
theorem acc_stop (hP : ∀ n, P n → n < i) (μ : ℝ) (j : ℕ) (hj : i ≤ j) : acc s v P i c μ j = acc s v P i c μ i := by
  obtain ⟨k, rfl⟩ := Nat.exists_eq_add_of_le hj
  induction k with
  | zero => rfl
  | succ k ih =>
    rw [← add_assoc, acc_succ, ih (Nat.le_add_right i k)]
    unfold past
    rw [if_neg fun h => absurd (hP _ h) (by omega), add_zero]

variable {P} in
/-- The quotient of the running sums, whatever the reference exponent, is the attention. -/
theorem div_acc (hP : ∀ n, P n → n < i) (μ : ℝ) (j : ℕ) (hj : i ≤ j) :
    Ideal.div (acc s v P i c μ j) (acc s (fun _ _ => 1) P i c μ j) = attend s v P i c := by
  rw [acc_stop s v i c hP μ j hj, acc_stop s (fun _ _ => 1) i c hP μ j hj, ← acc_shift s v P i c 0 μ, ← acc_shift s (fun _ _ => 1) P i c 0 μ]
  exact div_mul_left _ (Real.rpow_pos_of_pos two_pos _) _ _

end Acc

/-! ## One step of the running sums: two more blocks -/

/-- The maximum of finitely many reals, from `⊥`, is a real. -/
theorem fold_max_real {n : ℕ} [NeZero n] (f : Fin n → EReal) (g : Fin n → ℝ) (h : ∀ r, f r = (g r : EReal)) :
    ∃ x : ℝ, (Finset.univ : Finset (Fin n)).fold max ⊥ f = (x : EReal) := by
  have key : ∀ S : Finset (Fin n), S.Nonempty → ∃ x : ℝ, S.fold max ⊥ f = (x : EReal) := by
    classical
    intro S hS
    induction hS using Finset.Nonempty.cons_induction with
    | singleton a => exact ⟨g a, by rw [Finset.fold_singleton, h]; exact max_bot_right _⟩
    | cons a S ha hS ih =>
      obtain ⟨x, hx⟩ := ih
      exact ⟨max (g a) x, by rw [Finset.fold_cons, hx, h]; exact (EReal.coe_strictMono.monotone.map_max).symm⟩
  exact key _ Finset.univ_nonempty

/-- The new reference exponent: the old one and the scores' maxima of the picked blocks. -/
def newRef (p0 p1 : Prop) [Decidable p0] [Decidable p1] (m : EReal) (s0 s1 : Fin 256 → EReal) : EReal :=
  max (max m (if p0 then (Finset.univ : Finset (Fin 256)).fold max ⊥ s0 else ⊥)) (if p1 then (Finset.univ : Finset (Fin 256)).fold max ⊥ s1 else ⊥)

theorem newRef_real (p0 p1 : Prop) [Decidable p0] [Decidable p1] (μ : ℝ) (s0 s1 : Fin 256 → EReal) (t0 t1 : Fin 256 → ℝ)
    (h0 : p0 → ∀ r, s0 r = (t0 r : EReal)) (h1 : p1 → ∀ r, s1 r = (t1 r : EReal)) :
    ∃ μ' : ℝ, newRef p0 p1 (μ : EReal) s0 s1 = (μ' : EReal) := by
  have step : ∀ (p : Prop) [Decidable p] (x : ℝ) (f : Fin 256 → EReal) (g : Fin 256 → ℝ), (p → ∀ r, f r = (g r : EReal)) →
      ∃ y : ℝ, max (x : EReal) (if p then (Finset.univ : Finset (Fin 256)).fold max ⊥ f else ⊥) = (y : EReal) := by
    intro p _ x f g h
    by_cases hp : p
    · obtain ⟨y, hy⟩ := fold_max_real f g (h hp)
      exact ⟨max x y, by rw [if_pos hp, hy]; exact (EReal.coe_strictMono.monotone.map_max).symm⟩
    · exact ⟨x, by rw [if_neg hp]; exact max_bot_right _⟩
  obtain ⟨x, hx⟩ := step p0 μ s0 t0 h0
  obtain ⟨y, hy⟩ := step p1 x s1 t1 h1
  exact ⟨y, by unfold newRef; rw [hx, hy]⟩

/-- A block's contribution as the kernel forms it: every key's weight is zero unless the block is picked. -/
theorem block_eq (s : ℕ → Fin 256 → ℝ) (v : ℕ → Fin 256 → EReal) (P : ℕ → Prop) [DecidablePred P] (μ : ℝ) (j : ℕ)
    (sj vj : Fin 256 → EReal) (hs : P j → ∀ r, sj r = (s j r : EReal)) (hv : P j → ∀ r, vj r = v j r) :
    ∑ r : Fin 256, vj r * Ideal.exp2 (sj r - (if P j then (μ : EReal) else ⊤)) = past s v P μ j := by
  unfold past
  by_cases hp : P j
  · rw [if_pos hp, if_pos hp]
    refine Finset.sum_congr rfl fun r _ => ?_
    rw [hs hp, hv hp, ← EReal.coe_sub, exp2_real]
  · rw [if_neg hp, if_neg hp]
    refine Finset.sum_eq_zero fun r _ => ?_
    rw [EReal.sub_top, Ideal.exp2_bot, mul_zero]

/-- Two more blocks: the old sums moved to the new reference exponent, plus the two contributions. -/
theorem step_eq (s : ℕ → Fin 256 → ℝ) (v : ℕ → Fin 256 → EReal) (P : ℕ → Prop) [DecidablePred P] (i : ℕ) (c : Fin 256) (μ μ' : ℝ) (j : ℕ)
    (s0 s1 v0 v1 : Fin 256 → EReal) (hs0 : P j → ∀ r, s0 r = (s j r : EReal)) (hv0 : P j → ∀ r, v0 r = v j r)
    (hs1 : P (j + 1) → ∀ r, s1 r = (s (j + 1) r : EReal)) (hv1 : P (j + 1) → ∀ r, v1 r = v (j + 1) r) :
    Ideal.exp2 ((μ : EReal) - (μ' : EReal)) * acc s v P i c μ j
      + (∑ r : Fin 256, v0 r * Ideal.exp2 (s0 r - (if P j then (μ' : EReal) else ⊤))
        + ∑ r : Fin 256, v1 r * Ideal.exp2 (s1 r - (if P (j + 1) then (μ' : EReal) else ⊤)))
      = acc s v P i c μ' (j + 2) := by
  rw [← EReal.coe_sub, exp2_real, acc_shift, block_eq s v P μ' j s0 v0 hs0 hv0, block_eq s v P μ' (j + 1) s1 v1 hs1 hv1,
    show j + 2 = (j + 1) + 1 from rfl, acc_succ, acc_succ, add_assoc]

/-- The first sums: the own block's keys up to the query, relative to a real reference exponent. -/
theorem init_eq (s : ℕ → Fin 256 → ℝ) (v : ℕ → Fin 256 → EReal) (P : ℕ → Prop) [DecidablePred P] (i : ℕ) (c : Fin 256) (μ : ℝ)
    (si vi : Fin 256 → EReal) (hs : ∀ r, si r = if r ≤ c then (s i r : EReal) else ⊥) (hv : ∀ r, vi r = v i r) :
    ∑ r : Fin 256, vi r * Ideal.exp2 (si r - (μ : EReal)) = acc s v P i c μ 0 := by
  rw [acc_zero]; unfold own
  refine Finset.sum_congr rfl fun r _ => ?_
  rw [hs, hv]
  split
  · rw [← EReal.coe_sub, exp2_real]
  · rw [EReal.bot_sub, Ideal.exp2_bot]

/-- The first reference exponent is a real: the query itself is among its keys. -/
theorem init_real (g : Fin 256 → ℝ) (c : Fin 256) (f : Fin 256 → EReal) (hf : ∀ r, f r = if r ≤ c then (g r : EReal) else ⊥) :
    ∃ x : ℝ, (Finset.univ : Finset (Fin 256)).fold max ⊥ f = (x : EReal) := by
  have key : ∀ S : Finset (Fin 256), (S.fold max ⊥ f = ⊥ ∧ c ∉ S) ∨ ∃ x : ℝ, S.fold max ⊥ f = (x : EReal) := by
    classical
    intro S
    induction S using Finset.induction_on with
    | empty => exact Or.inl ⟨Finset.fold_empty, Finset.notMem_empty c⟩
    | insert a S ha ih =>
      rw [Finset.fold_insert ha, hf a]
      by_cases hac : a ≤ c
      · rw [if_pos hac]
        rcases ih with ⟨h, -⟩ | ⟨x, h⟩
        · exact Or.inr ⟨g a, by rw [h]; exact max_bot_right _⟩
        · exact Or.inr ⟨max (g a) x, by rw [h]; exact (EReal.coe_strictMono.monotone.map_max).symm⟩
      · rw [if_neg hac]
        rcases ih with ⟨h, hc⟩ | ⟨x, h⟩
        · exact Or.inl ⟨by rw [h]; exact max_bot_right _, by
            rw [Finset.mem_insert]; rintro (rfl | h'); exacts [hac le_rfl, hc h']⟩
        · exact Or.inr ⟨x, by rw [h]; exact max_bot_left _⟩
  rcases key Finset.univ with ⟨-, h⟩ | h
  · exact absurd (Finset.mem_univ c) h
  · exact h

/-! ## The three best blocks -/

section Rank

variable (g : ℕ → ℝ)

/-- Block `m` goes before block `n`: its gate is greater, or equal and the block earlier. -/
def Beats (m n : ℕ) : Prop := g n < g m ∨ (g m = g n ∧ m < n)

open Classical in
/-- How many of the blocks in `S` go before `n`. -/
def rank (S : Finset ℕ) (n : ℕ) : ℕ := (S.filter fun m => Beats g m n).card

/-- `a` goes before every other block of `S`. -/
def IsTop (S : Finset ℕ) (a : ℕ) : Prop := a ∈ S ∧ ∀ m ∈ S, m ≠ a → Beats g a m

theorem beats_irrefl (n : ℕ) : ¬ Beats g n n := by
  rintro (h | ⟨-, h⟩); exacts [lt_irrefl _ h, lt_irrefl _ h]

theorem beats_asymm {m n : ℕ} (h : Beats g m n) : ¬ Beats g n m := by
  rintro (h' | ⟨h', h''⟩) <;> rcases h with h | ⟨h, h2⟩
  · exact lt_asymm h h'
  · exact absurd h' (by rw [h]; exact lt_irrefl _)
  · exact absurd h (by rw [h']; exact lt_irrefl _)
  · exact lt_asymm h2 h''

theorem rank_top (S : Finset ℕ) {a : ℕ} (h : IsTop g S a) : rank g S a = 0 := by
  classical
  unfold rank
  rw [Finset.card_eq_zero, Finset.filter_eq_empty_iff]
  intro m hm hb
  by_cases e : m = a
  · exact beats_irrefl g a (e ▸ hb)
  · exact beats_asymm g hb (h.2 m hm e)

theorem rank_erase (S : Finset ℕ) {a : ℕ} (h : IsTop g S a) {n : ℕ} (hn : n ∈ S) (hna : n ≠ a) :
    rank g S n = rank g (S.erase a) n + 1 := by
  classical
  unfold rank
  rw [Finset.filter_erase, Finset.card_erase_of_mem (Finset.mem_filter.2 ⟨h.1, h.2 n hn hna⟩)]
  have : 0 < (S.filter fun m => Beats g m n).card := Finset.card_pos.2 ⟨a, Finset.mem_filter.2 ⟨h.1, h.2 n hn hna⟩⟩
  omega

/-- The blocks of rank below `k + 1`: the first one, and the others' first `k`. -/
theorem rank_lt_succ (S : Finset ℕ) {a : ℕ} (h : IsTop g S a) (k n : ℕ) :
    (n ∈ S ∧ rank g S n < k + 1) ↔ n = a ∨ (n ∈ S.erase a ∧ rank g (S.erase a) n < k) := by
  constructor
  · rintro ⟨hn, hr⟩
    by_cases e : n = a
    · exact Or.inl e
    · rw [rank_erase g S h hn e] at hr
      exact Or.inr ⟨Finset.mem_erase.2 ⟨e, hn⟩, by omega⟩
  · rintro (rfl | ⟨hn, hr⟩)
    · exact ⟨h.1, by rw [rank_top g S h]; omega⟩
    · obtain ⟨e, hn⟩ := Finset.mem_erase.1 hn
      exact ⟨hn, by rw [rank_erase g S h hn e]; omega⟩

/-- Block `n` is among the three best of the first `i`. -/
def Picked (i n : ℕ) : Prop := n ∈ Finset.range i ∧ rank g (Finset.range i) n < 3

theorem Picked.lt {i n : ℕ} (h : Picked g i n) : n < i := Finset.mem_range.1 h.1

/-- A positive factor on every gate changes no pick. -/
theorem picked_scale (t : ℝ) (ht : 0 < t) (g' : ℕ → ℝ) (i : ℕ) (h : ∀ n, n < i → g' n = t * g n) (n : ℕ) : Picked g' i n ↔ Picked g i n := by
  classical
  unfold Picked rank
  refine and_congr_right fun hn => ?_
  have e : (Finset.range i).filter (fun m => Beats g' m n) = (Finset.range i).filter (fun m => Beats g m n) := by
    refine Finset.filter_congr fun m hm => ?_
    unfold Beats
    rw [h n (Finset.mem_range.1 hn), h m (Finset.mem_range.1 hm), mul_lt_mul_iff_right₀ ht, mul_right_inj' ht.ne']
  rw [e]

end Rank

end Cert.Moba

end
-- ==== Proof.Rows.lean ====
/-
  Row formulas that several calls share: the normalisation of a row, of a head inside a row, and a row through a matrix.
-/
module

public import Idealize.ShloMosaic.Lib.Pointwise
public import proofs.«01_k».proof.Proof.Spec

@[expose] public section

noncomputable section

namespace Cert.Rows

open Idealize.ShloMosaic

/-- The divisor of a mean over 1024 columns. -/
abbrev c1024 : EReal := Ideal.ofBits .f32 1149239296#32
/-- The divisor of a mean over a head's 256 columns. -/
abbrev c256 : EReal := Ideal.ofBits .f32 1132462080#32
/-- The number added to a mean square. -/
abbrev ceps : EReal := Ideal.ofBits .f32 897988541#32

/-- A row over the root of its mean square, times a gain. -/
def rms {n : ℕ} (c : EReal) (x g : Fin n → EReal) (k : Fin n) : EReal :=
  x k * Ideal.rsqrt (Ideal.div (∑ l : Fin n, x l * x l) c + ceps) * g k

/-- Column `e` of head `h`. -/
abbrev col (h : Fin 4) (e : Fin 256) : Fin 1024 := ⟨256 * h.val + e.val, by omega⟩

theorem col_zero (e : Fin 256) : col 0 e = ⟨e.val, by omega⟩ := Fin.ext (by show 256 * 0 + e.val = e.val; omega)

/-- A row through a matrix. -/
def proj {n p : ℕ} (x : Fin n → EReal) (w : Fin n → Fin p → EReal) (j : Fin p) : EReal := ∑ k : Fin n, x k * w k j

/-- A head's columns normalised. -/
def headRms (q : Fin 1024 → EReal) (g : Fin 256 → EReal) (h : Fin 4) (e : Fin 256) : EReal := rms c256 (fun e => q (col h e)) g e

/-- Every column is a column of a head. -/
theorem col_surj (j : Fin 1024) : j = col ⟨j.val / 256, by omega⟩ ⟨j.val % 256, Nat.mod_lt _ (by decide)⟩ :=
  Fin.ext (by show j.val = 256 * (j.val / 256) + j.val % 256; omega)

/-- A sum over the columns is the sum over the heads. -/
theorem sum_cols (f : Fin 1024 → EReal) : ∑ y : Fin 1024, f y = ∑ h : Fin 4, ∑ e : Fin 256, f (col h e) := by
  rw [← (finProdFinEquiv : Fin 4 × Fin 256 ≃ Fin (4 * 256)).sum_comp, ← Finset.univ_product_univ, Finset.sum_product]
  refine Finset.sum_congr rfl fun j _ => Finset.sum_congr rfl fun r _ => congrArg f (Fin.ext ?_)
  show r.val + 256 * j.val = 256 * j.val + r.val
  omega

end Cert.Rows

end
-- ==== Proof.F3Val.lean ====
/-
  The memory's keys and values as the call makes them.
-/
module

public import proofs.«01_k».proof.Proof.Gen.Kernel3Ideal.Frame
public import proofs.«01_k».proof.Proof.Rows
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.Kernel3Ideal.Hand

open Cert.Kernel3Ideal Cert.Kernel3Ideal.Gen Cert.Rows
open Idealize.ShloMosaic Idealize.ShloMosaic.TcCoe Idealize.ShloMosaic.Tactic Idealize.SL.Sem

/-! ## The body's arithmetic at a place -/

theorem pay3_at (x : FVec Ideal S256x1024 .f32) (g : FVec Ideal S1x1024 .f32) (r : Fin 256) (k : Fin 1024) :
    k0_pay3 (F := Ideal) x g (ix2 r k) = rms c1024 (fun l => x (ix2 r l)) (fun l => g (ix2 0 l)) k := by
  unfold rms
  pointwise [k0_pay3]

theorem pay4_at (x : FVec Ideal S256x1024 .f32) (g : FVec Ideal S1x1024 .f32) (w : FVec Ideal S1024x1024 .bf16) (r : Fin 256) (j : Fin 1024) :
    k0_pay4 (F := Ideal) x g w (ix2 r j) = proj (rms c1024 (fun l => x (ix2 r l)) fun l => g (ix2 0 l)) (fun k j => w (ix2 k j)) j := by
  have e : k0_pay4 (F := Ideal) x g w (ix2 r j) = ∑ k, k0_pay3 (F := Ideal) x g (ix2 r k) * w (ix2 k j) := by
    unfold k0_pay4
    generalize k0_pay3 (F := Ideal) x g = y
    pointwise
  rw [e]
  exact Finset.sum_congr rfl fun k _ => by rw [pay3_at]

theorem pay5_at (x : FVec Ideal S256x1024 .f32) (g : FVec Ideal S1x1024 .f32) (w : FVec Ideal S1024x1024 .bf16) (r : Fin 256) (j : Fin 1024) :
    k0_pay5 (F := Ideal) x g w (ix2 r j) = proj (rms c1024 (fun l => x (ix2 r l)) fun l => g (ix2 0 l)) (fun k j => w (ix2 k j)) j := by
  have e : k0_pay5 (F := Ideal) x g w (ix2 r j) = ∑ k, k0_pay3 (F := Ideal) x g (ix2 r k) * w (ix2 k j) := by
    unfold k0_pay5
    generalize k0_pay3 (F := Ideal) x g = y
    pointwise
  rw [e]
  exact Finset.sum_congr rfl fun k _ => by rw [pay3_at]

theorem pay6_at (x : FVec Ideal S256x1024 .f32) (g : FVec Ideal S1x1024 .f32) (w : FVec Ideal S1024x1024 .bf16) (gk : FVec Ideal S1x256 .f32) (r e : Fin 256) :
    k0_pay6 (F := Ideal) x g w gk (ix2 r e) = headRms (fun j => k0_pay4 (F := Ideal) x g w (ix2 r j)) (fun e => gk (ix2 0 e)) 0 e := by
  unfold headRms rms k0_pay6
  simp only [col_zero]
  generalize k0_pay4 (F := Ideal) x g w = y
  pointwise

theorem pay8_at (x : FVec Ideal S256x1024 .f32) (g : FVec Ideal S1x1024 .f32) (w : FVec Ideal S1024x1024 .bf16) (gk : FVec Ideal S1x256 .f32) (r e : Fin 256) (h : Fin 4) :
    k0_pay8 (F := Ideal) (k0_pay4 x g w) (k0_pay6 x g w gk) (k0_pay7 x g w) gk gk gk (ix2 r (col h e))
      = headRms (fun j => k0_pay4 (F := Ideal) x g w (ix2 r j)) (fun e => gk (ix2 0 e)) h e := by
  have e7 : ∀ e, k0_pay7 (F := Ideal) x g w (ix2 r e) = k0_pay4 (F := Ideal) x g w (ix2 r (col 1 e)) := fun e => by
    unfold k0_pay7
    generalize k0_pay4 (F := Ideal) x g w = y
    pointwise
    rfl
  fin_cases h
  · refine Eq.trans ?_ (pay6_at x g w gk r e)
    generalize k0_pay6 (F := Ideal) x g w gk = y
    show k0_pay8 (F := Ideal) _ y _ _ _ _ (ix2 r ⟨0 + e.val, _⟩) = _
    pointwise [k0_pay8]
  · unfold headRms rms
    show _ = (fun e => k0_pay4 (F := Ideal) x g w (ix2 r (col 1 e))) e * Ideal.rsqrt (Ideal.div (∑ l, (fun e => k0_pay4 (F := Ideal) x g w (ix2 r (col 1 e))) l * (fun e => k0_pay4 (F := Ideal) x g w (ix2 r (col 1 e))) l) c256 + ceps) * _
    rw [show (fun e => k0_pay4 (F := Ideal) x g w (ix2 r (col 1 e))) = fun e => k0_pay7 (F := Ideal) x g w (ix2 r e) from funext fun e => (e7 e).symm]
    generalize k0_pay7 (F := Ideal) x g w = y
    show k0_pay8 (F := Ideal) _ _ y _ _ _ (ix2 r ⟨256 + e.val, _⟩) = _
    pointwise [k0_pay8]
  · unfold headRms rms
    generalize k0_pay4 (F := Ideal) x g w = y
    show k0_pay8 (F := Ideal) y _ _ _ _ _ (ix2 r ⟨512 + e.val, _⟩) = _
    pointwise [k0_pay8]
    rw [dif_neg (by omega), dif_neg (by omega), dif_pos (by omega)]
    simp only [show 512 + e.val - 256 - 256 = e.val from by omega]
    rfl
  · unfold headRms rms
    generalize k0_pay4 (F := Ideal) x g w = y
    show k0_pay8 (F := Ideal) y _ _ _ _ _ (ix2 r ⟨768 + e.val, _⟩) = _
    pointwise [k0_pay8]
    rw [dif_neg (by omega), dif_neg (by omega), dif_neg (by omega)]
    simp only [show 768 + e.val - 256 - 256 - 256 = e.val from by omega]
    rfl

variable (m : (ℓ : Loc nD τ sig) → Buf (Elt Ideal) ℓ) (c : Dev nD)

/-! ## The blocks of the arrays -/

theorem idx0 : ∀ t : Fin grid0.N, win0_0.index t (0 : Fin 2) = 0 ∧ win0_0.index t (1 : Fin 2) = 0 := by decide +kernel
theorem emb0 (t : Fin cfg0.N) (r : Fin 256) (k : Fin 1024) : ((cfg0.win 0).blk t).view.emb (ix2 r k) = (ix2 r k : S256x1024.Idx) := by
  obtain ⟨e0, e1⟩ := idx0 t
  funext a; apply Fin.ext
  match a with
  | ⟨0, _⟩ => show win0_0.index t (0 : Fin 2) * 256 + 1 * r.val = _; rw [e0]; show _ = r.val; ring
  | ⟨1, _⟩ => show win0_0.index t (1 : Fin 2) * 1024 + 1 * k.val = _; rw [e1]; show _ = k.val; ring
theorem idx1 : ∀ t : Fin grid0.N, win0_1.index t (0 : Fin 2) = 0 ∧ win0_1.index t (1 : Fin 2) = 0 := by decide +kernel
theorem emb1 (t : Fin cfg0.N) (r : Fin 1) (k : Fin 1024) : ((cfg0.win 1).blk t).view.emb (ix2 r k) = (ix2 r k : S1x1024.Idx) := by
  obtain ⟨e0, e1⟩ := idx1 t
  funext a; apply Fin.ext
  match a with
  | ⟨0, _⟩ => show win0_1.index t (0 : Fin 2) * 1 + 1 * r.val = _; rw [e0]; show _ = r.val; ring
  | ⟨1, _⟩ => show win0_1.index t (1 : Fin 2) * 1024 + 1 * k.val = _; rw [e1]; show _ = k.val; ring
theorem idx2 : ∀ t : Fin grid0.N, win0_2.index t (0 : Fin 2) = 0 ∧ win0_2.index t (1 : Fin 2) = 0 := by decide +kernel
theorem emb2 (t : Fin cfg0.N) (r : Fin 1024) (k : Fin 1024) : ((cfg0.win 2).blk t).view.emb (ix2 r k) = (ix2 r k : S1024x1024.Idx) := by
  obtain ⟨e0, e1⟩ := idx2 t
  funext a; apply Fin.ext
  match a with
  | ⟨0, _⟩ => show win0_2.index t (0 : Fin 2) * 1024 + 1 * r.val = _; rw [e0]; show _ = r.val; ring
  | ⟨1, _⟩ => show win0_2.index t (1 : Fin 2) * 1024 + 1 * k.val = _; rw [e1]; show _ = k.val; ring
theorem idx3 : ∀ t : Fin grid0.N, win0_3.index t (0 : Fin 2) = 0 ∧ win0_3.index t (1 : Fin 2) = 0 := by decide +kernel
theorem emb3 (t : Fin cfg0.N) (r : Fin 1024) (k : Fin 1024) : ((cfg0.win 3).blk t).view.emb (ix2 r k) = (ix2 r k : S1024x1024.Idx) := by
  obtain ⟨e0, e1⟩ := idx3 t
  funext a; apply Fin.ext
  match a with
  | ⟨0, _⟩ => show win0_3.index t (0 : Fin 2) * 1024 + 1 * r.val = _; rw [e0]; show _ = r.val; ring
  | ⟨1, _⟩ => show win0_3.index t (1 : Fin 2) * 1024 + 1 * k.val = _; rw [e1]; show _ = k.val; ring
theorem idx4 : ∀ t : Fin grid0.N, win0_4.index t (0 : Fin 2) = 0 ∧ win0_4.index t (1 : Fin 2) = 0 := by decide +kernel
theorem emb4 (t : Fin cfg0.N) (r : Fin 1) (k : Fin 256) : ((cfg0.win 4).blk t).view.emb (ix2 r k) = (ix2 r k : S1x256.Idx) := by
  obtain ⟨e0, e1⟩ := idx4 t
  funext a; apply Fin.ext
  match a with
  | ⟨0, _⟩ => show win0_4.index t (0 : Fin 2) * 1 + 1 * r.val = _; rw [e0]; show _ = r.val; ring
  | ⟨1, _⟩ => show win0_4.index t (1 : Fin 2) * 256 + 1 * k.val = _; rw [e1]; show _ = k.val; ring
theorem idx5 : ∀ t : Fin grid0.N, win0_5.index t (0 : Fin 2) = 0 ∧ win0_5.index t (1 : Fin 2) = 0 := by decide +kernel
theorem emb5 (t : Fin cfg0.N) (r : Fin 256) (k : Fin 1024) : ((cfg0.win 5).blk t).view.emb (ix2 r k) = (ix2 r k : S256x1024.Idx) := by
  obtain ⟨e0, e1⟩ := idx5 t
  funext a; apply Fin.ext
  match a with
  | ⟨0, _⟩ => show win0_5.index t (0 : Fin 2) * 256 + 1 * r.val = _; rw [e0]; show _ = r.val; ring
  | ⟨1, _⟩ => show win0_5.index t (1 : Fin 2) * 1024 + 1 * k.val = _; rw [e1]; show _ = k.val; ring
theorem idx6 : ∀ t : Fin grid0.N, win0_6.index t (0 : Fin 2) = 0 ∧ win0_6.index t (1 : Fin 2) = 0 := by decide +kernel
theorem emb6 (t : Fin cfg0.N) (r : Fin 256) (k : Fin 1024) : ((cfg0.win 6).blk t).view.emb (ix2 r k) = (ix2 r k : S256x1024.Idx) := by
  obtain ⟨e0, e1⟩ := idx6 t
  funext a; apply Fin.ext
  match a with
  | ⟨0, _⟩ => show win0_6.index t (0 : Fin 2) * 256 + 1 * r.val = _; rw [e0]; show _ = r.val; ring
  | ⟨1, _⟩ => show win0_6.index t (1 : Fin 2) * 1024 + 1 * k.val = _; rw [e1]; show _ = k.val; ring
theorem idx7 : ∀ t : Fin grid0.N, win0_7.index t (0 : Fin 2) = 0 ∧ win0_7.index t (1 : Fin 2) = 0 := by decide +kernel
theorem emb7 (t : Fin cfg0.N) (r : Fin 256) (k : Fin 1024) : ((cfg0.win 7).blk t).view.emb (ix2 r k) = (ix2 r k : S256x1024.Idx) := by
  obtain ⟨e0, e1⟩ := idx7 t
  funext a; apply Fin.ext
  match a with
  | ⟨0, _⟩ => show win0_7.index t (0 : Fin 2) * 256 + 1 * r.val = _; rw [e0]; show _ = r.val; ring
  | ⟨1, _⟩ => show win0_7.index t (1 : Fin 2) * 1024 + 1 * k.val = _; rw [e1]; show _ = k.val; ring
theorem idx8 : ∀ t : Fin grid0.N, win0_8.index t (0 : Fin 2) = 0 ∧ win0_8.index t (1 : Fin 2) = 0 := by decide +kernel
theorem emb8 (t : Fin cfg0.N) (r : Fin 256) (k : Fin 1024) : ((cfg0.win 8).blk t).view.emb (ix2 r k) = (ix2 r k : S256x1024.Idx) := by
  obtain ⟨e0, e1⟩ := idx8 t
  funext a; apply Fin.ext
  match a with
  | ⟨0, _⟩ => show win0_8.index t (0 : Fin 2) * 256 + 1 * r.val = _; rw [e0]; show _ = r.val; ring
  | ⟨1, _⟩ => show win0_8.index t (1 : Fin 2) * 1024 + 1 * k.val = _; rw [e1]; show _ = k.val; ring
/-! ## The arrays' entries -/

/-- The arguments as the call is given them. -/
def X0 : S256x1024.Idx → EReal := m ((c : Thread nD τ).loc main_arg0)
@[inherit_doc X0] def X1 : S1024.Idx → EReal := m ((c : Thread nD τ).loc main_arg1)
@[inherit_doc X0] def X2 : S1024x1024.Idx → EReal := m ((c : Thread nD τ).loc main_arg2)
@[inherit_doc X0] def X3 : S1024x1024.Idx → EReal := m ((c : Thread nD τ).loc main_arg3)
@[inherit_doc X0] def X4 : S256.Idx → EReal := m ((c : Thread nD τ).loc main_arg4)

theorem in0 (t : Fin cfg0.N) (r : Fin 256) (k : Fin 1024) : iblk m c 0 t (ix2 r k) = X0 m c (ix2 r k) := by
  show V m c main_arg0 (((cfg0.win 0).blk t).view.emb (ix2 r k)) = _
  rw [emb0]; exact congrFun (V_main_arg0 m c) _
theorem V1 (k : Fin 1024) : (V (F := Ideal) m c main_v0 : S1x1024.Idx → EReal) (ix2 (0 : Fin 1) k) = X1 m c (ix1 k) := by
  unfold V X1
  after_reads_at
theorem in1 (t : Fin cfg0.N) (k : Fin 1024) : iblk m c 1 t (ix2 (0 : Fin 1) k) = X1 m c (ix1 k) := by
  show V m c main_v0 (((cfg0.win 1).blk t).view.emb (ix2 (0 : Fin 1) k)) = _
  rw [emb1]; exact V1 m c k
theorem V2 (r : Fin 1024) (k : Fin 1024) : (V (F := Ideal) m c main_v1 : S1024x1024.Idx → EReal) (ix2 r k) = X2 m c (ix2 r k) := by
  unfold V X2
  after_reads_at
theorem in2 (t : Fin cfg0.N) (r : Fin 1024) (k : Fin 1024) : iblk m c 2 t (ix2 r k) = X2 m c (ix2 r k) := by
  show V m c main_v1 (((cfg0.win 2).blk t).view.emb (ix2 r k)) = _
  rw [emb2]; exact V2 m c r k
theorem V3 (r : Fin 1024) (k : Fin 1024) : (V (F := Ideal) m c main_v2 : S1024x1024.Idx → EReal) (ix2 r k) = X3 m c (ix2 r k) := by
  unfold V X3
  after_reads_at
theorem in3 (t : Fin cfg0.N) (r : Fin 1024) (k : Fin 1024) : iblk m c 3 t (ix2 r k) = X3 m c (ix2 r k) := by
  show V m c main_v2 (((cfg0.win 3).blk t).view.emb (ix2 r k)) = _
  rw [emb3]; exact V3 m c r k
theorem V4 (k : Fin 256) : (V (F := Ideal) m c main_v3 : S1x256.Idx → EReal) (ix2 (0 : Fin 1) k) = X4 m c (ix1 k) := by
  unfold V X4
  after_reads_at
theorem in4 (t : Fin cfg0.N) (k : Fin 256) : iblk m c 4 t (ix2 (0 : Fin 1) k) = X4 m c (ix1 k) := by
  show V m c main_v3 (((cfg0.win 4).blk t).view.emb (ix2 (0 : Fin 1) k)) = _
  rw [emb4]; exact V4 m c k

/-- The normalised memory row `r`. -/
def xn (x : S256x1024.Idx → EReal) (g : S1024.Idx → EReal) (r : Fin 256) : Fin 1024 → EReal := rms c1024 (fun l => x (ix2 r l)) fun l => g (ix1 l)

/-- The keys: each head's columns of the row through the first weight, normalised. -/
def keyAt (x : S256x1024.Idx → EReal) (g : S1024.Idx → EReal) (w : S1024x1024.Idx → EReal) (gk : S256.Idx → EReal) (r : Fin 256) (h : Fin 4) (e : Fin 256) : EReal :=
  headRms (proj (xn x g r) fun k j => w (ix2 k j)) (fun e => gk (ix1 e)) h e

/-- The values: the row through the second weight. -/
def valAt (x : S256x1024.Idx → EReal) (g : S1024.Idx → EReal) (w : S1024x1024.Idx → EReal) (r : Fin 256) (j : Fin 1024) : EReal :=
  proj (xn x g r) (fun k j => w (ix2 k j)) j

/-- The keys' array. -/
def GK : S256x1024.Idx → EReal := fun i => keyAt (X0 m c) (X1 m c) (X2 m c) (X4 m c) ⟨(i 0).val, (i 0).isLt⟩
  ⟨(i 1).val / 256, by have h : (i 1).val < 1024 := (i 1).isLt; omega⟩ ⟨(i 1).val % 256, Nat.mod_lt _ (by decide)⟩

theorem GK_at (r : Fin 256) (h : Fin 4) (e : Fin 256) : GK m c (ix2 r (col h e)) = keyAt (X0 m c) (X1 m c) (X2 m c) (X4 m c) r h e := by
  show keyAt _ _ _ _ r ⟨(256 * h.val + e.val) / 256, _⟩ ⟨(256 * h.val + e.val) % 256, _⟩ = _
  have e1 : (256 * h.val + e.val) / 256 = h.val := by omega
  have e2 : (256 * h.val + e.val) % 256 = e.val := by omega
  simp only [e1, e2, Fin.eta]

/-- The values' array. -/
def GV : S256x1024.Idx → EReal := fun i => valAt (X0 m c) (X1 m c) (X3 m c) ⟨(i 0).val, (i 0).isLt⟩ ⟨(i 1).val, (i 1).isLt⟩

theorem xn_blk (t : Fin cfg0.N) (r : Fin 256) : rms c1024 (fun l => iblk m c 0 t (ix2 r l)) (fun l => iblk m c 1 t (ix2 (0 : Fin 1) l)) = xn (X0 m c) (X1 m c) r := by
  unfold xn
  rw [show (fun l => iblk m c 0 t (ix2 r l)) = _ from funext fun l => in0 m c t r l, show (fun l => iblk m c 1 t (ix2 (0 : Fin 1) l)) = _ from funext fun l => in1 m c t l]

theorem pay1_at (v : FVec Ideal S256x1024 .f32) (i : S256x1024.Idx) : k0_pay1 (F := Ideal) v i = v i := rfl
theorem pay2_at (v : FVec Ideal S256x1024 .f32) (i : S256x1024.Idx) : k0_pay2 (F := Ideal) v i = v i := rfl
theorem pay9_eq (x : FVec Ideal S256x1024 .f32) (g : FVec Ideal S1x1024 .f32) (w w' : FVec Ideal S1024x1024 .bf16) (gk : FVec Ideal S1x256 .f32) :
    k0_pay9 (F := Ideal) x g w w' gk = k0_pay5 x g w' := by
  unfold k0_pay9
  simp (disch := decide) only [View.ld_unit_lit']
theorem pay10_eq (x : FVec Ideal S256x1024 .f32) (g : FVec Ideal S1x1024 .f32) (w w' : FVec Ideal S1024x1024 .bf16) (gk : FVec Ideal S1x256 .f32) :
    k0_pay10 (F := Ideal) x g w w' gk = k0_pay8 (k0_pay4 x g w) (k0_pay6 x g w gk) (k0_pay7 x g w) gk gk gk := by
  unfold k0_pay10
  simp (disch := decide) only [View.ld_unit_lit']

theorem key_blk (t : Fin cfg0.N) (r : Fin 256) (k : Fin 1024) : k0_pay10 (F := Ideal) (iblk m c 0 t) (iblk m c 1 t) (iblk m c 2 t) (iblk m c 3 t) (iblk m c 4 t) (ix2 r k) = GK m c (ix2 r k) := by
  obtain ⟨h, e, rfl⟩ : ∃ h e, k = col h e := ⟨_, _, col_surj k⟩
  rw [pay10_eq, pay8_at, GK_at]
  unfold keyAt
  rw [show (fun e => iblk m c 4 t (ix2 (0 : Fin 1) e)) = _ from funext fun e => in4 m c t e]
  refine congrArg (fun f => headRms f _ h e) (funext fun j => ?_)
  refine (pay4_at _ _ _ r j).trans ?_
  rw [xn_blk]
  exact Finset.sum_congr rfl fun l _ => congrArg (fun a : EReal => _ * a) (in2 m c t l j)

theorem val_blk (t : Fin cfg0.N) (r : Fin 256) (k : Fin 1024) : k0_pay9 (F := Ideal) (iblk m c 0 t) (iblk m c 1 t) (iblk m c 2 t) (iblk m c 3 t) (iblk m c 4 t) (ix2 r k) = GV m c (ix2 r k) := by
  rw [pay9_eq]
  refine (pay5_at _ _ _ r k).trans ?_
  rw [xn_blk]
  exact Finset.sum_congr rfl fun l _ => congrArg (fun a : EReal => _ * a) (in3 m c t l k)

theorem out5 (t : Fin cfg0.N) (r : Fin 256) (k : Fin 1024) : (dats m 0 c).after 5 t (ix2 r k) = GK m c (ix2 r k) := by
  rw [after0_5]
  frame_out
  exact key_blk m c t r k
theorem out6 (t : Fin cfg0.N) (r : Fin 256) (k : Fin 1024) : (dats m 0 c).after 6 t (ix2 r k) = GV m c (ix2 r k) := by
  rw [after0_6]
  frame_out
  exact val_blk m c t r k
theorem out7 (t : Fin cfg0.N) (r : Fin 256) (k : Fin 1024) : (dats m 0 c).after 7 t (ix2 r k) = GK m c (ix2 r k) := by
  rw [after0_7]
  frame_out
  rw [pay1_at]
  exact key_blk m c t r k
theorem out8 (t : Fin cfg0.N) (r : Fin 256) (k : Fin 1024) : (dats m 0 c).after 8 t (ix2 r k) = GV m c (ix2 r k) := by
  rw [after0_8]
  frame_out
  rw [pay2_at]
  exact val_blk m c t r k

/-! ## The result arrays -/

theorem cover5 (j : S256x1024.Idx) : ∃ t : Fin cfg0.N, (cfg0.win 5).flush t = true ∧ j ∈ ((cfg0.win 5).blk t).view.set := by
  refine ⟨⟨0, lt_of_lt_of_eq Nat.one_pos N_0.symm⟩, flush0_5 _, ?_⟩
  have e := ((cfg0.win 5).blk ⟨0, lt_of_lt_of_eq Nat.one_pos N_0.symm⟩).view.emb_mem_set (ix2 (⟨(j 0).val, (j 0).isLt⟩ : Fin 256) (⟨(j 1).val, (j 1).isLt⟩ : Fin 1024))
  rw [emb5] at e
  exact (eq_ix2 (n0 := 256) (n1 := 1024) j).symm ▸ e

/-- A result array after the last grid point. -/
theorem final5 : (dats m 0 c).arrAt 5 cfg0.N = GK m c := by
  refine (dats m 0 c).arrAt_eq_of_cover 5 (GK m c) (fun t _ => funext fun y => ?_) cover5
  obtain ⟨r, k, rfl⟩ : ∃ (r : Fin 256) (k : Fin 1024), y = ix2 r k := ⟨y 0, y 1, by funext a; fin_cases a <;> rfl⟩
  exact (out5 m c t r k).trans (congrArg (GK m c) (emb5 t r k).symm)

theorem cover6 (j : S256x1024.Idx) : ∃ t : Fin cfg0.N, (cfg0.win 6).flush t = true ∧ j ∈ ((cfg0.win 6).blk t).view.set := by
  refine ⟨⟨0, lt_of_lt_of_eq Nat.one_pos N_0.symm⟩, flush0_6 _, ?_⟩
  have e := ((cfg0.win 6).blk ⟨0, lt_of_lt_of_eq Nat.one_pos N_0.symm⟩).view.emb_mem_set (ix2 (⟨(j 0).val, (j 0).isLt⟩ : Fin 256) (⟨(j 1).val, (j 1).isLt⟩ : Fin 1024))
  rw [emb6] at e
  exact (eq_ix2 (n0 := 256) (n1 := 1024) j).symm ▸ e

/-- A result array after the last grid point. -/
theorem final6 : (dats m 0 c).arrAt 6 cfg0.N = GV m c := by
  refine (dats m 0 c).arrAt_eq_of_cover 6 (GV m c) (fun t _ => funext fun y => ?_) cover6
  obtain ⟨r, k, rfl⟩ : ∃ (r : Fin 256) (k : Fin 1024), y = ix2 r k := ⟨y 0, y 1, by funext a; fin_cases a <;> rfl⟩
  exact (out6 m c t r k).trans (congrArg (GV m c) (emb6 t r k).symm)

theorem cover7 (j : S256x1024.Idx) : ∃ t : Fin cfg0.N, (cfg0.win 7).flush t = true ∧ j ∈ ((cfg0.win 7).blk t).view.set := by
  refine ⟨⟨0, lt_of_lt_of_eq Nat.one_pos N_0.symm⟩, flush0_7 _, ?_⟩
  have e := ((cfg0.win 7).blk ⟨0, lt_of_lt_of_eq Nat.one_pos N_0.symm⟩).view.emb_mem_set (ix2 (⟨(j 0).val, (j 0).isLt⟩ : Fin 256) (⟨(j 1).val, (j 1).isLt⟩ : Fin 1024))
  rw [emb7] at e
  exact (eq_ix2 (n0 := 256) (n1 := 1024) j).symm ▸ e

/-- A result array after the last grid point. -/
theorem final7 : (dats m 0 c).arrAt 7 cfg0.N = GK m c := by
  refine (dats m 0 c).arrAt_eq_of_cover 7 (GK m c) (fun t _ => funext fun y => ?_) cover7
  obtain ⟨r, k, rfl⟩ : ∃ (r : Fin 256) (k : Fin 1024), y = ix2 r k := ⟨y 0, y 1, by funext a; fin_cases a <;> rfl⟩
  exact (out7 m c t r k).trans (congrArg (GK m c) (emb7 t r k).symm)

theorem cover8 (j : S256x1024.Idx) : ∃ t : Fin cfg0.N, (cfg0.win 8).flush t = true ∧ j ∈ ((cfg0.win 8).blk t).view.set := by
  refine ⟨⟨0, lt_of_lt_of_eq Nat.one_pos N_0.symm⟩, flush0_8 _, ?_⟩
  have e := ((cfg0.win 8).blk ⟨0, lt_of_lt_of_eq Nat.one_pos N_0.symm⟩).view.emb_mem_set (ix2 (⟨(j 0).val, (j 0).isLt⟩ : Fin 256) (⟨(j 1).val, (j 1).isLt⟩ : Fin 1024))
  rw [emb8] at e
  exact (eq_ix2 (n0 := 256) (n1 := 1024) j).symm ▸ e

/-- A result array after the last grid point. -/
theorem final8 : (dats m 0 c).arrAt 8 cfg0.N = GV m c := by
  refine (dats m 0 c).arrAt_eq_of_cover 8 (GV m c) (fun t _ => funext fun y => ?_) cover8
  obtain ⟨r, k, rfl⟩ : ∃ (r : Fin 256) (k : Fin 1024), y = ix2 r k := ⟨y 0, y 1, by funext a; fin_cases a <;> rfl⟩
  exact (out8 m c t r k).trans (congrArg (GV m c) (emb8 t r k).symm)

/-- Every run of the program ends with the result arrays at the formulas' values and the arguments' arrays unchanged. -/
theorem value_k (ρ : Dev nD → PrngReg) : θ_run defs (onTc (τ := τ) (main (F := Ideal))) ⟨m, fun _ => 0, ρ⟩ (fun r => ∀ c : Dev nD,
      r.2.mem ((c.tc : Thread nD τ).loc main_v4_0) = GK m c
      ∧ r.2.mem ((c.tc : Thread nD τ).loc main_v4_1) = GV m c
      ∧ r.2.mem ((c.tc : Thread nD τ).loc main_v4_2) = GK m c
      ∧ r.2.mem ((c.tc : Thread nD τ).loc main_v4_3) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final5 m c), ((h.1 c).1 6).trans (final6 m c), ((h.1 c).1 7).trans (final7 m c), ((h.1 c).1 8).trans (final8 m c), h.2 c⟩) (θ_run_and (run_main m ρ) (unchanged m ρ))

end Cert.Kernel3Ideal.Hand

end
-- ==== Proof.R3Val.lean ====
/-
  The memory's keys and values in the reference at a place, which are the formulas the kernel's result arrays have.
-/
module

public import proofs.«01_k».proof.Proof.F3Val
public import proofs.«01_k».proof.Proof.Gen.Reference3Ideal.Read

@[expose] public section

set_option maxRecDepth 16384

noncomputable section

namespace Cert.Reference3Ideal.Hand

open Cert.Reference3Ideal Cert.Reference3Ideal.Read
open Idealize.ShloMosaic Idealize.ShloMosaic.Tactic
open Cert.Rows
open Cert.Kernel3Ideal.Hand (xn keyAt valAt)

variable (x0 : FVec Ideal S256x1024 .f32) (x1 : FVec Ideal S1024 .f32) (x2 x3 : FVec Ideal S1024x1024 .f32) (x4 : FVec Ideal S256 .f32)

/-- The reference's normalised rows. -/
theorem normed_at (r : Fin 256) (k : Fin 1024) : val_main_v12 (F := Ideal) x0 x1 (ix2 r k) = xn x0 x1 r k := by
  unfold xn rms
  pointwise [val_main_v12, val_main_v11, val_main_v10, val_main_v9, val_main_v8, val_main_v7, val_main_v6, val_main_v5, val_main_v4, val_main_v3, val_main_v2, val_main_v1,
    val_main_v0, val_main_cst, val_main_cst_0, val_main_cst_1]

/-- The rows through the first weight. -/
theorem key_lin (r : Fin 256) (j : Fin 1024) : val_main_v13 (F := Ideal) x0 x1 x2 (ix2 r j) = proj (xn x0 x1 r) (fun k j => x2 (ix2 k j)) j := by
  have e : val_main_v13 (F := Ideal) x0 x1 x2 (ix2 r j) = (∑ k, val_main_v12 (F := Ideal) x0 x1 (ix2 r k) * x2 (ix2 k j) : EReal) := by
    generalize hx : val_main_v12 (F := Ideal) x0 x1 = xn
    pointwise [val_main_v13, hx]
  rw [e]
  simp only [normed_at]
  rfl

/-- The rows through the second weight. -/
theorem val_lin (r : Fin 256) (j : Fin 1024) : val_main_v29 (F := Ideal) x0 x1 x3 (ix2 r j) = valAt x0 x1 x3 r j := by
  have e : val_main_v29 (F := Ideal) x0 x1 x3 (ix2 r j) = (∑ k, val_main_v12 (F := Ideal) x0 x1 (ix2 r k) * x3 (ix2 k j) : EReal) := by
    generalize hx : val_main_v12 (F := Ideal) x0 x1 = xn
    pointwise [val_main_v29, hx]
  rw [e]
  simp only [normed_at]
  rfl

/-- The columns split into heads. -/
theorem split_at (r : Fin 256) (h : Fin 4) (e : Fin 256) : val_main_v14 (F := Ideal) x0 x1 x2 (ix3 r h e) = val_main_v13 (F := Ideal) x0 x1 x2 (ix2 r (col h e)) := by
  rw [val_main_v14_apply]
  refine congrArg _ (funext fun a => Fin.ext ?_)
  have hr := r.isLt
  match a with
  | ⟨0, _⟩ => show ((r.val * 4 + h.val) * 256 + e.val) / 1024 = r.val; omega
  | ⟨1, _⟩ => show ((r.val * 4 + h.val) * 256 + e.val) % 1024 = 256 * h.val + e.val; omega

/-- The heads normalised. -/
theorem head_at (r : Fin 256) (h : Fin 4) (e : Fin 256) : val_main_v27 (F := Ideal) x0 x1 x2 x4 (ix3 r h e) = keyAt x0 x1 x2 x4 r h e := by
  have e1 : val_main_v27 (F := Ideal) x0 x1 x2 x4 (ix3 r h e) = (val_main_v14 (F := Ideal) x0 x1 x2 (ix3 r h e)
      * Ideal.rsqrt (Ideal.div (∑ l, val_main_v14 (F := Ideal) x0 x1 x2 (ix3 r h l) * val_main_v14 (F := Ideal) x0 x1 x2 (ix3 r h l)) c256 + ceps) * x4 (ix1 e) : EReal) := by
    generalize hx : val_main_v14 (F := Ideal) x0 x1 x2 = y
    pointwise [val_main_v27, val_main_v26, val_main_v25, val_main_v24, val_main_v23, val_main_v22, val_main_v21, val_main_v20, val_main_v19, val_main_v18, val_main_v17,
      val_main_v16, val_main_v15, val_main_cst_2, val_main_cst_3, val_main_cst_4, hx]
  rw [e1]
  simp only [split_at, key_lin]
  rfl

/-- The keys. -/
theorem key_at (r : Fin 256) (h : Fin 4) (e : Fin 256) : val_main_v28 (F := Ideal) x0 x1 x2 x4 (ix2 r (col h e)) = keyAt x0 x1 x2 x4 r h e := by
  rw [val_main_v28_apply]
  refine (congrArg _ (funext fun a => Fin.ext ?_)).trans (head_at x0 x1 x2 x4 r h e)
  match a with
  | ⟨0, _⟩ => show (r.val * 1024 + (256 * h.val + e.val)) / 1024 = r.val; omega
  | ⟨1, _⟩ => show (r.val * 1024 + (256 * h.val + e.val)) / 256 % 4 = h.val; omega
  | ⟨2, _⟩ => show (r.val * 1024 + (256 * h.val + e.val)) % 256 = e.val; omega

end Cert.Reference3Ideal.Hand

end
-- ==== Proof.V3.lean ====
/-
  The memory's keys and values: the reference's frame, and the kernel and the reference ending with the same four results.
-/
module

public import proofs.«01_k».proof.Defs
public import proofs.«01_k».proof.Proof.R3Val
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem
open Cert.Kernel3Ideal.Hand (GK GV X0 X1 X2 X3 X4)

/-- Every run of the memory's reference ends with its arguments unchanged and every semaphore counter at zero. -/
theorem frame_r3 : Cert.quiescent_Reference3Ideal := by
  intro m ρ _
  exact (θ_run Cert.Reference3Ideal.defs _ _).mono (fun r h => ⟨fun c => (h c).2.2.2.2, sem_eq_zero_of_no_sems (by decide) r.2⟩)
    (Cert.Reference3Ideal.Value.run m ρ)

variable (m : (ℓ : Loc Cert.Kernel3Ideal.nD Cert.Kernel3Ideal.τ Cert.Kernel3Ideal.sig) → Buf (Elt Ideal) ℓ) (c : Dev Cert.Kernel3Ideal.nD)

/-- The reference's keys are the kernel's. -/
theorem reference_key3 : Cert.Reference3Ideal.Read.val_main_v28 (F := Ideal) (X0 m c) (X1 m c) (X2 m c) (X4 m c) = GK m c := by
  funext j
  obtain ⟨r, k, rfl⟩ : ∃ (r : Fin 256) (k : Fin 1024), j = ix2 r k := ⟨j 0, j 1, by funext a; fin_cases a <;> rfl⟩
  obtain ⟨h, e, rfl⟩ : ∃ h e, k = Cert.Rows.col h e := ⟨_, _, Cert.Rows.col_surj k⟩
  rw [Cert.Kernel3Ideal.Hand.GK_at]
  exact Cert.Reference3Ideal.Hand.key_at _ _ _ _ r h e

/-- The reference's values are the kernel's. -/
theorem reference_val3 : Cert.Reference3Ideal.Read.val_main_v29 (F := Ideal) (X0 m c) (X1 m c) (X3 m c) = GV m c := by
  funext j
  obtain ⟨r, k, rfl⟩ : ∃ (r : Fin 256) (k : Fin 1024), j = ix2 r k := ⟨j 0, j 1, by funext a; fin_cases a <;> rfl⟩
  exact Cert.Reference3Ideal.Hand.val_lin _ _ _ r k

/-- With real numbers for floats, the memory's kernel and its reference end with the same keys and values, whatever the arguments, and leave them as they were. -/
theorem value3 : Cert.algebraic_Kernel3Ideal_Reference3Ideal := by
  intro m g m' g' _ ha
  refine ⟨fun c => GK m c, fun c => GV m c, fun c => GK m c, fun c => GV m c, Cert.Kernel3Ideal.Hand.value_k m g, ?_⟩
  refine (θ_run Cert.Reference3Ideal.defs _ _).mono (fun r h c => ?_) (Cert.Reference3Ideal.Value.run m' g')
  obtain ⟨h0, h1, h2, h3, h4⟩ := h c
  obtain ⟨a0, a1, a2, a3, a4⟩ := ha c
  refine ⟨h0.trans ?_, h1.trans ?_, h2.trans ?_, h3.trans ?_, h4⟩
  · rw [Cert.Reference3Ideal.Read.val_main_v28_eq, a0, a1, a2, a4]
    exact reference_key3 m c
  · rw [Cert.Reference3Ideal.Read.val_main_v29_eq, a0, a1, a3]
    exact reference_val3 m c
  · rw [Cert.Reference3Ideal.Read.val_main_v30_eq, a0, a1, a2, a4]
    exact reference_key3 m c
  · rw [Cert.Reference3Ideal.Read.val_main_v31_eq, a0, a1, a3]
    exact reference_val3 m c

end Cert.Proof

end
-- ==== Proof.Attend.lean ====
/-
  The attention of a row's four heads over the memory's 256 rows, and the residual row it is added to.
-/
module

public import proofs.«01_k».proof.Proof.Rows

@[expose] public section

noncomputable section

namespace Cert.Rows

open Idealize.ShloMosaic

/-- The factor of a score: one over the root of the head's width. -/
abbrev c16 : EReal := Ideal.ofBits .f32 1031798784#32
/-- What a maximum starts from. -/
abbrev cninf : EReal := Ideal.ofBits .f32 4286578688#32

/-- The largest score. -/
def top (s : Fin 256 → EReal) : EReal := (Finset.univ : Finset (Fin 256)).fold max cninf s

/-- The mean of values weighted by the exponentials of the scores. -/
def softAt (s v : Fin 256 → EReal) : EReal := Ideal.div (∑ m, Ideal.exp (s m - top s) * v m) (∑ m, Ideal.exp (s m - top s))

/-- The scaled score of a head against the memory's rows. -/
def scoreAt (q : Fin 256 → EReal) (k : Fin 256 → Fin 256 → EReal) (m : Fin 256) : EReal := (∑ e, q e * k m e) * c16

/-- A head's attention over the memory. -/
def headOut (q : Fin 1024 → EReal) (g : Fin 256 → EReal) (mk mv : Fin 256 → Fin 1024 → EReal) (h : Fin 4) (e : Fin 256) : EReal :=
  softAt (scoreAt (headRms q g h) fun m e => mk m (col h e)) fun m => mv m (col h e)

/-- A residual row with the memory's attention added. -/
def mixAt (h1 gain : Fin 1024 → EReal) (wq : Fin 1024 → Fin 1024 → EReal) (gq : Fin 256 → EReal) (mk mv : Fin 256 → Fin 1024 → EReal)
    (wo : Fin 1024 → Fin 1024 → EReal) (d : Fin 1024) : EReal :=
  h1 d + ∑ h : Fin 4, ∑ e : Fin 256, headOut (proj (rms c1024 h1 gain) wq) gq mk mv h e * wo (col h e) d

end Cert.Rows

end
-- ==== Proof.RSoft.lean ====
/-
  A softmax over the own block and three chosen blocks, taken with exponentials and a division per weight, is the attention in powers of two.
-/
module

public import proofs.«01_k».proof.Proof.Spec

@[expose] public section

noncomputable section

namespace Cert.Moba
open Idealize.ShloMosaic

theorem exp_real (x : ℝ) : Ideal.exp (x : EReal) = ((Real.exp x : ℝ) : EReal) := rfl
theorem exp_bot : Ideal.exp ⊥ = 0 := rfl

/-- A weight in base `e` is a weight in base two of the exponent over `ln 2`. -/
theorem exp_w2 (x μ : ℝ) : Ideal.exp (((x * Real.log 2 : ℝ) : EReal) - (μ : EReal)) = w2 (x - μ / Real.log 2) := by
  rw [← EReal.coe_sub, exp_real, w2]
  congr 1
  rw [Real.rpow_eq_pow, Real.rpow_def_of_pos two_pos]
  congr 1
  have : Real.log 2 ≠ 0 := (Real.log_pos (by norm_num)).ne'
  field_simp

theorem bot_sub (μ : ℝ) : (⊥ : EReal) - (μ : EReal) = ⊥ := by
  rw [sub_eq_add_neg]; exact EReal.bot_add _

/-- Dividing every weight by a positive real is dividing the weighted sum by it. -/
theorem div_sum {ι : Type*} (S : Finset ι) (L : ℝ) (hL : 0 < L) (e v : ι → EReal) :
    ∑ k ∈ S, Ideal.div (e k) (L : EReal) * v k = Ideal.div (∑ k ∈ S, v k * e k) (L : EReal) := by
  have h0 : (0 : EReal) ≤ ((1 / L : ℝ) : EReal) := EReal.coe_nonneg.2 (by positivity)
  rw [Ideal.div_coe hL.ne', mul_comm (∑ k ∈ S, v k * e k), mul_sum_of_nonneg S _ h0 (EReal.coe_ne_top _)]
  refine Finset.sum_congr rfl fun k _ => ?_
  rw [Ideal.div_coe hL.ne', mul_comm (e k), mul_assoc, mul_comm (e k)]

theorem coe_sumS {ι : Type*} (S : Finset ι) (f : ι → ℝ) : ∑ k ∈ S, (f k : EReal) = ((∑ k ∈ S, f k : ℝ) : EReal) := by
  classical
  induction S using Finset.induction_on with
  | empty => simp
  | insert a S ha ih => rw [Finset.sum_insert ha, Finset.sum_insert ha, ih, EReal.coe_add]

/-- The accumulator of the ones is a positive real number. -/
theorem acc_one_pos (s : ℕ → Fin 256 → ℝ) (P : ℕ → Prop) [DecidablePred P] (i : ℕ) (c : Fin 256) (μ : ℝ) (j : ℕ) :
    ∃ L : ℝ, 0 < L ∧ acc s (fun _ _ => 1) P i c μ j = (L : EReal) := by
  have h2 : ∀ x : ℝ, 0 < Real.rpow 2 x := fun x => Real.rpow_pos_of_pos two_pos x
  refine ⟨(∑ r : Fin 256, if r ≤ c then Real.rpow 2 (s i r - μ) else 0) + ∑ n ∈ Finset.range j, if P n then ∑ r : Fin 256, Real.rpow 2 (s n r - μ) else 0, ?_, ?_⟩
  · refine add_pos_of_pos_of_nonneg (Finset.sum_pos' (fun r _ => ?_) ⟨c, Finset.mem_univ _, ?_⟩) (Finset.sum_nonneg fun n _ => ?_)
    · split_ifs; exacts [(h2 _).le, le_rfl]
    · rw [if_pos le_rfl]; exact h2 _
    · split_ifs; exacts [Finset.sum_nonneg fun r _ => (h2 _).le, le_rfl]
  · unfold acc own past
    rw [EReal.coe_add, ← coe_sumS, ← coe_sumS]
    congr 1
    · refine Finset.sum_congr rfl fun r _ => ?_
      rw [one_mul]; split_ifs <;> rfl
    · refine Finset.sum_congr rfl fun n _ => ?_
      split_ifs
      · rw [← coe_sumS]; exact Finset.sum_congr rfl fun r _ => one_mul _
      · rfl

section Soft

variable (i : ℕ) (c : Fin 256) (s : ℕ → Fin 256 → ℝ) (v : ℕ → Fin 256 → EReal) (P : ℕ → Prop) [DecidablePred P]
  (b : Fin 3 → ℕ) (hb : Function.Injective b) (hP : ∀ n, P n ↔ n < i ∧ ∃ j, b j = n)
include hb hP

/-- A sum over the chosen blocks before `i` is a sum over the picked blocks. -/
theorem sum_picks (F : ℕ → EReal) : ∑ j : Fin 3, (if b j < i then F (b j) else 0) = ∑ n ∈ Finset.range i, (if P n then F n else 0) := by
  classical
  rw [← Finset.sum_filter, ← Finset.sum_filter]
  refine Finset.sum_bij (fun j _ => b j) ?_ ?_ ?_ ?_
  · intro j hj
    have h := (Finset.mem_filter.1 hj).2
    exact Finset.mem_filter.2 ⟨Finset.mem_range.2 h, (hP _).2 ⟨h, j, rfl⟩⟩
  · intro j _ j' _ h; exact hb h
  · intro n hn
    obtain ⟨h, j, rfl⟩ := (hP n).1 (Finset.mem_filter.1 hn).2
    exact ⟨j, Finset.mem_filter.2 ⟨Finset.mem_univ _, h⟩, rfl⟩
  · intro j _; rfl

/-- The exponentials' sum, weighted by anything, is the accumulator over the picked blocks. -/
theorem sum_exp (z V : Fin 4 → Fin 256 → EReal) (μ : ℝ)
    (hz : ∀ (j : Fin 3) r, z j.castSucc r = if b j < i then ((s (b j) r * Real.log 2 : ℝ) : EReal) else ⊥)
    (hz3 : ∀ r, z 3 r = if r ≤ c then ((s i r * Real.log 2 : ℝ) : EReal) else ⊥)
    (hV : ∀ (j : Fin 3) r, b j < i → V j.castSucc r = v (b j) r) (hV3 : ∀ r, V 3 r = v i r) :
    ∑ j : Fin 4, ∑ r : Fin 256, V j r * Ideal.exp (z j r - (μ : EReal)) = acc s v P i c (μ / Real.log 2) i := by
  rw [Fin.sum_univ_castSucc, acc, add_comm]
  congr 1
  · unfold own
    refine Finset.sum_congr rfl fun r _ => ?_
    show V 3 r * Ideal.exp (z 3 r - (μ : EReal)) = _
    rw [hz3, hV3]
    split_ifs
    · rw [exp_w2]
    · rw [bot_sub, exp_bot]
  · rw [show (fun n => past s v P (μ / Real.log 2) n) = fun n => if P n then ∑ r : Fin 256, v n r * w2 (s n r - μ / Real.log 2) else 0 from rfl]
    rw [← sum_picks i P b hb hP]
    refine Finset.sum_congr rfl fun j _ => ?_
    by_cases h : b j < i
    · rw [if_pos h]
      refine Finset.sum_congr rfl fun r _ => ?_
      rw [hz, if_pos h, hV j r h, exp_w2]
    · rw [if_neg h]
      refine Finset.sum_eq_zero fun r _ => ?_
      rw [hz, if_neg h, bot_sub, exp_bot, mul_zero]

theorem soft_eq (z V : Fin 4 → Fin 256 → EReal) (μ : ℝ)
    (hz : ∀ (j : Fin 3) r, z j.castSucc r = if b j < i then ((s (b j) r * Real.log 2 : ℝ) : EReal) else ⊥)
    (hz3 : ∀ r, z 3 r = if r ≤ c then ((s i r * Real.log 2 : ℝ) : EReal) else ⊥)
    (hV : ∀ (j : Fin 3) r, b j < i → V j.castSucc r = v (b j) r) (hV3 : ∀ r, V 3 r = v i r) :
    ∑ j : Fin 4, ∑ r : Fin 256, Ideal.div (Ideal.exp (z j r - (μ : EReal))) (∑ j : Fin 4, ∑ r : Fin 256, Ideal.exp (z j r - (μ : EReal))) * V j r
      = attend s v P i c := by
  have hL : ∑ j : Fin 4, ∑ r : Fin 256, Ideal.exp (z j r - (μ : EReal)) = acc s (fun _ _ => 1) P i c (μ / Real.log 2) i := by
    rw [← sum_exp i c s (fun _ _ => 1) P b hb hP z (fun _ _ => 1) μ hz hz3 (fun _ _ _ => rfl) (fun _ => rfl)]
    simp only [one_mul]
  obtain ⟨L, hL0, e⟩ := acc_one_pos s P i c (μ / Real.log 2) i
  rw [hL, e]
  simp only [← Finset.univ_product_univ, ← Finset.sum_product']
  rw [div_sum _ L hL0 (fun k : Fin 4 × Fin 256 => Ideal.exp (z k.1 k.2 - (μ : EReal))) (fun k => V k.1 k.2), Finset.sum_product, ← e,
    sum_exp i c s v P b hb hP z V μ hz hz3 hV hV3]
  exact div_acc s v i c (fun n h => ((hP n).1 h).1) _ _ le_rfl

end Soft

end Cert.Moba
end
-- ==== Proof.Finite.lean ====
/-
  Where every number is real: the normalised rows and the scores are real, and then dividing each weight by the weights' sum before
  the weighted mean is dividing the weighted mean by it.
-/
module

public import proofs.«01_k».proof.Proof.Attend
public import proofs.«01_k».proof.Proof.RSoft

@[expose] public section

noncomputable section

namespace Cert.Rows

open Idealize.ShloMosaic

/-- A real number among the extended ones. -/
def IsReal (x : EReal) : Prop := ∃ a : ℝ, x = (a : EReal)

theorem isReal_of_ne {x : EReal} (h : x ≠ ⊤ ∧ x ≠ ⊥) : IsReal x := ⟨x.toReal, (EReal.coe_toReal h.1 h.2).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (S : Finset ι) {f : ι → EReal} (h : ∀ i, IsReal (f i)) : IsReal (∑ i ∈ S, f i) := by
  choose a ha using h
  exact ⟨∑ i ∈ S, a i, by rw [← Cert.Moba.coe_sumS]; exact Finset.sum_congr rfl fun i _ => ha i⟩

theorem c1024_eq : c1024 = ((1024 : ℝ) : EReal) := by
  simp [Ideal.ofBits, Ideal.ieee]; rw [← EReal.coe_mul]; norm_num
theorem c256_eq : c256 = ((256 : ℝ) : EReal) := by
  simp [Ideal.ofBits, Ideal.ieee]; rw [← EReal.coe_mul]; norm_num
theorem c16_eq : c16 = ((1 / 16 : ℝ) : EReal) := by
  simp [Ideal.ofBits, Ideal.ieee]; rw [← EReal.coe_mul]; norm_num
theorem ceps_eq : ceps = ((8796093 / 8796093022208 : ℝ) : EReal) := by
  simp [Ideal.ofBits, Ideal.ieee]; rw [← EReal.coe_mul]; norm_num
theorem cninf_eq : cninf = ⊥ := by simp [Ideal.ofBits, Ideal.ieee]

/-- A normalised row of reals is real: its mean square with the small number added is positive. -/
theorem rms_real {n : ℕ} {c : EReal} {C : ℝ} (hc : c = (C : EReal)) (hC : 0 < C) {x g : Fin n → EReal} (hx : ∀ l, IsReal (x l)) (hg : ∀ l, IsReal (g l)) (k : Fin n) :
    IsReal (rms c x g k) := by
  refine ((hx k).mul ?_).mul (hg k)
  choose a ha using hx
  have e : ∑ l, x l * x l = ((∑ l, a l * a l : ℝ) : EReal) := by
    rw [← Cert.Moba.coe_sumS]
    exact Finset.sum_congr rfl fun l _ => by rw [ha l, EReal.coe_mul]
  have h0 : 0 ≤ (∑ l, a l * a l) * (1 / C) := mul_nonneg (Finset.sum_nonneg fun l _ => mul_self_nonneg _) (by positivity)
  rw [e, hc, Ideal.div_coe hC.ne', ceps_eq, ← EReal.coe_mul, ← EReal.coe_add, Ideal.rsqrt_coe, if_neg (by linarith), if_neg (by linarith)]
  exact ⟨_, rfl⟩

theorem proj_real {n p : ℕ} {x : Fin n → EReal} {w : Fin n → Fin p → EReal} (hx : ∀ l, IsReal (x l)) (hw : ∀ l j, IsReal (w l j)) (j : Fin p) : IsReal (proj x w j) :=
  IsReal.sum _ fun k => (hx k).mul (hw k j)

theorem score_real {q : Fin 256 → EReal} {k : Fin 256 → Fin 256 → EReal} (hq : ∀ e, IsReal (q e)) (hk : ∀ m e, IsReal (k m e)) (m : Fin 256) : IsReal (scoreAt q k m) :=
  (IsReal.sum _ fun e => (hq e).mul (hk m e)).mul ⟨_, c16_eq⟩

/-- With real scores, the weighted mean may be taken with the weights divided first. -/
theorem soft_div_first (s v : Fin 256 → EReal) (hs : ∀ m, IsReal (s m)) :
    ∑ m, v m * Ideal.div (Ideal.exp (s m - top s)) (∑ m, Ideal.exp (s m - top s)) = softAt s v := by
  choose a ha using hs
  obtain ⟨μ, hμ⟩ : ∃ μ : ℝ, top s = (μ : EReal) := by
    unfold top
    rw [cninf_eq]
    exact Cert.Moba.fold_max_real s a ha
  have e : ∀ m, Ideal.exp (s m - top s) = ((Real.exp (a m - μ) : ℝ) : EReal) := fun m => by rw [ha, hμ, ← EReal.coe_sub, Ideal.exp_coe]
  unfold softAt
  simp only [e]
  rw [Cert.Moba.coe_sumS]
  have hL : 0 < ∑ m : Fin 256, Real.exp (a m - μ) := Finset.sum_pos (fun m _ => Real.exp_pos _) ⟨0, Finset.mem_univ _⟩
  have d := Cert.Moba.div_sum Finset.univ _ hL (fun m : Fin 256 => ((Real.exp (a m - μ) : ℝ) : EReal)) v
  simp only [mul_comm] at d ⊢
  exact d

end Cert.Rows

end
-- ==== Proof.Halves.lean ====
/-
  The two halves of 1024 columns.
-/
module

public import proofs.«01_k».proof.Proof.Rows

@[expose] public section

noncomputable section

namespace Cert.Rows

/-- A column of the first half. -/
abbrev lo (k : Fin 512) : Fin 1024 := ⟨k.val, by omega⟩
/-- A column of the second half. -/
abbrev hi (k : Fin 512) : Fin 1024 := ⟨512 + k.val, by omega⟩

/-- A sum over the columns is the sum over the halves. -/
theorem sum_halves (f : Fin 1024 → EReal) : ∑ k, f k = ∑ k, f (lo k) + ∑ k, f (hi k) :=
  (Fin.sum_univ_add (a := 512) (b := 512) f)

end Cert.Rows

end
-- ==== Proof.F4Pay.lean ====
/-
  The call that ends an even layer's mixing, over the prompt's rows: its result at a row is the residual row plus the attention's and the
  convolution's rows through the two halves of a weight, and to that the attention over the memory is added.
-/
module

public import proofs.«01_k».proof.Proof.Attend
public import proofs.«01_k».proof.Proof.Halves
public import proofs.«01_k».proof.Proof.Gen.Kernel4Ideal.Frame
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic Idealize.SL.Sem
open Cert.Rows

/-! ## What the body computes, at a place -/

theorem pay1_at (y : FVec Ideal S1024x1024 .f32) (c wo : FVec Ideal S1024x1024 .bf16) (r d : Fin 1024) :
    k0_pay1 (F := Ideal) y c wo (ix2 r d) = y (ix2 r d) + ∑ k, c (ix2 r k) * wo (ix2 k d) := by
  pointwise [k0_pay1]

theorem pay2_at (x : FVec Ideal S1024x1024 .f32) (a : FVec Ideal S1024x512 .bf16) (w : FVec Ideal S512x1024 .bf16) (b : FVec Ideal S1024x512 .bf16) (u : FVec Ideal S512x1024 .bf16) (r d : Fin 1024) :
    k0_pay2 (F := Ideal) x a w b u (ix2 r d) = x (ix2 r d) + (∑ k : Fin 512, a (ix2 r k) * w (ix2 k d)) + ∑ k : Fin 512, b (ix2 r k) * u (ix2 k d) := by
  pointwise [k0_pay2]

/-- The queries before a head's normalisation. -/
theorem pay3_at (x : FVec Ideal S1024x1024 .f32) (a : FVec Ideal S1024x512 .bf16) (w : FVec Ideal S512x1024 .bf16) (b : FVec Ideal S1024x512 .bf16) (u : FVec Ideal S512x1024 .bf16) (g : FVec Ideal S1x1024 .f32) (wq : FVec Ideal S1024x1024 .bf16) (r j : Fin 1024) :
    k0_pay3 (F := Ideal) x a w b u g wq (ix2 r j)
      = proj (rms c1024 (fun d => k0_pay2 (F := Ideal) x a w b u (ix2 r d)) fun d => g (ix2 0 d)) (fun k j => wq (ix2 k j)) j := by
  unfold proj rms k0_pay3
  generalize k0_pay2 (F := Ideal) x a w b u = y
  pointwise

/-- The first head's attention. -/
theorem pay7_at (x : FVec Ideal S1024x1024 .f32) (a : FVec Ideal S1024x512 .bf16) (w : FVec Ideal S512x1024 .bf16) (b : FVec Ideal S1024x512 .bf16) (u : FVec Ideal S512x1024 .bf16) (g : FVec Ideal S1x1024 .f32) (wq : FVec Ideal S1024x1024 .bf16) (gq : FVec Ideal S1x256 .f32)
    (k v : FVec Ideal S256x256 .bf16) (r : Fin 1024) (e : Fin 256) :
    k0_pay7 (F := Ideal) (k0_pay4 x a w b u g wq) (k0_pay5 gq) (k0_pay6 x a w b u g wq) (Scalar.ofBits .f32 0x43800000#32) k v (ix2 r e)
      = softAt (scoreAt (headRms (fun j => k0_pay3 (F := Ideal) x a w b u g wq (ix2 r j)) (fun e => gq (ix2 0 e)) 0) fun m e => k (ix2 m e)) fun m => v (ix2 m e) := by
  unfold k0_pay6 k0_pay4
  generalize k0_pay3 (F := Ideal) x a w b u g wq = q
  unfold softAt top scoreAt headRms rms
  simp only [col_zero]
  pointwise [k0_pay7, k0_pay5]

/-- The second head's queries, normalised. -/
theorem pay8_at (q : FVec Ideal S1024x1024 .f32) (g : FVec Ideal S1x256 .f32) (r : Fin 1024) (e : Fin 256) :
    k0_pay8 (F := Ideal) q g (ix2 r e) = headRms (fun j => q (ix2 r j)) (fun e => g (ix2 0 e)) 1 e := by
  unfold headRms rms
  pointwise [k0_pay8]
  rfl

/-- A head's attention from its normalised queries. -/
theorem pay9_at (q : FVec Ideal S1024x256 .bf16) (k v : FVec Ideal S256x256 .bf16) (r : Fin 1024) (e : Fin 256) :
    k0_pay9 (F := Ideal) q k v (ix2 r e) = softAt (scoreAt (fun e => q (ix2 r e)) fun m e => k (ix2 m e)) fun m => v (ix2 m e) := by
  unfold softAt top scoreAt
  pointwise [k0_pay9]

/-- The third head's weights. -/
theorem pay10_at (q : FVec Ideal S1024x1024 .f32) (g : FVec Ideal S1x256 .f32) (k : FVec Ideal S256x256 .bf16) (r : Fin 1024) (m : Fin 256) :
    k0_pay10 (F := Ideal) q g k (ix2 r m)
      = Ideal.exp (scoreAt (headRms (fun j => q (ix2 r j)) (fun e => g (ix2 0 e)) 2) (fun m e => k (ix2 m e)) m
        - top (scoreAt (headRms (fun j => q (ix2 r j)) (fun e => g (ix2 0 e)) 2) fun m e => k (ix2 m e))) := by
  unfold top scoreAt headRms rms
  pointwise [k0_pay10]
  rfl

theorem pay11_at (q : FVec Ideal S1024x1024 .f32) (g : FVec Ideal S1x256 .f32) (k : FVec Ideal S256x256 .bf16) (r : Fin 1024) (m : Fin 256) :
    k0_pay11 (F := Ideal) q g k (ix2 r m) = k0_pay10 (F := Ideal) q g k (ix2 r m) := by
  unfold k0_pay11
  generalize k0_pay10 (F := Ideal) q g k = y
  pointwise

set_option maxHeartbeats 4000000 in
/-- The heads side by side, through the last weight, over the residual row. -/
theorem pay12_at (y q : FVec Ideal S1024x1024 .f32) (a b : FVec Ideal S1024x256 .bf16) (p : FVec Ideal S1024x256 .f32) (p' : FVec Ideal S1024x256 .bf16)
    (v2 : FVec Ideal S256x256 .bf16) (g : FVec Ideal S1x256 .f32) (k v : FVec Ideal S256x256 .bf16) (wo : FVec Ideal S1024x1024 .bf16) (r d : Fin 1024) :
    k0_pay1 (F := Ideal) y (k0_pay12 q a b p p' v2 g k v) wo (ix2 r d) = y (ix2 r d)
      + (∑ e, a (ix2 r e) * wo (ix2 (col 0 e) d) + ∑ e, b (ix2 r e) * wo (ix2 (col 1 e) d)
        + ∑ e, Ideal.div (∑ m, p' (ix2 r m) * v2 (ix2 m e)) (∑ m, p (ix2 r m)) * wo (ix2 (col 2 e) d)
        + ∑ e, softAt (scoreAt (headRms (fun j => q (ix2 r j)) (fun e => g (ix2 0 e)) 3) fun m e => k (ix2 m e)) (fun m => v (ix2 m e)) * wo (ix2 (col 3 e) d)) := by
  unfold softAt top scoreAt headRms rms
  pointwise [k0_pay1, k0_pay12]
  rw [sum_cols, Fin.sum_univ_four]
  refine congrArg (y (ix2 r d) + ·) (congrArg₂ (· + ·) (congrArg₂ (· + ·) (congrArg₂ (· + ·) ?_ ?_) ?_) ?_) <;> refine Finset.sum_congr rfl fun e _ => congrArg (· * _) ?_
  · rw [dif_pos (by show 256 * 0 + e.val < 256; omega)]
    exact congrArg (fun z => a (ix2 r z)) (Fin.ext (by show 256 * 0 + e.val = e.val; omega))
  · rw [dif_neg (by show ¬ 256 * 1 + e.val < 256; omega), dif_pos (by show 256 * 1 + e.val - 256 < 256; omega)]
    exact congrArg (fun z => b (ix2 r z)) (Fin.ext (by show 256 * 1 + e.val - 256 = e.val; omega))
  · rw [dif_neg (by show ¬ 256 * 2 + e.val < 256; omega), dif_neg (by show ¬ 256 * 2 + e.val - 256 < 256; omega), dif_pos (by show 256 * 2 + e.val - 256 - 256 < 256; omega)]
    have ez : (⟨256 * 2 + e.val - 256 - 256, by omega⟩ : Fin 256) = e := Fin.ext (by show 256 * 2 + e.val - 256 - 256 = e.val; omega)
    show Ideal.div (∑ m, _ * v2 (ix2 m (⟨256 * 2 + e.val - 256 - 256, _⟩ : Fin 256))) _ = _
    rw [ez]
  · rw [dif_neg (by show ¬ 256 * 3 + e.val < 256; omega), dif_neg (by show ¬ 256 * 3 + e.val - 256 < 256; omega), dif_neg (by show ¬ 256 * 3 + e.val - 256 - 256 < 256; omega)]
    have ez : (⟨256 * 3 + e.val - 256 - 256 - 256, by omega⟩ : Fin 256) = e := Fin.ext (by show 256 * 3 + e.val - 256 - 256 - 256 = e.val; omega)
    show Ideal.div (∑ m, _ * v (ix2 m (⟨256 * 3 + e.val - 256 - 256 - 256, _⟩ : Fin 256))) _ = _
    rw [ez]
    rfl

/-- A head's columns of a memory array. -/
theorem ld5_at (x : Vec Ideal S256x1024 .bf16) (n e : Fin 256) : View.ld x r0_5 (ix2 n e) = x (ix2 n (col 0 e)) := by
  refine (View.ld_apply _ _ _).trans (congrArg x (funext fun a => Fin.ext ?_))
  match a with
  | ⟨0, _⟩ => show 0 + 1 * n.val = n.val; omega
  | ⟨1, _⟩ => show 0 + 1 * e.val = 256 * 0 + e.val; omega
/-- A head's columns of a memory array. -/
theorem ld6_at (x : Vec Ideal S256x1024 .bf16) (n e : Fin 256) : View.ld x r0_6 (ix2 n e) = x (ix2 n (col 1 e)) := by
  refine (View.ld_apply _ _ _).trans (congrArg x (funext fun a => Fin.ext ?_))
  match a with
  | ⟨0, _⟩ => show 0 + 1 * n.val = n.val; omega
  | ⟨1, _⟩ => show 256 + 1 * e.val = 256 * 1 + e.val; omega
/-- A head's columns of a memory array. -/
theorem ld7_at (x : Vec Ideal S256x1024 .bf16) (n e : Fin 256) : View.ld x r0_7 (ix2 n e) = x (ix2 n (col 2 e)) := by
  refine (View.ld_apply _ _ _).trans (congrArg x (funext fun a => Fin.ext ?_))
  match a with
  | ⟨0, _⟩ => show 0 + 1 * n.val = n.val; omega
  | ⟨1, _⟩ => show 512 + 1 * e.val = 256 * 2 + e.val; omega
/-- A head's columns of a memory array. -/
theorem ld8_at (x : Vec Ideal S256x1024 .bf16) (n e : Fin 256) : View.ld x r0_8 (ix2 n e) = x (ix2 n (col 3 e)) := by
  refine (View.ld_apply _ _ _).trans (congrArg x (funext fun a => Fin.ext ?_))
  match a with
  | ⟨0, _⟩ => show 0 + 1 * n.val = n.val; omega
  | ⟨1, _⟩ => show 768 + 1 * e.val = 256 * 3 + e.val; omega

theorem pay13_eq (x : FVec Ideal S1024x1024 .f32) (a : FVec Ideal S1024x512 .bf16) (w : FVec Ideal S512x1024 .bf16) (b : FVec Ideal S1024x512 .bf16) (u : FVec Ideal S512x1024 .bf16) (g : FVec Ideal S1x1024 .f32) (wq : FVec Ideal S1024x1024 .bf16)
    (gq : FVec Ideal S1x256 .f32) (mk mv : Vec Ideal S256x1024 .bf16) (wo : FVec Ideal S1024x1024 .bf16) :
    k0_pay13 (F := Ideal) x a b w u g wq gq mk mv wo = k0_pay3 x a w b u g wq := by
  unfold k0_pay13
  simp (disch := decide) only [View.ld_unit_lit']

/-- What the body leaves in the output block, at a place. -/
theorem body_at (x : FVec Ideal S1024x1024 .f32) (a : FVec Ideal S1024x512 .bf16) (w : FVec Ideal S512x1024 .bf16) (b : FVec Ideal S1024x512 .bf16) (u : FVec Ideal S512x1024 .bf16) (g : FVec Ideal S1x1024 .f32) (wq : FVec Ideal S1024x1024 .bf16)
    (gq : FVec Ideal S1x256 .f32) (mk mv : Vec Ideal S256x1024 .bf16) (wo : FVec Ideal S1024x1024 .bf16)
    (k0 k1 k2 k3 v0 v1 v2 v3 : FVec Ideal S256x256 .bf16) (k0' : ∀ n e, k0 (ix2 n e) = mk (ix2 n (col 0 e))) (k1' : ∀ n e, k1 (ix2 n e) = mk (ix2 n (col 1 e))) (k2' : ∀ n e, k2 (ix2 n e) = mk (ix2 n (col 2 e))) (k3' : ∀ n e, k3 (ix2 n e) = mk (ix2 n (col 3 e))) (v0' : ∀ n e, v0 (ix2 n e) = mv (ix2 n (col 0 e))) (v1' : ∀ n e, v1 (ix2 n e) = mv (ix2 n (col 1 e))) (v2' : ∀ n e, v2 (ix2 n e) = mv (ix2 n (col 2 e))) (v3' : ∀ n e, v3 (ix2 n e) = mv (ix2 n (col 3 e))) (r d : Fin 1024) :
    k0_pay1 (F := Ideal) (k0_pay2 x a w b u) (k0_pay12 (k0_pay3 x a w b u g wq)
        (k0_pay7 (k0_pay4 x a w b u g wq) (k0_pay5 gq) (k0_pay6 x a w b u g wq) (Scalar.ofBits .f32 0x43800000#32) k0 v0)
        (k0_pay9 (k0_pay8 (k0_pay3 x a w b u g wq) gq) k1 v1)
        (k0_pay10 (k0_pay3 x a w b u g wq) gq k2) (k0_pay11 (k0_pay3 x a w b u g wq) gq k2) v2 gq k3 v3) wo (ix2 r d)
      = mixAt (fun d => k0_pay2 (F := Ideal) x a w b u (ix2 r d)) (fun d => g (ix2 0 d)) (fun k j => wq (ix2 k j)) (fun e => gq (ix2 0 e)) (fun n j => mk (ix2 n j))
          (fun n j => mv (ix2 n j)) (fun j d => wo (ix2 j d)) d := by
  rw [pay12_at]
  have q : (fun j => k0_pay3 (F := Ideal) x a w b u g wq (ix2 r j)) = _ := funext fun j => pay3_at x a w b u g wq r j
  unfold mixAt headOut
  rw [Fin.sum_univ_four]
  simp only [pay11_at, pay7_at, pay9_at, pay8_at, pay10_at]
  rw [q]
  simp only [k0', k1', k2', k3', v0', v1', v2', v3']
  rfl

end Cert.Kernel4Ideal.Hand

end
-- ==== Proof.F4Val.lean ====
/-
  The call that ends an even layer's mixing, block by block: the result array has at a row the formula's value.
-/
module

public import proofs.«01_k».proof.Proof.F4Pay
public import proofs.«01_k».proof.Proof.Halves
public import proofs.«01_k».proof.Proof.Gen.Kernel4Ideal.Frame
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic Idealize.SL.Sem
open Cert.Rows

variable (m : (ℓ : Loc nD τ sig) → Buf (Elt Ideal) ℓ) (c : Dev nD)

/-- Row `r` of row block `t`. -/
def row (t : Fin cfg0.N) (r : Fin 1024) : Fin 16384 := ⟨1024 * t.val + r.val, by have h := lt_of_lt_of_eq t.isLt N_0; omega⟩

/-! ## The blocks of the arrays -/

theorem idx0 : ∀ t : Fin grid0.N, win0_0.index t (0 : Fin 2) = t.val ∧ win0_0.index t (1 : Fin 2) = 0 := by decide +kernel
theorem emb0 (t : Fin cfg0.N) (r : Fin 1024) (k : Fin 1024) : ((cfg0.win 0).blk t).view.emb (ix2 r k) = (ix2 (row t r) k : S16384x1024.Idx) := by
  obtain ⟨e0, e1⟩ := idx0 t
  funext a; apply Fin.ext
  match a with
  | ⟨0, _⟩ => show win0_0.index t (0 : Fin 2) * 1024 + 1 * r.val = _; rw [e0]; show _ = 1024 * t.val + r.val; ring
  | ⟨1, _⟩ => show win0_0.index t (1 : Fin 2) * 1024 + 1 * k.val = _; rw [e1]; show _ = k.val; ring
theorem idx1 : ∀ t : Fin grid0.N, win0_1.index t (0 : Fin 2) = t.val ∧ win0_1.index t (1 : Fin 2) = 0 := by decide +kernel
theorem emb1 (t : Fin cfg0.N) (r : Fin 1024) (k : Fin 512) : ((cfg0.win 1).blk t).view.emb (ix2 r k) = (ix2 (row t r) k : S16384x512.Idx) := by
  obtain ⟨e0, e1⟩ := idx1 t
  funext a; apply Fin.ext
  match a with
  | ⟨0, _⟩ => show win0_1.index t (0 : Fin 2) * 1024 + 1 * r.val = _; rw [e0]; show _ = 1024 * t.val + r.val; ring
  | ⟨1, _⟩ => show win0_1.index t (1 : Fin 2) * 512 + 1 * k.val = _; rw [e1]; show _ = k.val; ring
theorem idx2 : ∀ t : Fin grid0.N, win0_2.index t (0 : Fin 2) = t.val ∧ win0_2.index t (1 : Fin 2) = 0 := by decide +kernel
theorem emb2 (t : Fin cfg0.N) (r : Fin 1024) (k : Fin 512) : ((cfg0.win 2).blk t).view.emb (ix2 r k) = (ix2 (row t r) k : S16384x512.Idx) := by
  obtain ⟨e0, e1⟩ := idx2 t
  funext a; apply Fin.ext
  match a with
  | ⟨0, _⟩ => show win0_2.index t (0 : Fin 2) * 1024 + 1 * r.val = _; rw [e0]; show _ = 1024 * t.val + r.val; ring
  | ⟨1, _⟩ => show win0_2.index t (1 : Fin 2) * 512 + 1 * k.val = _; rw [e1]; show _ = k.val; ring
theorem idx3 : ∀ t : Fin grid0.N, win0_3.index t (0 : Fin 2) = 0 ∧ win0_3.index t (1 : Fin 2) = 0 := by decide +kernel
theorem emb3 (t : Fin cfg0.N) (r : Fin 512) (k : Fin 1024) : ((cfg0.win 3).blk t).view.emb (ix2 r k) = (ix2 r k : S512x1024.Idx) := by
  obtain ⟨e0, e1⟩ := idx3 t
  funext a; apply Fin.ext
  match a with
  | ⟨0, _⟩ => show win0_3.index t (0 : Fin 2) * 512 + 1 * r.val = _; rw [e0]; show _ = r.val; ring
  | ⟨1, _⟩ => show win0_3.index t (1 : Fin 2) * 1024 + 1 * k.val = _; rw [e1]; show _ = k.val; ring
theorem idx4 : ∀ t : Fin grid0.N, win0_4.index t (0 : Fin 2) = 0 ∧ win0_4.index t (1 : Fin 2) = 0 := by decide +kernel
theorem emb4 (t : Fin cfg0.N) (r : Fin 512) (k : Fin 1024) : ((cfg0.win 4).blk t).view.emb (ix2 r k) = (ix2 r k : S512x1024.Idx) := by
  obtain ⟨e0, e1⟩ := idx4 t
  funext a; apply Fin.ext
  match a with
  | ⟨0, _⟩ => show win0_4.index t (0 : Fin 2) * 512 + 1 * r.val = _; rw [e0]; show _ = r.val; ring
  | ⟨1, _⟩ => show win0_4.index t (1 : Fin 2) * 1024 + 1 * k.val = _; rw [e1]; show _ = k.val; ring
theorem idx5 : ∀ t : Fin grid0.N, win0_5.index t (0 : Fin 2) = 0 ∧ win0_5.index t (1 : Fin 2) = 0 := by decide +kernel
theorem emb5 (t : Fin cfg0.N) (r : Fin 1) (k : Fin 1024) : ((cfg0.win 5).blk t).view.emb (ix2 r k) = (ix2 r k : S1x1024.Idx) := by
  obtain ⟨e0, e1⟩ := idx5 t
  funext a; apply Fin.ext
  match a with
  | ⟨0, _⟩ => show win0_5.index t (0 : Fin 2) * 1 + 1 * r.val = _; rw [e0]; show _ = r.val; ring
  | ⟨1, _⟩ => show win0_5.index t (1 : Fin 2) * 1024 + 1 * k.val = _; rw [e1]; show _ = k.val; ring
theorem idx6 : ∀ t : Fin grid0.N, win0_6.index t (0 : Fin 2) = 0 ∧ win0_6.index t (1 : Fin 2) = 0 := by decide +kernel
theorem emb6 (t : Fin cfg0.N) (r : Fin 1024) (k : Fin 1024) : ((cfg0.win 6).blk t).view.emb (ix2 r k) = (ix2 r k : S1024x1024.Idx) := by
  obtain ⟨e0, e1⟩ := idx6 t
  funext a; apply Fin.ext
  match a with
  | ⟨0, _⟩ => show win0_6.index t (0 : Fin 2) * 1024 + 1 * r.val = _; rw [e0]; show _ = r.val; ring
  | ⟨1, _⟩ => show win0_6.index t (1 : Fin 2) * 1024 + 1 * k.val = _; rw [e1]; show _ = k.val; ring
theorem idx7 : ∀ t : Fin grid0.N, win0_7.index t (0 : Fin 2) = 0 ∧ win0_7.index t (1 : Fin 2) = 0 := by decide +kernel
theorem emb7 (t : Fin cfg0.N) (r : Fin 1) (k : Fin 256) : ((cfg0.win 7).blk t).view.emb (ix2 r k) = (ix2 r k : S1x256.Idx) := by
  obtain ⟨e0, e1⟩ := idx7 t
  funext a; apply Fin.ext
  match a with
  | ⟨0, _⟩ => show win0_7.index t (0 : Fin 2) * 1 + 1 * r.val = _; rw [e0]; show _ = r.val; ring
  | ⟨1, _⟩ => show win0_7.index t (1 : Fin 2) * 256 + 1 * k.val = _; rw [e1]; show _ = k.val; ring
theorem idx8 : ∀ t : Fin grid0.N, win0_8.index t (0 : Fin 2) = 0 ∧ win0_8.index t (1 : Fin 2) = 0 := by decide +kernel
theorem emb8 (t : Fin cfg0.N) (r : Fin 256) (k : Fin 1024) : ((cfg0.win 8).blk t).view.emb (ix2 r k) = (ix2 r k : S256x1024.Idx) := by
  obtain ⟨e0, e1⟩ := idx8 t
  funext a; apply Fin.ext
  match a with
  | ⟨0, _⟩ => show win0_8.index t (0 : Fin 2) * 256 + 1 * r.val = _; rw [e0]; show _ = r.val; ring
  | ⟨1, _⟩ => show win0_8.index t (1 : Fin 2) * 1024 + 1 * k.val = _; rw [e1]; show _ = k.val; ring
theorem idx9 : ∀ t : Fin grid0.N, win0_9.index t (0 : Fin 2) = 0 ∧ win0_9.index t (1 : Fin 2) = 0 := by decide +kernel
theorem emb9 (t : Fin cfg0.N) (r : Fin 256) (k : Fin 1024) : ((cfg0.win 9).blk t).view.emb (ix2 r k) = (ix2 r k : S256x1024.Idx) := by
  obtain ⟨e0, e1⟩ := idx9 t
  funext a; apply Fin.ext
  match a with
  | ⟨0, _⟩ => show win0_9.index t (0 : Fin 2) * 256 + 1 * r.val = _; rw [e0]; show _ = r.val; ring
  | ⟨1, _⟩ => show win0_9.index t (1 : Fin 2) * 1024 + 1 * k.val = _; rw [e1]; show _ = k.val; ring
theorem idx10 : ∀ t : Fin grid0.N, win0_10.index t (0 : Fin 2) = 0 ∧ win0_10.index t (1 : Fin 2) = 0 := by decide +kernel
theorem emb10 (t : Fin cfg0.N) (r : Fin 1024) (k : Fin 1024) : ((cfg0.win 10).blk t).view.emb (ix2 r k) = (ix2 r k : S1024x1024.Idx) := by
  obtain ⟨e0, e1⟩ := idx10 t
  funext a; apply Fin.ext
  match a with
  | ⟨0, _⟩ => show win0_10.index t (0 : Fin 2) * 1024 + 1 * r.val = _; rw [e0]; show _ = r.val; ring
  | ⟨1, _⟩ => show win0_10.index t (1 : Fin 2) * 1024 + 1 * k.val = _; rw [e1]; show _ = k.val; ring
theorem idx11 : ∀ t : Fin grid0.N, win0_11.index t (0 : Fin 2) = t.val ∧ win0_11.index t (1 : Fin 2) = 0 := by decide +kernel
theorem emb11 (t : Fin cfg0.N) (r : Fin 1024) (k : Fin 1024) : ((cfg0.win 11).blk t).view.emb (ix2 r k) = (ix2 (row t r) k : S16384x1024.Idx) := by
  obtain ⟨e0, e1⟩ := idx11 t
  funext a; apply Fin.ext
  match a with
  | ⟨0, _⟩ => show win0_11.index t (0 : Fin 2) * 1024 + 1 * r.val = _; rw [e0]; show _ = 1024 * t.val + r.val; ring
  | ⟨1, _⟩ => show win0_11.index t (1 : Fin 2) * 1024 + 1 * k.val = _; rw [e1]; show _ = k.val; ring
/-! ## The arrays' entries -/

/-- The arguments as the call is given them. -/
def X0 : S16384x1024.Idx → EReal := m ((c : Thread nD τ).loc main_arg0)
@[inherit_doc X0] def X1 : S16384x512.Idx → EReal := m ((c : Thread nD τ).loc main_arg1)
@[inherit_doc X0] def X2 : S16384x512.Idx → EReal := m ((c : Thread nD τ).loc main_arg2)
@[inherit_doc X0] def X3 : S1024x1024.Idx → EReal := m ((c : Thread nD τ).loc main_arg3)
@[inherit_doc X0] def X4 : S1024.Idx → EReal := m ((c : Thread nD τ).loc main_arg4)
@[inherit_doc X0] def X5 : S1024x1024.Idx → EReal := m ((c : Thread nD τ).loc main_arg5)
@[inherit_doc X0] def X6 : S256.Idx → EReal := m ((c : Thread nD τ).loc main_arg6)
@[inherit_doc X0] def X7 : S256x1024.Idx → EReal := m ((c : Thread nD τ).loc main_arg7)
@[inherit_doc X0] def X8 : S256x1024.Idx → EReal := m ((c : Thread nD τ).loc main_arg8)
@[inherit_doc X0] def X9 : S1024x1024.Idx → EReal := m ((c : Thread nD τ).loc main_arg9)

theorem in0 (t : Fin cfg0.N) (r : Fin 1024) (k : Fin 1024) : iblk m c 0 t (ix2 r k) = X0 m c (ix2 (row t r) k) := by
  show V m c main_arg0 (((cfg0.win 0).blk t).view.emb (ix2 r k)) = _
  rw [emb0]; exact congrFun (V_main_arg0 m c) _
theorem in1 (t : Fin cfg0.N) (r : Fin 1024) (k : Fin 512) : iblk m c 1 t (ix2 r k) = X1 m c (ix2 (row t r) k) := by
  show V m c main_arg1 (((cfg0.win 1).blk t).view.emb (ix2 r k)) = _
  rw [emb1]; exact congrFun (V_main_arg1 m c) _
theorem in2 (t : Fin cfg0.N) (r : Fin 1024) (k : Fin 512) : iblk m c 2 t (ix2 r k) = X2 m c (ix2 (row t r) k) := by
  show V m c main_arg2 (((cfg0.win 2).blk t).view.emb (ix2 r k)) = _
  rw [emb2]; exact congrFun (V_main_arg2 m c) _
theorem V3 (r : Fin 512) (k : Fin 1024) : (V (F := Ideal) m c main_v1 : S512x1024.Idx → EReal) (ix2 r k) = X3 m c (ix2 (lo r) k) := by
  unfold V X3
  after_reads_at
theorem in3 (t : Fin cfg0.N) (r : Fin 512) (k : Fin 1024) : iblk m c 3 t (ix2 r k) = X3 m c (ix2 (lo r) k) := by
  show V m c main_v1 (((cfg0.win 3).blk t).view.emb (ix2 r k)) = _
  rw [emb3]; exact V3 m c r k
theorem V4 (r : Fin 512) (k : Fin 1024) : (V (F := Ideal) m c main_v2 : S512x1024.Idx → EReal) (ix2 r k) = X3 m c (ix2 (hi r) k) := by
  unfold V X3
  after_reads_at
theorem in4 (t : Fin cfg0.N) (r : Fin 512) (k : Fin 1024) : iblk m c 4 t (ix2 r k) = X3 m c (ix2 (hi r) k) := by
  show V m c main_v2 (((cfg0.win 4).blk t).view.emb (ix2 r k)) = _
  rw [emb4]; exact V4 m c r k
theorem V5 (k : Fin 1024) : (V (F := Ideal) m c main_v3 : S1x1024.Idx → EReal) (ix2 (0 : Fin 1) k) = X4 m c (ix1 k) := by
  unfold V X4
  after_reads_at
theorem in5 (t : Fin cfg0.N) (k : Fin 1024) : iblk m c 5 t (ix2 (0 : Fin 1) k) = X4 m c (ix1 k) := by
  show V m c main_v3 (((cfg0.win 5).blk t).view.emb (ix2 (0 : Fin 1) k)) = _
  rw [emb5]; exact V5 m c k
theorem V6 (r : Fin 1024) (k : Fin 1024) : (V (F := Ideal) m c main_v4 : S1024x1024.Idx → EReal) (ix2 r k) = X5 m c (ix2 r k) := by
  unfold V X5
  after_reads_at
theorem in6 (t : Fin cfg0.N) (r : Fin 1024) (k : Fin 1024) : iblk m c 6 t (ix2 r k) = X5 m c (ix2 r k) := by
  show V m c main_v4 (((cfg0.win 6).blk t).view.emb (ix2 r k)) = _
  rw [emb6]; exact V6 m c r k
theorem V7 (k : Fin 256) : (V (F := Ideal) m c main_v5 : S1x256.Idx → EReal) (ix2 (0 : Fin 1) k) = X6 m c (ix1 k) := by
  unfold V X6
  after_reads_at
theorem in7 (t : Fin cfg0.N) (k : Fin 256) : iblk m c 7 t (ix2 (0 : Fin 1) k) = X6 m c (ix1 k) := by
  show V m c main_v5 (((cfg0.win 7).blk t).view.emb (ix2 (0 : Fin 1) k)) = _
  rw [emb7]; exact V7 m c k
theorem in8 (t : Fin cfg0.N) (r : Fin 256) (k : Fin 1024) : iblk m c 8 t (ix2 r k) = X7 m c (ix2 r k) := by
  show V m c main_arg7 (((cfg0.win 8).blk t).view.emb (ix2 r k)) = _
  rw [emb8]; exact congrFun (V_main_arg7 m c) _
theorem in9 (t : Fin cfg0.N) (r : Fin 256) (k : Fin 1024) : iblk m c 9 t (ix2 r k) = X8 m c (ix2 r k) := by
  show V m c main_arg8 (((cfg0.win 9).blk t).view.emb (ix2 r k)) = _
  rw [emb9]; exact congrFun (V_main_arg8 m c) _
theorem V10 (r : Fin 1024) (k : Fin 1024) : (V (F := Ideal) m c main_v6 : S1024x1024.Idx → EReal) (ix2 r k) = X9 m c (ix2 r k) := by
  unfold V X9
  after_reads_at
theorem in10 (t : Fin cfg0.N) (r : Fin 1024) (k : Fin 1024) : iblk m c 10 t (ix2 r k) = X9 m c (ix2 r k) := by
  show V m c main_v6 (((cfg0.win 10).blk t).view.emb (ix2 r k)) = _
  rw [emb10]; exact V10 m c r k

/-- The residual row with the mixers' outputs added. -/
def h1At (x : S16384x1024.Idx → EReal) (a b : S16384x512.Idx → EReal) (w : S1024x1024.Idx → EReal) (t : Fin 16384) (d : Fin 1024) : EReal := x (ix2 t d) + (∑ k : Fin 512, a (ix2 t k) * w (ix2 (lo k) d)) + ∑ k : Fin 512, b (ix2 t k) * w (ix2 (hi k) d)

/-- The result at a place. -/
def mixRow (x : S16384x1024.Idx → EReal) (a b : S16384x512.Idx → EReal) (w : S1024x1024.Idx → EReal) (g : S1024.Idx → EReal) (wq : S1024x1024.Idx → EReal) (gq : S256.Idx → EReal) (mk mv : S256x1024.Idx → EReal)
    (wo : S1024x1024.Idx → EReal) (t : Fin 16384) (d : Fin 1024) : EReal :=
  mixAt (h1At x a b w t) (fun d => g (ix1 d)) (fun k j => wq (ix2 k j)) (fun e => gq (ix1 e)) (fun n j => mk (ix2 n j)) (fun n j => mv (ix2 n j))
    (fun j d => wo (ix2 j d)) d

/-- The result array. -/
def G : S16384x1024.Idx → EReal := fun i => mixRow (X0 m c) (X1 m c) (X2 m c) (X3 m c) (X4 m c) (X5 m c) (X6 m c) (X7 m c) (X8 m c) (X9 m c) ⟨(i 0).val, (i 0).isLt⟩ ⟨(i 1).val, (i 1).isLt⟩

theorem h1_blk (t : Fin cfg0.N) (r d : Fin 1024) : k0_pay2 (F := Ideal) (iblk m c 0 t) (iblk m c 1 t) (iblk m c 3 t) (iblk m c 2 t) (iblk m c 4 t) (ix2 r d) = h1At (X0 m c) (X1 m c) (X2 m c) (X3 m c) (row t r) d :=
  (pay2_at _ _ _ _ _ r d).trans (congrArg₂ (fun a b : EReal => a + b) (congrArg₂ (fun a b : EReal => a + b) (in0 m c t r d)
    (Finset.sum_congr rfl fun k _ => congrArg₂ (fun a b : EReal => a * b) (in1 m c t r k) (in3 m c t k d)))
    (Finset.sum_congr rfl fun k _ => congrArg₂ (fun a b : EReal => a * b) (in2 m c t r k) (in4 m c t k d)))

/-- A block of the result array. -/
theorem out11 (t : Fin cfg0.N) (r : Fin 1024) (k : Fin 1024) : (dats m 0 c).after 11 t (ix2 r k) = G m c (ix2 (row t r) k) := by
  rw [after0_11]
  frame_out
  rw [pay13_eq]
  refine (body_at _ _ _ _ _ _ _ _ _ _ _ _ _ _ _ _ _ _ _ (ld5_at _) (ld6_at _) (ld7_at _) (ld8_at _) (ld5_at _) (ld6_at _) (ld7_at _) (ld8_at _) r k).trans ?_
  rw [show (fun d => k0_pay2 (F := Ideal) (iblk m c 0 t) (iblk m c 1 t) (iblk m c 3 t) (iblk m c 2 t) (iblk m c 4 t) (ix2 r d)) = _ from funext fun d => h1_blk m c t r d,
    show (fun d => iblk m c 5 t (ix2 (0 : Fin 1) d)) = _ from funext fun d => in5 m c t d,
    show (fun k j => iblk m c 6 t (ix2 k j)) = _ from funext fun k => funext fun j => in6 m c t k j,
    show (fun d => iblk m c 7 t (ix2 (0 : Fin 1) d)) = _ from funext fun d => in7 m c t d,
    show (fun k j => iblk m c 8 t (ix2 k j)) = _ from funext fun k => funext fun j => in8 m c t k j,
    show (fun k j => iblk m c 9 t (ix2 k j)) = _ from funext fun k => funext fun j => in9 m c t k j,
    show (fun k j => iblk m c 10 t (ix2 k j)) = _ from funext fun k => funext fun j => in10 m c t k j]
  rfl

/-! ## The result arrays -/

theorem cover11 (j : S16384x1024.Idx) : ∃ t : Fin cfg0.N, (cfg0.win 11).flush t = true ∧ j ∈ ((cfg0.win 11).blk t).view.set := by
  have h0 : (j 0).val < 16384 := (j 0).isLt
  obtain ⟨t, ht⟩ : ∃ t : Fin cfg0.N, t.val = (j 0).val / 1024 := ⟨⟨_, lt_of_lt_of_eq (by omega) N_0.symm⟩, rfl⟩
  refine ⟨t, flush0_11 t, ?_⟩
  have e := ((cfg0.win 11).blk t).view.emb_mem_set (ix2 (⟨(j 0).val % 1024, Nat.mod_lt _ (by decide)⟩ : Fin 1024) (⟨(j 1).val, (j 1).isLt⟩ : Fin 1024))
  rw [emb11] at e
  have ej : (ix2 (row t ⟨(j 0).val % 1024, Nat.mod_lt _ (by decide)⟩) (⟨(j 1).val, (j 1).isLt⟩ : Fin 1024) : S16384x1024.Idx) = j := by
    funext a; apply Fin.ext
    match a with
    | ⟨0, _⟩ => show 1024 * t.val + (j 0).val % 1024 = (j 0).val; omega
    | ⟨1, _⟩ => rfl
  exact ej ▸ e

/-- A result array after the last grid point. -/
theorem final11 : (dats m 0 c).arrAt 11 cfg0.N = G m c := by
  refine (dats m 0 c).arrAt_eq_of_cover 11 (G m c) (fun t _ => funext fun y => ?_) cover11
  obtain ⟨r, k, rfl⟩ : ∃ (r : Fin 1024) (k : Fin 1024), y = ix2 r k := ⟨y 0, y 1, by funext a; fin_cases a <;> rfl⟩
  exact (out11 m c t r k).trans (congrArg (G m c) (emb11 t r k).symm)

/-- Every run of the program ends with the result arrays at the formulas' values and the arguments' arrays unchanged. -/
theorem value_k (ρ : Dev nD → PrngReg) : θ_run defs (onTc (τ := τ) (main (F := Ideal))) ⟨m, fun _ => 0, ρ⟩ (fun r => ∀ c : Dev nD,
      r.2.mem ((c.tc : Thread nD τ).loc main_v7) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h.1 c).1 11).trans (final11 m c), h.2 c⟩) (θ_run_and (run_main m ρ) (unchanged m ρ))

end Cert.Kernel4Ideal.Hand

end
-- ==== Proof.HostMax.lean ====
/-
  The reference's maximum over the last axis at a place.
-/
module

public import proofs.«01_k».proof.Proof.Attend
public import Idealize.ShloMosaic.Lib.KernelVsHost

@[expose] public section

set_option maxRecDepth 16384

noncomputable section

namespace Cert.Rows

open Idealize.ShloMosaic Idealize.ShloMosaic.Tactic

/-- Four heads' scores of 16384 rows against 256 memory rows. -/
abbrev Scores : Shape := ⟨3, ![4, 16384, 256]⟩
/-- A number for each head and row. -/
abbrev Tops : Shape := ⟨2, ![4, 16384]⟩
/-- One number. -/
abbrev One : Shape := ⟨0, ![]⟩

theorem reducesLast : Scores.Reduces [2] Tops := by decide

/-- A maximum over the memory's rows is the largest score. -/
theorem host_max (y : FVec Ideal Scores .f32) (hr : Scores.ReducesTo [2] Tops) (hu : 0 < One.numel) (h : Fin 4) (t : Fin 16384) :
    Host.reduce (FloatOps.maximumf (F := Ideal)) y (constant One .f32 4286578688#32) hr hu (ix2 h t) = top fun n => y (ix3 h t n) := by
  rw [hostReduce_maximumf_eq_multiReduction y 4286578688#32 hr hu reducesLast (by decide) (by decide)]
  unfold top
  pointwise
end Cert.Rows
end
-- ==== Proof.R4Val.lean ====
/-
  The mixing call's reference at a place: where the inputs are real numbers it is the formula the kernel's result array has.
-/
module

public import proofs.«01_k».proof.Proof.Finite
public import proofs.«01_k».proof.Proof.F4Val
public import proofs.«01_k».proof.Proof.HostMax
public import proofs.«01_k».proof.Proof.Gen.Reference4Ideal.Read

@[expose] public section

set_option maxRecDepth 16384

noncomputable section

namespace Cert.Reference4Ideal.Hand

open Cert.Reference4Ideal Cert.Reference4Ideal.Gen Cert.Reference4Ideal.Read
open Idealize.ShloMosaic Idealize.ShloMosaic.Tactic
open Cert.Rows
open Cert.Kernel4Ideal.Hand (h1At mixRow)

variable (x0 : FVec Ideal S16384x1024 .f32) (x1 x2 : FVec Ideal S16384x512 .bf16) (x3 : FVec Ideal S1024x1024 .f32) (x4 : FVec Ideal S1024 .f32) (x5 : FVec Ideal S1024x1024 .f32) (x6 : FVec Ideal S256 .f32)
  (x7 x8 : FVec Ideal S256x1024 .bf16) (x9 : FVec Ideal S1024x1024 .f32)

/-- The two halves side by side. -/
theorem cat_lo (t : Fin 16384) (k : Fin 512) : val_main_v2 (F := Ideal) x1 x2 (ix2 t (lo k)) = x1 (ix2 t k) := by
  pointwise [val_main_v2, val_main_v0, val_main_v1]

theorem cat_hi (t : Fin 16384) (k : Fin 512) : val_main_v2 (F := Ideal) x1 x2 (ix2 t (hi k)) = x2 (ix2 t k) := by
  pointwise [val_main_v2, val_main_v0, val_main_v1]

/-- The residual rows. -/
theorem resid_at (t : Fin 16384) (d : Fin 1024) : val_main_v4 (F := Ideal) x0 x1 x2 x3 (ix2 t d) = h1At x0 x1 x2 x3 t d := by
  have e : val_main_v4 (F := Ideal) x0 x1 x2 x3 (ix2 t d) = (x0 (ix2 t d) + ∑ k, val_main_v2 (F := Ideal) x1 x2 (ix2 t k) * x3 (ix2 k d) : EReal) := by
    generalize hx : val_main_v2 (F := Ideal) x1 x2 = y
    pointwise [val_main_v4, val_main_v3, hx]
  rw [e, sum_halves]
  simp only [cat_lo, cat_hi]
  exact (add_assoc _ _ _).symm

/-- The normalised rows. -/
theorem normed_at (t : Fin 16384) (k : Fin 1024) : val_main_v17 (F := Ideal) x0 x1 x2 x3 x4 (ix2 t k) = rms c1024 (h1At x0 x1 x2 x3 t) (fun d => x4 (ix1 d)) k := by
  have e : val_main_v17 (F := Ideal) x0 x1 x2 x3 x4 (ix2 t k) = rms c1024 (fun d => val_main_v4 (F := Ideal) x0 x1 x2 x3 (ix2 t d)) (fun d => x4 (ix1 d)) k := by
    unfold rms
    generalize hx : val_main_v4 (F := Ideal) x0 x1 x2 x3 = y
    pointwise [val_main_v17, val_main_v16, val_main_v15, val_main_v14, val_main_v13, val_main_v12, val_main_v11, val_main_v10, val_main_v9, val_main_v8, val_main_v7, val_main_v6, val_main_v5, val_main_cst, val_main_cst_0, val_main_cst_1, hx]
  rw [e]
  simp only [resid_at]

/-- The queries of a row. -/
abbrev qry (t : Fin 16384) : Fin 1024 → EReal := proj (rms c1024 (h1At x0 x1 x2 x3 t) fun d => x4 (ix1 d)) fun k j => x5 (ix2 k j)

theorem query_at (t : Fin 16384) (j : Fin 1024) : val_main_v18 (F := Ideal) x0 x1 x2 x3 x4 x5 (ix2 t j) = qry x0 x1 x2 x3 x4 x5 t j := by
  have e : val_main_v18 (F := Ideal) x0 x1 x2 x3 x4 x5 (ix2 t j) = (∑ k, val_main_v17 (F := Ideal) x0 x1 x2 x3 x4 (ix2 t k) * x5 (ix2 k j) : EReal) := by
    generalize hx : val_main_v17 (F := Ideal) x0 x1 x2 x3 x4 = y
    pointwise [val_main_v18, hx]
  rw [e]
  simp only [normed_at]
  rfl

/-- The queries split into heads. -/
theorem split_at (t : Fin 16384) (h : Fin 4) (e : Fin 256) : val_main_v19 (F := Ideal) x0 x1 x2 x3 x4 x5 (ix3 t h e) = val_main_v18 (F := Ideal) x0 x1 x2 x3 x4 x5 (ix2 t (col h e)) := by
  rw [val_main_v19_apply]
  refine congrArg _ (funext fun a => Fin.ext ?_)
  match a with
  | ⟨0, _⟩ => show ((t.val * 4 + h.val) * 256 + e.val) / 1024 = t.val; omega
  | ⟨1, _⟩ => show ((t.val * 4 + h.val) * 256 + e.val) % 1024 = 256 * h.val + e.val; omega

/-- A head's queries normalised. -/
theorem head_at (t : Fin 16384) (h : Fin 4) (e : Fin 256) : val_main_v32 (F := Ideal) x0 x1 x2 x3 x4 x5 x6 (ix3 t h e) = headRms (qry x0 x1 x2 x3 x4 x5 t) (fun l => x6 (ix1 l)) h e := by
  have e1 : val_main_v32 (F := Ideal) x0 x1 x2 x3 x4 x5 x6 (ix3 t h e) = rms c256 (fun l => val_main_v19 (F := Ideal) x0 x1 x2 x3 x4 x5 (ix3 t h l)) (fun l => x6 (ix1 l)) e := by
    unfold rms
    generalize hx : val_main_v19 (F := Ideal) x0 x1 x2 x3 x4 x5 = y
    pointwise [val_main_v32, val_main_v31, val_main_v30, val_main_v29, val_main_v28, val_main_v27, val_main_v26, val_main_v25, val_main_v24, val_main_v23, val_main_v22, val_main_v21, val_main_v20, val_main_cst_2, val_main_cst_3, val_main_cst_4, hx]
  rw [e1]
  simp only [split_at, query_at]
  rfl

/-- The memory's keys split into heads. -/
theorem key_at (n : Fin 256) (h : Fin 4) (e : Fin 256) : val_main_v34 (F := Ideal) x7 (ix3 n h e) = x7 (ix2 n (col h e)) := by
  have e0 : val_main_v34 (F := Ideal) x7 (ix3 n h e) = val_main_v33 (F := Ideal) x7 (ix2 n (col h e)) := by
    rw [val_main_v34_apply]
    refine congrArg _ (funext fun a => Fin.ext ?_)
    match a with
    | ⟨0, _⟩ => show ((n.val * 4 + h.val) * 256 + e.val) / 1024 = n.val; omega
    | ⟨1, _⟩ => show ((n.val * 4 + h.val) * 256 + e.val) % 1024 = 256 * h.val + e.val; omega
  rw [e0]
  pointwise [val_main_v33]

/-- The memory's values split into heads. -/
theorem val_at (n : Fin 256) (h : Fin 4) (e : Fin 256) : val_main_v36 (F := Ideal) x8 (ix3 n h e) = x8 (ix2 n (col h e)) := by
  have e0 : val_main_v36 (F := Ideal) x8 (ix3 n h e) = val_main_v35 (F := Ideal) x8 (ix2 n (col h e)) := by
    rw [val_main_v36_apply]
    refine congrArg _ (funext fun a => Fin.ext ?_)
    match a with
    | ⟨0, _⟩ => show ((n.val * 4 + h.val) * 256 + e.val) / 1024 = n.val; omega
    | ⟨1, _⟩ => show ((n.val * 4 + h.val) * 256 + e.val) % 1024 = 256 * h.val + e.val; omega
  rw [e0]
  pointwise [val_main_v35]

/-- The scores of a row's head. -/
abbrev sc (t : Fin 16384) (h : Fin 4) : Fin 256 → EReal := scoreAt (headRms (qry x0 x1 x2 x3 x4 x5 t) (fun l => x6 (ix1 l)) h) fun n e => x7 (ix2 n (col h e))

theorem score_at (h : Fin 4) (t : Fin 16384) (n : Fin 256) : val_main_v39 (F := Ideal) x0 x1 x2 x3 x4 x5 x6 x7 (ix3 h t n) = sc x0 x1 x2 x3 x4 x5 x6 x7 t h n := by
  have e : val_main_v39 (F := Ideal) x0 x1 x2 x3 x4 x5 x6 x7 (ix3 h t n) = ((∑ k, val_main_v32 (F := Ideal) x0 x1 x2 x3 x4 x5 x6 (ix3 t h k) * val_main_v34 (F := Ideal) x7 (ix3 n h k)) * c16 : EReal) := by
    generalize hx : val_main_v32 (F := Ideal) x0 x1 x2 x3 x4 x5 x6 = y
    generalize hz : val_main_v34 (F := Ideal) x7 = z
    pointwise [val_main_v39, val_main_v38, val_main_v37, val_main_cst_5, hx, hz]
  rw [e]
  simp only [head_at, key_at]
  rfl

/-- The maximum of the scores. -/
theorem max_at (h : Fin 4) (t : Fin 16384) : val_main_v40 (F := Ideal) x0 x1 x2 x3 x4 x5 x6 x7 (ix2 h t) = top fun n => val_main_v39 (F := Ideal) x0 x1 x2 x3 x4 x5 x6 x7 (ix3 h t n) := by
  unfold val_main_v40
  generalize val_main_v39 (F := Ideal) x0 x1 x2 x3 x4 x5 x6 x7 = y
  unfold val_main_cst_6
  exact host_max y _ _ h t

/-- Starting a maximum from minus infinity changes nothing. -/
theorem max_start (y : EReal) : FloatOps.maximumf (F := Ideal) (φ := .f32) (FloatOps.ofBits .f32 0xFF800000#32) y = y := by
  show max cninf y = y
  rw [cninf_eq]
  exact max_eq_right bot_le

theorem clip_at (h : Fin 4) (t : Fin 16384) : val_main_v42 (F := Ideal) x0 x1 x2 x3 x4 x5 x6 x7 (ix2 h t) = val_main_v40 (F := Ideal) x0 x1 x2 x3 x4 x5 x6 x7 (ix2 h t) := by
  rw [val_main_v42_apply, val_main_v41_apply, val_main_cst_7_apply]
  exact max_start _

/-- The largest score. -/
theorem top_at (h : Fin 4) (t : Fin 16384) : val_main_v42 (F := Ideal) x0 x1 x2 x3 x4 x5 x6 x7 (ix2 h t) = top (sc x0 x1 x2 x3 x4 x5 x6 x7 t h) := by
  rw [clip_at, max_at]
  exact congrArg top (funext fun n => by rw [score_at])

/-- A weight. -/
theorem weight_at (h : Fin 4) (t : Fin 16384) (n : Fin 256) : val_main_v46 (F := Ideal) x0 x1 x2 x3 x4 x5 x6 x7 (ix3 h t n) = Ideal.exp (sc x0 x1 x2 x3 x4 x5 x6 x7 t h n - top (sc x0 x1 x2 x3 x4 x5 x6 x7 t h)) := by
  have e : val_main_v46 (F := Ideal) x0 x1 x2 x3 x4 x5 x6 x7 (ix3 h t n) = Ideal.exp (val_main_v39 (F := Ideal) x0 x1 x2 x3 x4 x5 x6 x7 (ix3 h t n) - val_main_v42 (F := Ideal) x0 x1 x2 x3 x4 x5 x6 x7 (ix2 h t)) := by
    generalize hx : val_main_v39 (F := Ideal) x0 x1 x2 x3 x4 x5 x6 x7 = y
    generalize hz : val_main_v42 (F := Ideal) x0 x1 x2 x3 x4 x5 x6 x7 = z
    pointwise [val_main_v46, val_main_v45, val_main_v44, val_main_v43, hx, hz]
  rw [e, score_at, top_at]

/-- A weight over the weights' sum. -/
theorem share_at (h : Fin 4) (t : Fin 16384) (n : Fin 256) : val_main_v50 (F := Ideal) x0 x1 x2 x3 x4 x5 x6 x7 (ix3 h t n)
    = Ideal.div (Ideal.exp (sc x0 x1 x2 x3 x4 x5 x6 x7 t h n - top (sc x0 x1 x2 x3 x4 x5 x6 x7 t h))) (∑ l, Ideal.exp (sc x0 x1 x2 x3 x4 x5 x6 x7 t h l - top (sc x0 x1 x2 x3 x4 x5 x6 x7 t h))) := by
  have e : val_main_v50 (F := Ideal) x0 x1 x2 x3 x4 x5 x6 x7 (ix3 h t n) = Ideal.div (val_main_v46 (F := Ideal) x0 x1 x2 x3 x4 x5 x6 x7 (ix3 h t n)) (∑ l, val_main_v46 (F := Ideal) x0 x1 x2 x3 x4 x5 x6 x7 (ix3 h t l)) := by
    generalize hx : val_main_v46 (F := Ideal) x0 x1 x2 x3 x4 x5 x6 x7 = y
    pointwise [val_main_v50, val_main_v49, val_main_v48, val_main_v47, val_main_cst_8, hx]
  rw [e]
  simp only [weight_at]

/-- A head's attention, transposed back. -/
theorem out_at (t : Fin 16384) (h : Fin 4) (e : Fin 256) : val_main_v52 (F := Ideal) x0 x1 x2 x3 x4 x5 x6 x7 x8 (ix3 t h e) = (∑ n, val_main_v36 (F := Ideal) x8 (ix3 n h e) * val_main_v50 (F := Ideal) x0 x1 x2 x3 x4 x5 x6 x7 (ix3 h t n) : EReal) := by
  generalize hx : val_main_v36 (F := Ideal) x8 = y
  generalize hz : val_main_v50 (F := Ideal) x0 x1 x2 x3 x4 x5 x6 x7 = z
  pointwise [val_main_v52, val_main_v51, hx, hz]

/-- The heads side by side again. -/
theorem join_at (t : Fin 16384) (h : Fin 4) (e : Fin 256) : val_main_v53 (F := Ideal) x0 x1 x2 x3 x4 x5 x6 x7 x8 (ix2 t (col h e)) = val_main_v52 (F := Ideal) x0 x1 x2 x3 x4 x5 x6 x7 x8 (ix3 t h e) := by
  rw [val_main_v53_apply]
  refine congrArg _ (funext fun a => Fin.ext ?_)
  match a with
  | ⟨0, _⟩ => show (t.val * 1024 + (256 * h.val + e.val)) / 1024 = t.val; omega
  | ⟨1, _⟩ => show (t.val * 1024 + (256 * h.val + e.val)) / 256 % 4 = h.val; omega
  | ⟨2, _⟩ => show (t.val * 1024 + (256 * h.val + e.val)) % 256 = e.val; omega

/-- With real scores the reference's result is the formula. -/
theorem result_at (hs : ∀ t h n, IsReal (sc x0 x1 x2 x3 x4 x5 x6 x7 t h n)) (t : Fin 16384) (d : Fin 1024) : val_main_v55 (F := Ideal) x0 x1 x2 x3 x4 x5 x6 x7 x8 x9 (ix2 t d) = mixRow x0 x1 x2 x3 x4 x5 x6 x7 x8 x9 t d := by
  have e : val_main_v55 (F := Ideal) x0 x1 x2 x3 x4 x5 x6 x7 x8 x9 (ix2 t d) = (val_main_v4 (F := Ideal) x0 x1 x2 x3 (ix2 t d) + ∑ k, val_main_v53 (F := Ideal) x0 x1 x2 x3 x4 x5 x6 x7 x8 (ix2 t k) * x9 (ix2 k d) : EReal) := by
    generalize hx : val_main_v4 (F := Ideal) x0 x1 x2 x3 = y
    generalize hz : val_main_v53 (F := Ideal) x0 x1 x2 x3 x4 x5 x6 x7 x8 = z
    pointwise [val_main_v55, val_main_v54, hx, hz]
  rw [e, sum_cols]
  simp only [join_at, out_at, resid_at, val_at, share_at]
  unfold mixRow mixAt
  refine congrArg _ (Finset.sum_congr rfl fun h _ => Finset.sum_congr rfl fun l _ => congrArg (· * _) ?_)
  exact soft_div_first (sc x0 x1 x2 x3 x4 x5 x6 x7 t h) (fun n => x8 (ix2 n (col h l))) (hs t h)

/-- The scores of real inputs are real. -/
theorem sc_real (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (t : Fin 16384) (h : Fin 4) (n : Fin 256) : IsReal (sc x0 x1 x2 x3 x4 x5 x6 x7 t h n) := by
  have r : ∀ d, IsReal (h1At x0 x1 x2 x3 t d) := fun d => ((h0 _).add (IsReal.sum _ fun k => (h1 _).mul (h3 _))).add (IsReal.sum _ fun k => (h2 _).mul (h3 _))
  have q : ∀ j, IsReal (qry x0 x1 x2 x3 x4 x5 t j) := proj_real (fun k => rms_real c1024_eq (by norm_num) r (fun l => h4 _) k) fun l j => h5 _
  exact score_real (fun e => rms_real c256_eq (by norm_num) (fun l => q _) (fun l => h6 _) e) (fun m e => h7 _) n

end Cert.Reference4Ideal.Hand

end
-- ==== Proof.KVec.lean ====
/-
  The attention's vector steps for one head, read at an index: the comparison of a block's number with the picked ones, the
  new reference exponent, the running sums' step, the scores of a key block.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Hand

open Cert.KernelIdeal Cert.KernelIdeal.Gen Cert.Moba
open Idealize.ShloMosaic

/-- The named masks are the infinities. -/
theorem neg_named : (Named.named κ "neg" 0xF149F2CA#32 : Ideal .f32) = (⊥ : EReal) := rfl
theorem half_named : (Named.named κ "half_neg" 0xF0C9F2CA#32 : Ideal .f32) = (⊥ : EReal) := rfl
theorem pos_named : (Named.named κ "pos" 0x7149F2CA#32 : Ideal .f32) = (⊤ : EReal) := rfl

/-- The maximum's starting value is `⊥`. -/
theorem neg_inf : Ideal.ofBits .f32 0xFF800000#32 = (⊥ : EReal) := by simp [Ideal.ofBits, Ideal.ieee]

/-- Whether block `j` is one of the three numbers stored for each query. -/
def pickV (j : BitVec 32) (a b c : FVec Ideal S1x1x256 .f32) : IVec S1x256 1 :=
  ori (ori (cmpf .oeq (shapeCast S1x256 a shapeCasts_S1x1x256_S1x256) (broadcast S1x256 (Scalar.sitofp .f32 j)))
    (cmpf .oeq (shapeCast S1x256 b shapeCasts_S1x1x256_S1x256) (broadcast S1x256 (Scalar.sitofp .f32 j))))
    (cmpf .oeq (shapeCast S1x256 c shapeCasts_S1x1x256_S1x256) (broadcast S1x256 (Scalar.sitofp .f32 j)))

/-- A score tile as a matrix. -/
def tileV (t : FVec Ideal S1x1x256x256 .f32) : FVec Ideal S256x256 .f32 := shapeCast S256x256 t shapeCasts_S1x1x256x256_S256x256

/-- The stored reference exponents' first row. -/
def rowV (t : FVec Ideal S1x8x256 .f32) : FVec Ideal S1x256 .f32 :=
  extractStridedSlice S1x256 ![0, 0] (shapeCast S8x256 t shapeCasts_S1x8x256_S8x256) slices_S8x256_o0_0_S1x256

/-- A block's greatest score of each query. -/
def maxV (s : FVec Ideal S256x256 .f32) : FVec Ideal S1x256 .f32 :=
  shapeCast S1x256 (multiReduction .maximumf [0] S256 s 0xFF800000#32 reduces_S256x256_S256 (.inl rfl) rfl) shapeCasts_S256_S1x256

/-- The new reference exponents. -/
def mNewV (mp : FVec Ideal S1x256 .f32) (p0 p1 : IVec S1x256 1) (s0 s1 : FVec Ideal S256x256 .f32) : FVec Ideal S1x256 .f32 :=
  maximumf (maximumf mp (select p0 (maxV s0) (broadcast S1x256 (Named.named κ "neg" 0xF149F2CA#32))))
    (select p1 (maxV s1) (broadcast S1x256 (Named.named κ "neg" 0xF149F2CA#32)))

/-- A block's weights, its queries that did not pick it at weight zero. -/
def expV (p : IVec S1x256 1) (s : FVec Ideal S256x256 .f32) (mn : FVec Ideal S1x256 .f32) : FVec Ideal S256x256 .f32 :=
  exp2 (subf s (broadcastTo S256x256 (select p mn (broadcast S1x256 (Named.named κ "pos" 0x7149F2CA#32))) broadcasts_S1x256_S256x256))

/-- The values of two blocks beside each other. -/
def vsV (a b : FVec Ideal S1x1x80x256 .bf16) : FVec Ideal S80x512 .bf16 :=
  concatenate S80x512 1 [⟨S80x256, shapeCast S80x256 a shapeCasts_S1x1x80x256_S80x256⟩, ⟨S80x256, shapeCast S80x256 b shapeCasts_S1x1x80x256_S80x256⟩]
    concatenates_S80x256_S80x256_S80x512_d1

/-- The running sums after two more blocks. -/
def accV (vs : FVec Ideal S80x512 .bf16) (p0 p1 : IVec S1x256 1) (s0 s1 : FVec Ideal S256x256 .f32) (mp mn : FVec Ideal S1x256 .f32)
    (a : FVec Ideal S1x80x256 .f32) : FVec Ideal S1x80x256 .f32 :=
  shapeCast S1x80x256 (addf (mulf (broadcastTo S80x256 (exp2 (subf mp mn)) broadcasts_S1x256_S80x256) (shapeCast S80x256 a shapeCasts_S1x80x256_S80x256))
    (matmul dot_S80x512_S512x256_S80x256_1_0_0_1_n_n none vs
      (truncf .bf16 (concatenate S512x256 0 [⟨S256x256, expV p0 s0 mn⟩, ⟨S256x256, expV p1 s1 mn⟩] concatenates_S256x256_S256x256_S512x256_d0) bitsLt_bf16_f32)
      (constant S80x256 .f32 0x00000000#32))) shapeCasts_S80x256_S1x80x256

/-- The reference exponents stored in eight equal rows. -/
def rowsV (mn : FVec Ideal S1x256 .f32) : FVec Ideal S1x8x256 .f32 :=
  shapeCast S1x8x256 (broadcastTo S8x256 (shapeCast S1x256 mn shapeCasts_S1x256_S1x256) broadcasts_S1x256_S8x256) shapeCasts_S8x256_S1x8x256

/-- A key block's scores. -/
def scoreV (K : FVec Ideal S256x128 .bf16) (q : FVec Ideal S128x256 .bf16) : FVec Ideal S1x1x256x256 .f32 :=
  shapeCast S1x1x256x256 (matmul dot_S256x128_S128x256_S256x256_1_0_0_1_n_n none (shapeCast S256x128 K shapeCasts_S256x128_S256x128) q
    (constant S256x256 .f32 0x00000000#32)) shapeCasts_S256x256_S1x1x256x256

/-- The payload of a step of the running sums. -/
theorem pay143_eq (vs : FVec Ideal S80x512 .bf16) (p0 p1 : IVec S1x256 1) (s0 s1 : FVec Ideal S256x256 .f32) (mp mn : FVec Ideal S1x256 .f32)
    (a : FVec Ideal S1x80x256 .f32) : k0_pay143 (F := Ideal) vs p0 s0 p1 s1 mp mn a = accV vs p0 p1 s0 s1 mp mn a := rfl

theorem pickV_apply (j : BitVec 32) (a b d : FVec Ideal S1x1x256 .f32) (c : Fin 256) :
    pickV j a b d (ix2 0 c) = 1#1 ↔ a (ix3 0 0 c) = (((j.toInt : ℝ)) : EReal) ∨ b (ix3 0 0 c) = (((j.toInt : ℝ)) : EReal) ∨ d (ix3 0 0 c) = (((j.toInt : ℝ)) : EReal) := by
  have e : ∀ (p q r : Prop) [Decidable p] [Decidable q] [Decidable r],
      IntOp.ori (IntOp.ori (BitVec.ofBool (decide p)) (BitVec.ofBool (decide q))) (BitVec.ofBool (decide r)) = 1#1 ↔ p ∨ q ∨ r := by
    intro p q r _ _ _
    by_cases hp : p <;> by_cases hq : q <;> by_cases hr : r <;> simp [hp, hq, hr, IntOp.ori]
  pointwise [pickV]
  exact e _ _ _

theorem tileV_apply (t : FVec Ideal S1x1x256x256 .f32) (r c : Fin 256) : tileV t (ix2 r c) = t (ix4 0 0 r c) := by
  pointwise [tileV]

theorem rowV_apply (t : FVec Ideal S1x8x256 .f32) (c : Fin 256) : rowV t (ix2 0 c) = t (ix3 0 0 c) := by
  pointwise [rowV]

theorem maxV_apply (s : FVec Ideal S256x256 .f32) (c : Fin 256) :
    maxV s (ix2 0 c) = (Finset.univ : Finset (Fin 256)).fold max ⊥ fun r => s (ix2 r c) := by
  pointwise [maxV]
  rw [neg_inf]

theorem mNewV_apply (mp : FVec Ideal S1x256 .f32) (p0 p1 : IVec S1x256 1) (s0 s1 : FVec Ideal S256x256 .f32) (c : Fin 256) :
    mNewV mp p0 p1 s0 s1 (ix2 0 c) = newRef (p0 (ix2 0 c) = 1#1) (p1 (ix2 0 c) = 1#1) (mp (ix2 0 c)) (fun r => s0 (ix2 r c)) (fun r => s1 (ix2 r c)) := by
  unfold newRef
  rw [← maxV_apply, ← maxV_apply]
  pointwise [mNewV]
  rfl

theorem expV_apply (p : IVec S1x256 1) (s : FVec Ideal S256x256 .f32) (mn : FVec Ideal S1x256 .f32) (r c : Fin 256) :
    expV p s mn (ix2 r c) = Ideal.exp2 (s (ix2 r c) - (if p (ix2 0 c) = 1#1 then mn (ix2 0 c) else ⊤)) := by
  pointwise [expV]
  rfl

theorem accV_apply (va vb : FVec Ideal S1x1x80x256 .bf16) (p0 p1 : IVec S1x256 1) (s0 s1 : FVec Ideal S256x256 .f32) (mp mn : FVec Ideal S1x256 .f32)
    (a : FVec Ideal S1x80x256 .f32) (d : Fin 80) (c : Fin 256) :
    accV (vsV va vb) p0 p1 s0 s1 mp mn a (ix3 0 d c)
      = Ideal.exp2 (mp (ix2 0 c) - mn (ix2 0 c)) * a (ix3 0 d c)
        + (∑ r : Fin 256, va (ix4 0 0 d r) * expV p0 s0 mn (ix2 r c) + ∑ r : Fin 256, vb (ix4 0 0 d r) * expV p1 s1 mn (ix2 r c)) := by
  pointwise [accV, vsV]
  rfl

theorem rowsV_apply (mn : FVec Ideal S1x256 .f32) (l : Fin 8) (c : Fin 256) : rowsV mn (ix3 0 l c) = mn (ix2 0 c) := by
  pointwise [rowsV]

theorem scoreV_apply (K : FVec Ideal S256x128 .bf16) (q : FVec Ideal S128x256 .bf16) (r c : Fin 256) :
    scoreV K q (ix4 0 0 r c) = ∑ k : Fin 128, K (ix2 r k) * q (ix2 k c) := by
  pointwise [scoreV]

end Cert.KernelIdeal.Hand

end
-- ==== Proof.KTrip.lean ====
/-
  One trip of the loop over the key blocks: the pieces it writes, as the vector steps of the two heads at what the buffers
  hold when it starts. The program's two loops write the same steps.
-/
module

public import proofs.«01_k».proof.Proof.Gen.KernelIdeal.Loops
public import proofs.«01_k».proof.Proof.KVec
public import Idealize.ShloMosaic.Lib.Pipeline.FrameBody
public import Idealize.ShloMosaic.Lib.Writes

@[expose] public section

set_option maxRecDepth 16384

noncomputable section

namespace Cert.KernelIdeal.Hand

open Cert.KernelIdeal Cert.KernelIdeal.Gen Cert.Moba
open Idealize.ShloMosaic

/-! ## Each head's part of a buffer -/

abbrev r70 : Rect S2x8x256 := Rect.unit (s := S2x8x256) ![0, 0, 0] S1x8x256.size inb_S2x8x256_S1x8x256_0_0_0
abbrev r80 : Rect S2x80x256 := Rect.unit (s := S2x80x256) ![0, 0, 0] S1x80x256.size inb_S2x80x256_S1x80x256_0_0_0
abbrev r900 : Rect S2x8x256 := Rect.unit (s := S2x8x256) ![0, 0, 0] S1x1x256.size inb_S2x8x256_S1x1x256_0_0_0
abbrev r901 : Rect S2x8x256 := Rect.unit (s := S2x8x256) ![0, 1, 0] S1x1x256.size inb_S2x8x256_S1x1x256_0_1_0
abbrev r902 : Rect S2x8x256 := Rect.unit (s := S2x8x256) ![0, 2, 0] S1x1x256.size inb_S2x8x256_S1x1x256_0_2_0
abbrev rs00 : Rect S2x2x256x256 := Rect.unit (s := S2x2x256x256) ![0, 0, 0, 0] S1x1x256x256.size inb_S2x2x256x256_S1x1x256x256_0_0_0_0
abbrev rs01 : Rect S2x2x256x256 := Rect.unit (s := S2x2x256x256) ![0, 1, 0, 0] S1x1x256x256.size inb_S2x2x256x256_S1x1x256x256_0_1_0_0
abbrev r71 : Rect S2x8x256 := Rect.unit (s := S2x8x256) ![1, 0, 0] S1x8x256.size inb_S2x8x256_S1x8x256_1_0_0
abbrev r81 : Rect S2x80x256 := Rect.unit (s := S2x80x256) ![1, 0, 0] S1x80x256.size inb_S2x80x256_S1x80x256_1_0_0
abbrev r910 : Rect S2x8x256 := Rect.unit (s := S2x8x256) ![1, 0, 0] S1x1x256.size inb_S2x8x256_S1x1x256_1_0_0
abbrev r911 : Rect S2x8x256 := Rect.unit (s := S2x8x256) ![1, 1, 0] S1x1x256.size inb_S2x8x256_S1x1x256_1_1_0
abbrev r912 : Rect S2x8x256 := Rect.unit (s := S2x8x256) ![1, 2, 0] S1x1x256.size inb_S2x8x256_S1x1x256_1_2_0
abbrev rs10 : Rect S2x2x256x256 := Rect.unit (s := S2x2x256x256) ![1, 0, 0, 0] S1x1x256x256.size inb_S2x2x256x256_S1x1x256x256_1_0_0_0
abbrev rs11 : Rect S2x2x256x256 := Rect.unit (s := S2x2x256x256) ![1, 1, 0, 0] S1x1x256x256.size inb_S2x2x256x256_S1x1x256x256_1_1_0_0

/-! ## One head's step -/

/-- The reference exponents after two more blocks. -/
def next7 (p0 p1 : IVec S1x256 1) (s0 s1 : FVec Ideal S256x256 .f32) (t7 : FVec Ideal S1x8x256 .f32) : FVec Ideal S1x8x256 .f32 :=
  rowsV (mNewV (rowV t7) p0 p1 s0 s1)

/-- The running sums after two more blocks. -/
def next8 (va vb : FVec Ideal S1x1x80x256 .bf16) (p0 p1 : IVec S1x256 1) (s0 s1 : FVec Ideal S256x256 .f32) (t7 : FVec Ideal S1x8x256 .f32)
    (t8 : FVec Ideal S1x80x256 .f32) : FVec Ideal S1x80x256 .f32 :=
  accV (vsV va vb) p0 p1 s0 s1 (rowV t7) (mNewV (rowV t7) p0 p1 s0 s1) t8

/-- The four score tiles of two key blocks and two heads, as pieces of a buffer. -/
def tiles (K0 K1 : FVec Ideal S256x128 .bf16) (q0 q1 : FVec Ideal S128x256 .bf16) : List (View.Piece (Elt Ideal) S2x2x256x256 .f32) :=
  [⟨rs11, scoreV K1 q1⟩, ⟨rs01, scoreV K1 q0⟩, ⟨rs10, scoreV K0 q1⟩, ⟨rs00, scoreV K0 q0⟩]

section Model

variable (M7 : Memref sig .tc .vmem S2x8x256 .f32) (M8 : Memref sig .tc .vmem S2x80x256 .f32) (M9 : Memref sig .tc .vmem S2x8x256 .f32)
  (M10 M11 : Memref sig .tc .vmem S2x2x256x256 .f32)

/-- The first head's, and the second's, picks of block `j`. -/
def pick0 (X9 : BufTy.Contents (Elt Ideal) M9.view.ty) (j : BitVec 32) : IVec S1x256 1 :=
  pickV j (M9.view.readAt (Elt Ideal) r900.toLoadRect X9) (M9.view.readAt (Elt Ideal) r901.toLoadRect X9) (M9.view.readAt (Elt Ideal) r902.toLoadRect X9)
def pick1 (X9 : BufTy.Contents (Elt Ideal) M9.view.ty) (j : BitVec 32) : IVec S1x256 1 :=
  pickV j (M9.view.readAt (Elt Ideal) r910.toLoadRect X9) (M9.view.readAt (Elt Ideal) r911.toLoadRect X9) (M9.view.readAt (Elt Ideal) r912.toLoadRect X9)

variable (va0 vb0 va1 vb1 : FVec Ideal S1x1x80x256 .bf16) (X9 : BufTy.Contents (Elt Ideal) M9.view.ty) (j : BitVec 32)
  (s00 s01 s10 s11 : FVec Ideal S1x1x256x256 .f32)

/-- Two blocks' steps of both heads, the buffers' parts read as `t7`, `t8`: the new parts. -/
def st7 (t70 t71 : FVec Ideal S1x8x256 .f32) : FVec Ideal S1x8x256 .f32 × FVec Ideal S1x8x256 .f32 :=
  (next7 (pick0 M9 X9 (Scalar.addi j 0#32)) (pick0 M9 X9 (Scalar.addi j 1#32)) (tileV s00) (tileV s01) t70,
   next7 (pick1 M9 X9 (Scalar.addi j 0#32)) (pick1 M9 X9 (Scalar.addi j 1#32)) (tileV s10) (tileV s11) t71)
def st8 (t70 t71 : FVec Ideal S1x8x256 .f32) (t80 t81 : FVec Ideal S1x80x256 .f32) : FVec Ideal S1x80x256 .f32 × FVec Ideal S1x80x256 .f32 :=
  (next8 va0 vb0 (pick0 M9 X9 (Scalar.addi j 0#32)) (pick0 M9 X9 (Scalar.addi j 1#32)) (tileV s00) (tileV s01) t70 t80,
   next8 va1 vb1 (pick1 M9 X9 (Scalar.addi j 0#32)) (pick1 M9 X9 (Scalar.addi j 1#32)) (tileV s10) (tileV s11) t71 t81)

end Model

/-! ## A trip's pieces -/

section Trip

variable (M7 : Memref sig .tc .vmem S2x8x256 .f32) (M8 : Memref sig .tc .vmem S2x80x256 .f32) (M9 : Memref sig .tc .vmem S2x8x256 .f32)
  (M10 M11 : Memref sig .tc .vmem S2x2x256x256 .f32)
  (q0 q1 : FVec Ideal S128x256 .bf16) (Ka Kb Kc Kd : FVec Ideal S256x128 .bf16) (va0 vb0 va1 vb1 vc0 vd0 vc1 vd1 : FVec Ideal S1x1x80x256 .bf16)
  (X9 : BufTy.Contents (Elt Ideal) M9.view.ty) (j j' : BitVec 32)
  (f7 : BufTy.Contents (Elt Ideal) M7.view.ty) (f8 : BufTy.Contents (Elt Ideal) M8.view.ty) (f10 : BufTy.Contents (Elt Ideal) M10.view.ty)

/-- The parts after the trip's first two blocks, their scores from the first buffer. -/
def mid7 : FVec Ideal S1x8x256 .f32 × FVec Ideal S1x8x256 .f32 :=
  st7 M9 X9 j (M10.view.readAt (Elt Ideal) rs00.toLoadRect f10) (M10.view.readAt (Elt Ideal) rs01.toLoadRect f10)
    (M10.view.readAt (Elt Ideal) rs10.toLoadRect f10) (M10.view.readAt (Elt Ideal) rs11.toLoadRect f10)
    (M7.view.readAt (Elt Ideal) r70.toLoadRect f7) (M7.view.readAt (Elt Ideal) r71.toLoadRect f7)
def mid8 : FVec Ideal S1x80x256 .f32 × FVec Ideal S1x80x256 .f32 :=
  st8 M9 va0 vb0 va1 vb1 X9 j (M10.view.readAt (Elt Ideal) rs00.toLoadRect f10) (M10.view.readAt (Elt Ideal) rs01.toLoadRect f10)
    (M10.view.readAt (Elt Ideal) rs10.toLoadRect f10) (M10.view.readAt (Elt Ideal) rs11.toLoadRect f10)
    (M7.view.readAt (Elt Ideal) r70.toLoadRect f7) (M7.view.readAt (Elt Ideal) r71.toLoadRect f7)
    (M8.view.readAt (Elt Ideal) r80.toLoadRect f8) (M8.view.readAt (Elt Ideal) r81.toLoadRect f8)

/-- The pieces of the first two blocks. -/
def pieces7a : List (View.Piece (Elt Ideal) S2x8x256 .f32) := [⟨r71, (mid7 M7 M9 M10 X9 j f7 f10).2⟩, ⟨r70, (mid7 M7 M9 M10 X9 j f7 f10).1⟩]
def pieces8a : List (View.Piece (Elt Ideal) S2x80x256 .f32) :=
  [⟨r81, (mid8 M7 M8 M9 M10 va0 vb0 va1 vb1 X9 j f7 f8 f10).2⟩, ⟨r80, (mid8 M7 M8 M9 M10 va0 vb0 va1 vb1 X9 j f7 f8 f10).1⟩]

/-- The parts after the trip's last two blocks, given how the buffers' parts read, their scores as this trip wrote them. -/
def end7 (t70 t71 : FVec Ideal S1x8x256 .f32) : FVec Ideal S1x8x256 .f32 × FVec Ideal S1x8x256 .f32 :=
  st7 M9 X9 j' (M11.view.readCov (tiles Ka Kb q0 q1) rs00.toLoadRect) (M11.view.readCov (tiles Ka Kb q0 q1) rs01.toLoadRect)
    (M11.view.readCov (tiles Ka Kb q0 q1) rs10.toLoadRect) (M11.view.readCov (tiles Ka Kb q0 q1) rs11.toLoadRect) t70 t71
def end8 (t70 t71 : FVec Ideal S1x8x256 .f32) (t80 t81 : FVec Ideal S1x80x256 .f32) : FVec Ideal S1x80x256 .f32 × FVec Ideal S1x80x256 .f32 :=
  st8 M9 vc0 vd0 vc1 vd1 X9 j' (M11.view.readCov (tiles Ka Kb q0 q1) rs00.toLoadRect) (M11.view.readCov (tiles Ka Kb q0 q1) rs01.toLoadRect)
    (M11.view.readCov (tiles Ka Kb q0 q1) rs10.toLoadRect) (M11.view.readCov (tiles Ka Kb q0 q1) rs11.toLoadRect) t70 t71 t80 t81

/-- How the parts read between the two halves. -/
def rd70 : FVec Ideal S1x8x256 .f32 := M7.view.readCov (pieces7a M7 M9 M10 X9 j f7 f10) r70.toLoadRect
def pieces7b : List (View.Piece (Elt Ideal) S2x8x256 .f32) :=
  ⟨r70, (end7 M9 M11 q0 q1 Ka Kb X9 j' (rd70 M7 M9 M10 X9 j f7 f10) (rd70 M7 M9 M10 X9 j f7 f10)).1⟩ :: pieces7a M7 M9 M10 X9 j f7 f10
def rd71 : FVec Ideal S1x8x256 .f32 := M7.view.readCov (pieces7b M7 M9 M10 M11 q0 q1 Ka Kb X9 j j' f7 f10) r71.toLoadRect
def rd80 : FVec Ideal S1x80x256 .f32 := M8.view.readCov (pieces8a M7 M8 M9 M10 va0 vb0 va1 vb1 X9 j f7 f8 f10) r80.toLoadRect
def pieces8b : List (View.Piece (Elt Ideal) S2x80x256 .f32) :=
  ⟨r80, (end8 M9 M11 q0 q1 Ka Kb vc0 vd0 vc1 vd1 X9 j' (rd70 M7 M9 M10 X9 j f7 f10) (rd70 M7 M9 M10 X9 j f7 f10)
      (rd80 M7 M8 M9 M10 va0 vb0 va1 vb1 X9 j f7 f8 f10) (rd80 M7 M8 M9 M10 va0 vb0 va1 vb1 X9 j f7 f8 f10)).1⟩
    :: pieces8a M7 M8 M9 M10 va0 vb0 va1 vb1 X9 j f7 f8 f10
def rd81 : FVec Ideal S1x80x256 .f32 :=
  M8.view.readCov (pieces8b M7 M8 M9 M10 M11 q0 q1 Ka Kb va0 vb0 va1 vb1 vc0 vd0 vc1 vd1 X9 j j' f7 f8 f10) r81.toLoadRect

/-- All the trip writes. -/
def pieces7 : List (View.Piece (Elt Ideal) S2x8x256 .f32) :=
  ⟨r71, (end7 M9 M11 q0 q1 Ka Kb X9 j' (rd71 M7 M9 M10 M11 q0 q1 Ka Kb X9 j j' f7 f10) (rd71 M7 M9 M10 M11 q0 q1 Ka Kb X9 j j' f7 f10)).2⟩
    :: pieces7b M7 M9 M10 M11 q0 q1 Ka Kb X9 j j' f7 f10
def pieces8 : List (View.Piece (Elt Ideal) S2x80x256 .f32) :=
  ⟨r81, (end8 M9 M11 q0 q1 Ka Kb vc0 vd0 vc1 vd1 X9 j' (rd71 M7 M9 M10 M11 q0 q1 Ka Kb X9 j j' f7 f10) (rd71 M7 M9 M10 M11 q0 q1 Ka Kb X9 j j' f7 f10)
      (rd81 M7 M8 M9 M10 M11 q0 q1 Ka Kb va0 vb0 va1 vb1 vc0 vd0 vc1 vd1 X9 j j' f7 f8 f10) (rd81 M7 M8 M9 M10 M11 q0 q1 Ka Kb va0 vb0 va1 vb1 vc0 vd0 vc1 vd1 X9 j j' f7 f8 f10)).2⟩
    :: pieces8b M7 M8 M9 M10 M11 q0 q1 Ka Kb va0 vb0 va1 vb1 vc0 vd0 vc1 vd1 X9 j j' f7 f8 f10

end Trip

/-! ## The two loops' trips -/

/-- The number of the first of a trip's four blocks, and of its third. -/
def jA (k : ℕ) : BitVec 32 := Scalar.muli (2#32) (Scalar.muli (2#32) (Scf.iv 0#32 1#32 k))
def jB (k : ℕ) : BitVec 32 := Scalar.muli (2#32) (Scalar.addi (Scalar.muli (2#32) (Scf.iv 0#32 1#32 k)) 1#32)

set_option maxHeartbeats 2000000 in
/-- A trip's pieces in loop 1. -/
theorem tripL1_eq
    (𝒱 : Variants) (c : Dev nD) (bd : Option 𝒱.V) (i : grid0.Coords) (M2 : Memref sig .tc .vmem S128x512 .bf16) (h2 : M2.IsWhole) (M3 : Memref sig .tc
    .vmem S16384x128 .bf16) (h3 : M3.IsWhole) (M4 : Memref sig .tc .vmem S64x2x80x256 .bf16) (h4 : M4.IsWhole) (M5 : Memref sig .tc .vmem S128x128
    .bf16) (h5 : M5.IsWhole) (M6 : Memref sig .tc .vmem S512x128 .bf16) (h6 : M6.IsWhole) (M7 : Memref sig .tc .vmem S2x8x256 .f32) (h7 : M7.IsWhole)
    (M8 : Memref sig .tc .vmem S2x80x256 .f32) (h8 : M8.IsWhole) (M9 : Memref sig .tc .vmem S2x8x256 .f32) (h9 : M9.IsWhole) (M10 : Memref sig .tc
    .vmem S2x2x256x256 .f32) (h10 : M10.IsWhole) (M11 : Memref sig .tc .vmem S2x2x256x256 .f32) (h11 : M11.IsWhole)
    (v1 : BitVec 32) (v12 v20 : FVec Ideal S128x256 .bf16) (v217 : FVec Ideal S256x256 .f32) (X3 : BufTy.Contents (Elt Ideal) M3.view.ty) (X4 :
    BufTy.Contents (Elt Ideal) M4.view.ty) (X9 : BufTy.Contents (Elt Ideal) M9.view.ty) (k : Fin (k0_t1_loop i).trips) (f7 : BufTy.Contents (Elt
    Ideal) M7.view.ty) (f8 : BufTy.Contents (Elt Ideal) M8.view.ty) (f10 : BufTy.Contents (Elt Ideal) M10.view.ty) (f11 : BufTy.Contents (Elt Ideal)
    M11.view.ty) :
    tripL_k0_t1 (F := Ideal) 𝒱 c bd i M2 h2 M3 h3 M4 h4 M5 h5 M6 h6 M7 h7 M8 h8 M9 h9 M10 h10 M11 h11
        v1 v12 v20 v217 X3 X4 X9 k f7 f8 f10 f11
      = (pieces7 M7 M9 M10 M11 v12 v20
          (M3.view.readAt (Elt Ideal) (Rect.unit (s := S16384x128) (k0_off5 i k 1#32 0#32) S256x128.size (k0_off5_inb i k 0 0)).toLoadRect X3)
          (M3.view.readAt (Elt Ideal) (Rect.unit (s := S16384x128) (k0_off5 i k 1#32 1#32) S256x128.size (k0_off5_inb i k 0 1)).toLoadRect X3)
          X9 (jA k) (jB k) f7 f10,
        pieces8 M7 M8 M9 M10 M11 v12 v20
          (M3.view.readAt (Elt Ideal) (Rect.unit (s := S16384x128) (k0_off5 i k 1#32 0#32) S256x128.size (k0_off5_inb i k 0 0)).toLoadRect X3)
          (M3.view.readAt (Elt Ideal) (Rect.unit (s := S16384x128) (k0_off5 i k 1#32 1#32) S256x128.size (k0_off5_inb i k 0 1)).toLoadRect X3)
          (M4.view.readAt (Elt Ideal) (Rect.unit (s := S64x2x80x256) (k0_off6 i k 0#32) S1x1x80x256.size (k0_off6_inb i k 0)).toLoadRect X4)
          (M4.view.readAt (Elt Ideal) (Rect.unit (s := S64x2x80x256) (k0_off6 i k 1#32) S1x1x80x256.size (k0_off6_inb i k 1)).toLoadRect X4)
          (M4.view.readAt (Elt Ideal) (Rect.unit (s := S64x2x80x256) (k0_off7 i k 0#32) S1x1x80x256.size (k0_off7_inb i k 0)).toLoadRect X4)
          (M4.view.readAt (Elt Ideal) (Rect.unit (s := S64x2x80x256) (k0_off7 i k 1#32) S1x1x80x256.size (k0_off7_inb i k 1)).toLoadRect X4)
          (M4.view.readAt (Elt Ideal) (Rect.unit (s := S64x2x80x256) (k0_off8 i k 0#32) S1x1x80x256.size (k0_off8_inb i k 0)).toLoadRect X4)
          (M4.view.readAt (Elt Ideal) (Rect.unit (s := S64x2x80x256) (k0_off8 i k 1#32) S1x1x80x256.size (k0_off8_inb i k 1)).toLoadRect X4)
          (M4.view.readAt (Elt Ideal) (Rect.unit (s := S64x2x80x256) (k0_off9 i k 0#32) S1x1x80x256.size (k0_off9_inb i k 0)).toLoadRect X4)
          (M4.view.readAt (Elt Ideal) (Rect.unit (s := S64x2x80x256) (k0_off9 i k 1#32) S1x1x80x256.size (k0_off9_inb i k 1)).toLoadRect X4)
          X9 (jA k) (jB k) f7 f8 f10,
        tiles (M3.view.readAt (Elt Ideal) (Rect.unit (s := S16384x128) (k0_off5 i k 2#32 0#32) S256x128.size (k0_off5_inb i k 1 0)).toLoadRect X3)
          (M3.view.readAt (Elt Ideal) (Rect.unit (s := S16384x128) (k0_off5 i k 2#32 1#32) S256x128.size (k0_off5_inb i k 1 1)).toLoadRect X3) v12 v20,
        tiles (M3.view.readAt (Elt Ideal) (Rect.unit (s := S16384x128) (k0_off5 i k 1#32 0#32) S256x128.size (k0_off5_inb i k 0 0)).toLoadRect X3)
          (M3.view.readAt (Elt Ideal) (Rect.unit (s := S16384x128) (k0_off5 i k 1#32 1#32) S256x128.size (k0_off5_inb i k 0 1)).toLoadRect X3) v12 v20) := by
  unfold tripL_k0_t1 trip_k0_t1
  rfl

set_option maxHeartbeats 2000000 in
/-- A trip's pieces in loop 3. -/
theorem tripL3_eq
    (𝒱 : Variants) (c : Dev nD) (bd : Option 𝒱.V) (i : grid0.Coords) (M2 : Memref sig .tc .vmem S128x512 .bf16) (h2 : M2.IsWhole) (M3 : Memref sig .tc
    .vmem S16384x128 .bf16) (h3 : M3.IsWhole) (M4 : Memref sig .tc .vmem S64x2x80x256 .bf16) (h4 : M4.IsWhole) (M5 : Memref sig .tc .vmem S128x128
    .bf16) (h5 : M5.IsWhole) (M6 : Memref sig .tc .vmem S512x128 .bf16) (h6 : M6.IsWhole) (M7 : Memref sig .tc .vmem S2x8x256 .f32) (h7 : M7.IsWhole)
    (M8 : Memref sig .tc .vmem S2x80x256 .f32) (h8 : M8.IsWhole) (M9 : Memref sig .tc .vmem S2x8x256 .f32) (h9 : M9.IsWhole) (M10 : Memref sig .tc
    .vmem S2x2x256x256 .f32) (h10 : M10.IsWhole) (M11 : Memref sig .tc .vmem S2x2x256x256 .f32) (h11 : M11.IsWhole)
    (v265 : BitVec 32) (v276 v284 : FVec Ideal S128x256 .bf16) (v475 : Vec Ideal S256x128 .bf16) (X3 : BufTy.Contents (Elt Ideal) M3.view.ty) (X4 :
    BufTy.Contents (Elt Ideal) M4.view.ty) (X9 : BufTy.Contents (Elt Ideal) M9.view.ty) (k : Fin (k0_t3_loop i).trips) (f7 : BufTy.Contents (Elt
    Ideal) M7.view.ty) (f8 : BufTy.Contents (Elt Ideal) M8.view.ty) (f10 : BufTy.Contents (Elt Ideal) M10.view.ty) (f11 : BufTy.Contents (Elt Ideal)
    M11.view.ty) :
    tripL_k0_t3 (F := Ideal) 𝒱 c bd i M2 h2 M3 h3 M4 h4 M5 h5 M6 h6 M7 h7 M8 h8 M9 h9 M10 h10 M11 h11
        v265 v276 v284 v475 X3 X4 X9 k f7 f8 f10 f11
      = (pieces7 M7 M9 M10 M11 v276 v284
          (M3.view.readAt (Elt Ideal) (Rect.unit (s := S16384x128) (k0_off15 i k 1#32 0#32) S256x128.size (k0_off15_inb i k 0 0)).toLoadRect X3)
          (M3.view.readAt (Elt Ideal) (Rect.unit (s := S16384x128) (k0_off15 i k 1#32 1#32) S256x128.size (k0_off15_inb i k 0 1)).toLoadRect X3)
          X9 (jA k) (jB k) f7 f10,
        pieces8 M7 M8 M9 M10 M11 v276 v284
          (M3.view.readAt (Elt Ideal) (Rect.unit (s := S16384x128) (k0_off15 i k 1#32 0#32) S256x128.size (k0_off15_inb i k 0 0)).toLoadRect X3)
          (M3.view.readAt (Elt Ideal) (Rect.unit (s := S16384x128) (k0_off15 i k 1#32 1#32) S256x128.size (k0_off15_inb i k 0 1)).toLoadRect X3)
          (M4.view.readAt (Elt Ideal) (Rect.unit (s := S64x2x80x256) (k0_off16 i k 0#32) S1x1x80x256.size (k0_off16_inb i k 0)).toLoadRect X4)
          (M4.view.readAt (Elt Ideal) (Rect.unit (s := S64x2x80x256) (k0_off16 i k 1#32) S1x1x80x256.size (k0_off16_inb i k 1)).toLoadRect X4)
          (M4.view.readAt (Elt Ideal) (Rect.unit (s := S64x2x80x256) (k0_off17 i k 0#32) S1x1x80x256.size (k0_off17_inb i k 0)).toLoadRect X4)
          (M4.view.readAt (Elt Ideal) (Rect.unit (s := S64x2x80x256) (k0_off17 i k 1#32) S1x1x80x256.size (k0_off17_inb i k 1)).toLoadRect X4)
          (M4.view.readAt (Elt Ideal) (Rect.unit (s := S64x2x80x256) (k0_off18 i k 0#32) S1x1x80x256.size (k0_off18_inb i k 0)).toLoadRect X4)
          (M4.view.readAt (Elt Ideal) (Rect.unit (s := S64x2x80x256) (k0_off18 i k 1#32) S1x1x80x256.size (k0_off18_inb i k 1)).toLoadRect X4)
          (M4.view.readAt (Elt Ideal) (Rect.unit (s := S64x2x80x256) (k0_off19 i k 0#32) S1x1x80x256.size (k0_off19_inb i k 0)).toLoadRect X4)
          (M4.view.readAt (Elt Ideal) (Rect.unit (s := S64x2x80x256) (k0_off19 i k 1#32) S1x1x80x256.size (k0_off19_inb i k 1)).toLoadRect X4)
          X9 (jA k) (jB k) f7 f8 f10,
        tiles (M3.view.readAt (Elt Ideal) (Rect.unit (s := S16384x128) (k0_off15 i k 2#32 0#32) S256x128.size (k0_off15_inb i k 1 0)).toLoadRect X3)
          (M3.view.readAt (Elt Ideal) (Rect.unit (s := S16384x128) (k0_off15 i k 2#32 1#32) S256x128.size (k0_off15_inb i k 1 1)).toLoadRect X3) v276 v284,
        tiles (M3.view.readAt (Elt Ideal) (Rect.unit (s := S16384x128) (k0_off15 i k 1#32 0#32) S256x128.size (k0_off15_inb i k 0 0)).toLoadRect X3)
          (M3.view.readAt (Elt Ideal) (Rect.unit (s := S16384x128) (k0_off15 i k 1#32 1#32) S256x128.size (k0_off15_inb i k 0 1)).toLoadRect X3) v276 v284) := by
  unfold tripL_k0_t3 trip_k0_t3
  rfl

end Cert.KernelIdeal.Hand

end
-- ==== Proof.KLoop.lean ====
/-
  The loop over the key blocks keeps, for every query, a real reference exponent and the running sums relative to it.
-/
module

public import proofs.«01_k».proof.Proof.KTrip

@[expose] public section

set_option maxRecDepth 16384

noncomputable section

namespace Cert.KernelIdeal.Hand

open Cert.KernelIdeal Cert.KernelIdeal.Gen Cert.Moba
open Idealize.ShloMosaic

/-! ## A load of a part after a list of writes -/

section Loads

variable {κ' : Kind} {sp : Space} {s : Shape} {e : EltTy} {Val : EltTy → Type}

/-- A load of the newest write's own rectangle reads its payload. -/
theorem readAt_hit (v : View sig κ' sp s e) (f : v.ty.Contents Val) (r : Rect s) (w : r.shape.Idx → Val e) (L : List (View.Piece Val s e)) :
    v.readAt Val r.toLoadRect (v.writes Val f (⟨r, w⟩ :: L)) = w := by
  funext x; exact View.read_writes_cons_emb v f r w L x

/-- A load apart from the newest write's rectangle reads the earlier writes. -/
theorem readAt_miss (v : View sig κ' sp s e) (f : v.ty.Contents Val) (r' : Rect s) (w : r'.shape.Idx → Val e) (r : Rect s) (L : List (View.Piece Val s e))
    (h : ∀ x, r.emb x ∉ r'.set) :
    v.readAt Val r.toLoadRect (v.writes Val f (⟨r', w⟩ :: L)) = v.readAt Val r.toLoadRect (v.writes Val f L) := by
  funext x; exact View.read_writes_cons_miss v f ⟨r', w⟩ L _ (h x)

end Loads

theorem miss7_0 (x : r70.shape.Idx) : r70.emb x ∉ r71.set :=
  Rect.not_mem_set_of_axis _ _ (0 : Fin 3) 1 1 rfl rfl rfl (Or.inl (show 0 + 1 * (x 0).val < 1 by have h : (x 0).val < 1 := (x 0).isLt; omega))
theorem miss7_1 (x : r71.shape.Idx) : r71.emb x ∉ r70.set :=
  Rect.not_mem_set_of_axis _ _ (0 : Fin 3) 0 1 rfl rfl rfl (Or.inr (show 0 + 1 ≤ 1 + 1 * (x 0).val by omega))
theorem miss8_0 (x : r80.shape.Idx) : r80.emb x ∉ r81.set :=
  Rect.not_mem_set_of_axis _ _ (0 : Fin 3) 1 1 rfl rfl rfl (Or.inl (show 0 + 1 * (x 0).val < 1 by have h : (x 0).val < 1 := (x 0).isLt; omega))
theorem miss8_1 (x : r81.shape.Idx) : r81.emb x ∉ r80.set :=
  Rect.not_mem_set_of_axis _ _ (0 : Fin 3) 0 1 rfl rfl rfl (Or.inr (show 0 + 1 ≤ 1 + 1 * (x 0).val by omega))
theorem miss00_11 (x : rs00.shape.Idx) : rs00.emb x ∉ rs11.set :=
  Rect.not_mem_set_of_axis _ _ (0 : Fin 4) 1 1 rfl rfl rfl (Or.inl (show 0 + 1 * (x 0).val < 1 by have h : (x 0).val < 1 := (x 0).isLt; omega))
theorem miss00_01 (x : rs00.shape.Idx) : rs00.emb x ∉ rs01.set :=
  Rect.not_mem_set_of_axis _ _ (1 : Fin 4) 1 1 rfl rfl rfl (Or.inl (show 0 + 1 * (x 1).val < 1 by have h : (x 1).val < 1 := (x 1).isLt; omega))
theorem miss00_10 (x : rs00.shape.Idx) : rs00.emb x ∉ rs10.set :=
  Rect.not_mem_set_of_axis _ _ (0 : Fin 4) 1 1 rfl rfl rfl (Or.inl (show 0 + 1 * (x 0).val < 1 by have h : (x 0).val < 1 := (x 0).isLt; omega))
theorem miss01_11 (x : rs01.shape.Idx) : rs01.emb x ∉ rs11.set :=
  Rect.not_mem_set_of_axis _ _ (0 : Fin 4) 1 1 rfl rfl rfl (Or.inl (show 0 + 1 * (x 0).val < 1 by have h : (x 0).val < 1 := (x 0).isLt; omega))
theorem miss10_11 (x : rs10.shape.Idx) : rs10.emb x ∉ rs11.set :=
  Rect.not_mem_set_of_axis _ _ (1 : Fin 4) 1 1 rfl rfl rfl (Or.inl (show 0 + 1 * (x 1).val < 1 by have h : (x 1).val < 1 := (x 1).isLt; omega))
theorem miss10_01 (x : rs10.shape.Idx) : rs10.emb x ∉ rs01.set :=
  Rect.not_mem_set_of_axis _ _ (0 : Fin 4) 0 1 rfl rfl rfl (Or.inr (show 0 + 1 ≤ 1 + 1 * (x 0).val by omega))

section Tiles

variable (M : Memref sig .tc .vmem S2x2x256x256 .f32) (f : BufTy.Contents (Elt Ideal) M.view.ty) (Ka Kb : FVec Ideal S256x128 .bf16)
  (q0 q1 : FVec Ideal S128x256 .bf16) (L : List (View.Piece (Elt Ideal) S2x2x256x256 .f32))

/-- Each of the four score tiles reads back. -/
theorem tiles_11 : M.view.readAt (Elt Ideal) rs11.toLoadRect (M.view.writes (Elt Ideal) f (tiles Ka Kb q0 q1 ++ L)) = scoreV Kb q1 := by
  unfold tiles; exact readAt_hit _ _ _ _ _
theorem tiles_01 : M.view.readAt (Elt Ideal) rs01.toLoadRect (M.view.writes (Elt Ideal) f (tiles Ka Kb q0 q1 ++ L)) = scoreV Kb q0 := by
  unfold tiles; rw [List.cons_append, readAt_miss _ _ _ _ _ _ miss01_11]; exact readAt_hit _ _ _ _ _
theorem tiles_10 : M.view.readAt (Elt Ideal) rs10.toLoadRect (M.view.writes (Elt Ideal) f (tiles Ka Kb q0 q1 ++ L)) = scoreV Ka q1 := by
  unfold tiles; rw [List.cons_append, readAt_miss _ _ _ _ _ _ miss10_11, List.cons_append, readAt_miss _ _ _ _ _ _ miss10_01]; exact readAt_hit _ _ _ _ _
theorem tiles_00 : M.view.readAt (Elt Ideal) rs00.toLoadRect (M.view.writes (Elt Ideal) f (tiles Ka Kb q0 q1 ++ L)) = scoreV Ka q0 := by
  unfold tiles
  rw [List.cons_append, readAt_miss _ _ _ _ _ _ miss00_11, List.cons_append, readAt_miss _ _ _ _ _ _ miss00_01, List.cons_append,
    readAt_miss _ _ _ _ _ _ miss00_10]
  exact readAt_hit _ _ _ _ _

end Tiles

/-! ## One head's step keeps the sums -/

section Step

variable (s : Fin 256 → ℕ → Fin 256 → ℝ) (v : Fin 80 → ℕ → Fin 256 → EReal) (P : Fin 256 → ℕ → Prop) [∀ c, DecidablePred (P c)] (i : ℕ)

/-- Every query's reference exponent is a real and its running sums are those of the first `j` blocks. -/
def Good (j : ℕ) (t7 : FVec Ideal S1x8x256 .f32) (t8 : FVec Ideal S1x80x256 .f32) : Prop :=
  ∀ c : Fin 256, ∃ μ : ℝ, t7 (ix3 0 0 c) = (μ : EReal) ∧ ∀ d : Fin 80, t8 (ix3 0 d c) = acc (s c) (v d) (P c) i c μ j

/-- A tile holds block `n`'s scores of the queries that picked it. -/
def Scores (n : ℕ) (t : FVec Ideal S1x1x256x256 .f32) : Prop := ∀ c, P c n → ∀ r, t (ix4 0 0 r c) = (s c n r : EReal)

/-- A vector holds block `n`'s values, if a query picked it. -/
def Vals (n : ℕ) (va : FVec Ideal S1x1x80x256 .bf16) : Prop := (∃ c, P c n) → ∀ d r, va (ix4 0 0 d r) = v d n r

theorem good_step {j : ℕ} {t7 : FVec Ideal S1x8x256 .f32} {t8 : FVec Ideal S1x80x256 .f32} (h : Good s v P i j t7 t8)
    {p0 p1 : IVec S1x256 1} (hp0 : ∀ c, p0 (ix2 0 c) = 1#1 ↔ P c j) (hp1 : ∀ c, p1 (ix2 0 c) = 1#1 ↔ P c (j + 1))
    {s0 s1 : FVec Ideal S1x1x256x256 .f32} (hs0 : Scores s P j s0) (hs1 : Scores s P (j + 1) s1)
    {va vb : FVec Ideal S1x1x80x256 .bf16} (hva : Vals v P j va) (hvb : Vals v P (j + 1) vb) :
    Good s v P i (j + 2) (next7 p0 p1 (tileV s0) (tileV s1) t7) (next8 va vb p0 p1 (tileV s0) (tileV s1) t7 t8) := by
  intro c
  obtain ⟨μ, h7, h8⟩ := h c
  have e0 : ∀ r, tileV s0 (ix2 r c) = s0 (ix4 0 0 r c) := fun r => tileV_apply s0 r c
  have e1 : ∀ r, tileV s1 (ix2 r c) = s1 (ix4 0 0 r c) := fun r => tileV_apply s1 r c
  have hs0' : P c j → ∀ r, tileV s0 (ix2 r c) = (s c j r : EReal) := fun hp r => (e0 r).trans (hs0 c hp r)
  have hs1' : P c (j + 1) → ∀ r, tileV s1 (ix2 r c) = (s c (j + 1) r : EReal) := fun hp r => (e1 r).trans (hs1 c hp r)
  have hm : mNewV (rowV t7) p0 p1 (tileV s0) (tileV s1) (ix2 0 c)
      = newRef (P c j) (P c (j + 1)) (μ : EReal) (fun r => tileV s0 (ix2 r c)) (fun r => tileV s1 (ix2 r c)) := by
    rw [mNewV_apply, rowV_apply, h7]
    unfold newRef
    simp only [hp0, hp1]
  obtain ⟨μ', hμ'⟩ := newRef_real (P c j) (P c (j + 1)) μ _ _ (fun r => s c j r) (fun r => s c (j + 1) r) hs0' hs1'
  refine ⟨μ', ?_, fun d => ?_⟩
  · unfold next7
    rw [rowsV_apply, hm, hμ']
  · unfold next8
    rw [accV_apply, rowV_apply, h7, h8 d, hm, hμ']
    refine Eq.trans ?_ (step_eq (s c) (v d) (P c) i c μ μ' j (fun r => tileV s0 (ix2 r c)) (fun r => tileV s1 (ix2 r c))
      (fun r => va (ix4 0 0 d r)) (fun r => vb (ix4 0 0 d r)) hs0' (fun hp r => hva ⟨c, hp⟩ d r) hs1' (fun hp r => hvb ⟨c, hp⟩ d r))
    congr 2 <;> refine Finset.sum_congr rfl fun r _ => ?_
    · rw [expV_apply, hm, hμ']; simp only [hp0]
    · rw [expV_apply, hm, hμ']; simp only [hp1]

end Step

/-! ## A trip keeps the sums -/

section Trip

variable (s : Fin 2 → Fin 256 → ℕ → Fin 256 → ℝ) (v : Fin 2 → Fin 80 → ℕ → Fin 256 → EReal) (P : Fin 2 → Fin 256 → ℕ → Prop)
  [∀ h c, DecidablePred (P h c)] (i : ℕ)
  (M7 : Memref sig .tc .vmem S2x8x256 .f32) (M8 : Memref sig .tc .vmem S2x80x256 .f32) (M9 : Memref sig .tc .vmem S2x8x256 .f32)
  (M10 M11 : Memref sig .tc .vmem S2x2x256x256 .f32)

/-- Before a trip: both heads' sums over the first `j` blocks, and the next two blocks' scores in the first score buffer. -/
structure Inv (j : ℕ) (f7 : BufTy.Contents (Elt Ideal) M7.view.ty) (f8 : BufTy.Contents (Elt Ideal) M8.view.ty)
    (f10 : BufTy.Contents (Elt Ideal) M10.view.ty) : Prop where
  g0 : Good (s 0) (v 0) (P 0) i j (M7.view.readAt (Elt Ideal) r70.toLoadRect f7) (M8.view.readAt (Elt Ideal) r80.toLoadRect f8)
  g1 : Good (s 1) (v 1) (P 1) i j (M7.view.readAt (Elt Ideal) r71.toLoadRect f7) (M8.view.readAt (Elt Ideal) r81.toLoadRect f8)
  s00 : Scores (s 0) (P 0) j (M10.view.readAt (Elt Ideal) rs00.toLoadRect f10)
  s01 : Scores (s 0) (P 0) (j + 1) (M10.view.readAt (Elt Ideal) rs01.toLoadRect f10)
  s10 : Scores (s 1) (P 1) j (M10.view.readAt (Elt Ideal) rs10.toLoadRect f10)
  s11 : Scores (s 1) (P 1) (j + 1) (M10.view.readAt (Elt Ideal) rs11.toLoadRect f10)

/-- The two picks of block `n`, given by the word `w`, are the heads'. -/
def Picks (X9 : BufTy.Contents (Elt Ideal) M9.view.ty) (w : BitVec 32) (n : ℕ) : Prop :=
  (∀ c, pick0 M9 X9 w (ix2 0 c) = 1#1 ↔ P 0 c n) ∧ ∀ c, pick1 M9 X9 w (ix2 0 c) = 1#1 ↔ P 1 c n

variable {s v P i M7 M8 M9 M10} in
theorem trip_inv {j : ℕ} {f7 : BufTy.Contents (Elt Ideal) M7.view.ty} {f8 : BufTy.Contents (Elt Ideal) M8.view.ty}
    {f10 : BufTy.Contents (Elt Ideal) M10.view.ty} (h : Inv s v P i M7 M8 M10 j f7 f8 f10)
    {q0 q1 : FVec Ideal S128x256 .bf16} {Ka Kb Kc Kd : FVec Ideal S256x128 .bf16} {va0 vb0 va1 vb1 vc0 vd0 vc1 vd1 : FVec Ideal S1x1x80x256 .bf16}
    {X9 : BufTy.Contents (Elt Ideal) M9.view.ty} {w w' : BitVec 32}
    (pa : Picks P M9 X9 (Scalar.addi w 0#32) j) (pb : Picks P M9 X9 (Scalar.addi w 1#32) (j + 1))
    (pc : Picks P M9 X9 (Scalar.addi w' 0#32) (j + 2)) (pd : Picks P M9 X9 (Scalar.addi w' 1#32) (j + 3))
    (ka0 : Scores (s 0) (P 0) (j + 2) (scoreV Ka q0)) (ka1 : Scores (s 1) (P 1) (j + 2) (scoreV Ka q1))
    (kb0 : Scores (s 0) (P 0) (j + 3) (scoreV Kb q0)) (kb1 : Scores (s 1) (P 1) (j + 3) (scoreV Kb q1))
    (kc0 : Scores (s 0) (P 0) (j + 4) (scoreV Kc q0)) (kc1 : Scores (s 1) (P 1) (j + 4) (scoreV Kc q1))
    (kd0 : Scores (s 0) (P 0) (j + 5) (scoreV Kd q0)) (kd1 : Scores (s 1) (P 1) (j + 5) (scoreV Kd q1))
    (ha0 : Vals (v 0) (P 0) j va0) (ha1 : Vals (v 1) (P 1) j va1) (hb0 : Vals (v 0) (P 0) (j + 1) vb0) (hb1 : Vals (v 1) (P 1) (j + 1) vb1)
    (hc0 : Vals (v 0) (P 0) (j + 2) vc0) (hc1 : Vals (v 1) (P 1) (j + 2) vc1) (hd0 : Vals (v 0) (P 0) (j + 3) vd0) (hd1 : Vals (v 1) (P 1) (j + 3) vd1) :
    Inv s v P i M7 M8 M10 (j + 4)
      (M7.view.writes (Elt Ideal) f7 (pieces7 M7 M9 M10 M11 q0 q1 Ka Kb X9 w w' f7 f10))
      (M8.view.writes (Elt Ideal) f8 (pieces8 M7 M8 M9 M10 M11 q0 q1 Ka Kb va0 vb0 va1 vb1 vc0 vd0 vc1 vd1 X9 w w' f7 f8 f10))
      (M10.view.writes (Elt Ideal) f10 (tiles Kc Kd q0 q1)) := by
  have t00 : M11.view.readCov (tiles Ka Kb q0 q1) rs00.toLoadRect = scoreV Ka q0 := by
    rw [← List.append_nil (tiles Ka Kb q0 q1)]; exact tiles_00 M11 _ Ka Kb q0 q1 []
  have t01 : M11.view.readCov (tiles Ka Kb q0 q1) rs01.toLoadRect = scoreV Kb q0 := by
    rw [← List.append_nil (tiles Ka Kb q0 q1)]; exact tiles_01 M11 _ Ka Kb q0 q1 []
  have t10 : M11.view.readCov (tiles Ka Kb q0 q1) rs10.toLoadRect = scoreV Ka q1 := by
    rw [← List.append_nil (tiles Ka Kb q0 q1)]; exact tiles_10 M11 _ Ka Kb q0 q1 []
  have t11 : M11.view.readCov (tiles Ka Kb q0 q1) rs11.toLoadRect = scoreV Kb q1 := by
    rw [← List.append_nil (tiles Ka Kb q0 q1)]; exact tiles_11 M11 _ Ka Kb q0 q1 []
  have e70 : rd70 M7 M9 M10 X9 w f7 f10 = (mid7 M7 M9 M10 X9 w f7 f10).1 := by
    unfold rd70 pieces7a View.readCov; rw [readAt_miss _ _ _ _ _ _ miss7_0]; exact readAt_hit _ _ _ _ _
  have e71 : rd71 M7 M9 M10 M11 q0 q1 Ka Kb X9 w w' f7 f10 = (mid7 M7 M9 M10 X9 w f7 f10).2 := by
    unfold rd71 pieces7b pieces7a View.readCov; rw [readAt_miss _ _ _ _ _ _ miss7_1]; exact readAt_hit _ _ _ _ _
  have e80 : rd80 M7 M8 M9 M10 va0 vb0 va1 vb1 X9 w f7 f8 f10 = (mid8 M7 M8 M9 M10 va0 vb0 va1 vb1 X9 w f7 f8 f10).1 := by
    unfold rd80 pieces8a View.readCov; rw [readAt_miss _ _ _ _ _ _ miss8_0]; exact readAt_hit _ _ _ _ _
  have e81 : rd81 M7 M8 M9 M10 M11 q0 q1 Ka Kb va0 vb0 va1 vb1 vc0 vd0 vc1 vd1 X9 w w' f7 f8 f10 = (mid8 M7 M8 M9 M10 va0 vb0 va1 vb1 X9 w f7 f8 f10).2 := by
    unfold rd81 pieces8b pieces8a View.readCov; rw [readAt_miss _ _ _ _ _ _ miss8_1]; exact readAt_hit _ _ _ _ _
  have m0 : Good (s 0) (v 0) (P 0) i (j + 2) (mid7 M7 M9 M10 X9 w f7 f10).1 (mid8 M7 M8 M9 M10 va0 vb0 va1 vb1 X9 w f7 f8 f10).1 :=
    good_step _ _ _ _ h.g0 pa.1 pb.1 h.s00 h.s01 ha0 hb0
  have m1 : Good (s 1) (v 1) (P 1) i (j + 2) (mid7 M7 M9 M10 X9 w f7 f10).2 (mid8 M7 M8 M9 M10 va0 vb0 va1 vb1 X9 w f7 f8 f10).2 :=
    good_step _ _ _ _ h.g1 pa.2 pb.2 h.s10 h.s11 ha1 hb1
  rw [← t00] at ka0
  rw [← t10] at ka1
  rw [← t01] at kb0
  rw [← t11] at kb1
  rw [← e70, ← e80] at m0
  rw [← e71, ← e81] at m1
  have n0 := good_step _ _ _ _ m0 pc.1 pd.1 ka0 kb0 hc0 hd0
  have n1 := good_step _ _ _ _ m1 pc.2 pd.2 ka1 kb1 hc1 hd1
  refine ⟨?_, ?_, ?_, ?_, ?_, ?_⟩
  · unfold pieces7 pieces7b pieces8 pieces8b
    rw [readAt_miss _ _ _ _ _ _ miss7_0, readAt_miss _ _ _ _ _ _ miss8_0, readAt_hit, readAt_hit]; exact n0
  · unfold pieces7 pieces8
    rw [readAt_hit, readAt_hit]; exact n1
  · rw [show tiles Kc Kd q0 q1 = tiles Kc Kd q0 q1 ++ [] from (List.append_nil _).symm, tiles_00]; exact kc0
  · rw [show tiles Kc Kd q0 q1 = tiles Kc Kd q0 q1 ++ [] from (List.append_nil _).symm, tiles_01]; exact kd0
  · rw [show tiles Kc Kd q0 q1 = tiles Kc Kd q0 q1 ++ [] from (List.append_nil _).symm, tiles_10]; exact kc1
  · rw [show tiles Kc Kd q0 q1 = tiles Kc Kd q0 q1 ++ [] from (List.append_nil _).symm, tiles_11]; exact kd1

end Trip

end Cert.KernelIdeal.Hand

end
-- ==== Proof.Pick.lean ====
/-
  Taking out the first greatest gate three times gives the three best blocks.
-/
module

public import proofs.«01_k».proof.Proof.Spec

@[expose] public section

noncomputable section

namespace Cert.Moba

open Idealize.ShloMosaic

/-- A column's greatest gate. -/
def top (G : Fin 128 → EReal) : EReal := (Finset.univ : Finset (Fin 128)).fold max ⊥ G

/-- The first row with the greatest gate. -/
def arg (G : Fin 128 → EReal) : EReal :=
  (Finset.univ : Finset (Fin 128)).fold min ⊤ fun n => if G n = top G then ((n.val : ℝ) : EReal) else ((128 : ℝ) : EReal)

/-- The number kept: the first greatest gate's row, or `-1` if every gate is `⊥`. -/
def best (G : Fin 128 → EReal) : EReal := if ⊥ < top G then arg G else ((-1 : ℝ) : EReal)

/-- The gates without the first greatest one. -/
def drop (G : Fin 128 → EReal) : Fin 128 → EReal := fun n => if ((n.val : ℝ) : EReal) = arg G then ⊥ else G n

/-- A column holds the gates of the blocks in `S` and `⊥` elsewhere. -/
def Col (g : ℕ → ℝ) (S : Finset ℕ) (G : Fin 128 → EReal) : Prop := ∀ n : Fin 128, G n = if n.val ∈ S then (g n.val : EReal) else ⊥

theorem top_le (G : Fin 128 → EReal) (n : Fin 128) : G n ≤ top G := Finset.le_sup (f := G) (Finset.mem_univ n)

theorem exists_top (G : Fin 128 → EReal) : ∃ n, G n = top G := by
  obtain ⟨n, -, h⟩ := Finset.exists_mem_eq_sup (Finset.univ : Finset (Fin 128)) Finset.univ_nonempty G
  exact ⟨n, h.symm⟩

/-- The first greatest gate's row. -/
theorem arg_eq (G : Fin 128 → EReal) : ∃ a : Fin 128, G a = top G ∧ (∀ n, G n = top G → a ≤ n) ∧ arg G = ((a.val : ℝ) : EReal) := by
  classical
  obtain ⟨n0, hn0⟩ := exists_top G
  let T : Finset (Fin 128) := Finset.univ.filter fun n => G n = top G
  have hT : T.Nonempty := ⟨n0, Finset.mem_filter.2 ⟨Finset.mem_univ _, hn0⟩⟩
  have ha : T.min' hT ∈ T := Finset.min'_mem T hT
  have hle : ∀ n, G n = top G → T.min' hT ≤ n := fun n hn => Finset.min'_le T n (Finset.mem_filter.2 ⟨Finset.mem_univ _, hn⟩)
  refine ⟨T.min' hT, (Finset.mem_filter.1 ha).2, hle, le_antisymm ?_ ?_⟩
  · refine (Finset.inf_le (f := fun n : Fin 128 => if G n = top G then ((n.val : ℝ) : EReal) else ((128 : ℝ) : EReal)) (Finset.mem_univ (T.min' hT))).trans ?_
    simp only [(Finset.mem_filter.1 ha).2, if_true, le_refl]
  · refine Finset.le_inf (f := fun n : Fin 128 => if G n = top G then ((n.val : ℝ) : EReal) else ((128 : ℝ) : EReal)) fun n _ => ?_
    show _ ≤ if G n = top G then ((n.val : ℝ) : EReal) else ((128 : ℝ) : EReal)
    split
    · rename_i h
      exact EReal.coe_le_coe_iff.2 (Nat.cast_le.2 (hle n h))
    · exact EReal.coe_le_coe_iff.2 (by have := (T.min' hT).isLt; exact_mod_cast this.le)

variable (g : ℕ → ℝ)

/-- One round: the number kept is the best block of `S`, and what is left is the column of the others. -/
theorem round {S : Finset ℕ} {G : Fin 128 → EReal} (h : Col g S G) (hS : ∀ n ∈ S, n < 128) :
    ∃ S' : Finset ℕ, Col g S' (drop G) ∧ (∀ n ∈ S', n < 128) ∧
      ∀ n k : ℕ, (n ∈ S ∧ rank g S n < k + 1) ↔ (best G = ((n : ℝ) : EReal) ∨ (n ∈ S' ∧ rank g S' n < k)) := by
  classical
  obtain ⟨a, ha, hmin, harg⟩ := arg_eq G
  by_cases hne : S.Nonempty
  · obtain ⟨n0, hn0⟩ := hne
    have hbot : ⊥ < top G := by
      refine lt_of_lt_of_le (EReal.bot_lt_coe (g n0)) ?_
      have := top_le G ⟨n0, hS n0 hn0⟩
      rwa [h ⟨n0, hS n0 hn0⟩, if_pos hn0] at this
    have haS : a.val ∈ S := by
      by_contra hc
      rw [h a, if_neg hc] at ha
      exact absurd ha.symm (ne_of_gt hbot)
    have hga : (g a.val : EReal) = top G := by rw [← ha, h a, if_pos haS]
    have htop : IsTop g S a.val := by
      refine ⟨haS, fun m hm hma => ?_⟩
      have hm' := top_le G ⟨m, hS m hm⟩
      rw [h ⟨m, hS m hm⟩, if_pos hm, ← hga, EReal.coe_le_coe_iff] at hm'
      rcases lt_or_eq_of_le hm' with hlt | heq
      · exact Or.inl hlt
      · refine Or.inr ⟨heq.symm, lt_of_le_of_ne ?_ (Ne.symm hma)⟩
        exact hmin ⟨m, hS m hm⟩ (by rw [h ⟨m, hS m hm⟩, if_pos hm, ← hga]; exact congrArg _ heq)
    refine ⟨S.erase a.val, fun n => ?_, fun n hn => hS n (Finset.mem_of_mem_erase hn), fun n k => ?_⟩
    · unfold drop
      rw [harg]
      by_cases hna : n = a
      · rw [if_pos (by rw [hna]), hna, if_neg (Finset.notMem_erase _ _)]
      · have hv : n.val ≠ a.val := fun hh => hna (Fin.ext hh)
        rw [if_neg (by rw [EReal.coe_eq_coe_iff]; exact_mod_cast hv), h n]
        simp only [Finset.mem_erase, ne_eq, hv, not_false_eq_true, true_and]
    · rw [rank_lt_succ g S htop]
      unfold best
      rw [if_pos hbot, harg, EReal.coe_eq_coe_iff, Nat.cast_inj, eq_comm]
  · rw [Finset.not_nonempty_iff_eq_empty] at hne
    subst hne
    have hG : ∀ n, G n = ⊥ := fun n => by rw [h n, if_neg (Finset.notMem_empty _)]
    have ht : top G = ⊥ := by rw [← ha, hG]
    refine ⟨∅, fun n => ?_, fun n hn => absurd hn (Finset.notMem_empty _), fun n k => ?_⟩
    · unfold drop; rw [hG, ite_self, if_neg (Finset.notMem_empty _)]
    · unfold best
      rw [ht, if_neg (lt_irrefl _)]
      constructor
      · rintro ⟨hn, -⟩; exact absurd hn (Finset.notMem_empty _)
      · rintro (hn | ⟨hn, -⟩)
        · rw [EReal.coe_eq_coe_iff] at hn
          have : (0 : ℝ) ≤ (n : ℝ) := Nat.cast_nonneg n
          rw [← hn] at this; norm_num at this
        · exact absurd hn (Finset.notMem_empty _)

/-- The three rounds' numbers are the three best blocks. -/
theorem picked_iff (i : ℕ) (hi : i ≤ 128) {G : Fin 128 → EReal} (h : Col g (Finset.range i) G) (n : ℕ) :
    (best G = ((n : ℝ) : EReal) ∨ best (drop G) = ((n : ℝ) : EReal) ∨ best (drop (drop G)) = ((n : ℝ) : EReal)) ↔ Picked g i n := by
  obtain ⟨S1, h1, b1, e1⟩ := round g h fun n hn => lt_of_lt_of_le (Finset.mem_range.1 hn) hi
  obtain ⟨S2, h2, b2, e2⟩ := round g h1 b1
  obtain ⟨S3, h3, b3, e3⟩ := round g h2 b2
  unfold Picked
  rw [e1 n 2, e2 n 1, e3 n 0]
  simp only [Nat.not_lt_zero, and_false, or_false]

end Cert.Moba

end
-- ==== Proof.KData.lean ====
/-
  What the attention's body loads: the two heads' queries, a key block's scores, the gates, the first reference exponent and
  sums, for real queries and keys.
-/
module

public import proofs.«01_k».proof.Proof.KLoop
public import proofs.«01_k».proof.Proof.Pick

@[expose] public section

set_option maxRecDepth 16384

noncomputable section

namespace Cert.KernelIdeal.Hand

open Cert.KernelIdeal Cert.KernelIdeal.Gen Cert.Moba
open Idealize.ShloMosaic

/-! ## Words -/

/-- A row's number as a float. -/
theorem ofNat_toInt (n : ℕ) (h : n < 1024) : (BitVec.ofNat 32 n).toInt = (n : ℤ) := by
  rw [BitVec.toInt_eq_toNat_of_lt (by rw [BitVec.toNat_ofNat]; omega), BitVec.toNat_ofNat, Nat.mod_eq_of_lt (by omega)]

/-- A sum of products of reals is a real. -/
theorem coe_dot {n : ℕ} (f g : Fin n → ℝ) : ∑ k : Fin n, (f k : EReal) * (g k : EReal) = ((∑ k : Fin n, f k * g k : ℝ) : EReal) := by
  classical
  simp only [← EReal.coe_mul]
  induction (Finset.univ : Finset (Fin n)) using Finset.induction_on with
  | empty => simp
  | insert a S ha ih => rw [Finset.sum_insert ha, Finset.sum_insert ha, ih, EReal.coe_add]

/-- A row's number, as the float the row is compared by. -/
theorem num_eq (n : Fin 128) : (FloatOps.sitofp .f32 (BitVec.ofNat 32 n.val) : Ideal .f32) = ((n.val : ℝ) : EReal) := by
  show (((BitVec.ofNat 32 n.val).toInt : ℝ) : EReal) = _
  rw [ofNat_toInt _ (by have := n.isLt; omega)]; norm_cast

theorem inf_bits : Ideal.ofBits .f32 0x7F800000#32 = (⊤ : EReal) := by simp [Ideal.ofBits, Ideal.ieee]
theorem bits_128 : Ideal.ofBits .f32 0x43000000#32 = ((128 : ℝ) : EReal) := by
  simp [Ideal.ofBits, Ideal.ieee]; rw [← EReal.coe_mul]; norm_num
theorem bits_m1 : Ideal.ofBits .f32 0xBF800000#32 = ((-1 : ℝ) : EReal) := by
  simp [Ideal.ofBits, Ideal.ieee]; rw [← EReal.coe_mul]; norm_num

/-! ## The two heads' queries -/

theorem q0_apply (v : FVec Ideal S128x256 .bf16) (f : Fin 128) (c : Fin 256) :
    k0_pay251 v (ix2 f c) = if f.val < 64 then v (ix2 f c) else 0 := by
  have e : IntOp.xori (IntOp.xori (IntOp.cmpi CmpIPredicate.slt (BitVec.ofNat 32 f.val) 64#32) 1#1) 1#1 = BitVec.ofBool (decide (f.val < 64)) := by
    revert f; decide +kernel
  pointwise [k0_pay251, k0_pay250]
  rw [e]; unfold Scalar.select
  by_cases h : f.val < 64 <;> simp [h]

theorem q1_apply (v : FVec Ideal S128x256 .bf16) (f : Fin 128) (c : Fin 256) :
    k0_pay252 v (ix2 f c) = if f.val < 64 then 0 else v (ix2 f c) := by
  have e : IntOp.xori (IntOp.xori (IntOp.cmpi CmpIPredicate.slt (BitVec.ofNat 32 f.val) 64#32) 0#1) 1#1 = BitVec.ofBool (decide (¬ f.val < 64)) := by
    revert f; decide +kernel
  pointwise [k0_pay252, k0_pay250]
  rw [e]; unfold Scalar.select
  by_cases h : f.val < 64 <;> simp [h]

/-! ## The gates -/

/-- The gates of the blocks before word `w`, `⊥` elsewhere. -/
def gateV (w : BitVec 32) (km : FVec Ideal S128x128 .bf16) (q : FVec Ideal S128x256 .bf16) : FVec Ideal S128x256 .f32 :=
  select (cmpi .slt (iota .tc S128x256 32 [0] iota_S128x256_d0_w32) (broadcast S128x256 w))
    (matmul dot_S128x128_S128x256_S128x256_1_0_0_1_n_n none (shapeCast S128x128 km shapeCasts_S128x128_S128x128) q (constant S128x256 .f32 0x00000000#32))
    (broadcast S128x256 (Named.named κ "neg" 0xF149F2CA#32))

/-- The rows' numbers. -/
def numV : FVec Ideal S128x256 .f32 := sitofp .f32 (iota .tc S128x256 32 [0] iota_S128x256_d0_w32)

/-- Each column's greatest gate. -/
def topV (g : FVec Ideal S128x256 .f32) : FVec Ideal S1x256 .f32 :=
  shapeCast S1x256 (multiReduction .maximumf [0] S256 g 0xFF800000#32 reduces_S128x256_S256 (.inl rfl) rfl) shapeCasts_S256_S1x256

/-- The first row with the greatest gate. -/
def argV (g : FVec Ideal S128x256 .f32) : FVec Ideal S1x256 .f32 :=
  shapeCast S1x256 (multiReduction .minimumf [0] S256
    (select (cmpf .oeq g (broadcastTo S128x256 (topV g) broadcasts_S1x256_S128x256)) numV (broadcast S128x256 (Scalar.ofBits .f32 0x43000000#32)))
    0x7F800000#32 reduces_S128x256_S256 (.inl rfl) rfl) shapeCasts_S256_S1x256

/-- The number stored for a column. -/
def idV (g : FVec Ideal S128x256 .f32) : FVec Ideal S1x1x256 .f32 :=
  shapeCast S1x1x256 (select (cmpf .ogt (topV g) (broadcast S1x256 (Named.named κ "half_neg" 0xF0C9F2CA#32))) (argV g)
    (broadcast S1x256 (Scalar.ofBits .f32 0xBF800000#32))) shapeCasts_S1x256_S1x1x256

/-- The gates with the first greatest one taken out. -/
def dropV (g : FVec Ideal S128x256 .f32) : FVec Ideal S128x256 .f32 :=
  select (cmpf .oeq numV (broadcastTo S128x256 (argV g) broadcasts_S1x256_S128x256)) (broadcast S128x256 (Named.named κ "neg" 0xF149F2CA#32)) g

theorem gateV_apply (w : BitVec 32) (km : FVec Ideal S128x128 .bf16) (q : FVec Ideal S128x256 .bf16) (n : Fin 128) (c : Fin 256) :
    gateV w km q (ix2 n c) = if (BitVec.ofNat 32 n.val).slt w then ∑ k : Fin 128, km (ix2 n k) * q (ix2 k c) else ⊥ := by
  pointwise [gateV]
  unfold Scalar.select
  show (if BitVec.ofBool ((BitVec.ofNat 32 n.val).slt w) = 1#1 then _ else _) = _
  by_cases h : (BitVec.ofNat 32 n.val).slt w <;> simp [h, neg_named]

theorem topV_apply (g : FVec Ideal S128x256 .f32) (c : Fin 256) : topV g (ix2 0 c) = (Finset.univ : Finset (Fin 128)).fold max ⊥ fun n => g (ix2 n c) := by
  pointwise [topV]
  rw [neg_inf]

theorem argV_apply (g : FVec Ideal S128x256 .f32) (c : Fin 256) :
    argV g (ix2 0 c) = (Finset.univ : Finset (Fin 128)).fold min ⊤ fun n => if g (ix2 n c) = topV g (ix2 0 c) then ((n.val : ℝ) : EReal) else ((128 : ℝ) : EReal) := by
  pointwise [argV, numV]
  rw [inf_bits, bits_128]
  simp only [num_eq]

theorem idV_apply (g : FVec Ideal S128x256 .f32) (c : Fin 256) :
    idV g (ix3 0 0 c) = if ⊥ < topV g (ix2 0 c) then argV g (ix2 0 c) else ((-1 : ℝ) : EReal) := by
  pointwise [idV]
  rw [bits_m1, half_named]

theorem dropV_apply (g : FVec Ideal S128x256 .f32) (n : Fin 128) (c : Fin 256) :
    dropV g (ix2 n c) = if ((n.val : ℝ) : EReal) = argV g (ix2 0 c) then ⊥ else g (ix2 n c) := by
  pointwise [dropV, numV]
  rw [num_eq, neg_named]

/-! ## The own block -/

/-- The own block's scores, each query's keys after it at `⊥`. -/
def ownV (K : FVec Ideal S256x128 .bf16) (q : FVec Ideal S128x256 .bf16) : FVec Ideal S256x256 .f32 :=
  k0_pay268 q (iota .tc S256x256 32 [0] iota_S256x256_d0_w32) (iota .tc S256x256 32 [1] iota_S256x256_d1_w32) (k0_pay254 K)

theorem ownV_apply (K : FVec Ideal S256x128 .bf16) (q : FVec Ideal S128x256 .bf16) (r c : Fin 256) :
    ownV K q (ix2 r c) = if r ≤ c then ∑ k : Fin 128, K (ix2 r k) * q (ix2 k c) else ⊥ := by
  have e : (BitVec.ofNat 32 r.val).sle (BitVec.ofNat 32 c.val) = decide (r ≤ c) := by
    rw [BitVec.sle_eq_decide, ofNat_toInt _ (by have := r.isLt; omega), ofNat_toInt _ (by have := c.isLt; omega)]
    simp only [Nat.cast_le, Fin.le_def]
  pointwise [ownV, k0_pay268, k0_pay254]
  unfold Scalar.select
  show (if BitVec.ofBool ((BitVec.ofNat 32 r.val).sle (BitVec.ofNat 32 c.val)) = 1#1 then _ else _) = _
  rw [e]
  by_cases h : r ≤ c <;> simp [h, neg_named]

/-- The first reference exponents. -/
def init7 (K : FVec Ideal S256x128 .bf16) (q : FVec Ideal S128x256 .bf16) : FVec Ideal S1x8x256 .f32 := rowsV (maxV (ownV K q))

/-- The first sums. -/
def init8 (K : FVec Ideal S256x128 .bf16) (q : FVec Ideal S128x256 .bf16) (va : FVec Ideal S1x1x80x256 .bf16) : FVec Ideal S1x80x256 .f32 :=
  shapeCast S1x80x256 (matmul dot_S80x256_S256x256_S80x256_1_0_0_1_n_n none (shapeCast S80x256 va shapeCasts_S1x1x80x256_S80x256)
    (truncf .bf16 (exp2 (subf (ownV K q) (broadcastTo S256x256 (maxV (ownV K q)) broadcasts_S1x256_S256x256))) bitsLt_bf16_f32)
    (constant S80x256 .f32 0x00000000#32)) shapeCasts_S80x256_S1x80x256

theorem init8_apply (K : FVec Ideal S256x128 .bf16) (q : FVec Ideal S128x256 .bf16) (va : FVec Ideal S1x1x80x256 .bf16) (d : Fin 80) (c : Fin 256) :
    init8 K q va (ix3 0 d c) = ∑ r : Fin 256, va (ix4 0 0 d r) * Ideal.exp2 (ownV K q (ix2 r c) - maxV (ownV K q) (ix2 0 c)) := by
  pointwise [init8]
  rfl

/-! ## The sums' data: real queries, keys and block means -/

/-- Head `h`'s queries: the other head's features at zero. -/
def qm (Q : Fin 128 → Fin 256 → ℝ) (h : Fin 2) (f : Fin 128) (c : Fin 256) : ℝ := if (f.val < 64 ↔ h = 0) then Q f c else 0

/-- The score of key `r` of block `n` with query `c`. -/
def sc (K : ℕ → Fin 128 → ℝ) (Q : Fin 128 → Fin 256 → ℝ) (h : Fin 2) (c : Fin 256) (n : ℕ) (r : Fin 256) : ℝ :=
  ∑ f : Fin 128, K (256 * n + r.val) f * qm Q h f c

/-- The gate of block `n` for query `c`. -/
def gt (KM : ℕ → Fin 128 → ℝ) (Q : Fin 128 → Fin 256 → ℝ) (h : Fin 2) (c : Fin 256) (n : ℕ) : ℝ := ∑ f : Fin 128, KM n f * qm Q h f c

section Data

variable {K KM : ℕ → Fin 128 → ℝ} {Q : Fin 128 → Fin 256 → ℝ}

theorem q0_real {v : FVec Ideal S128x256 .bf16} (hv : ∀ f c, v (ix2 f c) = (Q f c : EReal)) (f : Fin 128) (c : Fin 256) :
    k0_pay251 (F := Ideal) v (ix2 f c) = (qm Q 0 f c : EReal) := by
  rw [q0_apply, hv]; unfold qm
  by_cases h : f.val < 64 <;> simp [h]

theorem q1_real {v : FVec Ideal S128x256 .bf16} (hv : ∀ f c, v (ix2 f c) = (Q f c : EReal)) (f : Fin 128) (c : Fin 256) :
    k0_pay252 (F := Ideal) v (ix2 f c) = (qm Q 1 f c : EReal) := by
  rw [q1_apply, hv]; unfold qm
  by_cases h : f.val < 64 <;> simp [h]

/-- A key block's scores are real. -/
theorem score_real {Kb : FVec Ideal S256x128 .bf16} {q : FVec Ideal S128x256 .bf16} {h : Fin 2} {n : ℕ}
    (hK : ∀ r f, Kb (ix2 r f) = (K (256 * n + r.val) f : EReal)) (hq : ∀ f c, q (ix2 f c) = (qm Q h f c : EReal)) (r c : Fin 256) :
    scoreV Kb q (ix4 0 0 r c) = (sc K Q h c n r : EReal) := by
  rw [scoreV_apply]
  simp only [hK, hq]
  exact coe_dot _ _

theorem own_real {Kb : FVec Ideal S256x128 .bf16} {q : FVec Ideal S128x256 .bf16} {h : Fin 2} {n : ℕ}
    (hK : ∀ r f, Kb (ix2 r f) = (K (256 * n + r.val) f : EReal)) (hq : ∀ f c, q (ix2 f c) = (qm Q h f c : EReal)) (r c : Fin 256) :
    ownV Kb q (ix2 r c) = if r ≤ c then (sc K Q h c n r : EReal) else ⊥ := by
  rw [ownV_apply]
  simp only [hK, hq]
  rw [coe_dot]; rfl

/-- The three numbers kept for a query are its three best past blocks. -/
theorem ids_picked {km : FVec Ideal S128x128 .bf16} {q : FVec Ideal S128x256 .bf16} {h : Fin 2} {i : ℕ} (hi : i < 64) {w : BitVec 32}
    (hw : w = BitVec.ofNat 32 i) (hkm : ∀ n f, km (ix2 n f) = (KM n.val f : EReal)) (hq : ∀ f c, q (ix2 f c) = (qm Q h f c : EReal))
    (j : BitVec 32) (n : ℕ) (hn : n < 1024) (hj : j = BitVec.ofNat 32 n) (c : Fin 256) :
    pickV j (idV (gateV w km q)) (idV (dropV (gateV w km q))) (idV (dropV (dropV (gateV w km q)))) (ix2 0 c) = 1#1
      ↔ Picked (gt KM Q h c) i n := by
  have eb : ∀ g : FVec Ideal S128x256 .f32, idV g (ix3 0 0 c) = best fun n => g (ix2 n c) := by
    intro g; rw [idV_apply, argV_apply, topV_apply]; rfl
  have ed : ∀ g : FVec Ideal S128x256 .f32, (fun n => dropV g (ix2 n c)) = drop fun n => g (ix2 n c) := by
    intro g; funext n; rw [dropV_apply, argV_apply, topV_apply]; rfl
  have hcol : Col (gt KM Q h c) (Finset.range i) fun n => gateV w km q (ix2 n c) := by
    intro n
    show gateV w km q (ix2 n c) = _
    rw [gateV_apply]
    simp only [hkm, hq]
    rw [coe_dot, hw, BitVec.slt_eq_decide, ofNat_toInt _ (by have := n.isLt; omega), ofNat_toInt _ (by omega)]
    simp only [decide_eq_true_eq, Nat.cast_lt, Finset.mem_range]
    rfl
  have hnum : (((j.toInt : ℝ)) : EReal) = ((n : ℝ) : EReal) := by rw [hj, ofNat_toInt _ hn, Int.cast_natCast]
  refine (pickV_apply j _ _ _ c).trans (Iff.trans (Iff.of_eq ?_) (picked_iff (gt KM Q h c) i (by omega) hcol n))
  rw [hnum, eb (gateV w km q), eb (dropV (gateV w km q)), eb (dropV (dropV (gateV w km q))), ed (dropV (gateV w km q)), ed (gateV w km q)]

/-- The sums the loop starts with. -/
theorem good_init {Kb : FVec Ideal S256x128 .bf16} {q : FVec Ideal S128x256 .bf16} {h : Fin 2} {i : ℕ} {va : FVec Ideal S1x1x80x256 .bf16}
    {v : Fin 80 → ℕ → Fin 256 → EReal} (P : Fin 256 → ℕ → Prop) [∀ c, DecidablePred (P c)]
    (hK : ∀ r f, Kb (ix2 r f) = (K (256 * i + r.val) f : EReal)) (hq : ∀ f c, q (ix2 f c) = (qm Q h f c : EReal))
    (hv : ∀ d r, va (ix4 0 0 d r) = v d i r) : Good (sc K Q h) v P i 0 (init7 Kb q) (init8 Kb q va) := by
  intro c
  have ho := fun r => own_real hK hq r c
  obtain ⟨μ, hμ⟩ := init_real (fun r => sc K Q h c i r) c (fun r => ownV Kb q (ix2 r c)) ho
  have hm : maxV (ownV Kb q) (ix2 0 c) = (μ : EReal) := by rw [maxV_apply]; exact hμ
  refine ⟨μ, ?_, fun d => ?_⟩
  · unfold init7; rw [rowsV_apply, hm]
  · rw [init8_apply, hm]
    exact init_eq (sc K Q h c) (v d) (P c) i c μ _ _ ho (hv d)

end Data

end Cert.KernelIdeal.Hand

end
-- ==== Proof.KRun.lean ====
/-
  The two loops over the key blocks: after `k` trips the buffers hold the sums over the first `4 k` blocks.
-/
module

public import proofs.«01_k».proof.Proof.KData
public import Idealize.ShloMosaic.Lib.Pipeline.ValueKit.Tiles

@[expose] public section

set_option maxRecDepth 16384

noncomputable section

namespace Cert.KernelIdeal.Hand

open Cert.KernelIdeal Cert.KernelIdeal.Gen Cert.Moba
open Idealize.ShloMosaic

/-! ## The addresses -/

theorem kword : ∀ (k : Fin 16) (s d : Fin 2), (Scalar.indexCast (Scalar.muli (Scalar.minsi (Scalar.addi (Scalar.muli 2#32 (Scalar.addi
    (Scalar.muli 2#32 (Scf.iv 0#32 1#32 k.val)) (BitVec.ofNat 32 (1 + s.val)))) (BitVec.ofNat 32 d.val)) 63#32) 256#32)).toNat
      = 256 * min (4 * k.val + 2 + 2 * s.val + d.val) 63 := by decide +kernel
theorem vword0 : ∀ (k : Fin 16) (d : Fin 2), (Scalar.indexCast (Scalar.minsi (Scalar.addi (Scalar.muli 2#32 (Scalar.muli 2#32 (Scf.iv 0#32 1#32 k.val)))
    (BitVec.ofNat 32 d.val)) 63#32)).toNat = min (4 * k.val + d.val) 63 := by decide +kernel
theorem vword1 : ∀ (k : Fin 16) (d : Fin 2), (Scalar.indexCast (Scalar.minsi (Scalar.addi (Scalar.muli 2#32 (Scalar.addi (Scalar.muli 2#32 (Scf.iv 0#32 1#32 k.val))
    1#32)) (BitVec.ofNat 32 d.val)) 63#32)).toNat = min (4 * k.val + 2 + d.val) 63 := by decide +kernel
theorem jword : ∀ k : Fin 16, Scalar.addi (jA k.val) 0#32 = BitVec.ofNat 32 (4 * k.val) ∧ Scalar.addi (jA k.val) 1#32 = BitVec.ofNat 32 (4 * k.val + 1)
    ∧ Scalar.addi (jB k.val) 0#32 = BitVec.ofNat 32 (4 * k.val + 2) ∧ Scalar.addi (jB k.val) 1#32 = BitVec.ofNat 32 (4 * k.val + 3) := by decide +kernel

/-! ## The loads -/

section Loads

variable (M3 : Memref sig .tc .vmem S16384x128 .bf16) (M4 : Memref sig .tc .vmem S64x2x80x256 .bf16)
  (X3 : BufTy.Contents (Elt Ideal) M3.view.ty) (X4 : BufTy.Contents (Elt Ideal) M4.view.ty)

/-- A key block's load. -/
theorem load_key {K : ℕ → Fin 128 → ℝ} (hX : ∀ t f, M3.view.read (Elt Ideal) X3 (ix2 t f) = (K t.val f : EReal)) (o : Fin 2 → ℕ)
    (hb : ∀ a, o a + S256x128.size a ≤ S16384x128.size a) (n : ℕ) (hn : n < 64) (h0 : o 0 = 256 * n) (h1 : o 1 = 0) (r : Fin 256) (f : Fin 128) :
    M3.view.readAt (Elt Ideal) (Rect.unit (s := S16384x128) o S256x128.size hb).toLoadRect X3 (ix2 r f) = (K (256 * n + r.val) f : EReal) := by
  refine Eq.trans ?_ (hX ⟨256 * n + r.val, by have := r.isLt; omega⟩ f)
  refine View.ld_unit_apply_of (M3.view.read (Elt Ideal) X3) o S256x128.size hb (ix2 r f) (ix2 ⟨256 * n + r.val, by have := r.isLt; omega⟩ f) fun a => ?_
  fin_cases a
  · show 256 * n + r.val = o 0 + r.val; rw [h0]
  · show f.val = o 1 + f.val; rw [h1, zero_add]

/-- A value block's load. -/
theorem load_val {V : ℕ → Fin 2 → Fin 80 → Fin 256 → EReal} (hX : ∀ n h d r, M4.view.read (Elt Ideal) X4 (ix4 n h d r) = V n.val h d r) (o : Fin 4 → ℕ)
    (hb : ∀ a, o a + S1x1x80x256.size a ≤ S64x2x80x256.size a) (n : ℕ) (hn : n < 64) (h : Fin 2) (h0 : o 0 = n) (h1 : o 1 = h.val) (h2 : o 2 = 0) (h3 : o 3 = 0)
    (d : Fin 80) (r : Fin 256) :
    M4.view.readAt (Elt Ideal) (Rect.unit (s := S64x2x80x256) o S1x1x80x256.size hb).toLoadRect X4 (ix4 0 0 d r) = V n h d r := by
  refine Eq.trans ?_ (hX ⟨n, hn⟩ h d r)
  refine View.ld_unit_apply_of (M4.view.read (Elt Ideal) X4) o S1x1x80x256.size hb (ix4 0 0 d r) (ix4 ⟨n, hn⟩ h d r) fun a => ?_
  fin_cases a
  · show n = o 0 + 0; rw [h0]; rfl
  · show h.val = o 1 + 0; rw [h1]; rfl
  · show d.val = o 2 + d.val; rw [h2, zero_add]
  · show r.val = o 3 + r.val; rw [h3, zero_add]

/-- The scores of the clamped block `n`: those of block `n`, where a query picked it. -/
theorem load_scores {K : ℕ → Fin 128 → ℝ} {Q : Fin 128 → Fin 256 → ℝ} (hX : ∀ t f, M3.view.read (Elt Ideal) X3 (ix2 t f) = (K t.val f : EReal))
    {h : Fin 2} {q : FVec Ideal S128x256 .bf16} (hq : ∀ f c, q (ix2 f c) = (qm Q h f c : EReal)) (P : Fin 256 → ℕ → Prop) (hP : ∀ c n, P c n → n < 64)
    (o : Fin 2 → ℕ) (hb : ∀ a, o a + S256x128.size a ≤ S16384x128.size a) (n : ℕ) (h0 : o 0 = 256 * min n 63) (h1 : o 1 = 0) :
    Scores (sc K Q h) P n (scoreV (M3.view.readAt (Elt Ideal) (Rect.unit (s := S16384x128) o S256x128.size hb).toLoadRect X3) q) := by
  intro c hp r
  have hn := hP c n hp
  rw [show min n 63 = n by omega] at h0
  exact score_real (load_key M3 X3 hX o hb n hn h0 h1) hq r c

/-- The values of the clamped block `n`. -/
theorem load_vals {V : ℕ → Fin 2 → Fin 80 → Fin 256 → EReal} (hX : ∀ n h d r, M4.view.read (Elt Ideal) X4 (ix4 n h d r) = V n.val h d r)
    (P : Fin 256 → ℕ → Prop) (hP : ∀ c n, P c n → n < 64) (o : Fin 4 → ℕ) (hb : ∀ a, o a + S1x1x80x256.size a ≤ S64x2x80x256.size a) (n : ℕ) (h : Fin 2)
    (h0 : o 0 = min n 63) (h1 : o 1 = h.val) (h2 : o 2 = 0) (h3 : o 3 = 0) :
    Vals (fun d n r => V n h d r) P n (M4.view.readAt (Elt Ideal) (Rect.unit (s := S64x2x80x256) o S1x1x80x256.size hb).toLoadRect X4) := by
  rintro ⟨c, hp⟩ d r
  have hn := hP c n hp
  rw [show min n 63 = n by omega] at h0
  exact load_val M4 X4 hX o hb n hn h h0 h1 h2 h3 d r

end Loads

/-! ## The loops -/

theorem t1_trips : ∀ i : grid0.Coords, (k0_t1_loop i).trips = (2 * (i 1).val + 3) / 4 := by decide +kernel

set_option maxHeartbeats 1000000 in
/-- After `k` trips of loop 1: the sums over the first `4 k` blocks, and the next two blocks' scores. -/
theorem loop1_inv
    (𝒱 : Variants) (dev : Dev nD) (bd : Option 𝒱.V) (i : grid0.Coords) (M2 : Memref sig .tc .vmem S128x512 .bf16) (h2 : M2.IsWhole) (M3 : Memref sig .tc
    .vmem S16384x128 .bf16) (h3 : M3.IsWhole) (M4 : Memref sig .tc .vmem S64x2x80x256 .bf16) (h4 : M4.IsWhole) (M5 : Memref sig .tc .vmem S128x128
    .bf16) (h5 : M5.IsWhole) (M6 : Memref sig .tc .vmem S512x128 .bf16) (h6 : M6.IsWhole) (M7 : Memref sig .tc .vmem S2x8x256 .f32) (h7 : M7.IsWhole)
    (M8 : Memref sig .tc .vmem S2x80x256 .f32) (h8 : M8.IsWhole) (M9 : Memref sig .tc .vmem S2x8x256 .f32) (h9 : M9.IsWhole) (M10 : Memref sig .tc
    .vmem S2x2x256x256 .f32) (h10 : M10.IsWhole) (M11 : Memref sig .tc .vmem S2x2x256x256 .f32) (h11 : M11.IsWhole)
    (w1 : BitVec 32) (q0 q1 : FVec Ideal S128x256 .bf16) (v217 : FVec Ideal S256x256 .f32)
    (X3 : BufTy.Contents (Elt Ideal) M3.view.ty) (X4 : BufTy.Contents (Elt Ideal) M4.view.ty) (X9 : BufTy.Contents (Elt Ideal) M9.view.ty)
    (G7 : BufTy.Contents (Elt Ideal) M7.view.ty) (G8 : BufTy.Contents (Elt Ideal) M8.view.ty) (G10 : BufTy.Contents (Elt Ideal) M10.view.ty)
    (G11 : BufTy.Contents (Elt Ideal) M11.view.ty)
    (K : ℕ → Fin 128 → ℝ) (Q : Fin 128 → Fin 256 → ℝ) (V : ℕ → Fin 2 → Fin 80 → Fin 256 → EReal) (P : Fin 2 → Fin 256 → ℕ → Prop) [∀ h c, DecidablePred (P h c)]
    (i' : ℕ) (hP : ∀ h c n, P h c n → n < 64)
    (hX3 : ∀ t f, M3.view.read (Elt Ideal) X3 (ix2 t f) = (K t.val f : EReal)) (hX4 : ∀ n h d r, M4.view.read (Elt Ideal) X4 (ix4 n h d r) = V n.val h d r)
    (hq0 : ∀ f c, q0 (ix2 f c) = (qm Q 0 f c : EReal)) (hq1 : ∀ f c, q1 (ix2 f c) = (qm Q 1 f c : EReal))
    (hpick : ∀ n, n < 1024 → Picks P M9 X9 (BitVec.ofNat 32 n) n)
    (hI : Inv (sc K Q) (fun h d n r => V n h d r) P i' M7 M8 M10 0 G7 G8 G10) :
    ∀ k, k ≤ (k0_t1_loop i).trips → Inv (sc K Q) (fun h d n r => V n h d r) P i' M7 M8 M10 (4 * k)
      (M7.view.writes (Elt Ideal) G7 (pb_k0_t1 𝒱 dev bd i M2 h2 M3 h3 M4 h4 M5 h5 M6 h6 M7 h7 M8 h8 M9 h9 M10 h10 M11 h11 w1 q0 q1 v217 X3 X4 X9 G7 G8 G10 G11 k).1)
      (M8.view.writes (Elt Ideal) G8 (pb_k0_t1 𝒱 dev bd i M2 h2 M3 h3 M4 h4 M5 h5 M6 h6 M7 h7 M8 h8 M9 h9 M10 h10 M11 h11 w1 q0 q1 v217 X3 X4 X9 G7 G8 G10 G11 k).2.1)
      (M10.view.writes (Elt Ideal) G10 (pb_k0_t1 𝒱 dev bd i M2 h2 M3 h3 M4 h4 M5 h5 M6 h6 M7 h7 M8 h8 M9 h9 M10 h10 M11 h11 w1 q0 q1 v217 X3 X4 X9 G7 G8 G10 G11 k).2.2.1) := by
  intro k
  induction k with
  | zero =>
    intro _
    rw [pb_k0_t1.eq_1]
    exact hI
  | succ n ih =>
    intro hn
    let k : Fin (k0_t1_loop i).trips := ⟨n, hn⟩
    let kk : Fin 16 := ⟨n, lt_of_lt_of_le hn (k0_t1_abs i).2.1⟩
    have ih' := ih (Nat.le_of_lt hn)
    have hs := pb_k0_t1_succ (F := Ideal) 𝒱 dev bd i M2 h2 M3 h3 M4 h4 M5 h5 M6 h6 M7 h7 M8 h8 M9 h9 M10 h10 M11 h11 w1 q0 q1 v217 X3 X4 X9 G7 G8 G10 G11 k
    have hj := jword kk
    rw [show n + 1 = k.val + 1 from rfl, hs, tripL1_eq, View.writes_append, View.writes_append, View.writes_append]
    have e := trip_inv (M11 := M11) ih' (q0 := q0) (q1 := q1) (X9 := X9) (w := jA k.val) (w' := jB k.val)
      (by rw [show Scalar.addi (jA k.val) 0#32 = _ from hj.1]; exact hpick _ (by have := kk.isLt; show 4 * n < 1024; have : n < 16 := this; omega))
      (by rw [show Scalar.addi (jA k.val) 1#32 = _ from hj.2.1]; exact hpick _ (by have := kk.isLt; show 4 * n + 1 < 1024; have : n < 16 := this; omega))
      (by rw [show Scalar.addi (jB k.val) 0#32 = _ from hj.2.2.1]; exact hpick _ (by have := kk.isLt; show 4 * n + 2 < 1024; have : n < 16 := this; omega))
      (by rw [show Scalar.addi (jB k.val) 1#32 = _ from hj.2.2.2]; exact hpick _ (by have := kk.isLt; show 4 * n + 3 < 1024; have : n < 16 := this; omega))
      (load_scores M3 X3 hX3 hq0 (P 0) (hP 0) _ (k0_off5_inb i k 0 0) (4 * k.val + 2) (kword kk 0 0) rfl)
      (load_scores M3 X3 hX3 hq1 (P 1) (hP 1) _ (k0_off5_inb i k 0 0) (4 * k.val + 2) (kword kk 0 0) rfl)
      (load_scores M3 X3 hX3 hq0 (P 0) (hP 0) _ (k0_off5_inb i k 0 1) (4 * k.val + 3) (kword kk 0 1) rfl)
      (load_scores M3 X3 hX3 hq1 (P 1) (hP 1) _ (k0_off5_inb i k 0 1) (4 * k.val + 3) (kword kk 0 1) rfl)
      (load_scores M3 X3 hX3 hq0 (P 0) (hP 0) _ (k0_off5_inb i k 1 0) (4 * k.val + 4) (kword kk 1 0) rfl)
      (load_scores M3 X3 hX3 hq1 (P 1) (hP 1) _ (k0_off5_inb i k 1 0) (4 * k.val + 4) (kword kk 1 0) rfl)
      (load_scores M3 X3 hX3 hq0 (P 0) (hP 0) _ (k0_off5_inb i k 1 1) (4 * k.val + 5) (kword kk 1 1) rfl)
      (load_scores M3 X3 hX3 hq1 (P 1) (hP 1) _ (k0_off5_inb i k 1 1) (4 * k.val + 5) (kword kk 1 1) rfl)
      (load_vals M4 X4 hX4 (P 0) (hP 0) _ (k0_off6_inb i k 0) (4 * k.val) 0 (vword0 kk 0) rfl rfl rfl) (load_vals M4 X4 hX4 (P 1) (hP 1) _ (k0_off7_inb i k 0) (4 * k.val) 1 (vword0 kk 0) rfl rfl rfl)
      (load_vals M4 X4 hX4 (P 0) (hP 0) _ (k0_off6_inb i k 1) (4 * k.val + 1) 0 (vword0 kk 1) rfl rfl rfl) (load_vals M4 X4 hX4 (P 1) (hP 1) _ (k0_off7_inb i k 1) (4 * k.val + 1) 1 (vword0 kk 1) rfl rfl rfl)
      (load_vals M4 X4 hX4 (P 0) (hP 0) _ (k0_off8_inb i k 0) (4 * k.val + 2) 0 (vword1 kk 0) rfl rfl rfl) (load_vals M4 X4 hX4 (P 1) (hP 1) _ (k0_off9_inb i k 0) (4 * k.val + 2) 1 (vword1 kk 0) rfl rfl rfl)
      (load_vals M4 X4 hX4 (P 0) (hP 0) _ (k0_off8_inb i k 1) (4 * k.val + 3) 0 (vword1 kk 1) rfl rfl rfl) (load_vals M4 X4 hX4 (P 1) (hP 1) _ (k0_off9_inb i k 1) (4 * k.val + 3) 1 (vword1 kk 1) rfl rfl rfl)
    exact e

theorem t3_trips : ∀ i : grid0.Coords, (k0_t3_loop i).trips = (2 * (i 1).val + 4) / 4 := by decide +kernel

set_option maxHeartbeats 1000000 in
/-- After `k` trips of loop 3: the sums over the first `4 k` blocks, and the next two blocks' scores. -/
theorem loop3_inv
    (𝒱 : Variants) (dev : Dev nD) (bd : Option 𝒱.V) (i : grid0.Coords) (M2 : Memref sig .tc .vmem S128x512 .bf16) (h2 : M2.IsWhole) (M3 : Memref sig .tc
    .vmem S16384x128 .bf16) (h3 : M3.IsWhole) (M4 : Memref sig .tc .vmem S64x2x80x256 .bf16) (h4 : M4.IsWhole) (M5 : Memref sig .tc .vmem S128x128
    .bf16) (h5 : M5.IsWhole) (M6 : Memref sig .tc .vmem S512x128 .bf16) (h6 : M6.IsWhole) (M7 : Memref sig .tc .vmem S2x8x256 .f32) (h7 : M7.IsWhole)
    (M8 : Memref sig .tc .vmem S2x80x256 .f32) (h8 : M8.IsWhole) (M9 : Memref sig .tc .vmem S2x8x256 .f32) (h9 : M9.IsWhole) (M10 : Memref sig .tc
    .vmem S2x2x256x256 .f32) (h10 : M10.IsWhole) (M11 : Memref sig .tc .vmem S2x2x256x256 .f32) (h11 : M11.IsWhole)
    (w1 : BitVec 32) (q0 q1 : FVec Ideal S128x256 .bf16) (v475 : Vec Ideal S256x128 .bf16)
    (X3 : BufTy.Contents (Elt Ideal) M3.view.ty) (X4 : BufTy.Contents (Elt Ideal) M4.view.ty) (X9 : BufTy.Contents (Elt Ideal) M9.view.ty)
    (G7 : BufTy.Contents (Elt Ideal) M7.view.ty) (G8 : BufTy.Contents (Elt Ideal) M8.view.ty) (G10 : BufTy.Contents (Elt Ideal) M10.view.ty)
    (G11 : BufTy.Contents (Elt Ideal) M11.view.ty)
    (K : ℕ → Fin 128 → ℝ) (Q : Fin 128 → Fin 256 → ℝ) (V : ℕ → Fin 2 → Fin 80 → Fin 256 → EReal) (P : Fin 2 → Fin 256 → ℕ → Prop) [∀ h c, DecidablePred (P h c)]
    (i' : ℕ) (hP : ∀ h c n, P h c n → n < 64)
    (hX3 : ∀ t f, M3.view.read (Elt Ideal) X3 (ix2 t f) = (K t.val f : EReal)) (hX4 : ∀ n h d r, M4.view.read (Elt Ideal) X4 (ix4 n h d r) = V n.val h d r)
    (hq0 : ∀ f c, q0 (ix2 f c) = (qm Q 0 f c : EReal)) (hq1 : ∀ f c, q1 (ix2 f c) = (qm Q 1 f c : EReal))
    (hpick : ∀ n, n < 1024 → Picks P M9 X9 (BitVec.ofNat 32 n) n)
    (hI : Inv (sc K Q) (fun h d n r => V n h d r) P i' M7 M8 M10 0 G7 G8 G10) :
    ∀ k, k ≤ (k0_t3_loop i).trips → Inv (sc K Q) (fun h d n r => V n h d r) P i' M7 M8 M10 (4 * k)
      (M7.view.writes (Elt Ideal) G7 (pb_k0_t3 𝒱 dev bd i M2 h2 M3 h3 M4 h4 M5 h5 M6 h6 M7 h7 M8 h8 M9 h9 M10 h10 M11 h11 w1 q0 q1 v475 X3 X4 X9 G7 G8 G10 G11 k).1)
      (M8.view.writes (Elt Ideal) G8 (pb_k0_t3 𝒱 dev bd i M2 h2 M3 h3 M4 h4 M5 h5 M6 h6 M7 h7 M8 h8 M9 h9 M10 h10 M11 h11 w1 q0 q1 v475 X3 X4 X9 G7 G8 G10 G11 k).2.1)
      (M10.view.writes (Elt Ideal) G10 (pb_k0_t3 𝒱 dev bd i M2 h2 M3 h3 M4 h4 M5 h5 M6 h6 M7 h7 M8 h8 M9 h9 M10 h10 M11 h11 w1 q0 q1 v475 X3 X4 X9 G7 G8 G10 G11 k).2.2.1) := by
  intro k
  induction k with
  | zero =>
    intro _
    rw [pb_k0_t3.eq_1]
    exact hI
  | succ n ih =>
    intro hn
    let k : Fin (k0_t3_loop i).trips := ⟨n, hn⟩
    let kk : Fin 16 := ⟨n, lt_of_lt_of_le hn (k0_t3_abs i).2.1⟩
    have ih' := ih (Nat.le_of_lt hn)
    have hs := pb_k0_t3_succ (F := Ideal) 𝒱 dev bd i M2 h2 M3 h3 M4 h4 M5 h5 M6 h6 M7 h7 M8 h8 M9 h9 M10 h10 M11 h11 w1 q0 q1 v475 X3 X4 X9 G7 G8 G10 G11 k
    have hj := jword kk
    rw [show n + 1 = k.val + 1 from rfl, hs, tripL3_eq, View.writes_append, View.writes_append, View.writes_append]
    have e := trip_inv (M11 := M11) ih' (q0 := q0) (q1 := q1) (X9 := X9) (w := jA k.val) (w' := jB k.val)
      (by rw [show Scalar.addi (jA k.val) 0#32 = _ from hj.1]; exact hpick _ (by have := kk.isLt; show 4 * n < 1024; have : n < 16 := this; omega))
      (by rw [show Scalar.addi (jA k.val) 1#32 = _ from hj.2.1]; exact hpick _ (by have := kk.isLt; show 4 * n + 1 < 1024; have : n < 16 := this; omega))
      (by rw [show Scalar.addi (jB k.val) 0#32 = _ from hj.2.2.1]; exact hpick _ (by have := kk.isLt; show 4 * n + 2 < 1024; have : n < 16 := this; omega))
      (by rw [show Scalar.addi (jB k.val) 1#32 = _ from hj.2.2.2]; exact hpick _ (by have := kk.isLt; show 4 * n + 3 < 1024; have : n < 16 := this; omega))
      (load_scores M3 X3 hX3 hq0 (P 0) (hP 0) _ (k0_off15_inb i k 0 0) (4 * k.val + 2) (kword kk 0 0) rfl)
      (load_scores M3 X3 hX3 hq1 (P 1) (hP 1) _ (k0_off15_inb i k 0 0) (4 * k.val + 2) (kword kk 0 0) rfl)
      (load_scores M3 X3 hX3 hq0 (P 0) (hP 0) _ (k0_off15_inb i k 0 1) (4 * k.val + 3) (kword kk 0 1) rfl)
      (load_scores M3 X3 hX3 hq1 (P 1) (hP 1) _ (k0_off15_inb i k 0 1) (4 * k.val + 3) (kword kk 0 1) rfl)
      (load_scores M3 X3 hX3 hq0 (P 0) (hP 0) _ (k0_off15_inb i k 1 0) (4 * k.val + 4) (kword kk 1 0) rfl)
      (load_scores M3 X3 hX3 hq1 (P 1) (hP 1) _ (k0_off15_inb i k 1 0) (4 * k.val + 4) (kword kk 1 0) rfl)
      (load_scores M3 X3 hX3 hq0 (P 0) (hP 0) _ (k0_off15_inb i k 1 1) (4 * k.val + 5) (kword kk 1 1) rfl)
      (load_scores M3 X3 hX3 hq1 (P 1) (hP 1) _ (k0_off15_inb i k 1 1) (4 * k.val + 5) (kword kk 1 1) rfl)
      (load_vals M4 X4 hX4 (P 0) (hP 0) _ (k0_off16_inb i k 0) (4 * k.val) 0 (vword0 kk 0) rfl rfl rfl) (load_vals M4 X4 hX4 (P 1) (hP 1) _ (k0_off17_inb i k 0) (4 * k.val) 1 (vword0 kk 0) rfl rfl rfl)
      (load_vals M4 X4 hX4 (P 0) (hP 0) _ (k0_off16_inb i k 1) (4 * k.val + 1) 0 (vword0 kk 1) rfl rfl rfl) (load_vals M4 X4 hX4 (P 1) (hP 1) _ (k0_off17_inb i k 1) (4 * k.val + 1) 1 (vword0 kk 1) rfl rfl rfl)
      (load_vals M4 X4 hX4 (P 0) (hP 0) _ (k0_off18_inb i k 0) (4 * k.val + 2) 0 (vword1 kk 0) rfl rfl rfl) (load_vals M4 X4 hX4 (P 1) (hP 1) _ (k0_off19_inb i k 0) (4 * k.val + 2) 1 (vword1 kk 0) rfl rfl rfl)
      (load_vals M4 X4 hX4 (P 0) (hP 0) _ (k0_off18_inb i k 1) (4 * k.val + 3) 0 (vword1 kk 1) rfl rfl rfl) (load_vals M4 X4 hX4 (P 1) (hP 1) _ (k0_off19_inb i k 1) (4 * k.val + 3) 1 (vword1 kk 1) rfl rfl rfl)
    exact e

end Cert.KernelIdeal.Hand

end
-- ==== Proof.BodyIdeal.lean ====
/-
  The run of the attention's body at one grid point, for any float values.
-/
module

public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- A memref's elements on core `c`, held at the contents `f`. -/
abbrev hold (c : Dev nD) {sp : Space} {S : Shape} {e : EltTy} (M : Memref sig .tc sp S e) (f : BufTy.Contents (Elt F) M.view.ty) : sProp 𝕄 :=
  M.view.loc (c : Thread nD τ) ↦[M.view.set]{fullShare} f

set_option maxHeartbeats 4000000 in
/-- The body's run at grid point `i`: the output's pieces, as functions of what the buffers hold when it starts. -/
def kernelRun (c : Dev nD) (i : grid0.Coords) (M2 : Memref sig .tc .vmem S128x512 .bf16) (h2 : M2.IsWhole)
    (M3 : Memref sig .tc .vmem S16384x128 .bf16) (h3 : M3.IsWhole) (M4 : Memref sig .tc .vmem S64x2x80x256 .bf16) (h4 : M4.IsWhole)
    (M5 : Memref sig .tc .vmem S128x128 .bf16) (h5 : M5.IsWhole) (M6 : Memref sig .tc .vmem S512x128 .bf16) (h6 : M6.IsWhole)
    (M7 : Memref sig .tc .vmem S2x8x256 .f32) (h7 : M7.IsWhole) (M8 : Memref sig .tc .vmem S2x80x256 .f32) (h8 : M8.IsWhole)
    (M9 : Memref sig .tc .vmem S2x8x256 .f32) (h9 : M9.IsWhole) (M10 : Memref sig .tc .vmem S2x2x256x256 .f32) (h10 : M10.IsWhole)
    (M11 : Memref sig .tc .vmem S2x2x256x256 .f32) (h11 : M11.IsWhole)
    (X2 : BufTy.Contents (Elt F) M2.view.ty) (X3 : BufTy.Contents (Elt F) M3.view.ty) (X4 : BufTy.Contents (Elt F) M4.view.ty)
    (X5 : BufTy.Contents (Elt F) M5.view.ty)
    (f6 : BufTy.Contents (Elt F) M6.view.ty) (f7 : BufTy.Contents (Elt F) M7.view.ty) (f8 : BufTy.Contents (Elt F) M8.view.ty)
    (f9 : BufTy.Contents (Elt F) M9.view.ty) (f10 : BufTy.Contents (Elt F) M10.view.ty) (f11 : BufTy.Contents (Elt F) M11.view.ty) :
    { W : BufTy.Contents (Elt F) M6.view.ty // ∀ (E : Set ℕ) (Q : PUnit → sProp 𝕄),
      iprop(hold c M2 X2 ∗ hold c M3 X3 ∗ hold c M4 X4 ∗ hold c M5 X5 ∗ hold c M6 f6 ∗ hold c M7 f7 ∗ hold c M8 f8 ∗ hold c M9 f9
        ∗ hold c M10 f10 ∗ hold c M11 f11
        ∗ (iprop(hold c M2 X2 ∗ hold c M3 X3 ∗ hold c M4 X4 ∗ hold c M5 X5 ∗ hold c M6 W ∗ (∃ f, hold c M7 f) ∗ (∃ f, hold c M8 f)
          ∗ (∃ f, hold c M9 f) ∗ (∃ f, hold c M10 f) ∗ (∃ f, hold c M11 f)) -∗ Q ⟨⟩))
      ⊢ wp frame (wpE (defs₀ (F := F)) Variants.none (c : Thread nD τ) none) E
        (cc0_moba_seq i M2 h2 M3 h3 M4 h4 M5 h5 M6 h6 M7 h7 M8 h8 M9 h9 M10 h10 M11 h11) Q } := by
  refine ⟨?_, fun E Q => ?run⟩
  case run =>
    iintro ⟨H2, H3, H4, H5, H6, H7, H8, H9, H10, H11, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iexists _; iexact H11

/-! ## The frame: the body at every grid point, its output forgotten -/

variable (m : (ℓ : Loc nD τ sig) → Buf (Elt F) ℓ) (ρ : Dev nD → PrngReg)

/-- The frame says nothing of what the output window holds. -/
def forgets0 : Fin 5 → Bool := fun w => w == 4

/-- The proof data: each input's staging buffer holds its block after the body as before it; the output's is not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

/-- The body table's row at a point. -/
theorem defs₀_row (t : Fin cfg0.N) : defs₀ (F := F) .tc cfg0.body (cfg0.bodyArgs t (cfg0.slots t)) = bodyAt0 t := by
  unfold defs₀; rw [Defs.onTc_tc]

/-- The class invariant opened: the five scratch buffers at some contents, the generator register at some state. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

set_option maxHeartbeats 2000000 in
/-- The body at a point: the invariant opened, the run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq, after_0, after_1, after_2, after_3]
  simp only [before0_0_of m (dats m 0 c) rfl (after_0 m c), before0_1_of m (dats m 0 c) rfl (after_1 m c),
    before0_2_of m (dats m 0 c) rfl (after_2 m c), before0_3_of m (dats m 0 c) rfl (after_3 m c)]
  unfold owns
  iintro ⟨⟨⟨⟨%d7, %f7, -, H7⟩, ⟨%d8, %f8, -, H8⟩, ⟨%d9, %f9, -, H9⟩, ⟨%d10, %f10, -, H10⟩, ⟨%d11, %f11, -, H11⟩⟩, Hg⟩, HO, ⟨%d0, %f0, %hf0, H0⟩, ⟨%d1, %f1, %hf1, H1⟩,
    ⟨%d2, %f2, %hf2, H2⟩, ⟨%d3, %f3, %hf3, H3⟩, ⟨%d4, %f4, -, H4⟩⟩
  iapply ((kernelRun c _ _ _ _ _ _ _ _ _ _ _ _ _ _ _ _ _ _ _ _ _ f0 f1 f2 f3 f4 f7 f8 f9 f10 f11).2 _ _)
  isplitl [H0]; · iexact H0
  isplitl [H1]; · iexact H1
  isplitl [H2]; · iexact H2
  isplitl [H3]; · iexact H3
  isplitl [H4]; · iexact H4
  isplitl [H7]; · iexact H7
  isplitl [H8]; · iexact H8
  isplitl [H9]; · iexact H9
  isplitl [H10]; · iexact H10
  isplitl [H11]; · iexact H11
  iintro ⟨H0, H1, H2, H3, H4, ⟨%g7, H7⟩, ⟨%g8, H8⟩, ⟨%g9, H9⟩, ⟨%g10, H10⟩, ⟨%g11, H11⟩⟩
  isplitl [H7 H8 H9 H10 H11 Hg]
  · isplitr [Hg]
    · isplitl [H7]; · iexists _, _; isplitr; swap; (· iexact H7); ipureintro; rfl
      isplitl [H8]; · iexists _, _; isplitr; swap; (· iexact H8); ipureintro; rfl
      isplitl [H9]; · iexists _, _; isplitr; swap; (· iexact H9); ipureintro; rfl
      isplitl [H10]; · iexists _, _; isplitr; swap; (· iexact H10); ipureintro; rfl
      iexists _, _; isplitr; swap; (· iexact H11); ipureintro; rfl
    · iexact Hg
  isplitl [HO]; · iexact HO
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  iexists _, _; isplitr; swap; (· iexact H4); ipureintro; rfl

/-- The library's body obligation with the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every run of the program ends with the arguments' arrays unchanged and every semaphore counter at zero. -/
theorem run_frame :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_frame m ρ)

end Cert.KernelIdeal.Hand

end
-- ==== Proof.KOut.lean ====
/-
  The kernel's run at one grid point: what its two output tiles hold.
-/
module

public import proofs.«01_k».proof.Proof.KRun
public import proofs.«01_k».proof.Proof.BodyIdeal

@[expose] public section

set_option maxRecDepth 16384

noncomputable section

namespace Cert.KernelIdeal.Hand

open Cert.KernelIdeal Cert.KernelIdeal.Gen Cert.Moba
open Idealize.ShloMosaic

/-! ## The lists of writes -/

abbrev ra : Rect S512x128 := Rect.unit (s := S512x128) ![0, 0] S256x128.size inb_S512x128_S256x128_0_0
abbrev rb : Rect S512x128 := Rect.unit (s := S512x128) ![256, 0] S256x128.size inb_S512x128_S256x128_256_0
abbrev rqa : Rect S128x512 := Rect.unit (s := S128x512) ![0, 0] S128x256.size inb_S128x512_S128x256_0_0
abbrev rqb : Rect S128x512 := Rect.unit (s := S128x512) ![0, 256] S128x256.size inb_S128x512_S128x256_0_256
abbrev rkm : Rect S128x128 := Rect.unit (s := S128x128) ![0, 0] S128x128.size inb_S128x128_S128x128_0_0

/-- The picked block numbers of the two heads. -/
def idsL (w : BitVec 32) (km : FVec Ideal S128x128 .bf16) (q0 q1 : FVec Ideal S128x256 .bf16) : List (View.Piece (Elt Ideal) S2x8x256 .f32) :=
  [⟨r912, idV (dropV (dropV (gateV w km q1)))⟩, ⟨r911, idV (dropV (gateV w km q1))⟩, ⟨r910, idV (gateV w km q1)⟩,
    ⟨r902, idV (dropV (dropV (gateV w km q0)))⟩, ⟨r901, idV (dropV (gateV w km q0))⟩, ⟨r900, idV (gateV w km q0)⟩]

/-- The running maxima after the queries' own block. -/
def init7L (Kb : FVec Ideal S256x128 .bf16) (q0 q1 : FVec Ideal S128x256 .bf16) : List (View.Piece (Elt Ideal) S2x8x256 .f32) :=
  [⟨r71, init7 Kb q1⟩, ⟨r70, init7 Kb q0⟩]

/-- The weighted sums after the queries' own block. -/
def init8L (Kb : FVec Ideal S256x128 .bf16) (q0 q1 : FVec Ideal S128x256 .bf16) (va0 va1 : FVec Ideal S1x1x80x256 .bf16) :
    List (View.Piece (Elt Ideal) S2x80x256 .f32) := [⟨r81, init8 Kb q1 va1⟩, ⟨r80, init8 Kb q0 va0⟩]

/-- The tile put out: each head's sums over its row of ones. -/
def outV (t80 t81 : FVec Ideal S1x80x256 .f32) : FVec Ideal S256x128 .bf16 := k0_pay1 (F := Ideal) t80 t80 t81 t81

section Run

variable (c : Dev nD) (i : grid0.Coords) (M2 : Memref sig .tc .vmem S128x512 .bf16) (h2 : M2.IsWhole)
    (M3 : Memref sig .tc .vmem S16384x128 .bf16) (h3 : M3.IsWhole) (M4 : Memref sig .tc .vmem S64x2x80x256 .bf16) (h4 : M4.IsWhole)
    (M5 : Memref sig .tc .vmem S128x128 .bf16) (h5 : M5.IsWhole) (M6 : Memref sig .tc .vmem S512x128 .bf16) (h6 : M6.IsWhole)
    (M7 : Memref sig .tc .vmem S2x8x256 .f32) (h7 : M7.IsWhole) (M8 : Memref sig .tc .vmem S2x80x256 .f32) (h8 : M8.IsWhole)
    (M9 : Memref sig .tc .vmem S2x8x256 .f32) (h9 : M9.IsWhole) (M10 : Memref sig .tc .vmem S2x2x256x256 .f32) (h10 : M10.IsWhole)
    (M11 : Memref sig .tc .vmem S2x2x256x256 .f32) (h11 : M11.IsWhole)
    (X2 : BufTy.Contents (Elt Ideal) M2.view.ty) (X3 : BufTy.Contents (Elt Ideal) M3.view.ty) (X4 : BufTy.Contents (Elt Ideal) M4.view.ty)
    (X5 : BufTy.Contents (Elt Ideal) M5.view.ty) (f9 : BufTy.Contents (Elt Ideal) M9.view.ty) (f11 : BufTy.Contents (Elt Ideal) M11.view.ty)

def wA : BitVec 32 := Scalar.addi (Scalar.muli (BitVec.ofNat 32 (i 1).val) 2#32) 0#32
def wB : BitVec 32 := Scalar.addi (Scalar.muli (BitVec.ofNat 32 (i 1).val) 2#32) 1#32
def kmT : FVec Ideal S128x128 .bf16 := M5.view.readAt (Elt Ideal) rkm.toLoadRect X5
def qA0 : FVec Ideal S128x256 .bf16 := k0_pay251 (F := Ideal) (M2.view.readAt (Elt Ideal) rqa.toLoadRect X2)
def qA1 : FVec Ideal S128x256 .bf16 := k0_pay252 (F := Ideal) (M2.view.readAt (Elt Ideal) rqa.toLoadRect X2)
def qB0 : FVec Ideal S128x256 .bf16 := k0_pay251 (F := Ideal) (M2.view.readAt (Elt Ideal) rqb.toLoadRect X2)
def qB1 : FVec Ideal S128x256 .bf16 := k0_pay252 (F := Ideal) (M2.view.readAt (Elt Ideal) rqb.toLoadRect X2)
def kOwnA : FVec Ideal S256x128 .bf16 := M3.view.readAt (Elt Ideal) (Rect.unit (s := S16384x128) (k0_off1 i 0#32) S256x128.size (k0_off1_inb i 0)).toLoadRect X3
def kOwnB : FVec Ideal S256x128 .bf16 := M3.view.readAt (Elt Ideal) (Rect.unit (s := S16384x128) (k0_off1 i 1#32) S256x128.size (k0_off1_inb i 1)).toLoadRect X3
def vOwnA0 : FVec Ideal S1x1x80x256 .bf16 := M4.view.readAt (Elt Ideal) (Rect.unit (s := S64x2x80x256) (k0_off2 i 0#32) S1x1x80x256.size (k0_off2_inb i 0)).toLoadRect X4
def vOwnA1 : FVec Ideal S1x1x80x256 .bf16 := M4.view.readAt (Elt Ideal) (Rect.unit (s := S64x2x80x256) (k0_off3 i 0#32) S1x1x80x256.size (k0_off3_inb i 0)).toLoadRect X4
def vOwnB0 : FVec Ideal S1x1x80x256 .bf16 := M4.view.readAt (Elt Ideal) (Rect.unit (s := S64x2x80x256) (k0_off2 i 1#32) S1x1x80x256.size (k0_off2_inb i 1)).toLoadRect X4
def vOwnB1 : FVec Ideal S1x1x80x256 .bf16 := M4.view.readAt (Elt Ideal) (Rect.unit (s := S64x2x80x256) (k0_off3 i 1#32) S1x1x80x256.size (k0_off3_inb i 1)).toLoadRect X4
def kT0 : FVec Ideal S256x128 .bf16 := M3.view.readAt (Elt Ideal) (Rect.unit (s := S16384x128) ![0, 0] S256x128.size (by decide)).toLoadRect X3
def kT1 : FVec Ideal S256x128 .bf16 := M3.view.readAt (Elt Ideal) (Rect.unit (s := S16384x128) ![256, 0] S256x128.size (by decide)).toLoadRect X3

def i7A := init7L (kOwnA i M3 X3) (qA0 M2 X2) (qA1 M2 X2)
def i7B := init7L (kOwnB i M3 X3) (qB0 M2 X2) (qB1 M2 X2)
def i8A := init8L (kOwnA i M3 X3) (qA0 M2 X2) (qA1 M2 X2) (vOwnA0 i M4 X4) (vOwnA1 i M4 X4)
def i8B := init8L (kOwnB i M3 X3) (qB0 M2 X2) (qB1 M2 X2) (vOwnB0 i M4 X4) (vOwnB1 i M4 X4)
def i10A := tiles (kT0 M3 X3) (kT1 M3 X3) (qA0 M2 X2) (qA1 M2 X2)
def i10B := tiles (kT0 M3 X3) (kT1 M3 X3) (qB0 M2 X2) (qB1 M2 X2)
def A9 := M9.view.writes (Elt Ideal) f9 (idsL (wA i) (kmT M5 X5) (qA0 M2 X2) (qA1 M2 X2))
def B9 := M9.view.writes (Elt Ideal) f9 (idsL (wB i) (kmT M5 X5) (qB0 M2 X2) (qB1 M2 X2) ++ idsL (wA i) (kmT M5 X5) (qA0 M2 X2) (qA1 M2 X2))

def w217 : FVec Ideal S256x256 .f32 :=
  matmul dot_S256x128_S128x256_S256x256_1_0_0_1_n_n none (shapeCast S256x128 (kT1 M3 X3) shapeCasts_S256x128_S256x128) (qA1 M2 X2)
    (constant S256x256 .f32 0x00000000#32)

/-- The writes of the first block's loop. -/
def loopA := pb_k0_t1 (F := Ideal) Variants.none c none i M2 h2 M3 h3 M4 h4 M5 h5 M6 h6 M7 h7 M8 h8 M9 h9 M10 h10 M11 h11 (wA i) (qA0 M2 X2) (qA1 M2 X2) (w217 M2 M3 X2 X3) X3 X4 (A9 i M2 M5 M9 X2 X5 f9)
  (M7.view.writes (Elt Ideal) M7.view.junk (i7A i M2 M3 X2 X3)) (M8.view.writes (Elt Ideal) M8.view.junk (i8A i M2 M3 M4 X2 X3 X4)) (M10.view.writes (Elt Ideal) M10.view.junk (i10A M2 M3 X2 X3)) f11 (k0_t1_loop i).trips
/-- The writes of its remainder, which has no trips. -/
def loopA2 := pb_k0_t2 (F := Ideal) Variants.none c none i M2 h2 M3 h3 M4 h4 M5 h5 M6 h6 M7 h7 M8 h8 M9 h9 M10 h10 M11 h11 (wA i) (qA0 M2 X2) (qA1 M2 X2) (w217 M2 M3 X2 X3) (k0_t2_loop i).lb X3 X4 (A9 i M2 M5 M9 X2 X5 f9)
  (M7.view.writes (Elt Ideal) M7.view.junk ((loopA c i M2 h2 M3 h3 M4 h4 M5 h5 M6 h6 M7 h7 M8 h8 M9 h9 M10 h10 M11 h11 X2 X3 X4 X5 f9 f11).1 ++ i7A i M2 M3 X2 X3)) (M8.view.writes (Elt Ideal) M8.view.junk ((loopA c i M2 h2 M3 h3 M4 h4 M5 h5 M6 h6 M7 h7 M8 h8 M9 h9 M10 h10 M11 h11 X2 X3 X4 X5 f9 f11).2.1 ++ i8A i M2 M3 M4 X2 X3 X4)) (M10.view.writes (Elt Ideal) M10.view.junk ((loopA c i M2 h2 M3 h3 M4 h4 M5 h5 M6 h6 M7 h7 M8 h8 M9 h9 M10 h10 M11 h11 X2 X3 X4 X5 f9 f11).2.2.1 ++ i10A M2 M3 X2 X3))
  (M11.view.writes (Elt Ideal) f11 (loopA c i M2 h2 M3 h3 M4 h4 M5 h5 M6 h6 M7 h7 M8 h8 M9 h9 M10 h10 M11 h11 X2 X3 X4 X5 f9 f11).2.2.2) (k0_t2_loop i).trips
def A7 := (loopA2 c i M2 h2 M3 h3 M4 h4 M5 h5 M6 h6 M7 h7 M8 h8 M9 h9 M10 h10 M11 h11 X2 X3 X4 X5 f9 f11).1 ++ ((loopA c i M2 h2 M3 h3 M4 h4 M5 h5 M6 h6 M7 h7 M8 h8 M9 h9 M10 h10 M11 h11 X2 X3 X4 X5 f9 f11).1 ++ i7A i M2 M3 X2 X3)
def A8 := (loopA2 c i M2 h2 M3 h3 M4 h4 M5 h5 M6 h6 M7 h7 M8 h8 M9 h9 M10 h10 M11 h11 X2 X3 X4 X5 f9 f11).2.1 ++ ((loopA c i M2 h2 M3 h3 M4 h4 M5 h5 M6 h6 M7 h7 M8 h8 M9 h9 M10 h10 M11 h11 X2 X3 X4 X5 f9 f11).2.1 ++ i8A i M2 M3 M4 X2 X3 X4)
def A10 := (loopA2 c i M2 h2 M3 h3 M4 h4 M5 h5 M6 h6 M7 h7 M8 h8 M9 h9 M10 h10 M11 h11 X2 X3 X4 X5 f9 f11).2.2.1 ++ ((loopA c i M2 h2 M3 h3 M4 h4 M5 h5 M6 h6 M7 h7 M8 h8 M9 h9 M10 h10 M11 h11 X2 X3 X4 X5 f9 f11).2.2.1 ++ i10A M2 M3 X2 X3)
def A11 := (loopA2 c i M2 h2 M3 h3 M4 h4 M5 h5 M6 h6 M7 h7 M8 h8 M9 h9 M10 h10 M11 h11 X2 X3 X4 X5 f9 f11).2.2.2 ++ (loopA c i M2 h2 M3 h3 M4 h4 M5 h5 M6 h6 M7 h7 M8 h8 M9 h9 M10 h10 M11 h11 X2 X3 X4 X5 f9 f11).2.2.2
/-- The writes of the second block's loop. -/
def loopB := pb_k0_t3 (F := Ideal) Variants.none c none i M2 h2 M3 h3 M4 h4 M5 h5 M6 h6 M7 h7 M8 h8 M9 h9 M10 h10 M11 h11 (wB i) (qB0 M2 X2) (qB1 M2 X2) (kT1 M3 X3) X3 X4 (B9 i M2 M5 M9 X2 X5 f9)
  (M7.view.writes (Elt Ideal) M7.view.junk (i7B i M2 M3 X2 X3 ++ A7 c i M2 h2 M3 h3 M4 h4 M5 h5 M6 h6 M7 h7 M8 h8 M9 h9 M10 h10 M11 h11 X2 X3 X4 X5 f9 f11)) (M8.view.writes (Elt Ideal) M8.view.junk (i8B i M2 M3 M4 X2 X3 X4 ++ A8 c i M2 h2 M3 h3 M4 h4 M5 h5 M6 h6 M7 h7 M8 h8 M9 h9 M10 h10 M11 h11 X2 X3 X4 X5 f9 f11)) (M10.view.writes (Elt Ideal) M10.view.junk (i10B M2 M3 X2 X3 ++ A10 c i M2 h2 M3 h3 M4 h4 M5 h5 M6 h6 M7 h7 M8 h8 M9 h9 M10 h10 M11 h11 X2 X3 X4 X5 f9 f11))
  (M11.view.writes (Elt Ideal) f11 (A11 c i M2 h2 M3 h3 M4 h4 M5 h5 M6 h6 M7 h7 M8 h8 M9 h9 M10 h10 M11 h11 X2 X3 X4 X5 f9 f11)) (k0_t3_loop i).trips
/-- The writes of its remainder, which has no trips. -/
def loopB2 := pb_k0_t4 (F := Ideal) Variants.none c none i M2 h2 M3 h3 M4 h4 M5 h5 M6 h6 M7 h7 M8 h8 M9 h9 M10 h10 M11 h11 (wB i) (qB0 M2 X2) (qB1 M2 X2) (kT1 M3 X3) (k0_t4_loop i).lb X3 X4 (B9 i M2 M5 M9 X2 X5 f9)
  (M7.view.writes (Elt Ideal) M7.view.junk ((loopB c i M2 h2 M3 h3 M4 h4 M5 h5 M6 h6 M7 h7 M8 h8 M9 h9 M10 h10 M11 h11 X2 X3 X4 X5 f9 f11).1 ++ (i7B i M2 M3 X2 X3 ++ A7 c i M2 h2 M3 h3 M4 h4 M5 h5 M6 h6 M7 h7 M8 h8 M9 h9 M10 h10 M11 h11 X2 X3 X4 X5 f9 f11))) (M8.view.writes (Elt Ideal) M8.view.junk ((loopB c i M2 h2 M3 h3 M4 h4 M5 h5 M6 h6 M7 h7 M8 h8 M9 h9 M10 h10 M11 h11 X2 X3 X4 X5 f9 f11).2.1 ++ (i8B i M2 M3 M4 X2 X3 X4 ++ A8 c i M2 h2 M3 h3 M4 h4 M5 h5 M6 h6 M7 h7 M8 h8 M9 h9 M10 h10 M11 h11 X2 X3 X4 X5 f9 f11)))
  (M10.view.writes (Elt Ideal) M10.view.junk ((loopB c i M2 h2 M3 h3 M4 h4 M5 h5 M6 h6 M7 h7 M8 h8 M9 h9 M10 h10 M11 h11 X2 X3 X4 X5 f9 f11).2.2.1 ++ (i10B M2 M3 X2 X3 ++ A10 c i M2 h2 M3 h3 M4 h4 M5 h5 M6 h6 M7 h7 M8 h8 M9 h9 M10 h10 M11 h11 X2 X3 X4 X5 f9 f11)))
  (M11.view.writes (Elt Ideal) f11 ((loopB c i M2 h2 M3 h3 M4 h4 M5 h5 M6 h6 M7 h7 M8 h8 M9 h9 M10 h10 M11 h11 X2 X3 X4 X5 f9 f11).2.2.2 ++ A11 c i M2 h2 M3 h3 M4 h4 M5 h5 M6 h6 M7 h7 M8 h8 M9 h9 M10 h10 M11 h11 X2 X3 X4 X5 f9 f11)) (k0_t4_loop i).trips
def B8 := (loopB2 c i M2 h2 M3 h3 M4 h4 M5 h5 M6 h6 M7 h7 M8 h8 M9 h9 M10 h10 M11 h11 X2 X3 X4 X5 f9 f11).2.1 ++ ((loopB c i M2 h2 M3 h3 M4 h4 M5 h5 M6 h6 M7 h7 M8 h8 M9 h9 M10 h10 M11 h11 X2 X3 X4 X5 f9 f11).2.1 ++ (i8B i M2 M3 M4 X2 X3 X4 ++ A8 c i M2 h2 M3 h3 M4 h4 M5 h5 M6 h6 M7 h7 M8 h8 M9 h9 M10 h10 M11 h11 X2 X3 X4 X5 f9 f11))

/-- What the run leaves in the output window: the two tiles. -/
theorem run_eq (f6 : BufTy.Contents (Elt Ideal) M6.view.ty) (f7 : BufTy.Contents (Elt Ideal) M7.view.ty) (f8 : BufTy.Contents (Elt Ideal) M8.view.ty)
    (f10 : BufTy.Contents (Elt Ideal) M10.view.ty) :
    (kernelRun (F := Ideal) c i M2 h2 M3 h3 M4 h4 M5 h5 M6 h6 M7 h7 M8 h8 M9 h9 M10 h10 M11 h11 X2 X3 X4 X5 f6 f7 f8 f9 f10 f11).1
      = M6.view.writes (Elt Ideal) M6.view.junk
        [⟨rb, outV (M8.view.readCov (B8 c i M2 h2 M3 h3 M4 h4 M5 h5 M6 h6 M7 h7 M8 h8 M9 h9 M10 h10 M11 h11 X2 X3 X4 X5 f9 f11) r80.toLoadRect) (M8.view.readCov (B8 c i M2 h2 M3 h3 M4 h4 M5 h5 M6 h6 M7 h7 M8 h8 M9 h9 M10 h10 M11 h11 X2 X3 X4 X5 f9 f11) r81.toLoadRect)⟩,
         ⟨ra, outV (M8.view.readCov (A8 c i M2 h2 M3 h3 M4 h4 M5 h5 M6 h6 M7 h7 M8 h8 M9 h9 M10 h10 M11 h11 X2 X3 X4 X5 f9 f11) r80.toLoadRect) (M8.view.readCov (A8 c i M2 h2 M3 h3 M4 h4 M5 h5 M6 h6 M7 h7 M8 h8 M9 h9 M10 h10 M11 h11 X2 X3 X4 X5 f9 f11) r81.toLoadRect)⟩] := by
  unfold kernelRun
  rfl

end Run

end Cert.KernelIdeal.Hand

end
-- ==== Proof.KTile.lean ====
/-
  The two output tiles of a grid point, for real queries, keys and block means: every entry is the attention of its query.
-/
module

public import proofs.«01_k».proof.Proof.KOut

@[expose] public section

set_option maxRecDepth 16384

noncomputable section

namespace Cert.Moba

/-- Which blocks are picked is decided classically. -/
instance pickedDec (g : ℕ → ℝ) (i : ℕ) : DecidablePred (Picked g i) := fun n => Classical.propDecidable _

end Cert.Moba

namespace Cert.KernelIdeal.Hand

open Cert.KernelIdeal Cert.KernelIdeal.Gen Cert.Moba
open Idealize.ShloMosaic

/-! ## The tile put out -/

theorem outV_fst (t80 t81 : FVec Ideal S1x80x256 .f32) (c : Fin 256) (d : Fin 64) :
    outV t80 t81 (ix2 c (⟨d.val, by omega⟩ : Fin 128)) = Ideal.div (t80 (ix3 0 (⟨d.val, by omega⟩ : Fin 80) c)) (t80 (ix3 0 (64 : Fin 80) c)) := by
  unfold outV
  pointwise [k0_pay1]
theorem outV_snd (t80 t81 : FVec Ideal S1x80x256 .f32) (c : Fin 256) (d : Fin 64) :
    outV t80 t81 (ix2 c (⟨64 + d.val, by omega⟩ : Fin 128)) = Ideal.div (t81 (ix3 0 (⟨d.val, by omega⟩ : Fin 80) c)) (t81 (ix3 0 (64 : Fin 80) c)) := by
  unfold outV
  pointwise [k0_pay1]

/-! ## The picks -/

theorem miss911_912 (x : r911.shape.Idx) : r911.emb x ∉ r912.set :=
  Rect.not_mem_set_of_axis _ _ (1 : Fin 3) 2 1 rfl rfl rfl (Or.inl (show 1 + 1 * (x 1).val < 2 by have h : (x 1).val < 1 := (x 1).isLt; omega))
theorem miss910_912 (x : r910.shape.Idx) : r910.emb x ∉ r912.set :=
  Rect.not_mem_set_of_axis _ _ (1 : Fin 3) 2 1 rfl rfl rfl (Or.inl (show 0 + 1 * (x 1).val < 2 by have h : (x 1).val < 1 := (x 1).isLt; omega))
theorem miss910_911 (x : r910.shape.Idx) : r910.emb x ∉ r911.set :=
  Rect.not_mem_set_of_axis _ _ (1 : Fin 3) 1 1 rfl rfl rfl (Or.inl (show 0 + 1 * (x 1).val < 1 by have h : (x 1).val < 1 := (x 1).isLt; omega))
theorem miss902_912 (x : r902.shape.Idx) : r902.emb x ∉ r912.set :=
  Rect.not_mem_set_of_axis _ _ (0 : Fin 3) 1 1 rfl rfl rfl (Or.inl (show 0 + 1 * (x 0).val < 1 by have h : (x 0).val < 1 := (x 0).isLt; omega))
theorem miss902_911 (x : r902.shape.Idx) : r902.emb x ∉ r911.set :=
  Rect.not_mem_set_of_axis _ _ (0 : Fin 3) 1 1 rfl rfl rfl (Or.inl (show 0 + 1 * (x 0).val < 1 by have h : (x 0).val < 1 := (x 0).isLt; omega))
theorem miss902_910 (x : r902.shape.Idx) : r902.emb x ∉ r910.set :=
  Rect.not_mem_set_of_axis _ _ (0 : Fin 3) 1 1 rfl rfl rfl (Or.inl (show 0 + 1 * (x 0).val < 1 by have h : (x 0).val < 1 := (x 0).isLt; omega))
theorem miss901_912 (x : r901.shape.Idx) : r901.emb x ∉ r912.set :=
  Rect.not_mem_set_of_axis _ _ (0 : Fin 3) 1 1 rfl rfl rfl (Or.inl (show 0 + 1 * (x 0).val < 1 by have h : (x 0).val < 1 := (x 0).isLt; omega))
theorem miss901_911 (x : r901.shape.Idx) : r901.emb x ∉ r911.set :=
  Rect.not_mem_set_of_axis _ _ (0 : Fin 3) 1 1 rfl rfl rfl (Or.inl (show 0 + 1 * (x 0).val < 1 by have h : (x 0).val < 1 := (x 0).isLt; omega))
theorem miss901_910 (x : r901.shape.Idx) : r901.emb x ∉ r910.set :=
  Rect.not_mem_set_of_axis _ _ (0 : Fin 3) 1 1 rfl rfl rfl (Or.inl (show 0 + 1 * (x 0).val < 1 by have h : (x 0).val < 1 := (x 0).isLt; omega))
theorem miss901_902 (x : r901.shape.Idx) : r901.emb x ∉ r902.set :=
  Rect.not_mem_set_of_axis _ _ (1 : Fin 3) 2 1 rfl rfl rfl (Or.inl (show 1 + 1 * (x 1).val < 2 by have h : (x 1).val < 1 := (x 1).isLt; omega))
theorem miss900_912 (x : r900.shape.Idx) : r900.emb x ∉ r912.set :=
  Rect.not_mem_set_of_axis _ _ (0 : Fin 3) 1 1 rfl rfl rfl (Or.inl (show 0 + 1 * (x 0).val < 1 by have h : (x 0).val < 1 := (x 0).isLt; omega))
theorem miss900_911 (x : r900.shape.Idx) : r900.emb x ∉ r911.set :=
  Rect.not_mem_set_of_axis _ _ (0 : Fin 3) 1 1 rfl rfl rfl (Or.inl (show 0 + 1 * (x 0).val < 1 by have h : (x 0).val < 1 := (x 0).isLt; omega))
theorem miss900_910 (x : r900.shape.Idx) : r900.emb x ∉ r910.set :=
  Rect.not_mem_set_of_axis _ _ (0 : Fin 3) 1 1 rfl rfl rfl (Or.inl (show 0 + 1 * (x 0).val < 1 by have h : (x 0).val < 1 := (x 0).isLt; omega))
theorem miss900_902 (x : r900.shape.Idx) : r900.emb x ∉ r902.set :=
  Rect.not_mem_set_of_axis _ _ (1 : Fin 3) 2 1 rfl rfl rfl (Or.inl (show 0 + 1 * (x 1).val < 2 by have h : (x 1).val < 1 := (x 1).isLt; omega))
theorem miss900_901 (x : r900.shape.Idx) : r900.emb x ∉ r901.set :=
  Rect.not_mem_set_of_axis _ _ (1 : Fin 3) 1 1 rfl rfl rfl (Or.inl (show 0 + 1 * (x 1).val < 1 by have h : (x 1).val < 1 := (x 1).isLt; omega))

section Entry

variable (M7 : Memref sig .tc .vmem S2x8x256 .f32) (M8 : Memref sig .tc .vmem S2x80x256 .f32) (M9 : Memref sig .tc .vmem S2x8x256 .f32)
  (M10 : Memref sig .tc .vmem S2x2x256x256 .f32)
theorem ids_912 (f : BufTy.Contents (Elt Ideal) M9.view.ty) (w : BitVec 32) (km : FVec Ideal S128x128 .bf16) (q0 q1 : FVec Ideal S128x256 .bf16)
    (L : List (View.Piece (Elt Ideal) S2x8x256 .f32)) :
    M9.view.readAt (Elt Ideal) r912.toLoadRect (M9.view.writes (Elt Ideal) f (idsL w km q0 q1 ++ L)) = idV (dropV (dropV (gateV w km q1))) := by
  unfold idsL
  simp only [List.cons_append]
  exact readAt_hit _ _ _ _ _
theorem ids_911 (f : BufTy.Contents (Elt Ideal) M9.view.ty) (w : BitVec 32) (km : FVec Ideal S128x128 .bf16) (q0 q1 : FVec Ideal S128x256 .bf16)
    (L : List (View.Piece (Elt Ideal) S2x8x256 .f32)) :
    M9.view.readAt (Elt Ideal) r911.toLoadRect (M9.view.writes (Elt Ideal) f (idsL w km q0 q1 ++ L)) = idV (dropV (gateV w km q1)) := by
  unfold idsL
  simp only [List.cons_append]
  rw [readAt_miss _ _ _ _ _ _ miss911_912]
  exact readAt_hit _ _ _ _ _
theorem ids_910 (f : BufTy.Contents (Elt Ideal) M9.view.ty) (w : BitVec 32) (km : FVec Ideal S128x128 .bf16) (q0 q1 : FVec Ideal S128x256 .bf16)
    (L : List (View.Piece (Elt Ideal) S2x8x256 .f32)) :
    M9.view.readAt (Elt Ideal) r910.toLoadRect (M9.view.writes (Elt Ideal) f (idsL w km q0 q1 ++ L)) = idV (gateV w km q1) := by
  unfold idsL
  simp only [List.cons_append]
  rw [readAt_miss _ _ _ _ _ _ miss910_912]
  rw [readAt_miss _ _ _ _ _ _ miss910_911]
  exact readAt_hit _ _ _ _ _
theorem ids_902 (f : BufTy.Contents (Elt Ideal) M9.view.ty) (w : BitVec 32) (km : FVec Ideal S128x128 .bf16) (q0 q1 : FVec Ideal S128x256 .bf16)
    (L : List (View.Piece (Elt Ideal) S2x8x256 .f32)) :
    M9.view.readAt (Elt Ideal) r902.toLoadRect (M9.view.writes (Elt Ideal) f (idsL w km q0 q1 ++ L)) = idV (dropV (dropV (gateV w km q0))) := by
  unfold idsL
  simp only [List.cons_append]
  rw [readAt_miss _ _ _ _ _ _ miss902_912]
  rw [readAt_miss _ _ _ _ _ _ miss902_911]
  rw [readAt_miss _ _ _ _ _ _ miss902_910]
  exact readAt_hit _ _ _ _ _
theorem ids_901 (f : BufTy.Contents (Elt Ideal) M9.view.ty) (w : BitVec 32) (km : FVec Ideal S128x128 .bf16) (q0 q1 : FVec Ideal S128x256 .bf16)
    (L : List (View.Piece (Elt Ideal) S2x8x256 .f32)) :
    M9.view.readAt (Elt Ideal) r901.toLoadRect (M9.view.writes (Elt Ideal) f (idsL w km q0 q1 ++ L)) = idV (dropV (gateV w km q0)) := by
  unfold idsL
  simp only [List.cons_append]
  rw [readAt_miss _ _ _ _ _ _ miss901_912]
  rw [readAt_miss _ _ _ _ _ _ miss901_911]
  rw [readAt_miss _ _ _ _ _ _ miss901_910]
  rw [readAt_miss _ _ _ _ _ _ miss901_902]
  exact readAt_hit _ _ _ _ _
theorem ids_900 (f : BufTy.Contents (Elt Ideal) M9.view.ty) (w : BitVec 32) (km : FVec Ideal S128x128 .bf16) (q0 q1 : FVec Ideal S128x256 .bf16)
    (L : List (View.Piece (Elt Ideal) S2x8x256 .f32)) :
    M9.view.readAt (Elt Ideal) r900.toLoadRect (M9.view.writes (Elt Ideal) f (idsL w km q0 q1 ++ L)) = idV (gateV w km q0) := by
  unfold idsL
  simp only [List.cons_append]
  rw [readAt_miss _ _ _ _ _ _ miss900_912]
  rw [readAt_miss _ _ _ _ _ _ miss900_911]
  rw [readAt_miss _ _ _ _ _ _ miss900_910]
  rw [readAt_miss _ _ _ _ _ _ miss900_902]
  rw [readAt_miss _ _ _ _ _ _ miss900_901]
  exact readAt_hit _ _ _ _ _

variable {K KM : ℕ → Fin 128 → ℝ} {Q : Fin 128 → Fin 256 → ℝ}

/-- The picks written are those of the two heads. -/
theorem picks_init {km : FVec Ideal S128x128 .bf16} {q0 q1 : FVec Ideal S128x256 .bf16} {w : BitVec 32} {i : ℕ} (hi : i < 64) (hw : w = BitVec.ofNat 32 i)
    (hkm : ∀ n f, km (ix2 n f) = (KM n.val f : EReal)) (hq0 : ∀ f c, q0 (ix2 f c) = (qm Q 0 f c : EReal)) (hq1 : ∀ f c, q1 (ix2 f c) = (qm Q 1 f c : EReal))
    (f : BufTy.Contents (Elt Ideal) M9.view.ty) (L : List (View.Piece (Elt Ideal) S2x8x256 .f32)) (n : ℕ) (hn : n < 1024) :
    Picks (fun h c n => Picked (gt KM Q h c) i n) M9 (M9.view.writes (Elt Ideal) f (idsL w km q0 q1 ++ L)) (BitVec.ofNat 32 n) n := by
  refine ⟨fun c => ?_, fun c => ?_⟩
  · unfold pick0; rw [ids_900, ids_901, ids_902]; exact ids_picked hi hw hkm hq0 _ n hn rfl c
  · unfold pick1; rw [ids_910, ids_911, ids_912]; exact ids_picked hi hw hkm hq1 _ n hn rfl c

/-- The state the loops start from. -/
theorem inv_init {Kb K0 K1 : FVec Ideal S256x128 .bf16} {q0 q1 : FVec Ideal S128x256 .bf16} {va0 va1 : FVec Ideal S1x1x80x256 .bf16} {i : ℕ}
    {V : ℕ → Fin 2 → Fin 80 → Fin 256 → EReal} (P : Fin 2 → Fin 256 → ℕ → Prop) [∀ h c, DecidablePred (P h c)]
    (hq0 : ∀ f c, q0 (ix2 f c) = (qm Q 0 f c : EReal)) (hq1 : ∀ f c, q1 (ix2 f c) = (qm Q 1 f c : EReal))
    (hKb : ∀ r f, Kb (ix2 r f) = (K (256 * i + r.val) f : EReal)) (hv0 : ∀ d r, va0 (ix4 0 0 d r) = V i 0 d r) (hv1 : ∀ d r, va1 (ix4 0 0 d r) = V i 1 d r)
    (hK0 : ∀ r f, K0 (ix2 r f) = (K (256 * 0 + r.val) f : EReal)) (hK1 : ∀ r f, K1 (ix2 r f) = (K (256 * 1 + r.val) f : EReal))
    (f7 : BufTy.Contents (Elt Ideal) M7.view.ty) (f8 : BufTy.Contents (Elt Ideal) M8.view.ty) (f10 : BufTy.Contents (Elt Ideal) M10.view.ty)
    (L7 : List (View.Piece (Elt Ideal) S2x8x256 .f32)) (L8 : List (View.Piece (Elt Ideal) S2x80x256 .f32)) (L10 : List (View.Piece (Elt Ideal) S2x2x256x256 .f32)) :
    Inv (sc K Q) (fun h d n r => V n h d r) P i M7 M8 M10 0 (M7.view.writes (Elt Ideal) f7 (init7L Kb q0 q1 ++ L7))
      (M8.view.writes (Elt Ideal) f8 (init8L Kb q0 q1 va0 va1 ++ L8)) (M10.view.writes (Elt Ideal) f10 (tiles K0 K1 q0 q1 ++ L10)) := by
  have e70 : M7.view.readAt (Elt Ideal) r70.toLoadRect (M7.view.writes (Elt Ideal) f7 (init7L Kb q0 q1 ++ L7)) = init7 Kb q0 := by
    unfold init7L; rw [List.cons_append, readAt_miss _ _ _ _ _ _ miss7_0]; exact readAt_hit _ _ _ _ _
  have e71 : M7.view.readAt (Elt Ideal) r71.toLoadRect (M7.view.writes (Elt Ideal) f7 (init7L Kb q0 q1 ++ L7)) = init7 Kb q1 := by
    unfold init7L; exact readAt_hit _ _ _ _ _
  have e80 : M8.view.readAt (Elt Ideal) r80.toLoadRect (M8.view.writes (Elt Ideal) f8 (init8L Kb q0 q1 va0 va1 ++ L8)) = init8 Kb q0 va0 := by
    unfold init8L; rw [List.cons_append, readAt_miss _ _ _ _ _ _ miss8_0]; exact readAt_hit _ _ _ _ _
  have e81 : M8.view.readAt (Elt Ideal) r81.toLoadRect (M8.view.writes (Elt Ideal) f8 (init8L Kb q0 q1 va0 va1 ++ L8)) = init8 Kb q1 va1 := by
    unfold init8L; exact readAt_hit _ _ _ _ _
  constructor
  · rw [e70, e80]; exact good_init (P 0) hKb hq0 hv0
  · rw [e71, e81]; exact good_init (P 1) hKb hq1 hv1
  · rw [tiles_00]; intro c _ r; exact score_real hK0 hq0 r c
  · rw [tiles_01]; intro c _ r; exact score_real hK1 hq0 r c
  · rw [tiles_10]; intro c _ r; exact score_real hK0 hq1 r c
  · rw [tiles_11]; intro c _ r; exact score_real hK1 hq1 r c

end Entry

/-! ## The words of a grid point -/

theorem off1_val : ∀ (i : grid0.Coords) (u : Fin 2), k0_off1 i (BitVec.ofNat 32 u.val) 0 = 256 * (2 * (i 1).val + u.val)
    ∧ k0_off1 i (BitVec.ofNat 32 u.val) 1 = 0 := by decide +kernel
theorem off2_val : ∀ (i : grid0.Coords) (u : Fin 2), k0_off2 i (BitVec.ofNat 32 u.val) 0 = 2 * (i 1).val + u.val
    ∧ k0_off2 i (BitVec.ofNat 32 u.val) 1 = 0 ∧ k0_off2 i (BitVec.ofNat 32 u.val) 2 = 0 ∧ k0_off2 i (BitVec.ofNat 32 u.val) 3 = 0 := by decide +kernel
theorem off3_val : ∀ (i : grid0.Coords) (u : Fin 2), k0_off3 i (BitVec.ofNat 32 u.val) 0 = 2 * (i 1).val + u.val
    ∧ k0_off3 i (BitVec.ofNat 32 u.val) 1 = 1 ∧ k0_off3 i (BitVec.ofNat 32 u.val) 2 = 0 ∧ k0_off3 i (BitVec.ofNat 32 u.val) 3 = 0 := by decide +kernel
theorem wA_val : ∀ i : grid0.Coords, wA i = BitVec.ofNat 32 (2 * (i 1).val) := by decide +kernel
theorem wB_val : ∀ i : grid0.Coords, wB i = BitVec.ofNat 32 (2 * (i 1).val + 1) := by decide +kernel
theorem i1_lt : ∀ i : grid0.Coords, (i 1).val < 32 := by decide +kernel
theorem t2_trips : ∀ i : grid0.Coords, (k0_t2_loop i).trips = 0 := by decide +kernel
theorem t4_trips : ∀ i : grid0.Coords, (k0_t4_loop i).trips = 0 := by decide +kernel

section Run

variable (c : Dev nD) (i : grid0.Coords) (M2 : Memref sig .tc .vmem S128x512 .bf16) (h2 : M2.IsWhole)
    (M3 : Memref sig .tc .vmem S16384x128 .bf16) (h3 : M3.IsWhole) (M4 : Memref sig .tc .vmem S64x2x80x256 .bf16) (h4 : M4.IsWhole)
    (M5 : Memref sig .tc .vmem S128x128 .bf16) (h5 : M5.IsWhole) (M6 : Memref sig .tc .vmem S512x128 .bf16) (h6 : M6.IsWhole)
    (M7 : Memref sig .tc .vmem S2x8x256 .f32) (h7 : M7.IsWhole) (M8 : Memref sig .tc .vmem S2x80x256 .f32) (h8 : M8.IsWhole)
    (M9 : Memref sig .tc .vmem S2x8x256 .f32) (h9 : M9.IsWhole) (M10 : Memref sig .tc .vmem S2x2x256x256 .f32) (h10 : M10.IsWhole)
    (M11 : Memref sig .tc .vmem S2x2x256x256 .f32) (h11 : M11.IsWhole)
    (X2 : BufTy.Contents (Elt Ideal) M2.view.ty) (X3 : BufTy.Contents (Elt Ideal) M3.view.ty) (X4 : BufTy.Contents (Elt Ideal) M4.view.ty)
    (X5 : BufTy.Contents (Elt Ideal) M5.view.ty) (f9 : BufTy.Contents (Elt Ideal) M9.view.ty) (f11 : BufTy.Contents (Elt Ideal) M11.view.ty)

theorem loopA2_nil : loopA2 c i M2 h2 M3 h3 M4 h4 M5 h5 M6 h6 M7 h7 M8 h8 M9 h9 M10 h10 M11 h11 X2 X3 X4 X5 f9 f11 = ([], [], [], []) := by
  unfold loopA2; rw [t2_trips i, pb_k0_t2.eq_1]
theorem loopB2_nil : loopB2 c i M2 h2 M3 h3 M4 h4 M5 h5 M6 h6 M7 h7 M8 h8 M9 h9 M10 h10 M11 h11 X2 X3 X4 X5 f9 f11 = ([], [], [], []) := by
  unfold loopB2; rw [t4_trips i, pb_k0_t4.eq_1]

variable (Q2 : Fin 128 → ℕ → ℝ) (K KM : ℕ → Fin 128 → ℝ) (V : ℕ → Fin 2 → Fin 80 → Fin 256 → EReal)

/-- The query tile of the grid point's block `u`. -/
def qt (u : ℕ) (f : Fin 128) (c : Fin 256) : ℝ := Q2 f (256 * u + c.val)

variable (hX2 : ∀ f t, M2.view.read (Elt Ideal) X2 (ix2 f t) = (Q2 f t.val : EReal))
  (hX3 : ∀ t f, M3.view.read (Elt Ideal) X3 (ix2 t f) = (K t.val f : EReal)) (hX4 : ∀ n h d r, M4.view.read (Elt Ideal) X4 (ix4 n h d r) = V n.val h d r)
  (hX5 : ∀ n f, M5.view.read (Elt Ideal) X5 (ix2 n f) = (KM n.val f : EReal)) (hone : ∀ n h r, V n h 64 r = 1)

include hX2 in
theorem qA_tile (f : Fin 128) (c : Fin 256) : M2.view.readAt (Elt Ideal) rqa.toLoadRect X2 (ix2 f c) = (qt Q2 0 f c : EReal) := by
  refine Eq.trans ?_ ((hX2 f ⟨256 * 0 + c.val, by have := c.isLt; omega⟩).trans rfl)
  refine View.ld_unit_apply_of (M2.view.read (Elt Ideal) X2) _ S128x256.size _ (ix2 f c) (ix2 f ⟨256 * 0 + c.val, by have := c.isLt; omega⟩) fun a => ?_
  fin_cases a
  · exact (Nat.zero_add f.val).symm
  · rfl

include hX2 in
theorem qB_tile (f : Fin 128) (c : Fin 256) : M2.view.readAt (Elt Ideal) rqb.toLoadRect X2 (ix2 f c) = (qt Q2 1 f c : EReal) := by
  refine Eq.trans ?_ ((hX2 f ⟨256 * 1 + c.val, by have := c.isLt; omega⟩).trans rfl)
  refine View.ld_unit_apply_of (M2.view.read (Elt Ideal) X2) _ S128x256.size _ (ix2 f c) (ix2 f ⟨256 * 1 + c.val, by have := c.isLt; omega⟩) fun a => ?_
  fin_cases a
  · exact (Nat.zero_add f.val).symm
  · rfl

include hX5 in
theorem km_tile (n f : Fin 128) : kmT M5 X5 (ix2 n f) = (KM n.val f : EReal) := by
  refine Eq.trans ?_ (hX5 n f)
  refine View.ld_unit_apply_of (M5.view.read (Elt Ideal) X5) _ S128x128.size _ (ix2 n f) (ix2 n f) fun a => ?_
  fin_cases a
  · exact (Nat.zero_add n.val).symm
  · exact (Nat.zero_add f.val).symm

/-- The picks of the grid point's block `u`. -/
abbrev pk (u : ℕ) (h : Fin 2) (c : Fin 256) (n : ℕ) : Prop := Picked (gt KM (qt Q2 u) h c) (2 * (i 1).val + u) n

include hX2 hX3 hX4 hX5 in
/-- The state after the first block's loop. -/
theorem invA : Inv (sc K (qt Q2 0)) (fun h d n r => V n h d r) (pk i Q2 KM 0) (2 * (i 1).val + 0) M7 M8 M10 (4 * (k0_t1_loop i).trips)
    (M7.view.writes (Elt Ideal) M7.view.junk (A7 c i M2 h2 M3 h3 M4 h4 M5 h5 M6 h6 M7 h7 M8 h8 M9 h9 M10 h10 M11 h11 X2 X3 X4 X5 f9 f11)) (M8.view.writes (Elt Ideal) M8.view.junk (A8 c i M2 h2 M3 h3 M4 h4 M5 h5 M6 h6 M7 h7 M8 h8 M9 h9 M10 h10 M11 h11 X2 X3 X4 X5 f9 f11))
    (M10.view.writes (Elt Ideal) M10.view.junk (A10 c i M2 h2 M3 h3 M4 h4 M5 h5 M6 h6 M7 h7 M8 h8 M9 h9 M10 h10 M11 h11 X2 X3 X4 X5 f9 f11)) := by
  have hi := i1_lt i
  have hq0 := q0_real (Q := qt Q2 0) (qA_tile M2 X2 Q2 hX2)
  have hq1 := q1_real (Q := qt Q2 0) (qA_tile M2 X2 Q2 hX2)
  have h0 := inv_init M7 M8 M10 (K := K) (V := V) (i := 2 * (i 1).val + 0) (pk i Q2 KM 0) (q0 := qA0 M2 X2) (q1 := qA1 M2 X2) (Kb := kOwnA i M3 X3)
    (va0 := vOwnA0 i M4 X4) (va1 := vOwnA1 i M4 X4) (K0 := kT0 M3 X3) (K1 := kT1 M3 X3) hq0 hq1
    (load_key M3 X3 hX3 _ (k0_off1_inb i 0) (2 * (i 1).val + 0) (by omega) (off1_val i 0).1 (off1_val i 0).2)
    (load_val M4 X4 hX4 _ (k0_off2_inb i 0) (2 * (i 1).val + 0) (by omega) 0 (off2_val i 0).1 (off2_val i 0).2.1 (off2_val i 0).2.2.1 (off2_val i 0).2.2.2)
    (load_val M4 X4 hX4 _ (k0_off3_inb i 0) (2 * (i 1).val + 0) (by omega) 1 (off3_val i 0).1 (off3_val i 0).2.1 (off3_val i 0).2.2.1 (off3_val i 0).2.2.2)
    (load_key M3 X3 hX3 _ _ 0 (by omega) rfl rfl) (load_key M3 X3 hX3 _ _ 1 (by omega) rfl rfl) M7.view.junk M8.view.junk M10.view.junk [] [] []
  rw [List.append_nil, List.append_nil, List.append_nil] at h0
  have hp := fun n hn => picks_init M9 (KM := KM) (Q := qt Q2 0) (i := 2 * (i 1).val + 0) (by omega) (wA_val i) (km_tile M5 X5 KM hX5) hq0 hq1 f9 [] n hn
  simp only [List.append_nil] at hp
  have e := loop1_inv Variants.none c none i M2 h2 M3 h3 M4 h4 M5 h5 M6 h6 M7 h7 M8 h8 M9 h9 M10 h10 M11 h11 (wA i) (qA0 M2 X2) (qA1 M2 X2) (w217 M2 M3 X2 X3) X3 X4 (A9 i M2 M5 M9 X2 X5 f9) _ _ _ f11
    K (qt Q2 0) V (pk i Q2 KM 0) (2 * (i 1).val + 0) (fun h c n hn => by have := Picked.lt _ hn; omega) hX3 hX4 hq0 hq1 hp h0 _ le_rfl
  unfold A7 A8 A10
  rw [loopA2_nil, List.nil_append, List.nil_append, List.nil_append, View.writes_append, View.writes_append, View.writes_append]
  exact e

include hX2 hX3 hX4 hX5 in
/-- The state after the second block's loop. -/
theorem invB : Inv (sc K (qt Q2 1)) (fun h d n r => V n h d r) (pk i Q2 KM 1) (2 * (i 1).val + 1) M7 M8 M10 (4 * (k0_t3_loop i).trips)
    (M7.view.writes (Elt Ideal) M7.view.junk ((loopB c i M2 h2 M3 h3 M4 h4 M5 h5 M6 h6 M7 h7 M8 h8 M9 h9 M10 h10 M11 h11 X2 X3 X4 X5 f9 f11).1 ++ (i7B i M2 M3 X2 X3 ++ A7 c i M2 h2 M3 h3 M4 h4 M5 h5 M6 h6 M7 h7 M8 h8 M9 h9 M10 h10 M11 h11 X2 X3 X4 X5 f9 f11)))
    (M8.view.writes (Elt Ideal) M8.view.junk (B8 c i M2 h2 M3 h3 M4 h4 M5 h5 M6 h6 M7 h7 M8 h8 M9 h9 M10 h10 M11 h11 X2 X3 X4 X5 f9 f11))
    (M10.view.writes (Elt Ideal) M10.view.junk ((loopB c i M2 h2 M3 h3 M4 h4 M5 h5 M6 h6 M7 h7 M8 h8 M9 h9 M10 h10 M11 h11 X2 X3 X4 X5 f9 f11).2.2.1 ++ (i10B M2 M3 X2 X3 ++ A10 c i M2 h2 M3 h3 M4 h4 M5 h5 M6 h6 M7 h7 M8 h8 M9 h9 M10 h10 M11 h11 X2 X3 X4 X5 f9 f11))) := by
  have hi := i1_lt i
  have hq0 := q0_real (Q := qt Q2 1) (qB_tile M2 X2 Q2 hX2)
  have hq1 := q1_real (Q := qt Q2 1) (qB_tile M2 X2 Q2 hX2)
  have h0 := inv_init M7 M8 M10 (K := K) (V := V) (i := 2 * (i 1).val + 1) (pk i Q2 KM 1) (q0 := qB0 M2 X2) (q1 := qB1 M2 X2) (Kb := kOwnB i M3 X3)
    (va0 := vOwnB0 i M4 X4) (va1 := vOwnB1 i M4 X4) (K0 := kT0 M3 X3) (K1 := kT1 M3 X3) hq0 hq1
    (load_key M3 X3 hX3 _ (k0_off1_inb i 1) (2 * (i 1).val + 1) (by omega) (off1_val i 1).1 (off1_val i 1).2)
    (load_val M4 X4 hX4 _ (k0_off2_inb i 1) (2 * (i 1).val + 1) (by omega) 0 (off2_val i 1).1 (off2_val i 1).2.1 (off2_val i 1).2.2.1 (off2_val i 1).2.2.2)
    (load_val M4 X4 hX4 _ (k0_off3_inb i 1) (2 * (i 1).val + 1) (by omega) 1 (off3_val i 1).1 (off3_val i 1).2.1 (off3_val i 1).2.2.1 (off3_val i 1).2.2.2)
    (load_key M3 X3 hX3 _ _ 0 (by omega) rfl rfl) (load_key M3 X3 hX3 _ _ 1 (by omega) rfl rfl) M7.view.junk M8.view.junk M10.view.junk
    (A7 c i M2 h2 M3 h3 M4 h4 M5 h5 M6 h6 M7 h7 M8 h8 M9 h9 M10 h10 M11 h11 X2 X3 X4 X5 f9 f11) (A8 c i M2 h2 M3 h3 M4 h4 M5 h5 M6 h6 M7 h7 M8 h8 M9 h9 M10 h10 M11 h11 X2 X3 X4 X5 f9 f11) (A10 c i M2 h2 M3 h3 M4 h4 M5 h5 M6 h6 M7 h7 M8 h8 M9 h9 M10 h10 M11 h11 X2 X3 X4 X5 f9 f11)
  have hp := fun n hn => picks_init M9 (KM := KM) (Q := qt Q2 1) (i := 2 * (i 1).val + 1) (by omega) (wB_val i) (km_tile M5 X5 KM hX5) hq0 hq1 f9
    (idsL (wA i) (kmT M5 X5) (qA0 M2 X2) (qA1 M2 X2)) n hn
  have e := loop3_inv Variants.none c none i M2 h2 M3 h3 M4 h4 M5 h5 M6 h6 M7 h7 M8 h8 M9 h9 M10 h10 M11 h11 (wB i) (qB0 M2 X2) (qB1 M2 X2) (kT1 M3 X3) X3 X4 (B9 i M2 M5 M9 X2 X5 f9) _ _ _
    (M11.view.writes (Elt Ideal) f11 (A11 c i M2 h2 M3 h3 M4 h4 M5 h5 M6 h6 M7 h7 M8 h8 M9 h9 M10 h10 M11 h11 X2 X3 X4 X5 f9 f11))
    K (qt Q2 1) V (pk i Q2 KM 1) (2 * (i 1).val + 1) (fun h c n hn => by have := Picked.lt _ hn; omega) hX3 hX4 hq0 hq1 hp h0 _ le_rfl
  unfold B8
  rw [loopB2_nil, List.nil_append, View.writes_append M7.view M7.view.junk (loopB c i M2 h2 M3 h3 M4 h4 M5 h5 M6 h6 M7 h7 M8 h8 M9 h9 M10 h10 M11 h11 X2 X3 X4 X5 f9 f11).1 (i7B i M2 M3 X2 X3 ++ A7 c i M2 h2 M3 h3 M4 h4 M5 h5 M6 h6 M7 h7 M8 h8 M9 h9 M10 h10 M11 h11 X2 X3 X4 X5 f9 f11),
    View.writes_append M8.view M8.view.junk (loopB c i M2 h2 M3 h3 M4 h4 M5 h5 M6 h6 M7 h7 M8 h8 M9 h9 M10 h10 M11 h11 X2 X3 X4 X5 f9 f11).2.1 (i8B i M2 M3 M4 X2 X3 X4 ++ A8 c i M2 h2 M3 h3 M4 h4 M5 h5 M6 h6 M7 h7 M8 h8 M9 h9 M10 h10 M11 h11 X2 X3 X4 X5 f9 f11),
    View.writes_append M10.view M10.view.junk (loopB c i M2 h2 M3 h3 M4 h4 M5 h5 M6 h6 M7 h7 M8 h8 M9 h9 M10 h10 M11 h11 X2 X3 X4 X5 f9 f11).2.2.1 (i10B M2 M3 X2 X3 ++ A10 c i M2 h2 M3 h3 M4 h4 M5 h5 M6 h6 M7 h7 M8 h8 M9 h9 M10 h10 M11 h11 X2 X3 X4 X5 f9 f11)]
  exact e

/-- Running sums over enough blocks, divided, are the attention. -/
theorem good_div (s : Fin 256 → ℕ → Fin 256 → ℝ) (v : Fin 80 → ℕ → Fin 256 → EReal) (P : Fin 256 → ℕ → Prop) [∀ c, DecidablePred (P c)] (i' j : ℕ)
    (hP : ∀ c n, P c n → n < i') (hj : i' ≤ j) (hone : ∀ n r, v 64 n r = 1) {t7 : FVec Ideal S1x8x256 .f32} {t8 : FVec Ideal S1x80x256 .f32}
    (h : Good s v P i' j t7 t8) (d : Fin 64) (c : Fin 256) :
    Ideal.div (t8 (ix3 0 (⟨d.val, by omega⟩ : Fin 80) c)) (t8 (ix3 0 (64 : Fin 80) c)) = attend (s c) (v ⟨d.val, by omega⟩) (P c) i' c := by
  obtain ⟨μ, -, h8⟩ := h c
  rw [h8, h8, show v 64 = fun _ _ => 1 from funext fun n => funext fun r => hone n r]
  exact div_acc _ _ _ _ (hP c) μ j hj

include hX2 hX3 hX4 hX5 hone in
/-- Every entry of the output window: the attention of its query. -/
theorem run_val (f6 : BufTy.Contents (Elt Ideal) M6.view.ty) (f7 : BufTy.Contents (Elt Ideal) M7.view.ty) (f8 : BufTy.Contents (Elt Ideal) M8.view.ty)
    (f10 : BufTy.Contents (Elt Ideal) M10.view.ty) (u h : Fin 2) (d : Fin 64) (cc : Fin 256) :
    M6.view.read (Elt Ideal) (kernelRun (F := Ideal) c i M2 h2 M3 h3 M4 h4 M5 h5 M6 h6 M7 h7 M8 h8 M9 h9 M10 h10 M11 h11 X2 X3 X4 X5 f6 f7 f8 f9 f10 f11).1
        (ix2 (⟨256 * u.val + cc.val, by omega⟩ : Fin 512) (⟨64 * h.val + d.val, by omega⟩ : Fin 128))
      = attend (sc K (qt Q2 u.val) h cc) (fun n r => V n h (⟨d.val, by omega⟩ : Fin 80) r) (pk i Q2 KM u.val h cc) (2 * (i 1).val + u.val) cc := by
  rw [run_eq]
  have hA := invA c i M2 h2 M3 h3 M4 h4 M5 h5 M6 h6 M7 h7 M8 h8 M9 h9 M10 h10 M11 h11 X2 X3 X4 X5 f9 f11 Q2 K KM V hX2 hX3 hX4 hX5
  have hB := invB c i M2 h2 M3 h3 M4 h4 M5 h5 M6 h6 M7 h7 M8 h8 M9 h9 M10 h10 M11 h11 X2 X3 X4 X5 f9 f11 Q2 K KM V hX2 hX3 hX4 hX5
  have jA : 2 * (i 1).val + 0 ≤ 4 * (k0_t1_loop i).trips := by rw [t1_trips]; omega
  have jB : 2 * (i 1).val + 1 ≤ 4 * (k0_t3_loop i).trips := by rw [t3_trips]; omega
  have hra : ∀ (W : BufTy.Contents (Elt Ideal) M6.view.ty) (e : Fin 128), M6.view.read (Elt Ideal) W (ix2 (⟨256 * 0 + cc.val, by omega⟩ : Fin 512) e)
      = M6.view.readAt (Elt Ideal) ra.toLoadRect W (ix2 cc e) := fun W e =>
    (View.ld_unit_apply_of (M6.view.read (Elt Ideal) W) _ S256x128.size _ (ix2 cc e) (ix2 (⟨256 * 0 + cc.val, by omega⟩ : Fin 512) e) fun a => by
      fin_cases a
      · rfl
      · exact (Nat.zero_add e.val).symm).symm
  have hrb : ∀ (W : BufTy.Contents (Elt Ideal) M6.view.ty) (e : Fin 128), M6.view.read (Elt Ideal) W (ix2 (⟨256 * 1 + cc.val, by omega⟩ : Fin 512) e)
      = M6.view.readAt (Elt Ideal) rb.toLoadRect W (ix2 cc e) := fun W e =>
    (View.ld_unit_apply_of (M6.view.read (Elt Ideal) W) _ S256x128.size _ (ix2 cc e) (ix2 (⟨256 * 1 + cc.val, by omega⟩ : Fin 512) e) fun a => by
      fin_cases a
      · rfl
      · exact (Nat.zero_add e.val).symm).symm
  have hmiss : ∀ x : ra.shape.Idx, ra.emb x ∉ rb.set := fun x => Rect.not_mem_set_of_axis _ _ (0 : Fin 2) 256 256 rfl rfl rfl
    (Or.inl (show 0 + 1 * (x 0).val < 256 by have h : (x 0).val < 256 := (x 0).isLt; omega))
  have e0 : (⟨64 * (0 : Fin 2).val + d.val, by show 64 * 0 + _ < _; omega⟩ : Fin 128) = ⟨d.val, by omega⟩ := Fin.ext (Nat.zero_add _)
  have e1 : (⟨64 * (1 : Fin 2).val + d.val, by show 64 * 1 + _ < _; omega⟩ : Fin 128) = ⟨64 + d.val, by omega⟩ := rfl
  fin_cases u
  · refine (hra _ _).trans ?_
    rw [readAt_miss _ _ _ _ _ _ hmiss, readAt_hit]
    fin_cases h
    · refine (congrArg (fun e => outV _ _ (ix2 cc e)) e0).trans ((outV_fst _ _ cc d).trans ?_)
      exact good_div _ _ _ _ _ (fun c n hn => Picked.lt _ hn) jA (fun n r => hone n 0 r) hA.g0 d cc
    · refine (outV_snd _ _ cc d).trans ?_
      exact good_div _ _ _ _ _ (fun c n hn => Picked.lt _ hn) jA (fun n r => hone n 1 r) hA.g1 d cc
  · refine (hrb _ _).trans ?_
    rw [readAt_hit]
    fin_cases h
    · refine (congrArg (fun e => outV _ _ (ix2 cc e)) e0).trans ((outV_fst _ _ cc d).trans ?_)
      exact good_div _ _ _ _ _ (fun c n hn => Picked.lt _ hn) jB (fun n r => hone n 0 r) hB.g0 d cc
    · refine (outV_snd _ _ cc d).trans ?_
      exact good_div _ _ _ _ _ (fun c n hn => Picked.lt _ hn) jB (fun n r => hone n 1 r) hB.g1 d cc

end Run

end Cert.KernelIdeal.Hand

end
-- ==== Proof.KArr.lean ====
/-
  The launch: the result array, for real queries, keys and block means, is the attention of every query.
-/
module

public import proofs.«01_k».proof.Proof.KTile

@[expose] public section

set_option maxRecDepth 16384

noncomputable section

namespace Cert.Moba

/-- The attention of position `t`'s query, feature `e` of head `e / 64`: scores of the keys `KK`, gates of the block means `KM`, values `VV`. -/
def headAttend (QT KK KM : ℕ → ℕ → ℝ) (VV : ℕ → ℕ → ℕ → Fin 256 → EReal) (h d i : ℕ) (c : Fin 256) : EReal :=
  attend (fun n r => ∑ f : Fin 64, KK (256 * n + r.val) (64 * h + f.val) * QT (64 * h + f.val) (256 * i + c.val)) (fun n r => VV n h d r)
    (Picked (fun n => ∑ f : Fin 64, KM n (64 * h + f.val) * QT (64 * h + f.val) (256 * i + c.val)) i) i c

end Cert.Moba

namespace Cert.KernelIdeal.Hand

open Cert.KernelIdeal Cert.KernelIdeal.Gen Cert.Moba
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-! ## The windows' blocks -/

theorem coords_lt : ∀ t : Fin cfg0.N, (grid0.coords t 0).val < 4 ∧ (grid0.coords t 1).val < 32 := (by decide +kernel : ∀ t : Fin grid0.N, _)
theorem idx0 : ∀ t : Fin cfg0.N, win0_0.index t (0 : Fin 2) = (grid0.coords t 0).val ∧ win0_0.index t (1 : Fin 2) = (grid0.coords t 1).val :=
  (by decide +kernel : ∀ t : Fin grid0.N, _)
theorem idx1 : ∀ t : Fin cfg0.N, win0_1.index t (0 : Fin 2) = 0 ∧ win0_1.index t (1 : Fin 2) = (grid0.coords t 0).val :=
  (by decide +kernel : ∀ t : Fin grid0.N, _)
theorem idx2 : ∀ t : Fin cfg0.N, win0_2.index t (0 : Fin 4) = 0 ∧ win0_2.index t (1 : Fin 4) = (grid0.coords t 0).val
    ∧ win0_2.index t (2 : Fin 4) = 0 ∧ win0_2.index t (3 : Fin 4) = 0 := (by decide +kernel : ∀ t : Fin grid0.N, _)
theorem idx3 : ∀ t : Fin cfg0.N, win0_3.index t (0 : Fin 2) = 0 ∧ win0_3.index t (1 : Fin 2) = (grid0.coords t 0).val :=
  (by decide +kernel : ∀ t : Fin grid0.N, _)
theorem idx4 : ∀ t : Fin cfg0.N, win0_4.index t (0 : Fin 2) = (grid0.coords t 1).val ∧ win0_4.index t (1 : Fin 2) = (grid0.coords t 0).val :=
  (by decide +kernel : ∀ t : Fin grid0.N, _)

theorem coords_onto : ∀ (p : Fin 4) (i : Fin 32), ∃ t : Fin cfg0.N, (grid0.coords t 0).val = p.val ∧ (grid0.coords t 1).val = i.val :=
  (by decide +kernel : ∀ (p : Fin 4) (i : Fin 32), ∃ t : Fin grid0.N, _)

theorem emb0 (t : Fin cfg0.N) (f : Fin 128) (x : Fin 512) : ((cfg0.win 0).blk t).view.emb (ix2 f x)
    = (ix2 (⟨128 * (grid0.coords t 0).val + f.val, by have := (coords_lt t).1; omega⟩ : Fin 512)
        (⟨512 * (grid0.coords t 1).val + x.val, by have := (coords_lt t).2; omega⟩ : Fin 16384) : S512x16384.Idx) := by
  obtain ⟨e0, e1⟩ := idx0 t
  funext a; apply Fin.ext
  match a with
  | ⟨0, _⟩ => show win0_0.index t (0 : Fin 2) * 128 + 1 * f.val = _; rw [e0]; show _ = 128 * (grid0.coords t 0).val + f.val; ring
  | ⟨1, _⟩ => show win0_0.index t (1 : Fin 2) * 512 + 1 * x.val = _; rw [e1]; show _ = 512 * (grid0.coords t 1).val + x.val; ring

theorem emb1 (t : Fin cfg0.N) (x : Fin 16384) (f : Fin 128) : ((cfg0.win 1).blk t).view.emb (ix2 x f)
    = (ix2 x (⟨128 * (grid0.coords t 0).val + f.val, by have := (coords_lt t).1; omega⟩ : Fin 512) : S16384x512.Idx) := by
  obtain ⟨e0, e1⟩ := idx1 t
  funext a; apply Fin.ext
  match a with
  | ⟨0, _⟩ => show win0_1.index t (0 : Fin 2) * 16384 + 1 * x.val = x.val; rw [e0]; ring
  | ⟨1, _⟩ => show win0_1.index t (1 : Fin 2) * 128 + 1 * f.val = _; rw [e1]; show _ = 128 * (grid0.coords t 0).val + f.val; ring

theorem emb2 (t : Fin cfg0.N) (n : Fin 64) (h : Fin 2) (d : Fin 80) (r : Fin 256) : ((cfg0.win 2).blk t).view.emb (ix4 n h d r)
    = (ix4 n (⟨2 * (grid0.coords t 0).val + h.val, by have := (coords_lt t).1; omega⟩ : Fin 8) d r : S64x8x80x256.Idx) := by
  obtain ⟨e0, e1, e2, e3⟩ := idx2 t
  funext a; apply Fin.ext
  match a with
  | ⟨0, _⟩ => show win0_2.index t (0 : Fin 4) * 64 + 1 * n.val = n.val; rw [e0]; ring
  | ⟨1, _⟩ => show win0_2.index t (1 : Fin 4) * 2 + 1 * h.val = _; rw [e1]; show _ = 2 * (grid0.coords t 0).val + h.val; ring
  | ⟨2, _⟩ => show win0_2.index t (2 : Fin 4) * 80 + 1 * d.val = d.val; rw [e2]; ring
  | ⟨3, _⟩ => show win0_2.index t (3 : Fin 4) * 256 + 1 * r.val = r.val; rw [e3]; ring

theorem emb3 (t : Fin cfg0.N) (n f : Fin 128) : ((cfg0.win 3).blk t).view.emb (ix2 n f)
    = (ix2 n (⟨128 * (grid0.coords t 0).val + f.val, by have := (coords_lt t).1; omega⟩ : Fin 512) : S128x512.Idx) := by
  obtain ⟨e0, e1⟩ := idx3 t
  funext a; apply Fin.ext
  match a with
  | ⟨0, _⟩ => show win0_3.index t (0 : Fin 2) * 128 + 1 * n.val = n.val; rw [e0]; ring
  | ⟨1, _⟩ => show win0_3.index t (1 : Fin 2) * 128 + 1 * f.val = _; rw [e1]; show _ = 128 * (grid0.coords t 0).val + f.val; ring

theorem emb4 (t : Fin cfg0.N) (x : Fin 512) (f : Fin 128) : ((cfg0.win 4).blk t).view.emb (ix2 x f)
    = (ix2 (⟨512 * (grid0.coords t 1).val + x.val, by have := (coords_lt t).2; omega⟩ : Fin 16384)
        (⟨128 * (grid0.coords t 0).val + f.val, by have := (coords_lt t).1; omega⟩ : Fin 512) : S16384x512.Idx) := by
  obtain ⟨e0, e1⟩ := idx4 t
  funext a; apply Fin.ext
  match a with
  | ⟨0, _⟩ => show win0_4.index t (0 : Fin 2) * 512 + 1 * x.val = _; rw [e0]; show _ = 512 * (grid0.coords t 1).val + x.val; ring
  | ⟨1, _⟩ => show win0_4.index t (1 : Fin 2) * 128 + 1 * f.val = _; rw [e1]; show _ = 128 * (grid0.coords t 0).val + f.val; ring

/-! ## A pair of heads' window, one head -/

/-- The masked sum over a pair's 128 features is the head's sum over its own 64. -/
theorem qm_sum (A : Fin 128 → ℝ) (Q : Fin 128 → Fin 256 → ℝ) (h : Fin 2) (c : Fin 256) :
    ∑ f : Fin 128, A f * qm Q h f c = ∑ f : Fin 64, A ⟨64 * h.val + f.val, by omega⟩ * Q ⟨64 * h.val + f.val, by omega⟩ c := by
  have e : ∑ f : Fin 128, A f * qm Q h f c = ∑ f : Fin (64 + 64), A f * qm Q h f c := rfl
  rw [e, Fin.sum_univ_add]
  have lo : ∀ f : Fin 64, (Fin.castAdd 64 f : Fin 128).val = f.val := fun f => rfl
  have hi : ∀ f : Fin 64, (Fin.natAdd 64 f : Fin 128).val = 64 + f.val := fun f => rfl
  fin_cases h
  · have z : ∑ f : Fin 64, A (Fin.natAdd 64 f) * qm Q 0 (Fin.natAdd 64 f) c = 0 := Finset.sum_eq_zero fun f _ => by
      unfold qm; rw [if_neg (by rw [hi]; simp), mul_zero]
    refine (congrArg (_ + ·) z).trans ?_
    rw [add_zero]
    refine Finset.sum_congr rfl fun f _ => ?_
    have e1 : (Fin.castAdd 64 f : Fin 128) = ⟨64 * (0 : Fin 2).val + f.val, by show 64 * 0 + f.val < 128; omega⟩ := Fin.ext (Nat.zero_add _).symm
    show A (Fin.castAdd 64 f) * qm Q 0 (Fin.castAdd 64 f) c = _
    unfold qm
    rw [if_pos (by rw [lo]; simp), e1]
    rfl
  · have z : ∑ f : Fin 64, A (Fin.castAdd 64 f) * qm Q 1 (Fin.castAdd 64 f) c = 0 := Finset.sum_eq_zero fun f _ => by
      unfold qm; rw [if_neg (by rw [lo]; simp), mul_zero]
    refine (congrArg (· + _) z).trans ?_
    rw [zero_add]
    refine Finset.sum_congr rfl fun f _ => ?_
    have e1 : (Fin.natAdd 64 f : Fin 128) = ⟨64 * (1 : Fin 2).val + f.val, by show 64 * 1 + f.val < 128; omega⟩ := rfl
    show A (Fin.natAdd 64 f) * qm Q 1 (Fin.natAdd 64 f) c = _
    unfold qm
    rw [if_pos (by rw [hi]; simp), e1]
    rfl

section Value

variable (m : (ℓ : Loc nD τ sig) → Buf (Elt Ideal) ℓ) (ρ : Dev nD → PrngReg) (c : Dev nD)
variable (QT KK KM : ℕ → ℕ → ℝ) (VV : ℕ → ℕ → ℕ → Fin 256 → EReal)

/-- The result array. -/
def G : S16384x512.Idx → EReal := fun j =>
  headAttend QT KK KM VV ((j 1).val / 64) ((j 1).val % 64) ((j 0).val / 256) ⟨(j 0).val % 256, Nat.mod_lt _ (by decide)⟩

variable (hQ : ∀ (e : Fin 512) (t : Fin 16384), V m c main_v5 (ix2 e t) = (QT e.val t.val : EReal))
  (hK : ∀ (t : Fin 16384) (e : Fin 512), V m c main_v6 (ix2 t e) = (KK t.val e.val : EReal))
  (hV : ∀ (n : Fin 64) (h : Fin 8) (d : Fin 80) (r : Fin 256), V m c main_v11 (ix4 n h d r) = VV n.val h.val d.val r)
  (hM : ∀ (n : Fin 128) (e : Fin 512), V m c main_v17 (ix2 n e) = (KM n.val e.val : EReal))
  (hone : ∀ n h r, VV n h 64 r = 1)

include hQ hK hV hM hone in
/-- What a grid point leaves in the output window is its block of the result array. -/
theorem block_val (t : Fin cfg0.N) (M2 : Memref sig .tc .vmem S128x512 .bf16) (h2 : M2.IsWhole)
    (M3 : Memref sig .tc .vmem S16384x128 .bf16) (h3 : M3.IsWhole) (M4 : Memref sig .tc .vmem S64x2x80x256 .bf16) (h4 : M4.IsWhole)
    (M5 : Memref sig .tc .vmem S128x128 .bf16) (h5 : M5.IsWhole) (M6 : Memref sig .tc .vmem S512x128 .bf16) (h6 : M6.IsWhole)
    (M7 : Memref sig .tc .vmem S2x8x256 .f32) (h7 : M7.IsWhole) (M8 : Memref sig .tc .vmem S2x80x256 .f32) (h8 : M8.IsWhole)
    (M9 : Memref sig .tc .vmem S2x8x256 .f32) (h9 : M9.IsWhole) (M10 : Memref sig .tc .vmem S2x2x256x256 .f32) (h10 : M10.IsWhole)
    (M11 : Memref sig .tc .vmem S2x2x256x256 .f32) (h11 : M11.IsWhole)
    (X2 : BufTy.Contents (Elt Ideal) M2.view.ty) (X3 : BufTy.Contents (Elt Ideal) M3.view.ty) (X4 : BufTy.Contents (Elt Ideal) M4.view.ty)
    (X5 : BufTy.Contents (Elt Ideal) M5.view.ty)
    (f6 : BufTy.Contents (Elt Ideal) M6.view.ty) (f7 : BufTy.Contents (Elt Ideal) M7.view.ty) (f8 : BufTy.Contents (Elt Ideal) M8.view.ty)
    (f9 : BufTy.Contents (Elt Ideal) M9.view.ty) (f10 : BufTy.Contents (Elt Ideal) M10.view.ty) (f11 : BufTy.Contents (Elt Ideal) M11.view.ty)
    (e2 : M2.view.read (Elt Ideal) X2 = iblk m c 0 t) (e3 : M3.view.read (Elt Ideal) X3 = iblk m c 1 t) (e4 : M4.view.read (Elt Ideal) X4 = iblk m c 2 t)
    (e5 : M5.view.read (Elt Ideal) X5 = iblk m c 3 t) :
    M6.view.read (Elt Ideal) (kernelRun (F := Ideal) c (grid0.coords t) M2 h2 M3 h3 M4 h4 M5 h5 M6 h6 M7 h7 M8 h8 M9 h9 M10 h10 M11 h11
        X2 X3 X4 X5 f6 f7 f8 f9 f10 f11).1
      = fun j => G QT KK KM VV (((cfg0.win 4).blk t).view.emb j) := by
  set p := (grid0.coords t 0).val with hp
  set i1 := (grid0.coords t 1).val with hi1
  have hpl : p < 4 := (coords_lt t).1
  have hil : i1 < 32 := (coords_lt t).2
  have rv := run_val c (grid0.coords t) M2 h2 M3 h3 M4 h4 M5 h5 M6 h6 M7 h7 M8 h8 M9 h9 M10 h10 M11 h11 X2 X3 X4 X5 f9 f11
    (fun f x => QT (128 * p + f.val) (512 * i1 + x)) (fun x f => KK x (128 * p + f.val)) (fun n f => KM n (128 * p + f.val))
    (fun n h d r => VV n (2 * p + h.val) d.val r)
    (fun f x => by
      rw [e2]; show V m c main_v5 (((cfg0.win 0).blk t).view.emb (ix2 f x)) = _
      rw [emb0]; exact hQ _ _)
    (fun x f => by
      rw [e3]; show V m c main_v6 (((cfg0.win 1).blk t).view.emb (ix2 x f)) = _
      rw [emb1]; exact hK _ _)
    (fun n h d r => by
      rw [e4]; show V m c main_v11 (((cfg0.win 2).blk t).view.emb (ix4 n h d r)) = _
      rw [emb2]; exact hV _ _ _ _)
    (fun n f => by
      rw [e5]; show V m c main_v17 (((cfg0.win 3).blk t).view.emb (ix2 n f)) = _
      rw [emb3]; exact hM _ _)
    (fun n h r => hone _ _ _) f6 f7 f8 f10
  funext j
  obtain ⟨x, y, rfl⟩ : ∃ (x : Fin 512) (y : Fin 128), j = ix2 x y := ⟨j 0, j 1, by funext a; fin_cases a <;> rfl⟩
  have ex : x = ⟨256 * (⟨x.val / 256, by omega⟩ : Fin 2).val + (⟨x.val % 256, Nat.mod_lt _ (by decide)⟩ : Fin 256).val, by
      show 256 * (x.val / 256) + x.val % 256 < 512; omega⟩ := Fin.ext (by show x.val = 256 * (x.val / 256) + x.val % 256; omega)
  have ey : y = ⟨64 * (⟨y.val / 64, by omega⟩ : Fin 2).val + (⟨y.val % 64, Nat.mod_lt _ (by decide)⟩ : Fin 64).val, by
      show 64 * (y.val / 64) + y.val % 64 < 128; omega⟩ := Fin.ext (by show y.val = 64 * (y.val / 64) + y.val % 64; omega)
  rw [emb4]
  have e := rv ⟨x.val / 256, by omega⟩ ⟨y.val / 64, by omega⟩ ⟨y.val % 64, Nat.mod_lt _ (by decide)⟩ ⟨x.val % 256, Nat.mod_lt _ (by decide)⟩
  rw [← ex, ← ey] at e
  refine e.trans ?_
  show _ = headAttend QT KK KM VV ((128 * p + y.val) / 64) ((128 * p + y.val) % 64) ((512 * i1 + x.val) / 256)
    ⟨(512 * i1 + x.val) % 256, Nat.mod_lt _ (by decide)⟩
  have a1 : (128 * p + y.val) / 64 = 2 * p + y.val / 64 := by omega
  have a2 : (128 * p + y.val) % 64 = y.val % 64 := by omega
  have a3 : (512 * i1 + x.val) / 256 = 2 * i1 + x.val / 256 := by omega
  have a4 : (⟨(512 * i1 + x.val) % 256, Nat.mod_lt _ (by decide)⟩ : Fin 256) = ⟨x.val % 256, Nat.mod_lt _ (by decide)⟩ := Fin.ext (by show _ % _ = _ % _; omega)
  rw [a1, a2, a3, a4]
  have hs : ∀ B : ℕ → ℝ, (∑ f : Fin 128, B (128 * p + f.val) * qm (qt (fun f x => QT (128 * p + f.val) (512 * i1 + x)) (x.val / 256)) ⟨y.val / 64, by omega⟩ f
        ⟨x.val % 256, Nat.mod_lt _ (by decide)⟩)
      = ∑ f : Fin 64, B (64 * (2 * p + y.val / 64) + f.val) * QT (64 * (2 * p + y.val / 64) + f.val) (256 * (2 * i1 + x.val / 256) + x.val % 256) := by
    intro B
    refine (qm_sum (fun f => B (128 * p + f.val)) _ _ _).trans (Finset.sum_congr rfl fun f _ => ?_)
    have b1 : 128 * p + (64 * (y.val / 64) + f.val) = 64 * (2 * p + y.val / 64) + f.val := by ring
    have b2 : 512 * i1 + (256 * (x.val / 256) + x.val % 256) = 256 * (2 * i1 + x.val / 256) + x.val % 256 := by ring
    show B (128 * p + (64 * (y.val / 64) + f.val)) * QT (128 * p + (64 * (y.val / 64) + f.val)) (512 * i1 + (256 * (x.val / 256) + x.val % 256)) = _
    rw [b1, b2]
  have hsc : sc (fun x f => KK x (128 * p + f.val)) (qt (fun f x => QT (128 * p + f.val) (512 * i1 + x)) (x.val / 256)) ⟨y.val / 64, by omega⟩
        ⟨x.val % 256, Nat.mod_lt _ (by decide)⟩
      = fun n r => ∑ f : Fin 64, KK (256 * n + r.val) (64 * (2 * p + y.val / 64) + f.val)
          * QT (64 * (2 * p + y.val / 64) + f.val) (256 * (2 * i1 + x.val / 256) + x.val % 256) := by
    funext n r; exact hs (KK (256 * n + r.val))
  have hgt : gt (fun n f => KM n (128 * p + f.val)) (qt (fun f x => QT (128 * p + f.val) (512 * i1 + x)) (x.val / 256)) ⟨y.val / 64, by omega⟩
        ⟨x.val % 256, Nat.mod_lt _ (by decide)⟩
      = fun n => ∑ f : Fin 64, KM n (64 * (2 * p + y.val / 64) + f.val)
          * QT (64 * (2 * p + y.val / 64) + f.val) (256 * (2 * i1 + x.val / 256) + x.val % 256) := by
    funext n; exact hs (KM n)
  unfold headAttend pk
  rw [hsc, hgt]

/-- The proof data: each input's staging buffer holds its block, the output's its block of the result array. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun j => G QT KK KM VV (((cfg0.win 4).blk t).view.emb j)
  Φ _ := Pipeline.ΦA spec0 c
  q _ := fullShare
  owed _ := 0

theorem afterV_0 (c : Dev nD) (t : Fin cfg0.N) : (datsV m QT KK KM VV 0 c).after 0 t = iblk m c 0 t := by dsimp only [datsV]
theorem afterV_1 (c : Dev nD) (t : Fin cfg0.N) : (datsV m QT KK KM VV 0 c).after 1 t = iblk m c 1 t := by dsimp only [datsV]
theorem afterV_2 (c : Dev nD) (t : Fin cfg0.N) : (datsV m QT KK KM VV 0 c).after 2 t = iblk m c 2 t := by dsimp only [datsV]
theorem afterV_3 (c : Dev nD) (t : Fin cfg0.N) : (datsV m QT KK KM VV 0 c).after 3 t = iblk m c 3 t := by dsimp only [datsV]
theorem afterV_4 (c : Dev nD) (t : Fin cfg0.N) : (datsV m QT KK KM VV 0 c).after 4 t = fun j => G QT KK KM VV (((cfg0.win 4).blk t).view.emb j) := by
  dsimp only [datsV]

/-- What the body is called with at point `t`, and what it returns. -/
def bodyPreV (c : Dev nD) (t : Fin cfg0.N) : sProp 𝕄 :=
  iprop((datsV m QT KK KM VV 0 c).Φ t.castSucc ∗ (datsV m QT KK KM VV 0 c).owesAt () t.castSucc
    ∗ (∃ d, owns (c : Thread nD τ) (st0_0 t) fullShare ((datsV m QT KK KM VV 0 c).before 0 t d))
    ∗ (∃ d, owns (c : Thread nD τ) (st0_1 t) fullShare ((datsV m QT KK KM VV 0 c).before 1 t d))
    ∗ (∃ d, owns (c : Thread nD τ) (st0_2 t) fullShare ((datsV m QT KK KM VV 0 c).before 2 t d))
    ∗ (∃ d, owns (c : Thread nD τ) (st0_3 t) fullShare ((datsV m QT KK KM VV 0 c).before 3 t d))
    ∗ (∃ d, owns (c : Thread nD τ) (st0_4 t) fullShare ((datsV m QT KK KM VV 0 c).before 4 t d)))
def bodyPostV (c : Dev nD) (t : Fin cfg0.N) : sProp 𝕄 :=
  iprop((datsV m QT KK KM VV 0 c).Φ t.succ ∗ (datsV m QT KK KM VV 0 c).owesAt () t.succ
    ∗ owns (c : Thread nD τ) (st0_0 t) fullShare ((datsV m QT KK KM VV 0 c).after 0 t)
    ∗ owns (c : Thread nD τ) (st0_1 t) fullShare ((datsV m QT KK KM VV 0 c).after 1 t)
    ∗ owns (c : Thread nD τ) (st0_2 t) fullShare ((datsV m QT KK KM VV 0 c).after 2 t)
    ∗ owns (c : Thread nD τ) (st0_3 t) fullShare ((datsV m QT KK KM VV 0 c).after 3 t)
    ∗ owns (c : Thread nD τ) (st0_4 t) fullShare ((datsV m QT KK KM VV 0 c).after 4 t))

set_option maxHeartbeats 2000000 in
include hQ hK hV hM hone in
/-- The body at a point: the invariant opened, the run, the invariant closed, the output's block known. -/
theorem sound_bodyV (t : Fin cfg0.N) :
    bodyPreV m QT KK KM VV c t ⊢ wp Idealize.ShloMosaic.frame (wpE (defs₀ (F := Ideal)) Variants.none c none) Set.univ (bodyAt0 t) (fun _ => bodyPostV m QT KK KM VV c t) := by
  unfold bodyPreV bodyPostV bodyAt0
  rw [show (datsV m QT KK KM VV 0 c).Φ t.succ = (datsV m QT KK KM VV 0 c).Φ t.castSucc from rfl,
    show (datsV m QT KK KM VV 0 c).owesAt () t.succ = (datsV m QT KK KM VV 0 c).owesAt () t.castSucc from rfl,
    show (datsV m QT KK KM VV 0 c).Φ t.castSucc = Pipeline.ΦA spec0 c from rfl, PhiA_eq, afterV_0, afterV_1, afterV_2, afterV_3, afterV_4]
  simp only [before0_0_of m (datsV m QT KK KM VV 0 c) rfl (afterV_0 m QT KK KM VV c), before0_1_of m (datsV m QT KK KM VV 0 c) rfl (afterV_1 m QT KK KM VV c),
    before0_2_of m (datsV m QT KK KM VV 0 c) rfl (afterV_2 m QT KK KM VV c), before0_3_of m (datsV m QT KK KM VV 0 c) rfl (afterV_3 m QT KK KM VV c)]
  unfold owns
  iintro ⟨⟨⟨⟨%d7, %f7, -, H7⟩, ⟨%d8, %f8, -, H8⟩, ⟨%d9, %f9, -, H9⟩, ⟨%d10, %f10, -, H10⟩, ⟨%d11, %f11, -, H11⟩⟩, Hg⟩, HO, ⟨%d0, %f0, %hf0, H0⟩, ⟨%d1, %f1, %hf1, H1⟩,
    ⟨%d2, %f2, %hf2, H2⟩, ⟨%d3, %f3, %hf3, H3⟩, ⟨%d4, %f4, -, H4⟩⟩
  iapply ((kernelRun (F := Ideal) c _ _ _ _ _ _ _ _ _ _ _ _ _ _ _ _ _ _ _ _ _ f0 f1 f2 f3 f4 f7 f8 f9 f10 f11).2 _ _)
  isplitl [H0]; · iexact H0
  isplitl [H1]; · iexact H1
  isplitl [H2]; · iexact H2
  isplitl [H3]; · iexact H3
  isplitl [H4]; · iexact H4
  isplitl [H7]; · iexact H7
  isplitl [H8]; · iexact H8
  isplitl [H9]; · iexact H9
  isplitl [H10]; · iexact H10
  isplitl [H11]; · iexact H11
  iintro ⟨H0, H1, H2, H3, H4, ⟨%g7, H7⟩, ⟨%g8, H8⟩, ⟨%g9, H9⟩, ⟨%g10, H10⟩, ⟨%g11, H11⟩⟩
  isplitl [H7 H8 H9 H10 H11 Hg]
  · isplitr [Hg]
    · isplitl [H7]; · iexists _, _; isplitr; swap; (· iexact H7); ipureintro; rfl
      isplitl [H8]; · iexists _, _; isplitr; swap; (· iexact H8); ipureintro; rfl
      isplitl [H9]; · iexists _, _; isplitr; swap; (· iexact H9); ipureintro; rfl
      isplitl [H10]; · iexists _, _; isplitr; swap; (· iexact H10); ipureintro; rfl
      iexists _, _; isplitr; swap; (· iexact H11); ipureintro; rfl
    · iexact Hg
  isplitl [HO]; · iexact HO
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  iexists _; isplitr; swap; (· iexact H4); ipureintro
  exact block_val m c QT KK KM VV hQ hK hV hM hone t _ _ _ _ _ _ _ _ _ _ _ _ _ _ _ _ _ _ _ _ f0 f1 f2 f3 f4 f7 f8 f9 f10 f11 hf0 hf1 hf2 hf3

/-- An output block covers every place of the result array. -/
theorem cover (j : S16384x512.Idx) : ∃ t : Fin cfg0.N, (cfg0.win 4).flush t = true ∧ j ∈ ((cfg0.win 4).blk t).view.set := by
  have h0 : (j 0).val < 16384 := (j 0).isLt
  have h1 : (j 1).val < 512 := (j 1).isLt
  obtain ⟨t, e0, e1⟩ := coords_onto ⟨(j 1).val / 128, by omega⟩ ⟨(j 0).val / 512, by omega⟩
  refine ⟨t, flush0_4 t, ?_⟩
  have e := ((cfg0.win 4).blk t).view.emb_mem_set (ix2 (⟨(j 0).val % 512, Nat.mod_lt _ (by decide)⟩ : Fin 512) (⟨(j 1).val % 128, Nat.mod_lt _ (by decide)⟩ : Fin 128))
  rw [emb4] at e
  have ej : (ix2 (⟨512 * (grid0.coords t 1).val + (⟨(j 0).val % 512, Nat.mod_lt _ (by decide)⟩ : Fin 512).val, by
        have := (coords_lt t).2; show _ + (j 0).val % 512 < _; omega⟩ : Fin 16384)
      (⟨128 * (grid0.coords t 0).val + (⟨(j 1).val % 128, Nat.mod_lt _ (by decide)⟩ : Fin 128).val, by
        have := (coords_lt t).1; show _ + (j 1).val % 128 < _; omega⟩ : Fin 512) : S16384x512.Idx) = j := by
    funext a; apply Fin.ext
    match a with
    | ⟨0, _⟩ => show 512 * (grid0.coords t 1).val + (j 0).val % 512 = (j 0).val; rw [e1]; show 512 * ((j 0).val / 512) + _ = _; omega
    | ⟨1, _⟩ => show 128 * (grid0.coords t 0).val + (j 1).val % 128 = (j 1).val; rw [e0]; show 128 * ((j 1).val / 128) + _ = _; omega
  exact ej ▸ e

/-- The result array after the last grid point. -/
theorem final : (datsV m QT KK KM VV 0 c).arrAt 4 cfg0.N = G QT KK KM VV :=
  (datsV m QT KK KM VV 0 c).arrAt_eq_of_cover 4 (G QT KK KM VV) (fun t _ => rfl) cover

end Value

/-- The library's body obligation. -/
theorem body_obligationV (m : (ℓ : Loc nD τ sig) → Buf (Elt Ideal) ℓ) (QT KK KM : ℕ → ℕ → ℝ) (VV : ℕ → ℕ → ℕ → Fin 256 → EReal) (c : Dev nD)
    (hQ : ∀ (e : Fin 512) (t : Fin 16384), V m c main_v5 (ix2 e t) = (QT e.val t.val : EReal))
    (hK : ∀ (t : Fin 16384) (e : Fin 512), V m c main_v6 (ix2 t e) = (KK t.val e.val : EReal))
    (hV : ∀ (n : Fin 64) (h : Fin 8) (d : Fin 80) (r : Fin 256), V m c main_v11 (ix4 n h d r) = VV n.val h.val d.val r)
    (hM : ∀ (n : Fin 128) (e : Fin 512), V m c main_v17 (ix2 n e) = (KM n.val e.val : EReal)) (hone : ∀ n h r, VV n h 64 r = 1) :
    BodyObligation (datsV m QT KK KM VV 0 c) (defs₀ (F := Ideal)) Variants.none () Set.univ := fun t => by
  rw [bigSep_W0, bigSep_W0, defs₀_row]
  exact triple_restated (sound_bodyV m c QT KK KM VV hQ hK hV hM hone t) rfl .rfl fun _ => .rfl

set_option backward.isDefEq.respectTransparency.types false in
/-- Every run of the program ends with the result array at its value and the arguments' arrays unchanged. -/
theorem runV (m : (ℓ : Loc nD τ sig) → Buf (Elt Ideal) ℓ) (ρ : Dev nD → PrngReg) (QT KK KM : ℕ → ℕ → ℝ) (VV : ℕ → ℕ → ℕ → Fin 256 → EReal)
    (hQ : ∀ c (e : Fin 512) (t : Fin 16384), V m c main_v5 (ix2 e t) = (QT e.val t.val : EReal))
    (hK : ∀ c (t : Fin 16384) (e : Fin 512), V m c main_v6 (ix2 t e) = (KK t.val e.val : EReal))
    (hV : ∀ c (n : Fin 64) (h : Fin 8) (d : Fin 80) (r : Fin 256), V m c main_v11 (ix4 n h d r) = VV n.val h.val d.val r)
    (hM : ∀ c (n : Fin 128) (e : Fin 512), V m c main_v17 (ix2 n e) = (KM n.val e.val : EReal)) (hone : ∀ n h r, VV n h 64 r = 1) :
    θ_run defs (onTc (τ := τ) (main (F := Ideal))) ⟨m, fun _ => 0, ρ⟩ (fun r => ∀ c : Dev nD,
      r.2.mem ((c.tc : Thread nD τ).loc main_v18) = G QT KK KM VV
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 4).trans (final m c QT KK KM VV),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (Pipeline.θ_run_frame cfgs (datsV m QT KK KM VV) (0 : Fin 1) launch0 defs₀ Variants.none m ρ main
      (hbody := fun c => (body_obligationV m QT KK KM VV c (hQ c) (hK c) (hV c) (hM c) hone).loose) (hshare := fun c => (datsV m QT KK KM VV 0 c).share_full fun _ => rfl)
      (howed := fun _ _ => rfl) (V := V m) (hmain := hmain m Variants.none) (hA := fun _ _ => rfl) (hΦ := fun _ _ => rfl))

end Cert.KernelIdeal.Hand

end
-- ==== Proof.KHost.lean ====
/-
  What the host hands the kernel: the scaled queries, the keys, the values beside a block of ones, and the block means, element by element.
-/
module

public import proofs.«01_k».proof.Proof.KArr
public import Idealize.ShloMosaic.Lib.StableHlo.ReadAt
public import Idealize.ShloMosaic.Lib.ReduceAll
public import proofs.«01_k».proof.Defs

@[expose] public section

set_option maxRecDepth 16384

noncomputable section

namespace Cert.Moba
open Idealize.ShloMosaic

/-- The element of a 16384 × 512 array at two natural numbers, 0 outside it. -/
def at2 (x : (⟨2, ![16384, 512]⟩ : Shape).Idx → EReal) (t e : ℕ) : EReal :=
  if h : t < 16384 ∧ e < 512 then x (ix2 ⟨t, h.1⟩ ⟨e, h.2⟩) else 0

/-- The same, as a real number. -/
def re2 (x : (⟨2, ![16384, 512]⟩ : Shape).Idx → EReal) (t e : ℕ) : ℝ := (at2 x t e).toReal

theorem at2_ix (x : (⟨2, ![16384, 512]⟩ : Shape).Idx → EReal) (t : Fin 16384) (e : Fin 512) : at2 x t.val e.val = x (ix2 t e) :=
  dif_pos ⟨t.isLt, e.isLt⟩

theorem at2_re {x : (⟨2, ![16384, 512]⟩ : Shape).Idx → EReal} (hx : ∀ i, x i ≠ ⊤ ∧ x i ≠ ⊥) (t e : ℕ) : at2 x t e = (re2 x t e : EReal) := by
  refine (EReal.coe_toReal ?_ ?_).symm <;> unfold at2 <;> split_ifs
  · exact (hx _).1
  · exact EReal.zero_ne_top
  · exact (hx _).2
  · exact EReal.zero_ne_bot

/-- What the kernel multiplies the queries by: 1 / √64 over the natural logarithm of 2. -/
def qscale : ℝ := 0.125 / Real.log 2

theorem log2_pos : 0 < Real.log 2 := Real.log_pos (by norm_num)
theorem qscale_pos : 0 < qscale := div_pos (by norm_num) log2_pos

theorem bits_eighth : Ideal.ofBits .f32 0x3E000000#32 = ((0.125 : ℝ) : EReal) := by
  simp [Ideal.ofBits, Ideal.ieee]; rw [← EReal.coe_mul]; norm_num
theorem bits_two : Ideal.ofBits .f32 0x40000000#32 = ((2 : ℝ) : EReal) := by
  simp [Ideal.ofBits, Ideal.ieee]; rw [← EReal.coe_mul]; norm_num
theorem bits_256 : Ideal.ofBits .f32 0x43800000#32 = ((256 : ℝ) : EReal) := by
  simp [Ideal.ofBits, Ideal.ieee]; rw [← EReal.coe_mul]; norm_num
theorem bits_one : Ideal.ofBits .f32 0x3F800000#32 = (1 : EReal) := by
  simp [Ideal.ofBits, Ideal.ieee]; rw [← EReal.coe_mul]; norm_num

theorem qscale_eq : Ideal.div (Ideal.ofBits .f32 0x3E000000#32) (Ideal.log (Ideal.ofBits .f32 0x40000000#32)) = (qscale : EReal) := by
  rw [bits_eighth, bits_two, Ideal.log_coe, if_neg (by norm_num), Ideal.div_coe (ne_of_gt log2_pos), ← EReal.coe_mul, qscale]
  congr 1; ring

/-- The queries as the kernel takes them, and the block means. -/
def QTof (x : (⟨2, ![16384, 512]⟩ : Shape).Idx → EReal) (e t : ℕ) : ℝ := re2 x t e * qscale
@[inherit_doc QTof] def KMof (x : (⟨2, ![16384, 512]⟩ : Shape).Idx → EReal) (n e : ℕ) : ℝ :=
  if n < 64 then (∑ r : Fin 256, re2 x (256 * n + r.val) e) * (1 / 256) else 0
theorem coe_sum' {n : ℕ} (f : Fin n → ℝ) : ∑ k : Fin n, (f k : EReal) = ((∑ k : Fin n, f k : ℝ) : EReal) := by
  classical
  induction (Finset.univ : Finset (Fin n)) using Finset.induction_on with
  | empty => simp
  | insert a S ha ih => rw [Finset.sum_insert ha, Finset.sum_insert ha, ih, EReal.coe_add]

/-- A block's mean of finite keys, as a real number. -/
theorem mean_eq {x : (⟨2, ![16384, 512]⟩ : Shape).Idx → EReal} (hx : ∀ i, x i ≠ ⊤ ∧ x i ≠ ⊥) (n e : ℕ) (hn : n < 64) :
    Ideal.div (∑ r : Fin 256, at2 x (256 * n + r.val) e) ((256 : ℝ) : EReal) = (KMof x n e : EReal) := by
  rw [Ideal.div_coe (by norm_num), KMof, if_pos hn, EReal.coe_mul, ← coe_sum']
  simp only [at2_re hx]

/-- The values, and beside them the ones. -/
def VVof (x : (⟨2, ![16384, 512]⟩ : Shape).Idx → EReal) (n h d : ℕ) (r : Fin 256) : EReal :=
  if d < 64 then at2 x (256 * n + r.val) (64 * h + d) else 1

end Cert.Moba

namespace Cert.KernelIdeal.Hand

open Cert.KernelIdeal Cert.KernelIdeal.Gen Cert.Moba
open Idealize.ShloMosaic Idealize.ShloMosaic.TcCoe Idealize.ShloMosaic.Tactic

variable (m : (ℓ : Loc nD τ sig) → Buf (Elt Ideal) ℓ)

/-- The queries, keys and values as the call of `main` finds them. -/
def A0 (c : Dev nD) : S16384x512.Idx → EReal := m ((c : Thread nD τ).loc main_arg0)
@[inherit_doc A0] def A1 (c : Dev nD) : S16384x512.Idx → EReal := m ((c : Thread nD τ).loc main_arg1)
@[inherit_doc A0] def A2 (c : Dev nD) : S16384x512.Idx → EReal := m ((c : Thread nD τ).loc main_arg2)

theorem V5 (c : Dev nD) (e : Fin 512) (t : Fin 16384) : (V (F := Ideal) m c main_v5 : S512x16384.Idx → EReal) (ix2 e t) = A0 m c (ix2 t e) * (qscale : EReal) := by
  unfold V A0
  after_reads_at
  rw [qscale_eq]

theorem V6 (c : Dev nD) (e : Fin 512) (t : Fin 16384) : (V (F := Ideal) m c main_v6 : S16384x512.Idx → EReal) (ix2 t e) = A1 m c (ix2 t e) := by
  unfold V A1
  after_reads_at

theorem V11 (c : Dev nD) (n : Fin 64) (h : Fin 8) (d : Fin 80) (r : Fin 256) :
    (V (F := Ideal) m c main_v11 : S64x8x80x256.Idx → EReal) (ix4 n h d r) = VVof (A2 m c) n.val h.val d.val r := by
  unfold V VVof
  after_reads_at
  by_cases hd : d.val < 64
  · rw [dif_pos hd, if_pos hd]
    after_reads_at
    refine Eq.trans ?_ (at2_ix (A2 m c) ⟨256 * n.val + r.val, by omega⟩ ⟨64 * h.val + d.val, by omega⟩).symm
    unfold A2
    refine congrArg _ (congrArg₂ ix2 (Fin.ext ?_) (Fin.ext ?_)) <;> (simp only; omega)
  · rw [dif_neg hd, if_neg hd]
    after_reads_at

theorem V17a (c : Dev nD) (n : Fin 128) (e : Fin 512) (hn : n.val < 64) :
    (V (F := Ideal) m c main_v17 : S128x512.Idx → EReal) (ix2 n e) = Ideal.div (∑ r : Fin 256, at2 (A1 m c) (256 * n.val + r.val) e.val) ((256 : ℝ) : EReal) := by
  have e1 : ∀ r : Fin 256, at2 (A1 m c) (256 * n.val + r.val) e.val = A1 m c (ix2 ⟨n.val * 256 + r.val, by omega⟩ e) := fun r =>
    (at2_ix (A1 m c) ⟨256 * n.val + r.val, by omega⟩ e).trans (by congr 2; exact Fin.ext (by show 256 * n.val + r.val = n.val * 256 + r.val; omega))
  simp only [e1]
  unfold V A1
  after_reads_at
  rw [dif_pos hn, bits_256]

theorem V17b (c : Dev nD) (n : Fin 128) (e : Fin 512) (hn : ¬ n.val < 64) :
    (V (F := Ideal) m c main_v17 : S128x512.Idx → EReal) (ix2 n e) = (0 : EReal) := by
  unfold V
  after_reads_at
  rw [dif_neg hn]
  show (((0#32 : BitVec 32).toInt : ℝ) : EReal) = 0
  simp

theorem V17 (c : Dev nD) (n : Fin 128) (e : Fin 512) (hf : ∀ i, A1 m c i ≠ ⊤ ∧ A1 m c i ≠ ⊥) :
    (V (F := Ideal) m c main_v17 : S128x512.Idx → EReal) (ix2 n e) = (KMof (A1 m c) n.val e.val : EReal) := by
  by_cases hn : n.val < 64
  · rw [V17a m c n e hn, mean_eq hf n.val e.val hn]
  · rw [V17b m c n e hn, KMof, if_neg hn]; rfl

/-- A finite element is neither infinity. -/
theorem finite_of_lt {x : EReal} (h : Ideal.cmp .olt (max x (-x)) (Ideal.ofBits .f32 0x7F800000#32) = 1#1) : x ≠ ⊤ ∧ x ≠ ⊥ := by
  rw [inf_bits] at h
  constructor <;> rintro rfl <;> simp [Ideal.cmp] at h

theorem finite_of_pre (hp : Cert.Pre_finite_qk.Facts) (x y z : S16384x512.Idx → EReal)
    (h : Cert.Pre_finite_qk.fn (F := Ideal) x y z = (fun _ => 1#1)) : (∀ i, x i ≠ ⊤ ∧ x i ≠ ⊥) ∧ (∀ i, y i ≠ ⊤ ∧ y i ≠ ⊥) := by
  have h0 := congrFun h (fun a => a.elim0)
  unfold Cert.Pre_finite_qk.fn at h0
  have hs : Subsingleton Cert.Pre_finite_qk.S_.Idx := ⟨fun a b => funext fun i => i.elim0⟩
  have := (IntOp.andi_eq_one).1 h0
  refine ⟨fun i => finite_of_lt (Host.reduce_andi_all _ _ _ _ _ this.1 i), fun i => finite_of_lt (Host.reduce_andi_all _ _ _ _ _ this.2 i)⟩

/-- The kernel's launch with finite queries and keys leaves the attention of every query in the result. -/
theorem value_k (ρ : Dev nD → PrngReg) (h0 : ∀ i, A0 m 0 i ≠ ⊤ ∧ A0 m 0 i ≠ ⊥) (h1 : ∀ i, A1 m 0 i ≠ ⊤ ∧ A1 m 0 i ≠ ⊥) :
    θ_run defs (onTc (τ := τ) (main (F := Ideal))) ⟨m, fun _ => 0, ρ⟩ (fun r => ∀ c : Dev nD,
      r.2.mem ((c.tc : Thread nD τ).loc main_v18) = G (QTof (A0 m 0)) (re2 (A1 m 0)) (KMof (A1 m 0)) (VVof (A2 m 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine runV m ρ _ _ _ _ (fun c e t => ?_) (fun c t e => ?_) (fun c n h d r => ?_) (fun c n e => ?_) (fun n h r => rfl) <;> obtain rfl : c = 0 := Subsingleton.elim (α := Fin 1) c 0
  · rw [QTof, EReal.coe_mul, ← at2_re h0, at2_ix]; exact V5 m 0 e t
  · rw [← at2_re h1, at2_ix]; exact V6 m 0 e t
  · exact V11 m 0 n h d r
  · exact V17 m 0 n e h1

end Cert.KernelIdeal.Hand
-- ==== Proof.V4.lean ====
/-
  The mixing call of two inputs: what its precondition says, the reference's frame, and the kernel and the reference ending with the same result.
-/
module

public import proofs.«01_k».proof.Defs
public import proofs.«01_k».proof.Proof.R4Val
public import proofs.«01_k».proof.Proof.KHost
public import proofs.«01_k».proof.Proof.Gen.Pre_finite_mix2
public import proofs.«01_k».proof.Proof.Gen.Reference4Ideal
public import proofs.«01_k».proof.Proof.Gen.Reference4Ideal.Run
public import Idealize.ShloMosaic.Adequacy
public import Idealize.ShloMosaic.Init

@[expose] public section

set_option maxRecDepth 16384

noncomputable section

namespace Cert.Proof

open Idealize.ShloMosaic Idealize.SL.Sem
open Cert.Kernel4Ideal.Hand (X0 X1 X2 X3 X4 X5 X6 X7 X8 X9)

/-- The precondition makes every number that a score is made of real. -/
theorem real4 (hp : Cert.Pre_finite_mix2.Facts) (x0 : Cert.Kernel4Ideal.S16384x1024.Idx → EReal) (x1 : Cert.Kernel4Ideal.S16384x512.Idx → EReal) (x2 : Cert.Kernel4Ideal.S16384x512.Idx → EReal) (x3 : Cert.Kernel4Ideal.S1024x1024.Idx → EReal) (x4 : Cert.Kernel4Ideal.S1024.Idx → EReal) (x5 : Cert.Kernel4Ideal.S1024x1024.Idx → EReal) (x6 : Cert.Kernel4Ideal.S256.Idx → EReal) (x7 : Cert.Kernel4Ideal.S256x1024.Idx → EReal) (x8 : Cert.Kernel4Ideal.S256x1024.Idx → EReal) (x9 : Cert.Kernel4Ideal.S1024x1024.Idx → EReal)
    (h : Cert.Pre_finite_mix2.fn (F := Ideal) x0 x1 x2 x3 x4 x5 x6 x7 x8 x9 = (fun _ => 1#1)) :
    (∀ i, Cert.Rows.IsReal (x0 i)) ∧ (∀ i, Cert.Rows.IsReal (x1 i)) ∧ (∀ i, Cert.Rows.IsReal (x2 i)) ∧ (∀ i, Cert.Rows.IsReal (x3 i)) ∧ (∀ i, Cert.Rows.IsReal (x4 i)) ∧ (∀ i, Cert.Rows.IsReal (x5 i)) ∧ (∀ i, Cert.Rows.IsReal (x6 i)) ∧ (∀ i, Cert.Rows.IsReal (x7 i)) := by
  have h0 := congrFun h (fun a => a.elim0)
  unfold Cert.Pre_finite_mix2.fn Cert.Pre_finite_mix2.fn_part1 Cert.Pre_finite_mix2.fn_part2 at h0
  have hs : Subsingleton Cert.Pre_finite_mix2.S_.Idx := ⟨fun a b => funext fun i => i.elim0⟩
  have p7 := (IntOp.andi_eq_one).1 h0
  have p6 := (IntOp.andi_eq_one).1 p7.1
  have p5 := (IntOp.andi_eq_one).1 p6.1
  have p4 := (IntOp.andi_eq_one).1 p5.1
  have p3 := (IntOp.andi_eq_one).1 p4.1
  have p2 := (IntOp.andi_eq_one).1 p3.1
  have p1 := (IntOp.andi_eq_one).1 p2.1
  refine ⟨fun i => Cert.Rows.isReal_of_ne (Cert.KernelIdeal.Hand.finite_of_lt (Host.reduce_andi_all _ _ _ _ _ p1.1 i)), fun i => Cert.Rows.isReal_of_ne (Cert.KernelIdeal.Hand.finite_of_lt (Host.reduce_andi_all _ _ _ _ _ p1.2 i)), fun i => Cert.Rows.isReal_of_ne (Cert.KernelIdeal.Hand.finite_of_lt (Host.reduce_andi_all _ _ _ _ _ p2.2 i)), fun i => Cert.Rows.isReal_of_ne (Cert.KernelIdeal.Hand.finite_of_lt (Host.reduce_andi_all _ _ _ _ _ p3.2 i)), fun i => Cert.Rows.isReal_of_ne (Cert.KernelIdeal.Hand.finite_of_lt (Host.reduce_andi_all _ _ _ _ _ p4.2 i)), fun i => Cert.Rows.isReal_of_ne (Cert.KernelIdeal.Hand.finite_of_lt (Host.reduce_andi_all _ _ _ _ _ p5.2 i)), fun i => Cert.Rows.isReal_of_ne (Cert.KernelIdeal.Hand.finite_of_lt (Host.reduce_andi_all _ _ _ _ _ p6.2 i)), fun i => Cert.Rows.isReal_of_ne (Cert.KernelIdeal.Hand.finite_of_lt (Host.reduce_andi_all _ _ _ _ _ p7.2 i))⟩

/-- Every run of the reference ends with its arguments unchanged and every semaphore counter at zero. -/
theorem frame_r4 : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run m ρ)

variable (m : (ℓ : Loc Cert.Kernel4Ideal.nD Cert.Kernel4Ideal.τ Cert.Kernel4Ideal.sig) → Buf (Elt Ideal) ℓ) (c : Dev Cert.Kernel4Ideal.nD)

/-- Under the precondition the reference's result is the kernel's. -/
theorem reference_value4 (hp : Cert.Pre_finite_mix2.fn (F := Ideal) (X0 m c) (X1 m c) (X2 m c) (X3 m c) (X4 m c) (X5 m c) (X6 m c) (X7 m c) (X8 m c) (X9 m c) = (fun _ => 1#1)) :
    Cert.Reference4Ideal.Read.val_main_v55 (F := Ideal) (X0 m c) (X1 m c) (X2 m c) (X3 m c) (X4 m c) (X5 m c) (X6 m c) (X7 m c) (X8 m c) (X9 m c) = Cert.Kernel4Ideal.Hand.G m c := by
  funext j
  obtain ⟨t, d, rfl⟩ : ∃ (t : Fin 16384) (d : Fin 1024), j = ix2 t d := ⟨j 0, j 1, by funext a; fin_cases a <;> rfl⟩
  obtain ⟨h0, h1, h2, h3, h4, h5, h6, h7⟩ := real4 Cert.Pre_finite_mix2.Gen.facts _ _ _ _ _ _ _ _ _ _ hp
  exact Cert.Reference4Ideal.Hand.result_at _ _ _ _ _ _ _ _ _ _ (fun t h l => Cert.Reference4Ideal.Hand.sc_real _ _ _ _ _ _ _ _ h0 h1 h2 h3 h4 h5 h6 h7 t h l) t d

/-- With real numbers for floats and finite numbers wherever a score comes from, the kernel and the reference end with the same result and leave their arguments as they were. -/
theorem value4 : Cert.algebraic_Kernel4Ideal_Reference4Ideal_pre_finite_mix2 := by
  intro m g m' g' hp ha
  refine ⟨fun c => Cert.Kernel4Ideal.Hand.G m c, Cert.Kernel4Ideal.Hand.value_k m g, ?_⟩
  refine (θ_run Cert.Reference4Ideal.defs _ _).mono (fun r h c => ⟨?_, (h c).2⟩) (Cert.Reference4Ideal.Value.run m' g')
  obtain ⟨a0, a1, a2, a3, a4, a5, a6, a7, a8, a9⟩ := ha c
  refine (h c).1.trans ?_
  rw [Cert.Reference4Ideal.Read.val_main_v55_eq, a0, a1, a2, a3, a4, a5, a6, a7, a8, a9]
  exact reference_value4 m c (hp c)

end Cert.Proof

end
-- ==== Proof.F5Pay.lean ====
/-
  The call that ends an odd layer's mixing, over the prompt's rows: its result at a row is the residual row plus the activation through
  its weight, and to that the attention over the memory is added.
-/
module

public import proofs.«01_k».proof.Proof.Attend
public import proofs.«01_k».proof.Proof.Gen.Kernel5Ideal.Frame
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic Idealize.SL.Sem
open Cert.Rows

/-! ## What the body computes, at a place -/

theorem pay1_at (x : FVec Ideal S1024x1024 .f32) (a w : FVec Ideal S1024x1024 .bf16) (r d : Fin 1024) :
    k0_pay1 (F := Ideal) x a w (ix2 r d) = x (ix2 r d) + ∑ k, a (ix2 r k) * w (ix2 k d) := by
  pointwise [k0_pay1]

/-- The queries before a head's normalisation. -/
theorem pay2_at (x : FVec Ideal S1024x1024 .f32) (a w : FVec Ideal S1024x1024 .bf16) (g : FVec Ideal S1x1024 .f32) (wq : FVec Ideal S1024x1024 .bf16) (r j : Fin 1024) :
    k0_pay2 (F := Ideal) x a w g wq (ix2 r j)
      = proj (rms c1024 (fun d => k0_pay1 (F := Ideal) x a w (ix2 r d)) fun d => g (ix2 0 d)) (fun k j => wq (ix2 k j)) j := by
  unfold proj rms k0_pay2
  generalize k0_pay1 (F := Ideal) x a w = y
  pointwise

theorem pay3_at (x : FVec Ideal S1024x1024 .f32) (a w : FVec Ideal S1024x1024 .bf16) (g : FVec Ideal S1x1024 .f32) (wq : FVec Ideal S1024x1024 .bf16)
    (gq : FVec Ideal S1x256 .f32) (r : Fin 1024) (e : Fin 256) :
    k0_pay3 (F := Ideal) x a w g wq gq (ix2 r e) = headRms (fun j => k0_pay2 (F := Ideal) x a w g wq (ix2 r j)) (fun e => gq (ix2 0 e)) 0 e := by
  unfold headRms rms k0_pay3
  simp only [col_zero]
  generalize k0_pay2 (F := Ideal) x a w g wq = y
  pointwise

theorem pay4_at (q : FVec Ideal S1024x256 .f32) (k v : FVec Ideal S256x256 .bf16) (r : Fin 1024) (e : Fin 256) :
    k0_pay4 (F := Ideal) q k v (ix2 r e) = softAt (scoreAt (fun e => q (ix2 r e)) fun m e => k (ix2 m e)) fun m => v (ix2 m e) := by
  unfold softAt top scoreAt
  pointwise [k0_pay4]

theorem pay5_at (q : FVec Ideal S1024x1024 .f32) (g : FVec Ideal S1x256 .f32) (k : FVec Ideal S256x256 .bf16) (r : Fin 1024) (m : Fin 256) :
    k0_pay5 (F := Ideal) q g k (ix2 r m) = scoreAt (headRms (fun j => q (ix2 r j)) (fun e => g (ix2 0 e)) 1) (fun m e => k (ix2 m e)) m := by
  unfold scoreAt headRms rms
  pointwise [k0_pay5]
  rfl

theorem pay6_at (q : FVec Ideal S1024x1024 .f32) (g : FVec Ideal S1x256 .f32) (k : FVec Ideal S256x256 .bf16) (r : Fin 1024) (m : Fin 256) :
    k0_pay6 (F := Ideal) q g k (ix2 r m) = top fun m => k0_pay5 (F := Ideal) q g k (ix2 r m) := by
  unfold top k0_pay6
  generalize k0_pay5 (F := Ideal) q g k = y
  pointwise

theorem pay7_at (q : FVec Ideal S1024x1024 .f32) (g : FVec Ideal S1x256 .f32) (k v : FVec Ideal S256x256 .bf16) (r : Fin 1024) (e : Fin 256) :
    k0_pay7 (F := Ideal) (k0_pay5 q g k) (k0_pay6 q g k) v (ix2 r e)
      = softAt (scoreAt (headRms (fun j => q (ix2 r j)) (fun e => g (ix2 0 e)) 1) fun m e => k (ix2 m e)) fun m => v (ix2 m e) := by
  have h5 : (fun m => k0_pay5 (F := Ideal) q g k (ix2 r m)) = scoreAt (headRms (fun j => q (ix2 r j)) (fun e => g (ix2 0 e)) 1) fun m e => k (ix2 m e) :=
    funext fun m => pay5_at q g k r m
  have h6 := pay6_at q g k r
  rw [h5] at h6
  rw [← h5] at *
  revert h6
  generalize k0_pay5 (F := Ideal) q g k = y
  generalize k0_pay6 (F := Ideal) q g k = z
  intro h6
  unfold softAt
  pointwise [k0_pay7]
  simp only [h6]

theorem pay8_at (q : FVec Ideal S1024x1024 .f32) (g : FVec Ideal S1x256 .f32) (k v : FVec Ideal S256x256 .bf16) (r : Fin 1024) (e : Fin 256) :
    k0_pay8 (F := Ideal) q g k v (ix2 r e)
      = softAt (scoreAt (headRms (fun j => q (ix2 r j)) (fun e => g (ix2 0 e)) 2) fun m e => k (ix2 m e)) fun m => v (ix2 m e) := by
  unfold softAt top scoreAt headRms rms
  pointwise [k0_pay8]
  rfl

set_option maxHeartbeats 4000000 in
/-- The heads side by side, through the last weight, over the residual row. -/
theorem pay9_at (y q : FVec Ideal S1024x1024 .f32) (a b : FVec Ideal S1024x256 .bf16) (c : FVec Ideal S1024x256 .f32) (g : FVec Ideal S1x256 .f32)
    (k v : FVec Ideal S256x256 .bf16) (wo : FVec Ideal S1024x1024 .bf16) (r d : Fin 1024) :
    k0_pay9 (F := Ideal) y q a b c g k v wo (ix2 r d) = y (ix2 r d)
      + (∑ e, a (ix2 r e) * wo (ix2 (col 0 e) d) + ∑ e, b (ix2 r e) * wo (ix2 (col 1 e) d) + ∑ e, c (ix2 r e) * wo (ix2 (col 2 e) d)
        + ∑ e, softAt (scoreAt (headRms (fun j => q (ix2 r j)) (fun e => g (ix2 0 e)) 3) fun m e => k (ix2 m e)) (fun m => v (ix2 m e)) * wo (ix2 (col 3 e) d)) := by
  unfold softAt top scoreAt headRms rms
  pointwise [k0_pay9]
  rw [sum_cols, Fin.sum_univ_four]
  refine congrArg (y (ix2 r d) + ·) (congrArg₂ (· + ·) (congrArg₂ (· + ·) (congrArg₂ (· + ·) ?_ ?_) ?_) ?_) <;> refine Finset.sum_congr rfl fun e _ => congrArg (· * _) ?_
  · rw [dif_pos (by show 256 * 0 + e.val < 256; omega)]
    exact congrArg (fun z => a (ix2 r z)) (Fin.ext (by show 256 * 0 + e.val = e.val; omega))
  · rw [dif_neg (by show ¬ 256 * 1 + e.val < 256; omega), dif_pos (by show 256 * 1 + e.val - 256 < 256; omega)]
    exact congrArg (fun z => b (ix2 r z)) (Fin.ext (by show 256 * 1 + e.val - 256 = e.val; omega))
  · rw [dif_neg (by show ¬ 256 * 2 + e.val < 256; omega), dif_neg (by show ¬ 256 * 2 + e.val - 256 < 256; omega), dif_pos (by show 256 * 2 + e.val - 256 - 256 < 256; omega)]
    exact congrArg (fun z => c (ix2 r z)) (Fin.ext (by show 256 * 2 + e.val - 256 - 256 = e.val; omega))
  · rw [dif_neg (by show ¬ 256 * 3 + e.val < 256; omega), dif_neg (by show ¬ 256 * 3 + e.val - 256 < 256; omega), dif_neg (by show ¬ 256 * 3 + e.val - 256 - 256 < 256; omega)]
    have ez : (⟨256 * 3 + e.val - 256 - 256 - 256, by omega⟩ : Fin 256) = e := Fin.ext (by show 256 * 3 + e.val - 256 - 256 - 256 = e.val; omega)
    show Ideal.div (∑ m, _ * v (ix2 m (⟨256 * 3 + e.val - 256 - 256 - 256, _⟩ : Fin 256))) _ = _
    rw [ez]
    rfl

/-- A head's columns of a memory array. -/
theorem ld3_at (x : Vec Ideal S256x1024 .bf16) (n e : Fin 256) : View.ld x r0_3 (ix2 n e) = x (ix2 n (col 0 e)) := by
  refine (View.ld_apply _ _ _).trans (congrArg x (funext fun a => Fin.ext ?_))
  match a with
  | ⟨0, _⟩ => show 0 + 1 * n.val = n.val; omega
  | ⟨1, _⟩ => show 0 + 1 * e.val = 256 * 0 + e.val; omega
/-- A head's columns of a memory array. -/
theorem ld4_at (x : Vec Ideal S256x1024 .bf16) (n e : Fin 256) : View.ld x r0_4 (ix2 n e) = x (ix2 n (col 1 e)) := by
  refine (View.ld_apply _ _ _).trans (congrArg x (funext fun a => Fin.ext ?_))
  match a with
  | ⟨0, _⟩ => show 0 + 1 * n.val = n.val; omega
  | ⟨1, _⟩ => show 256 + 1 * e.val = 256 * 1 + e.val; omega
/-- A head's columns of a memory array. -/
theorem ld5_at (x : Vec Ideal S256x1024 .bf16) (n e : Fin 256) : View.ld x r0_5 (ix2 n e) = x (ix2 n (col 2 e)) := by
  refine (View.ld_apply _ _ _).trans (congrArg x (funext fun a => Fin.ext ?_))
  match a with
  | ⟨0, _⟩ => show 0 + 1 * n.val = n.val; omega
  | ⟨1, _⟩ => show 512 + 1 * e.val = 256 * 2 + e.val; omega
/-- A head's columns of a memory array. -/
theorem ld6_at (x : Vec Ideal S256x1024 .bf16) (n e : Fin 256) : View.ld x r0_6 (ix2 n e) = x (ix2 n (col 3 e)) := by
  refine (View.ld_apply _ _ _).trans (congrArg x (funext fun a => Fin.ext ?_))
  match a with
  | ⟨0, _⟩ => show 0 + 1 * n.val = n.val; omega
  | ⟨1, _⟩ => show 768 + 1 * e.val = 256 * 3 + e.val; omega

theorem pay10_eq (x : FVec Ideal S1024x1024 .f32) (a w : FVec Ideal S1024x1024 .bf16) (g : FVec Ideal S1x1024 .f32) (wq : FVec Ideal S1024x1024 .bf16)
    (gq : FVec Ideal S1x256 .f32) (mk mv : Vec Ideal S256x1024 .bf16) (wo : FVec Ideal S1024x1024 .bf16) :
    k0_pay10 (F := Ideal) x a w g wq gq mk mv wo = k0_pay2 x a w g wq := by
  unfold k0_pay10
  simp (disch := decide) only [View.ld_unit_lit']

/-- What the body leaves in the output block, at a place. -/
theorem body_at (x : FVec Ideal S1024x1024 .f32) (a w : FVec Ideal S1024x1024 .bf16) (g : FVec Ideal S1x1024 .f32) (wq : FVec Ideal S1024x1024 .bf16)
    (gq : FVec Ideal S1x256 .f32) (mk mv : Vec Ideal S256x1024 .bf16) (wo : FVec Ideal S1024x1024 .bf16)
    (k0 k1 k2 k3 v0 v1 v2 v3 : FVec Ideal S256x256 .bf16) (k0' : ∀ n e, k0 (ix2 n e) = mk (ix2 n (col 0 e))) (k1' : ∀ n e, k1 (ix2 n e) = mk (ix2 n (col 1 e))) (k2' : ∀ n e, k2 (ix2 n e) = mk (ix2 n (col 2 e))) (k3' : ∀ n e, k3 (ix2 n e) = mk (ix2 n (col 3 e))) (v0' : ∀ n e, v0 (ix2 n e) = mv (ix2 n (col 0 e))) (v1' : ∀ n e, v1 (ix2 n e) = mv (ix2 n (col 1 e))) (v2' : ∀ n e, v2 (ix2 n e) = mv (ix2 n (col 2 e))) (v3' : ∀ n e, v3 (ix2 n e) = mv (ix2 n (col 3 e))) (r d : Fin 1024) :
    k0_pay9 (F := Ideal) (k0_pay1 x a w) (k0_pay2 x a w g wq) (k0_pay4 (k0_pay3 x a w g wq gq) k0 v0)
        (k0_pay7 (k0_pay5 (k0_pay2 x a w g wq) gq k1) (k0_pay6 (k0_pay2 x a w g wq) gq k1) v1)
        (k0_pay8 (k0_pay2 x a w g wq) gq k2 v2) gq k3 v3 wo (ix2 r d)
      = mixAt (fun d => k0_pay1 (F := Ideal) x a w (ix2 r d)) (fun d => g (ix2 0 d)) (fun k j => wq (ix2 k j)) (fun e => gq (ix2 0 e)) (fun n j => mk (ix2 n j))
          (fun n j => mv (ix2 n j)) (fun j d => wo (ix2 j d)) d := by
  rw [pay9_at]
  have q : (fun j => k0_pay2 (F := Ideal) x a w g wq (ix2 r j)) = _ := funext fun j => pay2_at x a w g wq r j
  unfold mixAt headOut
  rw [Fin.sum_univ_four]
  simp only [pay4_at, pay7_at, pay8_at, pay3_at]
  rw [q]
  simp only [k0', k1', k2', k3', v0', v1', v2', v3']

end Cert.Kernel5Ideal.Hand

end
-- ==== Proof.F5Val.lean ====
/-
  The call that ends an odd layer's mixing, block by block: the result array has at a row the residual row plus the activation through
  its weight, and to that the attention over the memory is added.
-/
module

public import proofs.«01_k».proof.Proof.F5Pay
public import proofs.«01_k».proof.Proof.Gen.Kernel5Ideal.Frame
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic Idealize.SL.Sem
open Cert.Rows

variable (m : (ℓ : Loc nD τ sig) → Buf (Elt Ideal) ℓ) (c : Dev nD)

/-- Row `r` of row block `t`. -/
def row (t : Fin cfg0.N) (r : Fin 1024) : Fin 16384 := ⟨1024 * t.val + r.val, by have h := lt_of_lt_of_eq t.isLt N_0; omega⟩

/-! ## The blocks of the arrays -/

theorem idx0 : ∀ t : Fin grid0.N, win0_0.index t (0 : Fin 2) = t.val ∧ win0_0.index t (1 : Fin 2) = 0 := by decide +kernel
theorem emb0 (t : Fin cfg0.N) (r : Fin 1024) (k : Fin 1024) : ((cfg0.win 0).blk t).view.emb (ix2 r k) = (ix2 (row t r) k : S16384x1024.Idx) := by
  obtain ⟨e0, e1⟩ := idx0 t
  funext a; apply Fin.ext
  match a with
  | ⟨0, _⟩ => show win0_0.index t (0 : Fin 2) * 1024 + 1 * r.val = _; rw [e0]; show _ = 1024 * t.val + r.val; ring
  | ⟨1, _⟩ => show win0_0.index t (1 : Fin 2) * 1024 + 1 * k.val = _; rw [e1]; show _ = k.val; ring
theorem idx1 : ∀ t : Fin grid0.N, win0_1.index t (0 : Fin 2) = t.val ∧ win0_1.index t (1 : Fin 2) = 0 := by decide +kernel
theorem emb1 (t : Fin cfg0.N) (r : Fin 1024) (k : Fin 1024) : ((cfg0.win 1).blk t).view.emb (ix2 r k) = (ix2 (row t r) k : S16384x1024.Idx) := by
  obtain ⟨e0, e1⟩ := idx1 t
  funext a; apply Fin.ext
  match a with
  | ⟨0, _⟩ => show win0_1.index t (0 : Fin 2) * 1024 + 1 * r.val = _; rw [e0]; show _ = 1024 * t.val + r.val; ring
  | ⟨1, _⟩ => show win0_1.index t (1 : Fin 2) * 1024 + 1 * k.val = _; rw [e1]; show _ = k.val; ring
theorem idx2 : ∀ t : Fin grid0.N, win0_2.index t (0 : Fin 2) = 0 ∧ win0_2.index t (1 : Fin 2) = 0 := by decide +kernel
theorem emb2 (t : Fin cfg0.N) (r : Fin 1024) (k : Fin 1024) : ((cfg0.win 2).blk t).view.emb (ix2 r k) = (ix2 r k : S1024x1024.Idx) := by
  obtain ⟨e0, e1⟩ := idx2 t
  funext a; apply Fin.ext
  match a with
  | ⟨0, _⟩ => show win0_2.index t (0 : Fin 2) * 1024 + 1 * r.val = _; rw [e0]; show _ = r.val; ring
  | ⟨1, _⟩ => show win0_2.index t (1 : Fin 2) * 1024 + 1 * k.val = _; rw [e1]; show _ = k.val; ring
theorem idx3 : ∀ t : Fin grid0.N, win0_3.index t (0 : Fin 2) = 0 ∧ win0_3.index t (1 : Fin 2) = 0 := by decide +kernel
theorem emb3 (t : Fin cfg0.N) (r : Fin 1) (k : Fin 1024) : ((cfg0.win 3).blk t).view.emb (ix2 r k) = (ix2 r k : S1x1024.Idx) := by
  obtain ⟨e0, e1⟩ := idx3 t
  funext a; apply Fin.ext
  match a with
  | ⟨0, _⟩ => show win0_3.index t (0 : Fin 2) * 1 + 1 * r.val = _; rw [e0]; show _ = r.val; ring
  | ⟨1, _⟩ => show win0_3.index t (1 : Fin 2) * 1024 + 1 * k.val = _; rw [e1]; show _ = k.val; ring
theorem idx4 : ∀ t : Fin grid0.N, win0_4.index t (0 : Fin 2) = 0 ∧ win0_4.index t (1 : Fin 2) = 0 := by decide +kernel
theorem emb4 (t : Fin cfg0.N) (r : Fin 1024) (k : Fin 1024) : ((cfg0.win 4).blk t).view.emb (ix2 r k) = (ix2 r k : S1024x1024.Idx) := by
  obtain ⟨e0, e1⟩ := idx4 t
  funext a; apply Fin.ext
  match a with
  | ⟨0, _⟩ => show win0_4.index t (0 : Fin 2) * 1024 + 1 * r.val = _; rw [e0]; show _ = r.val; ring
  | ⟨1, _⟩ => show win0_4.index t (1 : Fin 2) * 1024 + 1 * k.val = _; rw [e1]; show _ = k.val; ring
theorem idx5 : ∀ t : Fin grid0.N, win0_5.index t (0 : Fin 2) = 0 ∧ win0_5.index t (1 : Fin 2) = 0 := by decide +kernel
theorem emb5 (t : Fin cfg0.N) (r : Fin 1) (k : Fin 256) : ((cfg0.win 5).blk t).view.emb (ix2 r k) = (ix2 r k : S1x256.Idx) := by
  obtain ⟨e0, e1⟩ := idx5 t
  funext a; apply Fin.ext
  match a with
  | ⟨0, _⟩ => show win0_5.index t (0 : Fin 2) * 1 + 1 * r.val = _; rw [e0]; show _ = r.val; ring
  | ⟨1, _⟩ => show win0_5.index t (1 : Fin 2) * 256 + 1 * k.val = _; rw [e1]; show _ = k.val; ring
theorem idx6 : ∀ t : Fin grid0.N, win0_6.index t (0 : Fin 2) = 0 ∧ win0_6.index t (1 : Fin 2) = 0 := by decide +kernel
theorem emb6 (t : Fin cfg0.N) (r : Fin 256) (k : Fin 1024) : ((cfg0.win 6).blk t).view.emb (ix2 r k) = (ix2 r k : S256x1024.Idx) := by
  obtain ⟨e0, e1⟩ := idx6 t
  funext a; apply Fin.ext
  match a with
  | ⟨0, _⟩ => show win0_6.index t (0 : Fin 2) * 256 + 1 * r.val = _; rw [e0]; show _ = r.val; ring
  | ⟨1, _⟩ => show win0_6.index t (1 : Fin 2) * 1024 + 1 * k.val = _; rw [e1]; show _ = k.val; ring
theorem idx7 : ∀ t : Fin grid0.N, win0_7.index t (0 : Fin 2) = 0 ∧ win0_7.index t (1 : Fin 2) = 0 := by decide +kernel
theorem emb7 (t : Fin cfg0.N) (r : Fin 256) (k : Fin 1024) : ((cfg0.win 7).blk t).view.emb (ix2 r k) = (ix2 r k : S256x1024.Idx) := by
  obtain ⟨e0, e1⟩ := idx7 t
  funext a; apply Fin.ext
  match a with
  | ⟨0, _⟩ => show win0_7.index t (0 : Fin 2) * 256 + 1 * r.val = _; rw [e0]; show _ = r.val; ring
  | ⟨1, _⟩ => show win0_7.index t (1 : Fin 2) * 1024 + 1 * k.val = _; rw [e1]; show _ = k.val; ring
theorem idx8 : ∀ t : Fin grid0.N, win0_8.index t (0 : Fin 2) = 0 ∧ win0_8.index t (1 : Fin 2) = 0 := by decide +kernel
theorem emb8 (t : Fin cfg0.N) (r : Fin 1024) (k : Fin 1024) : ((cfg0.win 8).blk t).view.emb (ix2 r k) = (ix2 r k : S1024x1024.Idx) := by
  obtain ⟨e0, e1⟩ := idx8 t
  funext a; apply Fin.ext
  match a with
  | ⟨0, _⟩ => show win0_8.index t (0 : Fin 2) * 1024 + 1 * r.val = _; rw [e0]; show _ = r.val; ring
  | ⟨1, _⟩ => show win0_8.index t (1 : Fin 2) * 1024 + 1 * k.val = _; rw [e1]; show _ = k.val; ring
theorem idx9 : ∀ t : Fin grid0.N, win0_9.index t (0 : Fin 2) = t.val ∧ win0_9.index t (1 : Fin 2) = 0 := by decide +kernel
theorem emb9 (t : Fin cfg0.N) (r : Fin 1024) (k : Fin 1024) : ((cfg0.win 9).blk t).view.emb (ix2 r k) = (ix2 (row t r) k : S16384x1024.Idx) := by
  obtain ⟨e0, e1⟩ := idx9 t
  funext a; apply Fin.ext
  match a with
  | ⟨0, _⟩ => show win0_9.index t (0 : Fin 2) * 1024 + 1 * r.val = _; rw [e0]; show _ = 1024 * t.val + r.val; ring
  | ⟨1, _⟩ => show win0_9.index t (1 : Fin 2) * 1024 + 1 * k.val = _; rw [e1]; show _ = k.val; ring
/-! ## The arrays' entries -/

/-- The arguments as the call is given them. -/
def X0 : S16384x1024.Idx → EReal := m ((c : Thread nD τ).loc main_arg0)
@[inherit_doc X0] def X1 : S16384x1024.Idx → EReal := m ((c : Thread nD τ).loc main_arg1)
@[inherit_doc X0] def X2 : S1024x1024.Idx → EReal := m ((c : Thread nD τ).loc main_arg2)
@[inherit_doc X0] def X3 : S1024.Idx → EReal := m ((c : Thread nD τ).loc main_arg3)
@[inherit_doc X0] def X4 : S1024x1024.Idx → EReal := m ((c : Thread nD τ).loc main_arg4)
@[inherit_doc X0] def X5 : S256.Idx → EReal := m ((c : Thread nD τ).loc main_arg5)
@[inherit_doc X0] def X6 : S256x1024.Idx → EReal := m ((c : Thread nD τ).loc main_arg6)
@[inherit_doc X0] def X7 : S256x1024.Idx → EReal := m ((c : Thread nD τ).loc main_arg7)
@[inherit_doc X0] def X8 : S1024x1024.Idx → EReal := m ((c : Thread nD τ).loc main_arg8)

theorem in0 (t : Fin cfg0.N) (r : Fin 1024) (k : Fin 1024) : iblk m c 0 t (ix2 r k) = X0 m c (ix2 (row t r) k) := by
  show V m c main_arg0 (((cfg0.win 0).blk t).view.emb (ix2 r k)) = _
  rw [emb0]; exact congrFun (V_main_arg0 m c) _
theorem in1 (t : Fin cfg0.N) (r : Fin 1024) (k : Fin 1024) : iblk m c 1 t (ix2 r k) = X1 m c (ix2 (row t r) k) := by
  show V m c main_arg1 (((cfg0.win 1).blk t).view.emb (ix2 r k)) = _
  rw [emb1]; exact congrFun (V_main_arg1 m c) _
theorem V2 (r : Fin 1024) (k : Fin 1024) : (V (F := Ideal) m c main_v0 : S1024x1024.Idx → EReal) (ix2 r k) = X2 m c (ix2 r k) := by
  unfold V X2
  after_reads_at
theorem in2 (t : Fin cfg0.N) (r : Fin 1024) (k : Fin 1024) : iblk m c 2 t (ix2 r k) = X2 m c (ix2 r k) := by
  show V m c main_v0 (((cfg0.win 2).blk t).view.emb (ix2 r k)) = _
  rw [emb2]; exact V2 m c r k
theorem V3 (k : Fin 1024) : (V (F := Ideal) m c main_v1 : S1x1024.Idx → EReal) (ix2 (0 : Fin 1) k) = X3 m c (ix1 k) := by
  unfold V X3
  after_reads_at
theorem in3 (t : Fin cfg0.N) (k : Fin 1024) : iblk m c 3 t (ix2 (0 : Fin 1) k) = X3 m c (ix1 k) := by
  show V m c main_v1 (((cfg0.win 3).blk t).view.emb (ix2 (0 : Fin 1) k)) = _
  rw [emb3]; exact V3 m c k
theorem V4 (r : Fin 1024) (k : Fin 1024) : (V (F := Ideal) m c main_v2 : S1024x1024.Idx → EReal) (ix2 r k) = X4 m c (ix2 r k) := by
  unfold V X4
  after_reads_at
theorem in4 (t : Fin cfg0.N) (r : Fin 1024) (k : Fin 1024) : iblk m c 4 t (ix2 r k) = X4 m c (ix2 r k) := by
  show V m c main_v2 (((cfg0.win 4).blk t).view.emb (ix2 r k)) = _
  rw [emb4]; exact V4 m c r k
theorem V5 (k : Fin 256) : (V (F := Ideal) m c main_v3 : S1x256.Idx → EReal) (ix2 (0 : Fin 1) k) = X5 m c (ix1 k) := by
  unfold V X5
  after_reads_at
theorem in5 (t : Fin cfg0.N) (k : Fin 256) : iblk m c 5 t (ix2 (0 : Fin 1) k) = X5 m c (ix1 k) := by
  show V m c main_v3 (((cfg0.win 5).blk t).view.emb (ix2 (0 : Fin 1) k)) = _
  rw [emb5]; exact V5 m c k
theorem in6 (t : Fin cfg0.N) (r : Fin 256) (k : Fin 1024) : iblk m c 6 t (ix2 r k) = X6 m c (ix2 r k) := by
  show V m c main_arg6 (((cfg0.win 6).blk t).view.emb (ix2 r k)) = _
  rw [emb6]; exact congrFun (V_main_arg6 m c) _
theorem in7 (t : Fin cfg0.N) (r : Fin 256) (k : Fin 1024) : iblk m c 7 t (ix2 r k) = X7 m c (ix2 r k) := by
  show V m c main_arg7 (((cfg0.win 7).blk t).view.emb (ix2 r k)) = _
  rw [emb7]; exact congrFun (V_main_arg7 m c) _
theorem V8 (r : Fin 1024) (k : Fin 1024) : (V (F := Ideal) m c main_v4 : S1024x1024.Idx → EReal) (ix2 r k) = X8 m c (ix2 r k) := by
  unfold V X8
  after_reads_at
theorem in8 (t : Fin cfg0.N) (r : Fin 1024) (k : Fin 1024) : iblk m c 8 t (ix2 r k) = X8 m c (ix2 r k) := by
  show V m c main_v4 (((cfg0.win 8).blk t).view.emb (ix2 r k)) = _
  rw [emb8]; exact V8 m c r k

/-- The residual row with the mixers' outputs added. -/
def h1At (x : S16384x1024.Idx → EReal) (a : S16384x1024.Idx → EReal) (w : S1024x1024.Idx → EReal) (t : Fin 16384) (d : Fin 1024) : EReal := x (ix2 t d) + ∑ k, a (ix2 t k) * w (ix2 k d)

/-- The result at a place. -/
def mixRow (x : S16384x1024.Idx → EReal) (a : S16384x1024.Idx → EReal) (w : S1024x1024.Idx → EReal) (g : S1024.Idx → EReal) (wq : S1024x1024.Idx → EReal) (gq : S256.Idx → EReal) (mk mv : S256x1024.Idx → EReal)
    (wo : S1024x1024.Idx → EReal) (t : Fin 16384) (d : Fin 1024) : EReal :=
  mixAt (h1At x a w t) (fun d => g (ix1 d)) (fun k j => wq (ix2 k j)) (fun e => gq (ix1 e)) (fun n j => mk (ix2 n j)) (fun n j => mv (ix2 n j))
    (fun j d => wo (ix2 j d)) d

/-- The result array. -/
def G : S16384x1024.Idx → EReal := fun i => mixRow (X0 m c) (X1 m c) (X2 m c) (X3 m c) (X4 m c) (X5 m c) (X6 m c) (X7 m c) (X8 m c) ⟨(i 0).val, (i 0).isLt⟩ ⟨(i 1).val, (i 1).isLt⟩

theorem h1_blk (t : Fin cfg0.N) (r d : Fin 1024) : k0_pay1 (F := Ideal) (iblk m c 0 t) (iblk m c 1 t) (iblk m c 2 t) (ix2 r d) = h1At (X0 m c) (X1 m c) (X2 m c) (row t r) d :=
  (pay1_at _ _ _ r d).trans (congrArg₂ (fun a b : EReal => a + b) (in0 m c t r d) (Finset.sum_congr rfl fun k _ => congrArg₂ (fun a b : EReal => a * b) (in1 m c t r k) (in2 m c t k d)))

/-- A block of the result array. -/
theorem out9 (t : Fin cfg0.N) (r : Fin 1024) (k : Fin 1024) : (dats m 0 c).after 9 t (ix2 r k) = G m c (ix2 (row t r) k) := by
  rw [after0_9]
  frame_out
  rw [pay10_eq]
  refine (body_at _ _ _ _ _ _ _ _ _ _ _ _ _ _ _ _ _ (ld3_at _) (ld4_at _) (ld5_at _) (ld6_at _) (ld3_at _) (ld4_at _) (ld5_at _) (ld6_at _) r k).trans ?_
  rw [show (fun d => k0_pay1 (F := Ideal) (iblk m c 0 t) (iblk m c 1 t) (iblk m c 2 t) (ix2 r d)) = _ from funext fun d => h1_blk m c t r d,
    show (fun d => iblk m c 3 t (ix2 (0 : Fin 1) d)) = _ from funext fun d => in3 m c t d,
    show (fun k j => iblk m c 4 t (ix2 k j)) = _ from funext fun k => funext fun j => in4 m c t k j,
    show (fun d => iblk m c 5 t (ix2 (0 : Fin 1) d)) = _ from funext fun d => in5 m c t d,
    show (fun k j => iblk m c 6 t (ix2 k j)) = _ from funext fun k => funext fun j => in6 m c t k j,
    show (fun k j => iblk m c 7 t (ix2 k j)) = _ from funext fun k => funext fun j => in7 m c t k j,
    show (fun k j => iblk m c 8 t (ix2 k j)) = _ from funext fun k => funext fun j => in8 m c t k j]
  rfl

/-! ## The result arrays -/

theorem cover9 (j : S16384x1024.Idx) : ∃ t : Fin cfg0.N, (cfg0.win 9).flush t = true ∧ j ∈ ((cfg0.win 9).blk t).view.set := by
  have h0 : (j 0).val < 16384 := (j 0).isLt
  obtain ⟨t, ht⟩ : ∃ t : Fin cfg0.N, t.val = (j 0).val / 1024 := ⟨⟨_, lt_of_lt_of_eq (by omega) N_0.symm⟩, rfl⟩
  refine ⟨t, flush0_9 t, ?_⟩
  have e := ((cfg0.win 9).blk t).view.emb_mem_set (ix2 (⟨(j 0).val % 1024, Nat.mod_lt _ (by decide)⟩ : Fin 1024) (⟨(j 1).val, (j 1).isLt⟩ : Fin 1024))
  rw [emb9] at e
  have ej : (ix2 (row t ⟨(j 0).val % 1024, Nat.mod_lt _ (by decide)⟩) (⟨(j 1).val, (j 1).isLt⟩ : Fin 1024) : S16384x1024.Idx) = j := by
    funext a; apply Fin.ext
    match a with
    | ⟨0, _⟩ => show 1024 * t.val + (j 0).val % 1024 = (j 0).val; omega
    | ⟨1, _⟩ => rfl
  exact ej ▸ e

/-- A result array after the last grid point. -/
theorem final9 : (dats m 0 c).arrAt 9 cfg0.N = G m c := by
  refine (dats m 0 c).arrAt_eq_of_cover 9 (G m c) (fun t _ => funext fun y => ?_) cover9
  obtain ⟨r, k, rfl⟩ : ∃ (r : Fin 1024) (k : Fin 1024), y = ix2 r k := ⟨y 0, y 1, by funext a; fin_cases a <;> rfl⟩
  exact (out9 m c t r k).trans (congrArg (G m c) (emb9 t r k).symm)

/-- Every run of the program ends with the result arrays at the formulas' values and the arguments' arrays unchanged. -/
theorem value_k (ρ : Dev nD → PrngReg) : θ_run defs (onTc (τ := τ) (main (F := Ideal))) ⟨m, fun _ => 0, ρ⟩ (fun r => ∀ c : Dev nD,
      r.2.mem ((c.tc : Thread nD τ).loc main_v5) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).1 9).trans (final9 m c), h.2 c⟩) (θ_run_and (run_main m ρ) (unchanged m ρ))

end Cert.Kernel5Ideal.Hand

end
-- ==== Proof.R5Val.lean ====
/-
  The mixing call's reference at a place: where the inputs are real numbers it is the formula the kernel's result array has.
-/
module

public import proofs.«01_k».proof.Proof.Finite
public import proofs.«01_k».proof.Proof.F5Val
public import proofs.«01_k».proof.Proof.HostMax
public import proofs.«01_k».proof.Proof.Gen.Reference5Ideal.Read

@[expose] public section

set_option maxRecDepth 16384

noncomputable section

namespace Cert.Reference5Ideal.Hand

open Cert.Reference5Ideal Cert.Reference5Ideal.Gen Cert.Reference5Ideal.Read
open Idealize.ShloMosaic Idealize.ShloMosaic.Tactic
open Cert.Rows
open Cert.Kernel5Ideal.Hand (h1At mixRow)

variable (x0 : FVec Ideal S16384x1024 .f32) (x1 : FVec Ideal S16384x1024 .bf16) (x2 : FVec Ideal S1024x1024 .f32) (x3 : FVec Ideal S1024 .f32) (x4 : FVec Ideal S1024x1024 .f32) (x5 : FVec Ideal S256 .f32)
  (x6 x7 : FVec Ideal S256x1024 .bf16) (x8 : FVec Ideal S1024x1024 .f32)

/-- The residual rows. -/
theorem resid_at (t : Fin 16384) (d : Fin 1024) : val_main_v2 (F := Ideal) x0 x1 x2 (ix2 t d) = h1At x0 x1 x2 t d := by
  unfold h1At
  pointwise [val_main_v2, val_main_v1, val_main_v0]

/-- The normalised rows. -/
theorem normed_at (t : Fin 16384) (k : Fin 1024) : val_main_v15 (F := Ideal) x0 x1 x2 x3 (ix2 t k) = rms c1024 (h1At x0 x1 x2 t) (fun d => x3 (ix1 d)) k := by
  have e : val_main_v15 (F := Ideal) x0 x1 x2 x3 (ix2 t k) = rms c1024 (fun d => val_main_v2 (F := Ideal) x0 x1 x2 (ix2 t d)) (fun d => x3 (ix1 d)) k := by
    unfold rms
    generalize hx : val_main_v2 (F := Ideal) x0 x1 x2 = y
    pointwise [val_main_v15, val_main_v14, val_main_v13, val_main_v12, val_main_v11, val_main_v10, val_main_v9, val_main_v8, val_main_v7, val_main_v6, val_main_v5, val_main_v4, val_main_v3, val_main_cst, val_main_cst_0, val_main_cst_1, hx]
  rw [e]
  simp only [resid_at]

/-- The queries of a row. -/
abbrev qry (t : Fin 16384) : Fin 1024 → EReal := proj (rms c1024 (h1At x0 x1 x2 t) fun d => x3 (ix1 d)) fun k j => x4 (ix2 k j)

theorem query_at (t : Fin 16384) (j : Fin 1024) : val_main_v16 (F := Ideal) x0 x1 x2 x3 x4 (ix2 t j) = qry x0 x1 x2 x3 x4 t j := by
  have e : val_main_v16 (F := Ideal) x0 x1 x2 x3 x4 (ix2 t j) = (∑ k, val_main_v15 (F := Ideal) x0 x1 x2 x3 (ix2 t k) * x4 (ix2 k j) : EReal) := by
    generalize hx : val_main_v15 (F := Ideal) x0 x1 x2 x3 = y
    pointwise [val_main_v16, hx]
  rw [e]
  simp only [normed_at]
  rfl

/-- The queries split into heads. -/
theorem split_at (t : Fin 16384) (h : Fin 4) (e : Fin 256) : val_main_v17 (F := Ideal) x0 x1 x2 x3 x4 (ix3 t h e) = val_main_v16 (F := Ideal) x0 x1 x2 x3 x4 (ix2 t (col h e)) := by
  rw [val_main_v17_apply]
  refine congrArg _ (funext fun a => Fin.ext ?_)
  match a with
  | ⟨0, _⟩ => show ((t.val * 4 + h.val) * 256 + e.val) / 1024 = t.val; omega
  | ⟨1, _⟩ => show ((t.val * 4 + h.val) * 256 + e.val) % 1024 = 256 * h.val + e.val; omega

/-- A head's queries normalised. -/
theorem head_at (t : Fin 16384) (h : Fin 4) (e : Fin 256) : val_main_v30 (F := Ideal) x0 x1 x2 x3 x4 x5 (ix3 t h e) = headRms (qry x0 x1 x2 x3 x4 t) (fun l => x5 (ix1 l)) h e := by
  have e1 : val_main_v30 (F := Ideal) x0 x1 x2 x3 x4 x5 (ix3 t h e) = rms c256 (fun l => val_main_v17 (F := Ideal) x0 x1 x2 x3 x4 (ix3 t h l)) (fun l => x5 (ix1 l)) e := by
    unfold rms
    generalize hx : val_main_v17 (F := Ideal) x0 x1 x2 x3 x4 = y
    pointwise [val_main_v30, val_main_v29, val_main_v28, val_main_v27, val_main_v26, val_main_v25, val_main_v24, val_main_v23, val_main_v22, val_main_v21, val_main_v20, val_main_v19, val_main_v18, val_main_cst_2, val_main_cst_3, val_main_cst_4, hx]
  rw [e1]
  simp only [split_at, query_at]
  rfl

/-- The memory's keys split into heads. -/
theorem key_at (n : Fin 256) (h : Fin 4) (e : Fin 256) : val_main_v32 (F := Ideal) x6 (ix3 n h e) = x6 (ix2 n (col h e)) := by
  have e0 : val_main_v32 (F := Ideal) x6 (ix3 n h e) = val_main_v31 (F := Ideal) x6 (ix2 n (col h e)) := by
    rw [val_main_v32_apply]
    refine congrArg _ (funext fun a => Fin.ext ?_)
    match a with
    | ⟨0, _⟩ => show ((n.val * 4 + h.val) * 256 + e.val) / 1024 = n.val; omega
    | ⟨1, _⟩ => show ((n.val * 4 + h.val) * 256 + e.val) % 1024 = 256 * h.val + e.val; omega
  rw [e0]
  pointwise [val_main_v31]

/-- The memory's values split into heads. -/
theorem val_at (n : Fin 256) (h : Fin 4) (e : Fin 256) : val_main_v34 (F := Ideal) x7 (ix3 n h e) = x7 (ix2 n (col h e)) := by
  have e0 : val_main_v34 (F := Ideal) x7 (ix3 n h e) = val_main_v33 (F := Ideal) x7 (ix2 n (col h e)) := by
    rw [val_main_v34_apply]
    refine congrArg _ (funext fun a => Fin.ext ?_)
    match a with
    | ⟨0, _⟩ => show ((n.val * 4 + h.val) * 256 + e.val) / 1024 = n.val; omega
    | ⟨1, _⟩ => show ((n.val * 4 + h.val) * 256 + e.val) % 1024 = 256 * h.val + e.val; omega
  rw [e0]
  pointwise [val_main_v33]

/-- The scores of a row's head. -/
abbrev sc (t : Fin 16384) (h : Fin 4) : Fin 256 → EReal := scoreAt (headRms (qry x0 x1 x2 x3 x4 t) (fun l => x5 (ix1 l)) h) fun n e => x6 (ix2 n (col h e))

theorem score_at (h : Fin 4) (t : Fin 16384) (n : Fin 256) : val_main_v37 (F := Ideal) x0 x1 x2 x3 x4 x5 x6 (ix3 h t n) = sc x0 x1 x2 x3 x4 x5 x6 t h n := by
  have e : val_main_v37 (F := Ideal) x0 x1 x2 x3 x4 x5 x6 (ix3 h t n) = ((∑ k, val_main_v30 (F := Ideal) x0 x1 x2 x3 x4 x5 (ix3 t h k) * val_main_v32 (F := Ideal) x6 (ix3 n h k)) * c16 : EReal) := by
    generalize hx : val_main_v30 (F := Ideal) x0 x1 x2 x3 x4 x5 = y
    generalize hz : val_main_v32 (F := Ideal) x6 = z
    pointwise [val_main_v37, val_main_v36, val_main_v35, val_main_cst_5, hx, hz]
  rw [e]
  simp only [head_at, key_at]
  rfl

/-- The maximum of the scores. -/
theorem max_at (h : Fin 4) (t : Fin 16384) : val_main_v38 (F := Ideal) x0 x1 x2 x3 x4 x5 x6 (ix2 h t) = top fun n => val_main_v37 (F := Ideal) x0 x1 x2 x3 x4 x5 x6 (ix3 h t n) := by
  unfold val_main_v38
  generalize val_main_v37 (F := Ideal) x0 x1 x2 x3 x4 x5 x6 = y
  unfold val_main_cst_6
  exact host_max y _ _ h t

/-- Starting a maximum from minus infinity changes nothing. -/
theorem max_start (y : EReal) : FloatOps.maximumf (F := Ideal) (φ := .f32) (FloatOps.ofBits .f32 0xFF800000#32) y = y := by
  show max cninf y = y
  rw [cninf_eq]
  exact max_eq_right bot_le

theorem clip_at (h : Fin 4) (t : Fin 16384) : val_main_v40 (F := Ideal) x0 x1 x2 x3 x4 x5 x6 (ix2 h t) = val_main_v38 (F := Ideal) x0 x1 x2 x3 x4 x5 x6 (ix2 h t) := by
  rw [val_main_v40_apply, val_main_v39_apply, val_main_cst_7_apply]
  exact max_start _

/-- The largest score. -/
theorem top_at (h : Fin 4) (t : Fin 16384) : val_main_v40 (F := Ideal) x0 x1 x2 x3 x4 x5 x6 (ix2 h t) = top (sc x0 x1 x2 x3 x4 x5 x6 t h) := by
  rw [clip_at, max_at]
  exact congrArg top (funext fun n => by rw [score_at])

/-- A weight. -/
theorem weight_at (h : Fin 4) (t : Fin 16384) (n : Fin 256) : val_main_v44 (F := Ideal) x0 x1 x2 x3 x4 x5 x6 (ix3 h t n) = Ideal.exp (sc x0 x1 x2 x3 x4 x5 x6 t h n - top (sc x0 x1 x2 x3 x4 x5 x6 t h)) := by
  have e : val_main_v44 (F := Ideal) x0 x1 x2 x3 x4 x5 x6 (ix3 h t n) = Ideal.exp (val_main_v37 (F := Ideal) x0 x1 x2 x3 x4 x5 x6 (ix3 h t n) - val_main_v40 (F := Ideal) x0 x1 x2 x3 x4 x5 x6 (ix2 h t)) := by
    generalize hx : val_main_v37 (F := Ideal) x0 x1 x2 x3 x4 x5 x6 = y
    generalize hz : val_main_v40 (F := Ideal) x0 x1 x2 x3 x4 x5 x6 = z
    pointwise [val_main_v44, val_main_v43, val_main_v42, val_main_v41, hx, hz]
  rw [e, score_at, top_at]

/-- A weight over the weights' sum. -/
theorem share_at (h : Fin 4) (t : Fin 16384) (n : Fin 256) : val_main_v48 (F := Ideal) x0 x1 x2 x3 x4 x5 x6 (ix3 h t n)
    = Ideal.div (Ideal.exp (sc x0 x1 x2 x3 x4 x5 x6 t h n - top (sc x0 x1 x2 x3 x4 x5 x6 t h))) (∑ l, Ideal.exp (sc x0 x1 x2 x3 x4 x5 x6 t h l - top (sc x0 x1 x2 x3 x4 x5 x6 t h))) := by
  have e : val_main_v48 (F := Ideal) x0 x1 x2 x3 x4 x5 x6 (ix3 h t n) = Ideal.div (val_main_v44 (F := Ideal) x0 x1 x2 x3 x4 x5 x6 (ix3 h t n)) (∑ l, val_main_v44 (F := Ideal) x0 x1 x2 x3 x4 x5 x6 (ix3 h t l)) := by
    generalize hx : val_main_v44 (F := Ideal) x0 x1 x2 x3 x4 x5 x6 = y
    pointwise [val_main_v48, val_main_v47, val_main_v46, val_main_v45, val_main_cst_8, hx]
  rw [e]
  simp only [weight_at]

/-- A head's attention, transposed back. -/
theorem out_at (t : Fin 16384) (h : Fin 4) (e : Fin 256) : val_main_v50 (F := Ideal) x0 x1 x2 x3 x4 x5 x6 x7 (ix3 t h e) = (∑ n, val_main_v34 (F := Ideal) x7 (ix3 n h e) * val_main_v48 (F := Ideal) x0 x1 x2 x3 x4 x5 x6 (ix3 h t n) : EReal) := by
  generalize hx : val_main_v34 (F := Ideal) x7 = y
  generalize hz : val_main_v48 (F := Ideal) x0 x1 x2 x3 x4 x5 x6 = z
  pointwise [val_main_v50, val_main_v49, hx, hz]

/-- The heads side by side again. -/
theorem join_at (t : Fin 16384) (h : Fin 4) (e : Fin 256) : val_main_v51 (F := Ideal) x0 x1 x2 x3 x4 x5 x6 x7 (ix2 t (col h e)) = val_main_v50 (F := Ideal) x0 x1 x2 x3 x4 x5 x6 x7 (ix3 t h e) := by
  rw [val_main_v51_apply]
  refine congrArg _ (funext fun a => Fin.ext ?_)
  match a with
  | ⟨0, _⟩ => show (t.val * 1024 + (256 * h.val + e.val)) / 1024 = t.val; omega
  | ⟨1, _⟩ => show (t.val * 1024 + (256 * h.val + e.val)) / 256 % 4 = h.val; omega
  | ⟨2, _⟩ => show (t.val * 1024 + (256 * h.val + e.val)) % 256 = e.val; omega

/-- With real scores the reference's result is the formula. -/
theorem result_at (hs : ∀ t h n, IsReal (sc x0 x1 x2 x3 x4 x5 x6 t h n)) (t : Fin 16384) (d : Fin 1024) : val_main_v53 (F := Ideal) x0 x1 x2 x3 x4 x5 x6 x7 x8 (ix2 t d) = mixRow x0 x1 x2 x3 x4 x5 x6 x7 x8 t d := by
  have e : val_main_v53 (F := Ideal) x0 x1 x2 x3 x4 x5 x6 x7 x8 (ix2 t d) = (val_main_v2 (F := Ideal) x0 x1 x2 (ix2 t d) + ∑ k, val_main_v51 (F := Ideal) x0 x1 x2 x3 x4 x5 x6 x7 (ix2 t k) * x8 (ix2 k d) : EReal) := by
    generalize hx : val_main_v2 (F := Ideal) x0 x1 x2 = y
    generalize hz : val_main_v51 (F := Ideal) x0 x1 x2 x3 x4 x5 x6 x7 = z
    pointwise [val_main_v53, val_main_v52, hx, hz]
  rw [e, sum_cols]
  simp only [join_at, out_at, resid_at, val_at, share_at]
  unfold mixRow mixAt
  refine congrArg _ (Finset.sum_congr rfl fun h _ => Finset.sum_congr rfl fun l _ => congrArg (· * _) ?_)
  exact soft_div_first (sc x0 x1 x2 x3 x4 x5 x6 t h) (fun n => x7 (ix2 n (col h l))) (hs t h)

/-- The scores of real inputs are real. -/
theorem sc_real (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (t : Fin 16384) (h : Fin 4) (n : Fin 256) : IsReal (sc x0 x1 x2 x3 x4 x5 x6 t h n) := by
  have r : ∀ d, IsReal (h1At x0 x1 x2 t d) := fun d => (h0 _).add (IsReal.sum _ fun k => (h1 _).mul (h2 _))
  have q : ∀ j, IsReal (qry x0 x1 x2 x3 x4 t j) := proj_real (fun k => rms_real c1024_eq (by norm_num) r (fun l => h3 _) k) fun l j => h4 _
  exact score_real (fun e => rms_real c256_eq (by norm_num) (fun l => q _) (fun l => h5 _) e) (fun m e => h6 _) n

end Cert.Reference5Ideal.Hand

end
-- ==== Proof.V5.lean ====
/-
  The mixing call of one input: what its precondition says, the reference's frame, and the kernel and the reference ending with the same result.
-/
module

public import proofs.«01_k».proof.Defs
public import proofs.«01_k».proof.Proof.R5Val
public import proofs.«01_k».proof.Proof.KHost
public import proofs.«01_k».proof.Proof.Gen.Pre_finite_mix
public import proofs.«01_k».proof.Proof.Gen.Reference5Ideal
public import proofs.«01_k».proof.Proof.Gen.Reference5Ideal.Run
public import Idealize.ShloMosaic.Adequacy
public import Idealize.ShloMosaic.Init

@[expose] public section

set_option maxRecDepth 16384

noncomputable section

namespace Cert.Proof

open Idealize.ShloMosaic Idealize.SL.Sem
open Cert.Kernel5Ideal.Hand (X0 X1 X2 X3 X4 X5 X6 X7 X8)

/-- The precondition makes every number that a score is made of real. -/
theorem real5 (hp : Cert.Pre_finite_mix.Facts) (x0 : Cert.Kernel5Ideal.S16384x1024.Idx → EReal) (x1 : Cert.Kernel5Ideal.S16384x1024.Idx → EReal) (x2 : Cert.Kernel5Ideal.S1024x1024.Idx → EReal) (x3 : Cert.Kernel5Ideal.S1024.Idx → EReal) (x4 : Cert.Kernel5Ideal.S1024x1024.Idx → EReal) (x5 : Cert.Kernel5Ideal.S256.Idx → EReal) (x6 : Cert.Kernel5Ideal.S256x1024.Idx → EReal) (x7 : Cert.Kernel5Ideal.S256x1024.Idx → EReal) (x8 : Cert.Kernel5Ideal.S1024x1024.Idx → EReal)
    (h : Cert.Pre_finite_mix.fn (F := Ideal) x0 x1 x2 x3 x4 x5 x6 x7 x8 = (fun _ => 1#1)) :
    (∀ i, Cert.Rows.IsReal (x0 i)) ∧ (∀ i, Cert.Rows.IsReal (x1 i)) ∧ (∀ i, Cert.Rows.IsReal (x2 i)) ∧ (∀ i, Cert.Rows.IsReal (x3 i)) ∧ (∀ i, Cert.Rows.IsReal (x4 i)) ∧ (∀ i, Cert.Rows.IsReal (x5 i)) ∧ (∀ i, Cert.Rows.IsReal (x6 i)) := by
  have h0 := congrFun h (fun a => a.elim0)
  unfold Cert.Pre_finite_mix.fn Cert.Pre_finite_mix.fn_part1 Cert.Pre_finite_mix.fn_part2 at h0
  have hs : Subsingleton Cert.Pre_finite_mix.S_.Idx := ⟨fun a b => funext fun i => i.elim0⟩
  have p6 := (IntOp.andi_eq_one).1 h0
  have p5 := (IntOp.andi_eq_one).1 p6.1
  have p4 := (IntOp.andi_eq_one).1 p5.1
  have p3 := (IntOp.andi_eq_one).1 p4.1
  have p2 := (IntOp.andi_eq_one).1 p3.1
  have p1 := (IntOp.andi_eq_one).1 p2.1
  refine ⟨fun i => Cert.Rows.isReal_of_ne (Cert.KernelIdeal.Hand.finite_of_lt (Host.reduce_andi_all _ _ _ _ _ p1.1 i)), fun i => Cert.Rows.isReal_of_ne (Cert.KernelIdeal.Hand.finite_of_lt (Host.reduce_andi_all _ _ _ _ _ p1.2 i)), fun i => Cert.Rows.isReal_of_ne (Cert.KernelIdeal.Hand.finite_of_lt (Host.reduce_andi_all _ _ _ _ _ p2.2 i)), fun i => Cert.Rows.isReal_of_ne (Cert.KernelIdeal.Hand.finite_of_lt (Host.reduce_andi_all _ _ _ _ _ p3.2 i)), fun i => Cert.Rows.isReal_of_ne (Cert.KernelIdeal.Hand.finite_of_lt (Host.reduce_andi_all _ _ _ _ _ p4.2 i)), fun i => Cert.Rows.isReal_of_ne (Cert.KernelIdeal.Hand.finite_of_lt (Host.reduce_andi_all _ _ _ _ _ p5.2 i)), fun i => Cert.Rows.isReal_of_ne (Cert.KernelIdeal.Hand.finite_of_lt (Host.reduce_andi_all _ _ _ _ _ p6.2 i))⟩

/-- Every run of the reference ends with its arguments unchanged and every semaphore counter at zero. -/
theorem frame_r5 : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run m ρ)

variable (m : (ℓ : Loc Cert.Kernel5Ideal.nD Cert.Kernel5Ideal.τ Cert.Kernel5Ideal.sig) → Buf (Elt Ideal) ℓ) (c : Dev Cert.Kernel5Ideal.nD)

/-- Under the precondition the reference's result is the kernel's. -/
theorem reference_value5 (hp : Cert.Pre_finite_mix.fn (F := Ideal) (X0 m c) (X1 m c) (X2 m c) (X3 m c) (X4 m c) (X5 m c) (X6 m c) (X7 m c) (X8 m c) = (fun _ => 1#1)) :
    Cert.Reference5Ideal.Read.val_main_v53 (F := Ideal) (X0 m c) (X1 m c) (X2 m c) (X3 m c) (X4 m c) (X5 m c) (X6 m c) (X7 m c) (X8 m c) = Cert.Kernel5Ideal.Hand.G m c := by
  funext j
  obtain ⟨t, d, rfl⟩ : ∃ (t : Fin 16384) (d : Fin 1024), j = ix2 t d := ⟨j 0, j 1, by funext a; fin_cases a <;> rfl⟩
  obtain ⟨h0, h1, h2, h3, h4, h5, h6⟩ := real5 Cert.Pre_finite_mix.Gen.facts _ _ _ _ _ _ _ _ _ hp
  exact Cert.Reference5Ideal.Hand.result_at _ _ _ _ _ _ _ _ _ (fun t h l => Cert.Reference5Ideal.Hand.sc_real _ _ _ _ _ _ _ h0 h1 h2 h3 h4 h5 h6 t h l) t d

/-- With real numbers for floats and finite numbers wherever a score comes from, the kernel and the reference end with the same result and leave their arguments as they were. -/
theorem value5 : Cert.algebraic_Kernel5Ideal_Reference5Ideal_pre_finite_mix := by
  intro m g m' g' hp ha
  refine ⟨fun c => Cert.Kernel5Ideal.Hand.G m c, Cert.Kernel5Ideal.Hand.value_k m g, ?_⟩
  refine (θ_run Cert.Reference5Ideal.defs _ _).mono (fun r h c => ⟨?_, (h c).2⟩) (Cert.Reference5Ideal.Value.run m' g')
  obtain ⟨a0, a1, a2, a3, a4, a5, a6, a7, a8⟩ := ha c
  refine (h c).1.trans ?_
  rw [Cert.Reference5Ideal.Read.val_main_v53_eq, a0, a1, a2, a3, a4, a5, a6, a7, a8]
  exact reference_value5 m c (hp c)

end Cert.Proof

end
-- ==== Proof.F6Pay.lean ====
/-
  The gated unit's call over the prompt's rows: what its body computes at a place of a block of 1024 rows.
-/
module

public import proofs.«01_k».proof.Proof.Rows
public import proofs.«01_k».proof.Proof.Gen.Kernel6Ideal.Frame
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic Idealize.SL.Sem
open Cert.Rows

/-! ## The formulas -/

/-- The number on the cube in the smooth gate's argument. -/
abbrev ccube : EReal := Ideal.ofBits .f32 0x3D372713#32
/-- The number on the whole of the smooth gate's argument. -/
abbrev cslope : EReal := Ideal.ofBits .f32 0x3F4C422A#32
/-- One half. -/
abbrev chalf : EReal := Ideal.ofBits .f32 0x3F000000#32

/-- The smooth gate (the Gaussian error unit in its tanh form). -/
def gelu (z : EReal) : EReal := z * (chalf * (1 + Ideal.tanh (cslope * (z + ccube * (z * (z * z))))))

/-- The mean of a row. -/
def mean (v : Fin 1024 → EReal) : EReal := Ideal.div (∑ l, v l) c1024

/-- A row with its mean taken away, over the root of its variance, times a gain, plus a shift. -/
def layerNorm (v g b : Fin 1024 → EReal) (k : Fin 1024) : EReal :=
  (v k - mean v) * Ideal.rsqrt (Ideal.div (∑ l, (v l - mean v) * (v l - mean v)) c1024 + ceps) * g k + b k

/-- Row `r` of chunk `ch` of a block. -/
abbrev rowc (ch : Fin 8) (r : Fin 128) : Fin 1024 := ⟨128 * ch.val + r.val, by omega⟩

/-- A weight of a group where the second place is not after the first, and zero elsewhere. -/
def masked (w : Fin 128 → Fin 128 → EReal) (i j : Fin 128) : EReal := if j.val ≤ i.val then w i j else 0

/-- A gate times its group's mix of a chunk's rows, with the bias. -/
def tile (U V : Fin 1024 → Fin 1024 → EReal) (w : Fin 128 → Fin 128 → EReal) (b : Fin 128 → Fin 256 → EReal) (ch : Fin 8) (g : Fin 4) (r : Fin 128) (e : Fin 256) : EReal :=
  U (rowc ch r) (col g e) * ((∑ j, w r j * V (rowc ch j) (col g e)) + b r e)

/-! ## What the body computes, at a place -/

theorem pay3_at (x : FVec Ideal S1024x1024 .f32) (g : FVec Ideal S1x1024 .f32) (r k : Fin 1024) :
    k0_pay3 (F := Ideal) x g (ix2 r k) = rms c1024 (fun d => x (ix2 r d)) (fun d => g (ix2 0 d)) k := by
  unfold rms
  pointwise [k0_pay3]

/-- The gate's half of the hidden row. -/
theorem pay4_at (x : FVec Ideal S1024x1024 .f32) (g : FVec Ideal S1x1024 .f32) (w : FVec Ideal S1024x1024 .bf16) (r k : Fin 1024) :
    k0_pay4 (F := Ideal) x g w (ix2 r k) = gelu (proj (fun d => k0_pay3 (F := Ideal) x g (ix2 r d)) (fun l j => w (ix2 l j)) k) := by
  unfold gelu proj k0_pay4
  generalize k0_pay3 (F := Ideal) x g = y
  pointwise

theorem pay5_at (x : FVec Ideal S1024x1024 .f32) (g : FVec Ideal S1x1024 .f32) (w : FVec Ideal S1024x1024 .bf16) (r k : Fin 1024) :
    k0_pay5 (F := Ideal) x g w (ix2 r k) = proj (fun d => k0_pay3 (F := Ideal) x g (ix2 r d)) (fun l j => w (ix2 l j)) k := by
  unfold proj k0_pay5
  generalize k0_pay3 (F := Ideal) x g = y
  pointwise

theorem pay6_at (x : FVec Ideal S1024x1024 .f32) (g : FVec Ideal S1x1024 .f32) (w : FVec Ideal S1024x1024 .bf16) (r k : Fin 1024) :
    k0_pay6 (F := Ideal) x g w (ix2 r k) = k0_pay5 (F := Ideal) x g w (ix2 r k)
      + ccube * (k0_pay5 (F := Ideal) x g w (ix2 r k) * (k0_pay5 (F := Ideal) x g w (ix2 r k) * k0_pay5 (F := Ideal) x g w (ix2 r k))) := by
  unfold k0_pay6
  generalize k0_pay5 (F := Ideal) x g w = y
  pointwise

/-- The mixed half of the hidden row, normalised. -/
theorem pay7_at (z y : FVec Ideal S1024x1024 .f32) (g b : FVec Ideal S1x1024 .f32) (r k : Fin 1024) :
    k0_pay7 (F := Ideal) z y (Scalar.ofBits .f32 0x3F4C422A#32) g b (ix2 r k)
      = layerNorm (fun l => z (ix2 r l) * (chalf * (1 + Ideal.tanh (cslope * y (ix2 r l))))) (fun d => g (ix2 0 d)) (fun d => b (ix2 0 d)) k := by
  unfold layerNorm mean
  pointwise [k0_pay7]

/-- The order of two places of a chunk, as words. -/
theorem word_le (i j : Fin 128) : IntOp.cmpi .sle (BitVec.ofNat 32 j.val) (BitVec.ofNat 32 i.val) = BitVec.ofBool (decide (j.val ≤ i.val)) :=
  WordCmp.cmpi_sle_ofNat (by have := j.isLt; omega) (by have := i.isLt; omega)

theorem keep_eq {α : Type} (p : Prop) [Decidable p] (a b : α) : (if BitVec.ofBool (decide p) = 1#1 then a else b) = if p then a else b := by
  by_cases h : p
  · rw [if_pos h, decide_eq_true h]; rfl
  · rw [if_neg h, decide_eq_false h]; rfl

theorem pay8_at (w : FVec Ideal S1x128x128 .f32) (i j : Fin 128) : k0_pay8 (F := Ideal) w (ix2 i j) = masked (fun i j => w (ix3 0 i j)) i j := by
  unfold masked
  refine Eq.trans ?_ (keep_eq _ _ _)
  rw [← word_le]
  pointwise [k0_pay8]
  rfl

theorem slice_at {α : Type} (v : S1024x1024.Idx → α) (ch : Fin 8) (g : Fin 4) (hs : S1024x1024.Slices ![128 * ch.val, 256 * g.val] S128x256) (r : Fin 128) (e : Fin 256) :
    extractStridedSlice S128x256 ![128 * ch.val, 256 * g.val] v hs (ix2 r e) = v (ix2 (rowc ch r) (col g e)) :=
  congrArg v (funext fun a => Fin.ext (by match a with | ⟨0, _⟩ => rfl | ⟨1, _⟩ => rfl))

theorem pay20_at (w : FVec Ideal S1x128x128 .f32) (i j : Fin 128) :
    k0_pay20 (F := Ideal) (k0_pay19 (iota .tc S128x128 32 [0] iota_S128x128_d0_w32) (iota .tc S128x128 32 [1] iota_S128x128_d1_w32)) w (ix2 i j) = masked (fun i j => w (ix3 0 i j)) i j := by
  unfold masked
  refine Eq.trans ?_ (keep_eq _ _ _)
  rw [← word_le]
  pointwise [k0_pay20, k0_pay19]
  rfl

theorem pay33_at (w : FVec Ideal S1x128x128 .f32) (i j : Fin 128) :
    k0_pay33 (F := Ideal) (iota .tc S128x128 32 [0] iota_S128x128_d0_w32) (iota .tc S128x128 32 [1] iota_S128x128_d1_w32) w (ix2 i j) = masked (fun i j => w (ix3 0 i j)) i j := by
  unfold masked
  refine Eq.trans ?_ (keep_eq _ _ _)
  rw [← word_le]
  pointwise [k0_pay33]
  rfl

theorem pay42_at (w : FVec Ideal S1x128x128 .f32) (i j : Fin 128) :
    k0_pay42 (F := Ideal) (iota .tc S128x128 32 [0] iota_S128x128_d0_w32) (iota .tc S128x128 32 [1] iota_S128x128_d1_w32) w (ix2 i j) = masked (fun i j => w (ix3 0 i j)) i j := by
  unfold masked
  refine Eq.trans ?_ (keep_eq _ _ _)
  rw [← word_le]
  pointwise [k0_pay42]
  rfl

/-- What every store keeps: a gate's tile times the mix of its group's tile, with the bias. -/
theorem tile_at (U : FVec Ideal S1024x1024 .f32) (V : FVec Ideal S1024x1024 .bf16) (W : FVec Ideal S128x128 .bf16) (B : FVec Ideal S128x256 .f32) (ch : Fin 8) (g : Fin 4)
    (hs : S1024x1024.Slices ![128 * ch.val, 256 * g.val] S128x256) (r : Fin 128) (e : Fin 256) :
    truncf (F := Ideal) .bf16 (mulf (extractStridedSlice S128x256 ![128 * ch.val, 256 * g.val] U hs)
      (addf (matmul dot_S128x128_S128x256_S128x256_1_0_0_1_n_n none W (extractStridedSlice S128x256 ![128 * ch.val, 256 * g.val] V hs) (constant S128x256 .f32 0x00000000#32))
        (shapeCast S128x256 B shapeCasts_S128x256_S128x256))) bitsLt_bf16_f32 (ix2 r e)
      = tile (fun R C => U (ix2 R C)) (fun R C => V (ix2 R C)) (fun i j => W (ix2 i j)) (fun i e => B (ix2 i e)) ch g r e := by
  unfold tile
  simp only [← slice_at _ ch g hs]
  generalize extractStridedSlice S128x256 ![128 * ch.val, 256 * g.val] U hs = u
  generalize extractStridedSlice S128x256 ![128 * ch.val, 256 * g.val] V hs = v
  pointwise

end Cert.Kernel6Ideal.Hand

end
-- ==== Proof.F6Blk.lean ====
/-
  The gated unit's call over the prompt's rows, block by block: the result array has at a row the formula's value.
-/
module

public import proofs.«01_k».proof.Proof.F6Pay

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic Idealize.SL.Sem
open Cert.Rows

/-! ## A block from the windows' blocks -/

section Block

variable (x0 : Vec Ideal S1024x1024 .f32) (x1 : Vec Ideal S1x1024 .f32) (x2 : Vec Ideal S1024x2048 .bf16) (x3 x4 : Vec Ideal S1x1024 .f32) (x5 : Vec Ideal S4x128x128 .f32)
  (x6 : Vec Ideal S128x1024 .f32)

/-- A group's weights, masked. -/
def wts (g : Fin 4) : Fin 128 → Fin 128 → EReal := masked fun i j => x5 (ix3 g i j)

/-- A group's columns of the bias. -/
def bias (g : Fin 4) (i : Fin 128) (e : Fin 256) : EReal := x6 (ix2 i (col g e))

theorem ldw0_at (i j : Fin 128) : View.ld x5 r0_4 (ix3 0 i j) = x5 (ix3 0 i j) := by
  refine (View.ld_apply _ _ _).trans (congrArg x5 (funext fun a => Fin.ext ?_))
  match a with
  | ⟨0, _⟩ => rfl
  | ⟨1, _⟩ => show 0 + 1 * i.val = i.val; omega
  | ⟨2, _⟩ => show 0 + 1 * j.val = j.val; omega
theorem ldb0_at (i : Fin 128) (e : Fin 256) : View.ld x6 r0_5 (ix2 i e) = bias x6 0 i e := by
  refine (View.ld_apply _ _ _).trans (congrArg x6 (funext fun a => Fin.ext ?_))
  match a with
  | ⟨0, _⟩ => show 0 + 1 * i.val = i.val; omega
  | ⟨1, _⟩ => show 0 + 1 * e.val = 256 * 0 + e.val; omega
theorem wts0_at (i j : Fin 128) : k0_pay57 (F := Ideal) x0 x1 x2 x3 x4 x5 x6 (ix2 i j) = wts x5 0 i j :=
  (pay8_at (View.ld x5 r0_4) i j).trans (congrArg (fun w => masked w i j) (funext fun i => funext fun j => ldw0_at x5 i j))

theorem ldw1_at (i j : Fin 128) : View.ld x5 r0_14 (ix3 0 i j) = x5 (ix3 1 i j) := by
  refine (View.ld_apply _ _ _).trans (congrArg x5 (funext fun a => Fin.ext ?_))
  match a with
  | ⟨0, _⟩ => rfl
  | ⟨1, _⟩ => show 0 + 1 * i.val = i.val; omega
  | ⟨2, _⟩ => show 0 + 1 * j.val = j.val; omega
theorem ldb1_at (i : Fin 128) (e : Fin 256) : View.ld x6 r0_15 (ix2 i e) = bias x6 1 i e := by
  refine (View.ld_apply _ _ _).trans (congrArg x6 (funext fun a => Fin.ext ?_))
  match a with
  | ⟨0, _⟩ => show 0 + 1 * i.val = i.val; omega
  | ⟨1, _⟩ => show 256 + 1 * e.val = 256 * 1 + e.val; omega
theorem wts1_at (i j : Fin 128) : k0_pay59 (F := Ideal) x0 x1 x2 x3 x4 x5 x6 (ix2 i j) = wts x5 1 i j :=
  (pay20_at (View.ld x5 r0_14) i j).trans (congrArg (fun w => masked w i j) (funext fun i => funext fun j => ldw1_at x5 i j))

theorem ldw2_at (i j : Fin 128) : View.ld x5 r0_24 (ix3 0 i j) = x5 (ix3 2 i j) := by
  refine (View.ld_apply _ _ _).trans (congrArg x5 (funext fun a => Fin.ext ?_))
  match a with
  | ⟨0, _⟩ => rfl
  | ⟨1, _⟩ => show 0 + 1 * i.val = i.val; omega
  | ⟨2, _⟩ => show 0 + 1 * j.val = j.val; omega
theorem ldb2_at (i : Fin 128) (e : Fin 256) : View.ld x6 r0_25 (ix2 i e) = bias x6 2 i e := by
  refine (View.ld_apply _ _ _).trans (congrArg x6 (funext fun a => Fin.ext ?_))
  match a with
  | ⟨0, _⟩ => show 0 + 1 * i.val = i.val; omega
  | ⟨1, _⟩ => show 512 + 1 * e.val = 256 * 2 + e.val; omega
theorem wts2_at (i j : Fin 128) : k0_pay60 (F := Ideal) x0 x1 x2 x3 x4 x5 x6 (ix2 i j) = wts x5 2 i j :=
  (pay33_at (View.ld x5 r0_24) i j).trans (congrArg (fun w => masked w i j) (funext fun i => funext fun j => ldw2_at x5 i j))

theorem ldw3_at (i j : Fin 128) : View.ld x5 r0_34 (ix3 0 i j) = x5 (ix3 3 i j) := by
  refine (View.ld_apply _ _ _).trans (congrArg x5 (funext fun a => Fin.ext ?_))
  match a with
  | ⟨0, _⟩ => rfl
  | ⟨1, _⟩ => show 0 + 1 * i.val = i.val; omega
  | ⟨2, _⟩ => show 0 + 1 * j.val = j.val; omega
theorem ldb3_at (i : Fin 128) (e : Fin 256) : View.ld x6 r0_35 (ix2 i e) = bias x6 3 i e := by
  refine (View.ld_apply _ _ _).trans (congrArg x6 (funext fun a => Fin.ext ?_))
  match a with
  | ⟨0, _⟩ => show 0 + 1 * i.val = i.val; omega
  | ⟨1, _⟩ => show 768 + 1 * e.val = 256 * 3 + e.val; omega
theorem wts3_at (i j : Fin 128) : k0_pay61 (F := Ideal) x0 x1 x2 x3 x4 x5 x6 (ix2 i j) = wts x5 3 i j :=
  (pay42_at (View.ld x5 r0_34) i j).trans (congrArg (fun w => masked w i j) (funext fun i => funext fun j => ldw3_at x5 i j))

/-- What a block's store keeps at a place of its tile. -/
def part (ch : Fin 8) (g : Fin 4) (r : Fin 128) (e : Fin 256) : EReal :=
  tile (fun R C => k0_pay51 (F := Ideal) x0 x1 x2 x3 x4 x5 x6 (ix2 R C)) (fun R C => k0_pay56 (F := Ideal) x0 x1 x2 x3 x4 x5 x6 (ix2 R C)) (wts x5 g) (bias x6 g) ch g r e

/-- A block at a place. -/
def blk (y : S1024x1024.Idx) : EReal :=
  part x0 x1 x2 x3 x4 x5 x6 ⟨(y 0).val / 128, by have h : (y 0).val < 1024 := (y 0).isLt; omega⟩ ⟨(y 1).val / 256, by have h : (y 1).val < 1024 := (y 1).isLt; omega⟩
    ⟨(y 0).val % 128, Nat.mod_lt _ (by decide)⟩ ⟨(y 1).val % 256, Nat.mod_lt _ (by decide)⟩

theorem blk_at (ch : Fin 8) (g : Fin 4) (r : Fin 128) (e : Fin 256) (y : S1024x1024.Idx) (h0 : (y 0).val = 128 * ch.val + r.val) (h1 : (y 1).val = 256 * g.val + e.val) :
    blk x0 x1 x2 x3 x4 x5 x6 y = part x0 x1 x2 x3 x4 x5 x6 ch g r e := by
  unfold blk
  congr 1 <;> exact Fin.ext (by simp only [h0, h1]; omega)

theorem store0_0 (r : Fin 128) (e : Fin 256) : k0_pay10 (F := Ideal) (k0_pay51 x0 x1 x2 x3 x4 x5 x6) (k0_pay9 (k0_pay52 x0 x1 x2 x3 x4 x5 x6) (k0_pay53 x0 x1 x2 x3 x4 x5 x6) (Scalar.ofBits .f32 0x3F4C422A#32) (View.ld x3 r0_1) (View.ld x4 r0_1) (View.ld x5 r0_4)) (View.ld x6 r0_5) (ix2 r e) = part x0 x1 x2 x3 x4 x5 x6 0 0 r e :=
  (tile_at (k0_pay51 (F := Ideal) x0 x1 x2 x3 x4 x5 x6) (k0_pay56 (F := Ideal) x0 x1 x2 x3 x4 x5 x6) (k0_pay57 (F := Ideal) x0 x1 x2 x3 x4 x5 x6) (View.ld x6 r0_5) 0 0 slices_S1024x1024_o0_0_S128x256 r e).trans
    (congrArg₂ (fun w b => tile _ _ w b 0 0 r e) (funext fun i => funext fun j => wts0_at x0 x1 x2 x3 x4 x5 x6 i j) (funext fun i => funext fun e => ldb0_at x6 i e))

theorem store0_1 (r : Fin 128) (e : Fin 256) : k0_pay11 (F := Ideal) (k0_pay51 x0 x1 x2 x3 x4 x5 x6) (k0_pay56 x0 x1 x2 x3 x4 x5 x6) (k0_pay57 x0 x1 x2 x3 x4 x5 x6) (View.ld x6 r0_5) (ix2 r e) = part x0 x1 x2 x3 x4 x5 x6 1 0 r e :=
  (tile_at (k0_pay51 (F := Ideal) x0 x1 x2 x3 x4 x5 x6) (k0_pay56 (F := Ideal) x0 x1 x2 x3 x4 x5 x6) (k0_pay57 (F := Ideal) x0 x1 x2 x3 x4 x5 x6) (View.ld x6 r0_5) 1 0 slices_S1024x1024_o128_0_S128x256 r e).trans
    (congrArg₂ (fun w b => tile _ _ w b 1 0 r e) (funext fun i => funext fun j => wts0_at x0 x1 x2 x3 x4 x5 x6 i j) (funext fun i => funext fun e => ldb0_at x6 i e))

theorem store0_2 (r : Fin 128) (e : Fin 256) : k0_pay12 (F := Ideal) (k0_pay51 x0 x1 x2 x3 x4 x5 x6) (k0_pay56 x0 x1 x2 x3 x4 x5 x6) (k0_pay57 x0 x1 x2 x3 x4 x5 x6) (View.ld x6 r0_5) (ix2 r e) = part x0 x1 x2 x3 x4 x5 x6 2 0 r e :=
  (tile_at (k0_pay51 (F := Ideal) x0 x1 x2 x3 x4 x5 x6) (k0_pay56 (F := Ideal) x0 x1 x2 x3 x4 x5 x6) (k0_pay57 (F := Ideal) x0 x1 x2 x3 x4 x5 x6) (View.ld x6 r0_5) 2 0 slices_S1024x1024_o256_0_S128x256 r e).trans
    (congrArg₂ (fun w b => tile _ _ w b 2 0 r e) (funext fun i => funext fun j => wts0_at x0 x1 x2 x3 x4 x5 x6 i j) (funext fun i => funext fun e => ldb0_at x6 i e))

theorem store0_3 (r : Fin 128) (e : Fin 256) : k0_pay13 (F := Ideal) (k0_pay51 x0 x1 x2 x3 x4 x5 x6) (k0_pay56 x0 x1 x2 x3 x4 x5 x6) (k0_pay57 x0 x1 x2 x3 x4 x5 x6) (View.ld x6 r0_5) (ix2 r e) = part x0 x1 x2 x3 x4 x5 x6 3 0 r e :=
  (tile_at (k0_pay51 (F := Ideal) x0 x1 x2 x3 x4 x5 x6) (k0_pay56 (F := Ideal) x0 x1 x2 x3 x4 x5 x6) (k0_pay57 (F := Ideal) x0 x1 x2 x3 x4 x5 x6) (View.ld x6 r0_5) 3 0 slices_S1024x1024_o384_0_S128x256 r e).trans
    (congrArg₂ (fun w b => tile _ _ w b 3 0 r e) (funext fun i => funext fun j => wts0_at x0 x1 x2 x3 x4 x5 x6 i j) (funext fun i => funext fun e => ldb0_at x6 i e))

theorem store0_4 (r : Fin 128) (e : Fin 256) : k0_pay15 (F := Ideal) (k0_pay51 x0 x1 x2 x3 x4 x5 x6) (k0_pay14 (k0_pay56 x0 x1 x2 x3 x4 x5 x6) (k0_pay57 x0 x1 x2 x3 x4 x5 x6)) (View.ld x6 r0_5) (ix2 r e) = part x0 x1 x2 x3 x4 x5 x6 4 0 r e :=
  (tile_at (k0_pay51 (F := Ideal) x0 x1 x2 x3 x4 x5 x6) (k0_pay56 (F := Ideal) x0 x1 x2 x3 x4 x5 x6) (k0_pay57 (F := Ideal) x0 x1 x2 x3 x4 x5 x6) (View.ld x6 r0_5) 4 0 slices_S1024x1024_o512_0_S128x256 r e).trans
    (congrArg₂ (fun w b => tile _ _ w b 4 0 r e) (funext fun i => funext fun j => wts0_at x0 x1 x2 x3 x4 x5 x6 i j) (funext fun i => funext fun e => ldb0_at x6 i e))

theorem store0_5 (r : Fin 128) (e : Fin 256) : k0_pay16 (F := Ideal) (k0_pay51 x0 x1 x2 x3 x4 x5 x6) (k0_pay56 x0 x1 x2 x3 x4 x5 x6) (k0_pay57 x0 x1 x2 x3 x4 x5 x6) (View.ld x6 r0_5) (ix2 r e) = part x0 x1 x2 x3 x4 x5 x6 5 0 r e :=
  (tile_at (k0_pay51 (F := Ideal) x0 x1 x2 x3 x4 x5 x6) (k0_pay56 (F := Ideal) x0 x1 x2 x3 x4 x5 x6) (k0_pay57 (F := Ideal) x0 x1 x2 x3 x4 x5 x6) (View.ld x6 r0_5) 5 0 slices_S1024x1024_o640_0_S128x256 r e).trans
    (congrArg₂ (fun w b => tile _ _ w b 5 0 r e) (funext fun i => funext fun j => wts0_at x0 x1 x2 x3 x4 x5 x6 i j) (funext fun i => funext fun e => ldb0_at x6 i e))

theorem store0_6 (r : Fin 128) (e : Fin 256) : k0_pay17 (F := Ideal) (k0_pay51 x0 x1 x2 x3 x4 x5 x6) (k0_pay56 x0 x1 x2 x3 x4 x5 x6) (k0_pay57 x0 x1 x2 x3 x4 x5 x6) (View.ld x6 r0_5) (ix2 r e) = part x0 x1 x2 x3 x4 x5 x6 6 0 r e :=
  (tile_at (k0_pay51 (F := Ideal) x0 x1 x2 x3 x4 x5 x6) (k0_pay56 (F := Ideal) x0 x1 x2 x3 x4 x5 x6) (k0_pay57 (F := Ideal) x0 x1 x2 x3 x4 x5 x6) (View.ld x6 r0_5) 6 0 slices_S1024x1024_o768_0_S128x256 r e).trans
    (congrArg₂ (fun w b => tile _ _ w b 6 0 r e) (funext fun i => funext fun j => wts0_at x0 x1 x2 x3 x4 x5 x6 i j) (funext fun i => funext fun e => ldb0_at x6 i e))

theorem store0_7 (r : Fin 128) (e : Fin 256) : k0_pay18 (F := Ideal) (k0_pay51 x0 x1 x2 x3 x4 x5 x6) (k0_pay56 x0 x1 x2 x3 x4 x5 x6) (k0_pay57 x0 x1 x2 x3 x4 x5 x6) (View.ld x6 r0_5) (ix2 r e) = part x0 x1 x2 x3 x4 x5 x6 7 0 r e :=
  (tile_at (k0_pay51 (F := Ideal) x0 x1 x2 x3 x4 x5 x6) (k0_pay56 (F := Ideal) x0 x1 x2 x3 x4 x5 x6) (k0_pay57 (F := Ideal) x0 x1 x2 x3 x4 x5 x6) (View.ld x6 r0_5) 7 0 slices_S1024x1024_o896_0_S128x256 r e).trans
    (congrArg₂ (fun w b => tile _ _ w b 7 0 r e) (funext fun i => funext fun j => wts0_at x0 x1 x2 x3 x4 x5 x6 i j) (funext fun i => funext fun e => ldb0_at x6 i e))

theorem store1_0 (r : Fin 128) (e : Fin 256) : k0_pay21 (F := Ideal) (k0_pay51 x0 x1 x2 x3 x4 x5 x6) (k0_pay56 x0 x1 x2 x3 x4 x5 x6) (k0_pay58 x0 x1 x2 x3 x4 x5 x6) (View.ld x5 r0_14) (View.ld x6 r0_15) (ix2 r e) = part x0 x1 x2 x3 x4 x5 x6 0 1 r e :=
  (tile_at (k0_pay51 (F := Ideal) x0 x1 x2 x3 x4 x5 x6) (k0_pay56 (F := Ideal) x0 x1 x2 x3 x4 x5 x6) (k0_pay59 (F := Ideal) x0 x1 x2 x3 x4 x5 x6) (View.ld x6 r0_15) 0 1 slices_S1024x1024_o0_256_S128x256 r e).trans
    (congrArg₂ (fun w b => tile _ _ w b 0 1 r e) (funext fun i => funext fun j => wts1_at x0 x1 x2 x3 x4 x5 x6 i j) (funext fun i => funext fun e => ldb1_at x6 i e))

theorem store1_1 (r : Fin 128) (e : Fin 256) : k0_pay22 (F := Ideal) (k0_pay51 x0 x1 x2 x3 x4 x5 x6) (k0_pay56 x0 x1 x2 x3 x4 x5 x6) (k0_pay58 x0 x1 x2 x3 x4 x5 x6) (View.ld x5 r0_14) (View.ld x6 r0_15) (ix2 r e) = part x0 x1 x2 x3 x4 x5 x6 1 1 r e :=
  (tile_at (k0_pay51 (F := Ideal) x0 x1 x2 x3 x4 x5 x6) (k0_pay56 (F := Ideal) x0 x1 x2 x3 x4 x5 x6) (k0_pay59 (F := Ideal) x0 x1 x2 x3 x4 x5 x6) (View.ld x6 r0_15) 1 1 slices_S1024x1024_o128_256_S128x256 r e).trans
    (congrArg₂ (fun w b => tile _ _ w b 1 1 r e) (funext fun i => funext fun j => wts1_at x0 x1 x2 x3 x4 x5 x6 i j) (funext fun i => funext fun e => ldb1_at x6 i e))

theorem store1_2 (r : Fin 128) (e : Fin 256) : k0_pay23 (F := Ideal) (k0_pay51 x0 x1 x2 x3 x4 x5 x6) (k0_pay56 x0 x1 x2 x3 x4 x5 x6) (k0_pay58 x0 x1 x2 x3 x4 x5 x6) (View.ld x5 r0_14) (View.ld x6 r0_15) (ix2 r e) = part x0 x1 x2 x3 x4 x5 x6 2 1 r e :=
  (tile_at (k0_pay51 (F := Ideal) x0 x1 x2 x3 x4 x5 x6) (k0_pay56 (F := Ideal) x0 x1 x2 x3 x4 x5 x6) (k0_pay59 (F := Ideal) x0 x1 x2 x3 x4 x5 x6) (View.ld x6 r0_15) 2 1 slices_S1024x1024_o256_256_S128x256 r e).trans
    (congrArg₂ (fun w b => tile _ _ w b 2 1 r e) (funext fun i => funext fun j => wts1_at x0 x1 x2 x3 x4 x5 x6 i j) (funext fun i => funext fun e => ldb1_at x6 i e))

theorem store1_3 (r : Fin 128) (e : Fin 256) : k0_pay26 (F := Ideal) (k0_pay24 (k0_pay56 x0 x1 x2 x3 x4 x5 x6) (k0_pay58 x0 x1 x2 x3 x4 x5 x6) (View.ld x5 r0_14) (View.ld x6 r0_15)) (k0_pay25 (k0_pay51 x0 x1 x2 x3 x4 x5 x6)) (ix2 r e) = part x0 x1 x2 x3 x4 x5 x6 3 1 r e :=
  (tile_at (k0_pay51 (F := Ideal) x0 x1 x2 x3 x4 x5 x6) (k0_pay56 (F := Ideal) x0 x1 x2 x3 x4 x5 x6) (k0_pay59 (F := Ideal) x0 x1 x2 x3 x4 x5 x6) (View.ld x6 r0_15) 3 1 slices_S1024x1024_o384_256_S128x256 r e).trans
    (congrArg₂ (fun w b => tile _ _ w b 3 1 r e) (funext fun i => funext fun j => wts1_at x0 x1 x2 x3 x4 x5 x6 i j) (funext fun i => funext fun e => ldb1_at x6 i e))

theorem store1_4 (r : Fin 128) (e : Fin 256) : k0_pay27 (F := Ideal) (k0_pay51 x0 x1 x2 x3 x4 x5 x6) (k0_pay56 x0 x1 x2 x3 x4 x5 x6) (k0_pay59 x0 x1 x2 x3 x4 x5 x6) (View.ld x6 r0_15) (ix2 r e) = part x0 x1 x2 x3 x4 x5 x6 4 1 r e :=
  (tile_at (k0_pay51 (F := Ideal) x0 x1 x2 x3 x4 x5 x6) (k0_pay56 (F := Ideal) x0 x1 x2 x3 x4 x5 x6) (k0_pay59 (F := Ideal) x0 x1 x2 x3 x4 x5 x6) (View.ld x6 r0_15) 4 1 slices_S1024x1024_o512_256_S128x256 r e).trans
    (congrArg₂ (fun w b => tile _ _ w b 4 1 r e) (funext fun i => funext fun j => wts1_at x0 x1 x2 x3 x4 x5 x6 i j) (funext fun i => funext fun e => ldb1_at x6 i e))

theorem store1_5 (r : Fin 128) (e : Fin 256) : k0_pay28 (F := Ideal) (k0_pay51 x0 x1 x2 x3 x4 x5 x6) (k0_pay56 x0 x1 x2 x3 x4 x5 x6) (k0_pay59 x0 x1 x2 x3 x4 x5 x6) (View.ld x6 r0_15) (ix2 r e) = part x0 x1 x2 x3 x4 x5 x6 5 1 r e :=
  (tile_at (k0_pay51 (F := Ideal) x0 x1 x2 x3 x4 x5 x6) (k0_pay56 (F := Ideal) x0 x1 x2 x3 x4 x5 x6) (k0_pay59 (F := Ideal) x0 x1 x2 x3 x4 x5 x6) (View.ld x6 r0_15) 5 1 slices_S1024x1024_o640_256_S128x256 r e).trans
    (congrArg₂ (fun w b => tile _ _ w b 5 1 r e) (funext fun i => funext fun j => wts1_at x0 x1 x2 x3 x4 x5 x6 i j) (funext fun i => funext fun e => ldb1_at x6 i e))

theorem store1_6 (r : Fin 128) (e : Fin 256) : k0_pay29 (F := Ideal) (k0_pay51 x0 x1 x2 x3 x4 x5 x6) (k0_pay56 x0 x1 x2 x3 x4 x5 x6) (k0_pay59 x0 x1 x2 x3 x4 x5 x6) (View.ld x6 r0_15) (ix2 r e) = part x0 x1 x2 x3 x4 x5 x6 6 1 r e :=
  (tile_at (k0_pay51 (F := Ideal) x0 x1 x2 x3 x4 x5 x6) (k0_pay56 (F := Ideal) x0 x1 x2 x3 x4 x5 x6) (k0_pay59 (F := Ideal) x0 x1 x2 x3 x4 x5 x6) (View.ld x6 r0_15) 6 1 slices_S1024x1024_o768_256_S128x256 r e).trans
    (congrArg₂ (fun w b => tile _ _ w b 6 1 r e) (funext fun i => funext fun j => wts1_at x0 x1 x2 x3 x4 x5 x6 i j) (funext fun i => funext fun e => ldb1_at x6 i e))

theorem store1_7 (r : Fin 128) (e : Fin 256) : k0_pay32 (F := Ideal) (k0_pay30 (k0_pay56 x0 x1 x2 x3 x4 x5 x6) (k0_pay59 x0 x1 x2 x3 x4 x5 x6) (View.ld x6 r0_15)) (k0_pay31 (k0_pay51 x0 x1 x2 x3 x4 x5 x6)) (ix2 r e) = part x0 x1 x2 x3 x4 x5 x6 7 1 r e :=
  (tile_at (k0_pay51 (F := Ideal) x0 x1 x2 x3 x4 x5 x6) (k0_pay56 (F := Ideal) x0 x1 x2 x3 x4 x5 x6) (k0_pay59 (F := Ideal) x0 x1 x2 x3 x4 x5 x6) (View.ld x6 r0_15) 7 1 slices_S1024x1024_o896_256_S128x256 r e).trans
    (congrArg₂ (fun w b => tile _ _ w b 7 1 r e) (funext fun i => funext fun j => wts1_at x0 x1 x2 x3 x4 x5 x6 i j) (funext fun i => funext fun e => ldb1_at x6 i e))

theorem store2_0 (r : Fin 128) (e : Fin 256) : k0_pay34 (F := Ideal) (k0_pay51 x0 x1 x2 x3 x4 x5 x6) (k0_pay54 x0 x1 x2 x3 x4 x5 x6) (k0_pay55 x0 x1 x2 x3 x4 x5 x6) (k0_pay56 x0 x1 x2 x3 x4 x5 x6) (View.ld x5 r0_24) (View.ld x6 r0_25) (ix2 r e) = part x0 x1 x2 x3 x4 x5 x6 0 2 r e :=
  (tile_at (k0_pay51 (F := Ideal) x0 x1 x2 x3 x4 x5 x6) (k0_pay56 (F := Ideal) x0 x1 x2 x3 x4 x5 x6) (k0_pay60 (F := Ideal) x0 x1 x2 x3 x4 x5 x6) (View.ld x6 r0_25) 0 2 slices_S1024x1024_o0_512_S128x256 r e).trans
    (congrArg₂ (fun w b => tile _ _ w b 0 2 r e) (funext fun i => funext fun j => wts2_at x0 x1 x2 x3 x4 x5 x6 i j) (funext fun i => funext fun e => ldb2_at x6 i e))

theorem store2_1 (r : Fin 128) (e : Fin 256) : k0_pay35 (F := Ideal) (k0_pay51 x0 x1 x2 x3 x4 x5 x6) (k0_pay54 x0 x1 x2 x3 x4 x5 x6) (k0_pay55 x0 x1 x2 x3 x4 x5 x6) (k0_pay56 x0 x1 x2 x3 x4 x5 x6) (View.ld x5 r0_24) (View.ld x6 r0_25) (ix2 r e) = part x0 x1 x2 x3 x4 x5 x6 1 2 r e :=
  (tile_at (k0_pay51 (F := Ideal) x0 x1 x2 x3 x4 x5 x6) (k0_pay56 (F := Ideal) x0 x1 x2 x3 x4 x5 x6) (k0_pay60 (F := Ideal) x0 x1 x2 x3 x4 x5 x6) (View.ld x6 r0_25) 1 2 slices_S1024x1024_o128_512_S128x256 r e).trans
    (congrArg₂ (fun w b => tile _ _ w b 1 2 r e) (funext fun i => funext fun j => wts2_at x0 x1 x2 x3 x4 x5 x6 i j) (funext fun i => funext fun e => ldb2_at x6 i e))

theorem store2_2 (r : Fin 128) (e : Fin 256) : k0_pay36 (F := Ideal) (k0_pay51 x0 x1 x2 x3 x4 x5 x6) (k0_pay54 x0 x1 x2 x3 x4 x5 x6) (k0_pay55 x0 x1 x2 x3 x4 x5 x6) (k0_pay56 x0 x1 x2 x3 x4 x5 x6) (View.ld x5 r0_24) (View.ld x6 r0_25) (ix2 r e) = part x0 x1 x2 x3 x4 x5 x6 2 2 r e :=
  (tile_at (k0_pay51 (F := Ideal) x0 x1 x2 x3 x4 x5 x6) (k0_pay56 (F := Ideal) x0 x1 x2 x3 x4 x5 x6) (k0_pay60 (F := Ideal) x0 x1 x2 x3 x4 x5 x6) (View.ld x6 r0_25) 2 2 slices_S1024x1024_o256_512_S128x256 r e).trans
    (congrArg₂ (fun w b => tile _ _ w b 2 2 r e) (funext fun i => funext fun j => wts2_at x0 x1 x2 x3 x4 x5 x6 i j) (funext fun i => funext fun e => ldb2_at x6 i e))

theorem store2_3 (r : Fin 128) (e : Fin 256) : k0_pay37 (F := Ideal) (k0_pay51 x0 x1 x2 x3 x4 x5 x6) (k0_pay56 x0 x1 x2 x3 x4 x5 x6) (k0_pay60 x0 x1 x2 x3 x4 x5 x6) (View.ld x6 r0_25) (ix2 r e) = part x0 x1 x2 x3 x4 x5 x6 3 2 r e :=
  (tile_at (k0_pay51 (F := Ideal) x0 x1 x2 x3 x4 x5 x6) (k0_pay56 (F := Ideal) x0 x1 x2 x3 x4 x5 x6) (k0_pay60 (F := Ideal) x0 x1 x2 x3 x4 x5 x6) (View.ld x6 r0_25) 3 2 slices_S1024x1024_o384_512_S128x256 r e).trans
    (congrArg₂ (fun w b => tile _ _ w b 3 2 r e) (funext fun i => funext fun j => wts2_at x0 x1 x2 x3 x4 x5 x6 i j) (funext fun i => funext fun e => ldb2_at x6 i e))

theorem store2_4 (r : Fin 128) (e : Fin 256) : k0_pay38 (F := Ideal) (k0_pay51 x0 x1 x2 x3 x4 x5 x6) (k0_pay56 x0 x1 x2 x3 x4 x5 x6) (k0_pay60 x0 x1 x2 x3 x4 x5 x6) (View.ld x6 r0_25) (ix2 r e) = part x0 x1 x2 x3 x4 x5 x6 4 2 r e :=
  (tile_at (k0_pay51 (F := Ideal) x0 x1 x2 x3 x4 x5 x6) (k0_pay56 (F := Ideal) x0 x1 x2 x3 x4 x5 x6) (k0_pay60 (F := Ideal) x0 x1 x2 x3 x4 x5 x6) (View.ld x6 r0_25) 4 2 slices_S1024x1024_o512_512_S128x256 r e).trans
    (congrArg₂ (fun w b => tile _ _ w b 4 2 r e) (funext fun i => funext fun j => wts2_at x0 x1 x2 x3 x4 x5 x6 i j) (funext fun i => funext fun e => ldb2_at x6 i e))

theorem store2_5 (r : Fin 128) (e : Fin 256) : k0_pay39 (F := Ideal) (k0_pay51 x0 x1 x2 x3 x4 x5 x6) (k0_pay56 x0 x1 x2 x3 x4 x5 x6) (k0_pay60 x0 x1 x2 x3 x4 x5 x6) (View.ld x6 r0_25) (ix2 r e) = part x0 x1 x2 x3 x4 x5 x6 5 2 r e :=
  (tile_at (k0_pay51 (F := Ideal) x0 x1 x2 x3 x4 x5 x6) (k0_pay56 (F := Ideal) x0 x1 x2 x3 x4 x5 x6) (k0_pay60 (F := Ideal) x0 x1 x2 x3 x4 x5 x6) (View.ld x6 r0_25) 5 2 slices_S1024x1024_o640_512_S128x256 r e).trans
    (congrArg₂ (fun w b => tile _ _ w b 5 2 r e) (funext fun i => funext fun j => wts2_at x0 x1 x2 x3 x4 x5 x6 i j) (funext fun i => funext fun e => ldb2_at x6 i e))

theorem store2_6 (r : Fin 128) (e : Fin 256) : k0_pay40 (F := Ideal) (k0_pay51 x0 x1 x2 x3 x4 x5 x6) (k0_pay56 x0 x1 x2 x3 x4 x5 x6) (k0_pay60 x0 x1 x2 x3 x4 x5 x6) (View.ld x6 r0_25) (ix2 r e) = part x0 x1 x2 x3 x4 x5 x6 6 2 r e :=
  (tile_at (k0_pay51 (F := Ideal) x0 x1 x2 x3 x4 x5 x6) (k0_pay56 (F := Ideal) x0 x1 x2 x3 x4 x5 x6) (k0_pay60 (F := Ideal) x0 x1 x2 x3 x4 x5 x6) (View.ld x6 r0_25) 6 2 slices_S1024x1024_o768_512_S128x256 r e).trans
    (congrArg₂ (fun w b => tile _ _ w b 6 2 r e) (funext fun i => funext fun j => wts2_at x0 x1 x2 x3 x4 x5 x6 i j) (funext fun i => funext fun e => ldb2_at x6 i e))

theorem store2_7 (r : Fin 128) (e : Fin 256) : k0_pay41 (F := Ideal) (k0_pay51 x0 x1 x2 x3 x4 x5 x6) (k0_pay56 x0 x1 x2 x3 x4 x5 x6) (k0_pay60 x0 x1 x2 x3 x4 x5 x6) (View.ld x6 r0_25) (ix2 r e) = part x0 x1 x2 x3 x4 x5 x6 7 2 r e :=
  (tile_at (k0_pay51 (F := Ideal) x0 x1 x2 x3 x4 x5 x6) (k0_pay56 (F := Ideal) x0 x1 x2 x3 x4 x5 x6) (k0_pay60 (F := Ideal) x0 x1 x2 x3 x4 x5 x6) (View.ld x6 r0_25) 7 2 slices_S1024x1024_o896_512_S128x256 r e).trans
    (congrArg₂ (fun w b => tile _ _ w b 7 2 r e) (funext fun i => funext fun j => wts2_at x0 x1 x2 x3 x4 x5 x6 i j) (funext fun i => funext fun e => ldb2_at x6 i e))

theorem store3_0 (r : Fin 128) (e : Fin 256) : k0_pay43 (F := Ideal) (k0_pay51 x0 x1 x2 x3 x4 x5 x6) (k0_pay54 x0 x1 x2 x3 x4 x5 x6) (k0_pay55 x0 x1 x2 x3 x4 x5 x6) (k0_pay56 x0 x1 x2 x3 x4 x5 x6) (View.ld x5 r0_34) (View.ld x6 r0_35) (ix2 r e) = part x0 x1 x2 x3 x4 x5 x6 0 3 r e :=
  (tile_at (k0_pay51 (F := Ideal) x0 x1 x2 x3 x4 x5 x6) (k0_pay56 (F := Ideal) x0 x1 x2 x3 x4 x5 x6) (k0_pay61 (F := Ideal) x0 x1 x2 x3 x4 x5 x6) (View.ld x6 r0_35) 0 3 slices_S1024x1024_o0_768_S128x256 r e).trans
    (congrArg₂ (fun w b => tile _ _ w b 0 3 r e) (funext fun i => funext fun j => wts3_at x0 x1 x2 x3 x4 x5 x6 i j) (funext fun i => funext fun e => ldb3_at x6 i e))

theorem store3_1 (r : Fin 128) (e : Fin 256) : k0_pay44 (F := Ideal) (k0_pay51 x0 x1 x2 x3 x4 x5 x6) (k0_pay54 x0 x1 x2 x3 x4 x5 x6) (k0_pay55 x0 x1 x2 x3 x4 x5 x6) (k0_pay56 x0 x1 x2 x3 x4 x5 x6) (View.ld x5 r0_34) (View.ld x6 r0_35) (ix2 r e) = part x0 x1 x2 x3 x4 x5 x6 1 3 r e :=
  (tile_at (k0_pay51 (F := Ideal) x0 x1 x2 x3 x4 x5 x6) (k0_pay56 (F := Ideal) x0 x1 x2 x3 x4 x5 x6) (k0_pay61 (F := Ideal) x0 x1 x2 x3 x4 x5 x6) (View.ld x6 r0_35) 1 3 slices_S1024x1024_o128_768_S128x256 r e).trans
    (congrArg₂ (fun w b => tile _ _ w b 1 3 r e) (funext fun i => funext fun j => wts3_at x0 x1 x2 x3 x4 x5 x6 i j) (funext fun i => funext fun e => ldb3_at x6 i e))

theorem store3_2 (r : Fin 128) (e : Fin 256) : k0_pay46 (F := Ideal) (k0_pay51 x0 x1 x2 x3 x4 x5 x6) (k0_pay45 (k0_pay54 x0 x1 x2 x3 x4 x5 x6) (k0_pay55 x0 x1 x2 x3 x4 x5 x6) (k0_pay56 x0 x1 x2 x3 x4 x5 x6) (View.ld x5 r0_34)) (View.ld x6 r0_35) (ix2 r e) = part x0 x1 x2 x3 x4 x5 x6 2 3 r e :=
  (tile_at (k0_pay51 (F := Ideal) x0 x1 x2 x3 x4 x5 x6) (k0_pay56 (F := Ideal) x0 x1 x2 x3 x4 x5 x6) (k0_pay61 (F := Ideal) x0 x1 x2 x3 x4 x5 x6) (View.ld x6 r0_35) 2 3 slices_S1024x1024_o256_768_S128x256 r e).trans
    (congrArg₂ (fun w b => tile _ _ w b 2 3 r e) (funext fun i => funext fun j => wts3_at x0 x1 x2 x3 x4 x5 x6 i j) (funext fun i => funext fun e => ldb3_at x6 i e))

theorem store3_3 (r : Fin 128) (e : Fin 256) : k0_pay47 (F := Ideal) (k0_pay51 x0 x1 x2 x3 x4 x5 x6) (k0_pay56 x0 x1 x2 x3 x4 x5 x6) (k0_pay61 x0 x1 x2 x3 x4 x5 x6) (View.ld x6 r0_35) (ix2 r e) = part x0 x1 x2 x3 x4 x5 x6 3 3 r e :=
  (tile_at (k0_pay51 (F := Ideal) x0 x1 x2 x3 x4 x5 x6) (k0_pay56 (F := Ideal) x0 x1 x2 x3 x4 x5 x6) (k0_pay61 (F := Ideal) x0 x1 x2 x3 x4 x5 x6) (View.ld x6 r0_35) 3 3 slices_S1024x1024_o384_768_S128x256 r e).trans
    (congrArg₂ (fun w b => tile _ _ w b 3 3 r e) (funext fun i => funext fun j => wts3_at x0 x1 x2 x3 x4 x5 x6 i j) (funext fun i => funext fun e => ldb3_at x6 i e))

theorem store3_4 (r : Fin 128) (e : Fin 256) : k0_pay48 (F := Ideal) (k0_pay51 x0 x1 x2 x3 x4 x5 x6) (k0_pay56 x0 x1 x2 x3 x4 x5 x6) (k0_pay61 x0 x1 x2 x3 x4 x5 x6) (View.ld x6 r0_35) (ix2 r e) = part x0 x1 x2 x3 x4 x5 x6 4 3 r e :=
  (tile_at (k0_pay51 (F := Ideal) x0 x1 x2 x3 x4 x5 x6) (k0_pay56 (F := Ideal) x0 x1 x2 x3 x4 x5 x6) (k0_pay61 (F := Ideal) x0 x1 x2 x3 x4 x5 x6) (View.ld x6 r0_35) 4 3 slices_S1024x1024_o512_768_S128x256 r e).trans
    (congrArg₂ (fun w b => tile _ _ w b 4 3 r e) (funext fun i => funext fun j => wts3_at x0 x1 x2 x3 x4 x5 x6 i j) (funext fun i => funext fun e => ldb3_at x6 i e))

theorem store3_5 (r : Fin 128) (e : Fin 256) : k0_pay49 (F := Ideal) (k0_pay51 x0 x1 x2 x3 x4 x5 x6) (k0_pay56 x0 x1 x2 x3 x4 x5 x6) (k0_pay61 x0 x1 x2 x3 x4 x5 x6) (View.ld x6 r0_35) (ix2 r e) = part x0 x1 x2 x3 x4 x5 x6 5 3 r e :=
  (tile_at (k0_pay51 (F := Ideal) x0 x1 x2 x3 x4 x5 x6) (k0_pay56 (F := Ideal) x0 x1 x2 x3 x4 x5 x6) (k0_pay61 (F := Ideal) x0 x1 x2 x3 x4 x5 x6) (View.ld x6 r0_35) 5 3 slices_S1024x1024_o640_768_S128x256 r e).trans
    (congrArg₂ (fun w b => tile _ _ w b 5 3 r e) (funext fun i => funext fun j => wts3_at x0 x1 x2 x3 x4 x5 x6 i j) (funext fun i => funext fun e => ldb3_at x6 i e))

theorem store3_6 (r : Fin 128) (e : Fin 256) : k0_pay1 (F := Ideal) (k0_pay51 x0 x1 x2 x3 x4 x5 x6) (k0_pay50 (k0_pay56 x0 x1 x2 x3 x4 x5 x6) (k0_pay61 x0 x1 x2 x3 x4 x5 x6)) (View.ld x6 r0_35) (ix2 r e) = part x0 x1 x2 x3 x4 x5 x6 6 3 r e :=
  (tile_at (k0_pay51 (F := Ideal) x0 x1 x2 x3 x4 x5 x6) (k0_pay56 (F := Ideal) x0 x1 x2 x3 x4 x5 x6) (k0_pay61 (F := Ideal) x0 x1 x2 x3 x4 x5 x6) (View.ld x6 r0_35) 6 3 slices_S1024x1024_o768_768_S128x256 r e).trans
    (congrArg₂ (fun w b => tile _ _ w b 6 3 r e) (funext fun i => funext fun j => wts3_at x0 x1 x2 x3 x4 x5 x6 i j) (funext fun i => funext fun e => ldb3_at x6 i e))

theorem store3_7 (r : Fin 128) (e : Fin 256) : k0_pay2 (F := Ideal) (k0_pay51 x0 x1 x2 x3 x4 x5 x6) (k0_pay56 x0 x1 x2 x3 x4 x5 x6) (k0_pay61 x0 x1 x2 x3 x4 x5 x6) (View.ld x6 r0_35) (ix2 r e) = part x0 x1 x2 x3 x4 x5 x6 7 3 r e :=
  (tile_at (k0_pay51 (F := Ideal) x0 x1 x2 x3 x4 x5 x6) (k0_pay56 (F := Ideal) x0 x1 x2 x3 x4 x5 x6) (k0_pay61 (F := Ideal) x0 x1 x2 x3 x4 x5 x6) (View.ld x6 r0_35) 7 3 slices_S1024x1024_o896_768_S128x256 r e).trans
    (congrArg₂ (fun w b => tile _ _ w b 7 3 r e) (funext fun i => funext fun j => wts3_at x0 x1 x2 x3 x4 x5 x6 i j) (funext fun i => funext fun e => ldb3_at x6 i e))

/-- The result's block at a place: the thirty-two stores fill it. -/
theorem out_at (y : S1024x1024.Idx) : out0_7 (F := Ideal) x0 x1 x2 x3 x4 x5 x6 y = blk x0 x1 x2 x3 x4 x5 x6 y := by
  unfold out0_7
  refine View.canon_apply_of_pieces (Val := Elt Ideal) (e := .bf16) (blk x0 x1 x2 x3 x4 x5 x6) _ (View.PiecesOf.mem ?_) y (cover0_7 _ _ _ _ _ _ _ _ _ _ _ _ _ _ _ _ _ _ _ _ _ _ _ _ _ _ _ _ _ _ _ _ y)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro x
    obtain ⟨r, e, rfl⟩ : ∃ (r : Fin 128) (e : Fin 256), x = ix2 r e := ⟨x 0, x 1, by funext a; fin_cases a <;> rfl⟩
    exact (store3_7 x0 x1 x2 x3 x4 x5 x6 r e).trans (blk_at x0 x1 x2 x3 x4 x5 x6 7 3 r e _ (by show 896 + 1 * r.val = 128 * 7 + r.val; omega) (by show 768 + 1 * e.val = 256 * 3 + e.val; omega)).symm
  · intro x
    obtain ⟨r, e, rfl⟩ : ∃ (r : Fin 128) (e : Fin 256), x = ix2 r e := ⟨x 0, x 1, by funext a; fin_cases a <;> rfl⟩
    exact (store3_6 x0 x1 x2 x3 x4 x5 x6 r e).trans (blk_at x0 x1 x2 x3 x4 x5 x6 6 3 r e _ (by show 768 + 1 * r.val = 128 * 6 + r.val; omega) (by show 768 + 1 * e.val = 256 * 3 + e.val; omega)).symm
  · intro x
    obtain ⟨r, e, rfl⟩ : ∃ (r : Fin 128) (e : Fin 256), x = ix2 r e := ⟨x 0, x 1, by funext a; fin_cases a <;> rfl⟩
    exact (store3_5 x0 x1 x2 x3 x4 x5 x6 r e).trans (blk_at x0 x1 x2 x3 x4 x5 x6 5 3 r e _ (by show 640 + 1 * r.val = 128 * 5 + r.val; omega) (by show 768 + 1 * e.val = 256 * 3 + e.val; omega)).symm
  · intro x
    obtain ⟨r, e, rfl⟩ : ∃ (r : Fin 128) (e : Fin 256), x = ix2 r e := ⟨x 0, x 1, by funext a; fin_cases a <;> rfl⟩
    exact (store3_4 x0 x1 x2 x3 x4 x5 x6 r e).trans (blk_at x0 x1 x2 x3 x4 x5 x6 4 3 r e _ (by show 512 + 1 * r.val = 128 * 4 + r.val; omega) (by show 768 + 1 * e.val = 256 * 3 + e.val; omega)).symm
  · intro x
    obtain ⟨r, e, rfl⟩ : ∃ (r : Fin 128) (e : Fin 256), x = ix2 r e := ⟨x 0, x 1, by funext a; fin_cases a <;> rfl⟩
    exact (store3_3 x0 x1 x2 x3 x4 x5 x6 r e).trans (blk_at x0 x1 x2 x3 x4 x5 x6 3 3 r e _ (by show 384 + 1 * r.val = 128 * 3 + r.val; omega) (by show 768 + 1 * e.val = 256 * 3 + e.val; omega)).symm
  · intro x
    obtain ⟨r, e, rfl⟩ : ∃ (r : Fin 128) (e : Fin 256), x = ix2 r e := ⟨x 0, x 1, by funext a; fin_cases a <;> rfl⟩
    exact (store3_2 x0 x1 x2 x3 x4 x5 x6 r e).trans (blk_at x0 x1 x2 x3 x4 x5 x6 2 3 r e _ (by show 256 + 1 * r.val = 128 * 2 + r.val; omega) (by show 768 + 1 * e.val = 256 * 3 + e.val; omega)).symm
  · intro x
    obtain ⟨r, e, rfl⟩ : ∃ (r : Fin 128) (e : Fin 256), x = ix2 r e := ⟨x 0, x 1, by funext a; fin_cases a <;> rfl⟩
    exact (store3_1 x0 x1 x2 x3 x4 x5 x6 r e).trans (blk_at x0 x1 x2 x3 x4 x5 x6 1 3 r e _ (by show 128 + 1 * r.val = 128 * 1 + r.val; omega) (by show 768 + 1 * e.val = 256 * 3 + e.val; omega)).symm
  · intro x
    obtain ⟨r, e, rfl⟩ : ∃ (r : Fin 128) (e : Fin 256), x = ix2 r e := ⟨x 0, x 1, by funext a; fin_cases a <;> rfl⟩
    exact (store3_0 x0 x1 x2 x3 x4 x5 x6 r e).trans (blk_at x0 x1 x2 x3 x4 x5 x6 0 3 r e _ (by show 0 + 1 * r.val = 128 * 0 + r.val; omega) (by show 768 + 1 * e.val = 256 * 3 + e.val; omega)).symm
  · intro x
    obtain ⟨r, e, rfl⟩ : ∃ (r : Fin 128) (e : Fin 256), x = ix2 r e := ⟨x 0, x 1, by funext a; fin_cases a <;> rfl⟩
    exact (store2_7 x0 x1 x2 x3 x4 x5 x6 r e).trans (blk_at x0 x1 x2 x3 x4 x5 x6 7 2 r e _ (by show 896 + 1 * r.val = 128 * 7 + r.val; omega) (by show 512 + 1 * e.val = 256 * 2 + e.val; omega)).symm
  · intro x
    obtain ⟨r, e, rfl⟩ : ∃ (r : Fin 128) (e : Fin 256), x = ix2 r e := ⟨x 0, x 1, by funext a; fin_cases a <;> rfl⟩
    exact (store2_6 x0 x1 x2 x3 x4 x5 x6 r e).trans (blk_at x0 x1 x2 x3 x4 x5 x6 6 2 r e _ (by show 768 + 1 * r.val = 128 * 6 + r.val; omega) (by show 512 + 1 * e.val = 256 * 2 + e.val; omega)).symm
  · intro x
    obtain ⟨r, e, rfl⟩ : ∃ (r : Fin 128) (e : Fin 256), x = ix2 r e := ⟨x 0, x 1, by funext a; fin_cases a <;> rfl⟩
    exact (store2_5 x0 x1 x2 x3 x4 x5 x6 r e).trans (blk_at x0 x1 x2 x3 x4 x5 x6 5 2 r e _ (by show 640 + 1 * r.val = 128 * 5 + r.val; omega) (by show 512 + 1 * e.val = 256 * 2 + e.val; omega)).symm
  · intro x
    obtain ⟨r, e, rfl⟩ : ∃ (r : Fin 128) (e : Fin 256), x = ix2 r e := ⟨x 0, x 1, by funext a; fin_cases a <;> rfl⟩
    exact (store2_4 x0 x1 x2 x3 x4 x5 x6 r e).trans (blk_at x0 x1 x2 x3 x4 x5 x6 4 2 r e _ (by show 512 + 1 * r.val = 128 * 4 + r.val; omega) (by show 512 + 1 * e.val = 256 * 2 + e.val; omega)).symm
  · intro x
    obtain ⟨r, e, rfl⟩ : ∃ (r : Fin 128) (e : Fin 256), x = ix2 r e := ⟨x 0, x 1, by funext a; fin_cases a <;> rfl⟩
    exact (store2_3 x0 x1 x2 x3 x4 x5 x6 r e).trans (blk_at x0 x1 x2 x3 x4 x5 x6 3 2 r e _ (by show 384 + 1 * r.val = 128 * 3 + r.val; omega) (by show 512 + 1 * e.val = 256 * 2 + e.val; omega)).symm
  · intro x
    obtain ⟨r, e, rfl⟩ : ∃ (r : Fin 128) (e : Fin 256), x = ix2 r e := ⟨x 0, x 1, by funext a; fin_cases a <;> rfl⟩
    exact (store2_2 x0 x1 x2 x3 x4 x5 x6 r e).trans (blk_at x0 x1 x2 x3 x4 x5 x6 2 2 r e _ (by show 256 + 1 * r.val = 128 * 2 + r.val; omega) (by show 512 + 1 * e.val = 256 * 2 + e.val; omega)).symm
  · intro x
    obtain ⟨r, e, rfl⟩ : ∃ (r : Fin 128) (e : Fin 256), x = ix2 r e := ⟨x 0, x 1, by funext a; fin_cases a <;> rfl⟩
    exact (store2_1 x0 x1 x2 x3 x4 x5 x6 r e).trans (blk_at x0 x1 x2 x3 x4 x5 x6 1 2 r e _ (by show 128 + 1 * r.val = 128 * 1 + r.val; omega) (by show 512 + 1 * e.val = 256 * 2 + e.val; omega)).symm
  · intro x
    obtain ⟨r, e, rfl⟩ : ∃ (r : Fin 128) (e : Fin 256), x = ix2 r e := ⟨x 0, x 1, by funext a; fin_cases a <;> rfl⟩
    exact (store2_0 x0 x1 x2 x3 x4 x5 x6 r e).trans (blk_at x0 x1 x2 x3 x4 x5 x6 0 2 r e _ (by show 0 + 1 * r.val = 128 * 0 + r.val; omega) (by show 512 + 1 * e.val = 256 * 2 + e.val; omega)).symm
  · intro x
    obtain ⟨r, e, rfl⟩ : ∃ (r : Fin 128) (e : Fin 256), x = ix2 r e := ⟨x 0, x 1, by funext a; fin_cases a <;> rfl⟩
    exact (store1_7 x0 x1 x2 x3 x4 x5 x6 r e).trans (blk_at x0 x1 x2 x3 x4 x5 x6 7 1 r e _ (by show 896 + 1 * r.val = 128 * 7 + r.val; omega) (by show 256 + 1 * e.val = 256 * 1 + e.val; omega)).symm
  · intro x
    obtain ⟨r, e, rfl⟩ : ∃ (r : Fin 128) (e : Fin 256), x = ix2 r e := ⟨x 0, x 1, by funext a; fin_cases a <;> rfl⟩
    exact (store1_6 x0 x1 x2 x3 x4 x5 x6 r e).trans (blk_at x0 x1 x2 x3 x4 x5 x6 6 1 r e _ (by show 768 + 1 * r.val = 128 * 6 + r.val; omega) (by show 256 + 1 * e.val = 256 * 1 + e.val; omega)).symm
  · intro x
    obtain ⟨r, e, rfl⟩ : ∃ (r : Fin 128) (e : Fin 256), x = ix2 r e := ⟨x 0, x 1, by funext a; fin_cases a <;> rfl⟩
    exact (store1_5 x0 x1 x2 x3 x4 x5 x6 r e).trans (blk_at x0 x1 x2 x3 x4 x5 x6 5 1 r e _ (by show 640 + 1 * r.val = 128 * 5 + r.val; omega) (by show 256 + 1 * e.val = 256 * 1 + e.val; omega)).symm
  · intro x
    obtain ⟨r, e, rfl⟩ : ∃ (r : Fin 128) (e : Fin 256), x = ix2 r e := ⟨x 0, x 1, by funext a; fin_cases a <;> rfl⟩
    exact (store1_4 x0 x1 x2 x3 x4 x5 x6 r e).trans (blk_at x0 x1 x2 x3 x4 x5 x6 4 1 r e _ (by show 512 + 1 * r.val = 128 * 4 + r.val; omega) (by show 256 + 1 * e.val = 256 * 1 + e.val; omega)).symm
  · intro x
    obtain ⟨r, e, rfl⟩ : ∃ (r : Fin 128) (e : Fin 256), x = ix2 r e := ⟨x 0, x 1, by funext a; fin_cases a <;> rfl⟩
    exact (store1_3 x0 x1 x2 x3 x4 x5 x6 r e).trans (blk_at x0 x1 x2 x3 x4 x5 x6 3 1 r e _ (by show 384 + 1 * r.val = 128 * 3 + r.val; omega) (by show 256 + 1 * e.val = 256 * 1 + e.val; omega)).symm
  · intro x
    obtain ⟨r, e, rfl⟩ : ∃ (r : Fin 128) (e : Fin 256), x = ix2 r e := ⟨x 0, x 1, by funext a; fin_cases a <;> rfl⟩
    exact (store1_2 x0 x1 x2 x3 x4 x5 x6 r e).trans (blk_at x0 x1 x2 x3 x4 x5 x6 2 1 r e _ (by show 256 + 1 * r.val = 128 * 2 + r.val; omega) (by show 256 + 1 * e.val = 256 * 1 + e.val; omega)).symm
  · intro x
    obtain ⟨r, e, rfl⟩ : ∃ (r : Fin 128) (e : Fin 256), x = ix2 r e := ⟨x 0, x 1, by funext a; fin_cases a <;> rfl⟩
    exact (store1_1 x0 x1 x2 x3 x4 x5 x6 r e).trans (blk_at x0 x1 x2 x3 x4 x5 x6 1 1 r e _ (by show 128 + 1 * r.val = 128 * 1 + r.val; omega) (by show 256 + 1 * e.val = 256 * 1 + e.val; omega)).symm
  · intro x
    obtain ⟨r, e, rfl⟩ : ∃ (r : Fin 128) (e : Fin 256), x = ix2 r e := ⟨x 0, x 1, by funext a; fin_cases a <;> rfl⟩
    exact (store1_0 x0 x1 x2 x3 x4 x5 x6 r e).trans (blk_at x0 x1 x2 x3 x4 x5 x6 0 1 r e _ (by show 0 + 1 * r.val = 128 * 0 + r.val; omega) (by show 256 + 1 * e.val = 256 * 1 + e.val; omega)).symm
  · intro x
    obtain ⟨r, e, rfl⟩ : ∃ (r : Fin 128) (e : Fin 256), x = ix2 r e := ⟨x 0, x 1, by funext a; fin_cases a <;> rfl⟩
    exact (store0_7 x0 x1 x2 x3 x4 x5 x6 r e).trans (blk_at x0 x1 x2 x3 x4 x5 x6 7 0 r e _ (by show 896 + 1 * r.val = 128 * 7 + r.val; omega) (by show 0 + 1 * e.val = 256 * 0 + e.val; omega)).symm
  · intro x
    obtain ⟨r, e, rfl⟩ : ∃ (r : Fin 128) (e : Fin 256), x = ix2 r e := ⟨x 0, x 1, by funext a; fin_cases a <;> rfl⟩
    exact (store0_6 x0 x1 x2 x3 x4 x5 x6 r e).trans (blk_at x0 x1 x2 x3 x4 x5 x6 6 0 r e _ (by show 768 + 1 * r.val = 128 * 6 + r.val; omega) (by show 0 + 1 * e.val = 256 * 0 + e.val; omega)).symm
  · intro x
    obtain ⟨r, e, rfl⟩ : ∃ (r : Fin 128) (e : Fin 256), x = ix2 r e := ⟨x 0, x 1, by funext a; fin_cases a <;> rfl⟩
    exact (store0_5 x0 x1 x2 x3 x4 x5 x6 r e).trans (blk_at x0 x1 x2 x3 x4 x5 x6 5 0 r e _ (by show 640 + 1 * r.val = 128 * 5 + r.val; omega) (by show 0 + 1 * e.val = 256 * 0 + e.val; omega)).symm
  · intro x
    obtain ⟨r, e, rfl⟩ : ∃ (r : Fin 128) (e : Fin 256), x = ix2 r e := ⟨x 0, x 1, by funext a; fin_cases a <;> rfl⟩
    exact (store0_4 x0 x1 x2 x3 x4 x5 x6 r e).trans (blk_at x0 x1 x2 x3 x4 x5 x6 4 0 r e _ (by show 512 + 1 * r.val = 128 * 4 + r.val; omega) (by show 0 + 1 * e.val = 256 * 0 + e.val; omega)).symm
  · intro x
    obtain ⟨r, e, rfl⟩ : ∃ (r : Fin 128) (e : Fin 256), x = ix2 r e := ⟨x 0, x 1, by funext a; fin_cases a <;> rfl⟩
    exact (store0_3 x0 x1 x2 x3 x4 x5 x6 r e).trans (blk_at x0 x1 x2 x3 x4 x5 x6 3 0 r e _ (by show 384 + 1 * r.val = 128 * 3 + r.val; omega) (by show 0 + 1 * e.val = 256 * 0 + e.val; omega)).symm
  · intro x
    obtain ⟨r, e, rfl⟩ : ∃ (r : Fin 128) (e : Fin 256), x = ix2 r e := ⟨x 0, x 1, by funext a; fin_cases a <;> rfl⟩
    exact (store0_2 x0 x1 x2 x3 x4 x5 x6 r e).trans (blk_at x0 x1 x2 x3 x4 x5 x6 2 0 r e _ (by show 256 + 1 * r.val = 128 * 2 + r.val; omega) (by show 0 + 1 * e.val = 256 * 0 + e.val; omega)).symm
  · intro x
    obtain ⟨r, e, rfl⟩ : ∃ (r : Fin 128) (e : Fin 256), x = ix2 r e := ⟨x 0, x 1, by funext a; fin_cases a <;> rfl⟩
    exact (store0_1 x0 x1 x2 x3 x4 x5 x6 r e).trans (blk_at x0 x1 x2 x3 x4 x5 x6 1 0 r e _ (by show 128 + 1 * r.val = 128 * 1 + r.val; omega) (by show 0 + 1 * e.val = 256 * 0 + e.val; omega)).symm
  · intro x
    obtain ⟨r, e, rfl⟩ : ∃ (r : Fin 128) (e : Fin 256), x = ix2 r e := ⟨x 0, x 1, by funext a; fin_cases a <;> rfl⟩
    exact (store0_0 x0 x1 x2 x3 x4 x5 x6 r e).trans (blk_at x0 x1 x2 x3 x4 x5 x6 0 0 r e _ (by show 0 + 1 * r.val = 128 * 0 + r.val; omega) (by show 0 + 1 * e.val = 256 * 0 + e.val; omega)).symm

end Block

end Cert.Kernel6Ideal.Hand

end
-- ==== Proof.F6Val.lean ====
/-
  The gated unit's call over the prompt's rows: the result array has at a place the formula's value.
-/
module

public import proofs.«01_k».proof.Proof.F6Blk

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic Idealize.SL.Sem
open Cert.Rows

variable (m : (ℓ : Loc nD τ sig) → Buf (Elt Ideal) ℓ) (c : Dev nD)

/-- Row `r` of row block `t`. -/
def row (t : Fin cfg0.N) (r : Fin 1024) : Fin 16384 := ⟨1024 * t.val + r.val, by have h := lt_of_lt_of_eq t.isLt N_0; omega⟩

/-- A column of the gate's half. -/
abbrev left (k : Fin 1024) : Fin 2048 := ⟨k.val, by omega⟩
/-- A column of the mixed half. -/
abbrev right (k : Fin 1024) : Fin 2048 := ⟨1024 + k.val, by omega⟩

/-! ## The blocks of the arrays -/

theorem idx0 : ∀ t : Fin grid0.N, win0_0.index t (0 : Fin 2) = t.val ∧ win0_0.index t (1 : Fin 2) = 0 := by decide +kernel
theorem emb0 (t : Fin cfg0.N) (r : Fin 1024) (k : Fin 1024) : ((cfg0.win 0).blk t).view.emb (ix2 r k) = (ix2 (row t r) k : S16384x1024.Idx) := by
  obtain ⟨e0, e1⟩ := idx0 t
  funext a; apply Fin.ext
  match a with
  | ⟨0, _⟩ => show win0_0.index t (0 : Fin 2) * 1024 + 1 * r.val = _; rw [e0]; show _ = 1024 * t.val + r.val; ring
  | ⟨1, _⟩ => show win0_0.index t (1 : Fin 2) * 1024 + 1 * k.val = _; rw [e1]; show _ = k.val; ring
theorem idx1 : ∀ t : Fin grid0.N, win0_1.index t (0 : Fin 2) = 0 ∧ win0_1.index t (1 : Fin 2) = 0 := by decide +kernel
theorem emb1 (t : Fin cfg0.N) (r : Fin 1) (k : Fin 1024) : ((cfg0.win 1).blk t).view.emb (ix2 r k) = (ix2 r k : S1x1024.Idx) := by
  obtain ⟨e0, e1⟩ := idx1 t
  funext a; apply Fin.ext
  match a with
  | ⟨0, _⟩ => show win0_1.index t (0 : Fin 2) * 1 + 1 * r.val = _; rw [e0]; show _ = r.val; ring
  | ⟨1, _⟩ => show win0_1.index t (1 : Fin 2) * 1024 + 1 * k.val = _; rw [e1]; show _ = k.val; ring
theorem idx2 : ∀ t : Fin grid0.N, win0_2.index t (0 : Fin 2) = 0 ∧ win0_2.index t (1 : Fin 2) = 0 := by decide +kernel
theorem emb2 (t : Fin cfg0.N) (r : Fin 1024) (k : Fin 2048) : ((cfg0.win 2).blk t).view.emb (ix2 r k) = (ix2 r k : S1024x2048.Idx) := by
  obtain ⟨e0, e1⟩ := idx2 t
  funext a; apply Fin.ext
  match a with
  | ⟨0, _⟩ => show win0_2.index t (0 : Fin 2) * 1024 + 1 * r.val = _; rw [e0]; show _ = r.val; ring
  | ⟨1, _⟩ => show win0_2.index t (1 : Fin 2) * 2048 + 1 * k.val = _; rw [e1]; show _ = k.val; ring
theorem idx3 : ∀ t : Fin grid0.N, win0_3.index t (0 : Fin 2) = 0 ∧ win0_3.index t (1 : Fin 2) = 0 := by decide +kernel
theorem emb3 (t : Fin cfg0.N) (r : Fin 1) (k : Fin 1024) : ((cfg0.win 3).blk t).view.emb (ix2 r k) = (ix2 r k : S1x1024.Idx) := by
  obtain ⟨e0, e1⟩ := idx3 t
  funext a; apply Fin.ext
  match a with
  | ⟨0, _⟩ => show win0_3.index t (0 : Fin 2) * 1 + 1 * r.val = _; rw [e0]; show _ = r.val; ring
  | ⟨1, _⟩ => show win0_3.index t (1 : Fin 2) * 1024 + 1 * k.val = _; rw [e1]; show _ = k.val; ring
theorem idx4 : ∀ t : Fin grid0.N, win0_4.index t (0 : Fin 2) = 0 ∧ win0_4.index t (1 : Fin 2) = 0 := by decide +kernel
theorem emb4 (t : Fin cfg0.N) (r : Fin 1) (k : Fin 1024) : ((cfg0.win 4).blk t).view.emb (ix2 r k) = (ix2 r k : S1x1024.Idx) := by
  obtain ⟨e0, e1⟩ := idx4 t
  funext a; apply Fin.ext
  match a with
  | ⟨0, _⟩ => show win0_4.index t (0 : Fin 2) * 1 + 1 * r.val = _; rw [e0]; show _ = r.val; ring
  | ⟨1, _⟩ => show win0_4.index t (1 : Fin 2) * 1024 + 1 * k.val = _; rw [e1]; show _ = k.val; ring
theorem idx5 : ∀ t : Fin grid0.N, win0_5.index t (0 : Fin 3) = 0 ∧ win0_5.index t (1 : Fin 3) = 0 ∧ win0_5.index t (2 : Fin 3) = 0 := by decide +kernel
theorem emb5 (t : Fin cfg0.N) (g : Fin 4) (i j : Fin 128) : ((cfg0.win 5).blk t).view.emb (ix3 g i j) = (ix3 g i j : S4x128x128.Idx) := by
  obtain ⟨e0, e1, e2⟩ := idx5 t
  funext a; apply Fin.ext
  match a with
  | ⟨0, _⟩ => show win0_5.index t (0 : Fin 3) * 4 + 1 * g.val = _; rw [e0]; show _ = g.val; ring
  | ⟨1, _⟩ => show win0_5.index t (1 : Fin 3) * 128 + 1 * i.val = _; rw [e1]; show _ = i.val; ring
  | ⟨2, _⟩ => show win0_5.index t (2 : Fin 3) * 128 + 1 * j.val = _; rw [e2]; show _ = j.val; ring
theorem idx6 : ∀ t : Fin grid0.N, win0_6.index t (0 : Fin 2) = 0 ∧ win0_6.index t (1 : Fin 2) = 0 := by decide +kernel
theorem emb6 (t : Fin cfg0.N) (r : Fin 128) (k : Fin 1024) : ((cfg0.win 6).blk t).view.emb (ix2 r k) = (ix2 r k : S128x1024.Idx) := by
  obtain ⟨e0, e1⟩ := idx6 t
  funext a; apply Fin.ext
  match a with
  | ⟨0, _⟩ => show win0_6.index t (0 : Fin 2) * 128 + 1 * r.val = _; rw [e0]; show _ = r.val; ring
  | ⟨1, _⟩ => show win0_6.index t (1 : Fin 2) * 1024 + 1 * k.val = _; rw [e1]; show _ = k.val; ring
theorem idx7 : ∀ t : Fin grid0.N, win0_7.index t (0 : Fin 2) = t.val ∧ win0_7.index t (1 : Fin 2) = 0 := by decide +kernel
theorem emb7 (t : Fin cfg0.N) (r : Fin 1024) (k : Fin 1024) : ((cfg0.win 7).blk t).view.emb (ix2 r k) = (ix2 (row t r) k : S16384x1024.Idx) := by
  obtain ⟨e0, e1⟩ := idx7 t
  funext a; apply Fin.ext
  match a with
  | ⟨0, _⟩ => show win0_7.index t (0 : Fin 2) * 1024 + 1 * r.val = _; rw [e0]; show _ = 1024 * t.val + r.val; ring
  | ⟨1, _⟩ => show win0_7.index t (1 : Fin 2) * 1024 + 1 * k.val = _; rw [e1]; show _ = k.val; ring

/-! ## The arrays' entries -/

/-- The arguments as the call is given them. -/
def X0 : S16384x1024.Idx → EReal := m ((c : Thread nD τ).loc main_arg0)
@[inherit_doc X0] def X1 : S1024.Idx → EReal := m ((c : Thread nD τ).loc main_arg1)
@[inherit_doc X0] def X2 : S1024x2048.Idx → EReal := m ((c : Thread nD τ).loc main_arg2)
@[inherit_doc X0] def X3 : S1024.Idx → EReal := m ((c : Thread nD τ).loc main_arg3)
@[inherit_doc X0] def X4 : S1024.Idx → EReal := m ((c : Thread nD τ).loc main_arg4)
@[inherit_doc X0] def X5 : S4x128x128.Idx → EReal := m ((c : Thread nD τ).loc main_arg5)
@[inherit_doc X0] def X6 : S4x128.Idx → EReal := m ((c : Thread nD τ).loc main_arg6)

theorem in0 (t : Fin cfg0.N) (r : Fin 1024) (k : Fin 1024) : iblk m c 0 t (ix2 r k) = X0 m c (ix2 (row t r) k) := by
  show V m c main_arg0 (((cfg0.win 0).blk t).view.emb (ix2 r k)) = _
  rw [emb0]; exact congrFun (V_main_arg0 m c) _
theorem V1 (k : Fin 1024) : (V (F := Ideal) m c main_v3 : S1x1024.Idx → EReal) (ix2 (0 : Fin 1) k) = X1 m c (ix1 k) := by
  unfold V X1
  after_reads_at
theorem in1 (t : Fin cfg0.N) (k : Fin 1024) : iblk m c 1 t (ix2 (0 : Fin 1) k) = X1 m c (ix1 k) := by
  show V m c main_v3 (((cfg0.win 1).blk t).view.emb (ix2 (0 : Fin 1) k)) = _
  rw [emb1]; exact V1 m c k
theorem V3 (k : Fin 1024) : (V (F := Ideal) m c main_v5 : S1x1024.Idx → EReal) (ix2 (0 : Fin 1) k) = X3 m c (ix1 k) := by
  unfold V X3
  after_reads_at
theorem in3 (t : Fin cfg0.N) (k : Fin 1024) : iblk m c 3 t (ix2 (0 : Fin 1) k) = X3 m c (ix1 k) := by
  show V m c main_v5 (((cfg0.win 3).blk t).view.emb (ix2 (0 : Fin 1) k)) = _
  rw [emb3]; exact V3 m c k
theorem V4 (k : Fin 1024) : (V (F := Ideal) m c main_v6 : S1x1024.Idx → EReal) (ix2 (0 : Fin 1) k) = X4 m c (ix1 k) := by
  unfold V X4
  after_reads_at
theorem in4 (t : Fin cfg0.N) (k : Fin 1024) : iblk m c 4 t (ix2 (0 : Fin 1) k) = X4 m c (ix1 k) := by
  show V m c main_v6 (((cfg0.win 4).blk t).view.emb (ix2 (0 : Fin 1) k)) = _
  rw [emb4]; exact V4 m c k
theorem V2 (r : Fin 1024) (k : Fin 2048) : (V (F := Ideal) m c main_v4 : S1024x2048.Idx → EReal) (ix2 r k) = X2 m c (ix2 r k) := by
  unfold V X2
  after_reads_at
theorem in2 (t : Fin cfg0.N) (r : Fin 1024) (k : Fin 2048) : iblk m c 2 t (ix2 r k) = X2 m c (ix2 r k) := by
  show V m c main_v4 (((cfg0.win 2).blk t).view.emb (ix2 r k)) = _
  rw [emb2]; exact V2 m c r k
theorem in5 (t : Fin cfg0.N) (g : Fin 4) (i j : Fin 128) : iblk m c 5 t (ix3 g i j) = X5 m c (ix3 g i j) := by
  show V m c main_arg5 (((cfg0.win 5).blk t).view.emb (ix3 g i j)) = _
  rw [emb5]; exact congrFun (V_main_arg5 m c) _
theorem V6 (i : Fin 128) (g : Fin 4) (e : Fin 256) : (V (F := Ideal) m c main_v2 : S128x1024.Idx → EReal) (ix2 i (col g e)) = X6 m c (ix2 g i) := by
  unfold V X6
  after_reads_at
  exact congrArg (fun h : Fin 4 => m ((c : Thread nD τ).loc main_arg6) (ix2 h i)) (Fin.ext (by show (256 * g.val + e.val) / 256 = g.val; omega))
theorem in6 (t : Fin cfg0.N) (i : Fin 128) (g : Fin 4) (e : Fin 256) : iblk m c 6 t (ix2 i (col g e)) = X6 m c (ix2 g i) := by
  show V m c main_v2 (((cfg0.win 6).blk t).view.emb (ix2 i (col g e))) = _
  rw [emb6]; exact V6 m c i g e

theorem ldl_at (x : Vec Ideal S1024x2048 .bf16) (l k : Fin 1024) : View.ld x r0_2 (ix2 l k) = x (ix2 l (left k)) := by
  refine (View.ld_apply _ _ _).trans (congrArg x (funext fun a => Fin.ext ?_))
  match a with
  | ⟨0, _⟩ => show 0 + 1 * l.val = l.val; omega
  | ⟨1, _⟩ => show 0 + 1 * k.val = k.val; omega
theorem ldr_at (x : Vec Ideal S1024x2048 .bf16) (l k : Fin 1024) : View.ld x r0_3 (ix2 l k) = x (ix2 l (right k)) := by
  refine (View.ld_apply _ _ _).trans (congrArg x (funext fun a => Fin.ext ?_))
  match a with
  | ⟨0, _⟩ => show 0 + 1 * l.val = l.val; omega
  | ⟨1, _⟩ => show 1024 + 1 * k.val = 1024 + k.val; omega
theorem ldx_at (x : Vec Ideal S1024x1024 .f32) (l k : Fin 1024) : View.ld x r0_0 (ix2 l k) = x (ix2 l k) := by
  refine (View.ld_apply _ _ _).trans (congrArg x (funext fun a => Fin.ext ?_))
  match a with
  | ⟨0, _⟩ => show 0 + 1 * l.val = l.val; omega
  | ⟨1, _⟩ => show 0 + 1 * k.val = k.val; omega
theorem ldv_at (x : Vec Ideal S1x1024 .f32) (k : Fin 1024) : View.ld x r0_1 (ix2 (0 : Fin 1) k) = x (ix2 (0 : Fin 1) k) := by
  refine (View.ld_apply _ _ _).trans (congrArg x (funext fun a => Fin.ext ?_))
  match a with
  | ⟨0, _⟩ => rfl
  | ⟨1, _⟩ => show 0 + 1 * k.val = k.val; omega

/-! ## The formula -/

/-- A row's hidden number, before the gate. -/
def hidden (x : S16384x1024.Idx → EReal) (g : S1024.Idx → EReal) (w : S1024x2048.Idx → EReal) (t : Fin 16384) (j : Fin 2048) : EReal :=
  proj (rms c1024 (fun d => x (ix2 t d)) (fun d => g (ix1 d))) (fun l j => w (ix2 l j)) j

/-- The gate of a row. -/
def gateAt (x : S16384x1024.Idx → EReal) (g : S1024.Idx → EReal) (w : S1024x2048.Idx → EReal) (t : Fin 16384) (k : Fin 1024) : EReal := gelu (hidden x g w t (left k))

/-- The half of a row that is mixed over its chunk. -/
def mixedAt (x : S16384x1024.Idx → EReal) (g : S1024.Idx → EReal) (w : S1024x2048.Idx → EReal) (lg lb : S1024.Idx → EReal) (t : Fin 16384) (k : Fin 1024) : EReal :=
  layerNorm (fun l => gelu (hidden x g w t (right l))) (fun d => lg (ix1 d)) (fun d => lb (ix1 d)) k

/-- Row `j` of chunk `n`. -/
abbrev chunkRow (n j : Fin 128) : Fin 16384 := ⟨128 * n.val + j.val, by omega⟩

/-- The result at row `i` of chunk `n` and at a group's column. -/
def unitAt (x : S16384x1024.Idx → EReal) (g : S1024.Idx → EReal) (w : S1024x2048.Idx → EReal) (lg lb : S1024.Idx → EReal) (ws : S4x128x128.Idx → EReal) (bs : S4x128.Idx → EReal)
    (n i : Fin 128) (h : Fin 4) (e : Fin 256) : EReal :=
  gateAt x g w (chunkRow n i) (col h e) * ((∑ j, masked (fun i j => ws (ix3 h i j)) i j * mixedAt x g w lg lb (chunkRow n j) (col h e)) + bs (ix2 h i))

/-- The result array. -/
def G : S16384x1024.Idx → EReal := fun y => unitAt (X0 m c) (X1 m c) (X2 m c) (X3 m c) (X4 m c) (X5 m c) (X6 m c)
  ⟨(y 0).val / 128, by have h : (y 0).val < 16384 := (y 0).isLt; omega⟩ ⟨(y 0).val % 128, Nat.mod_lt _ (by decide)⟩
  ⟨(y 1).val / 256, by have h : (y 1).val < 1024 := (y 1).isLt; omega⟩ ⟨(y 1).val % 256, Nat.mod_lt _ (by decide)⟩

theorem G_at (n i : Fin 128) (h : Fin 4) (e : Fin 256) (y : S16384x1024.Idx) (h0 : (y 0).val = 128 * n.val + i.val) (h1 : (y 1).val = 256 * h.val + e.val) :
    G m c y = unitAt (X0 m c) (X1 m c) (X2 m c) (X3 m c) (X4 m c) (X5 m c) (X6 m c) n i h e := by
  unfold G
  congr 1 <;> exact Fin.ext (by simp only [h0, h1]; omega)

section Row

variable (t : Fin cfg0.N)

theorem norm_blk (r k : Fin 1024) : k0_pay3 (F := Ideal) (View.ld (iblk m c 0 t) r0_0) (View.ld (iblk m c 1 t) r0_1) (ix2 r k)
    = rms c1024 (fun d => X0 m c (ix2 (row t r) d)) (fun d => X1 m c (ix1 d)) k :=
  (pay3_at _ _ r k).trans (congrArg₂ (fun a b => rms c1024 a b k) (funext fun d => (ldx_at _ r d).trans (in0 m c t r d)) (funext fun d => (ldv_at _ d).trans (in1 m c t d)))

theorem gate_blk (r k : Fin 1024) : k0_pay4 (F := Ideal) (View.ld (iblk m c 0 t) r0_0) (View.ld (iblk m c 1 t) r0_1) (View.ld (iblk m c 2 t) r0_2) (ix2 r k)
    = gateAt (X0 m c) (X1 m c) (X2 m c) (row t r) k :=
  (pay4_at _ _ _ r k).trans (congrArg gelu (Finset.sum_congr rfl fun l _ => congrArg₂ (fun a b : EReal => a * b) (norm_blk m c t r l) ((ldl_at _ l k).trans (in2 m c t l (left k)))))

theorem hid_blk (r k : Fin 1024) : k0_pay5 (F := Ideal) (View.ld (iblk m c 0 t) r0_0) (View.ld (iblk m c 1 t) r0_1) (View.ld (iblk m c 2 t) r0_3) (ix2 r k)
    = hidden (X0 m c) (X1 m c) (X2 m c) (row t r) (right k) :=
  (pay5_at _ _ _ r k).trans (Finset.sum_congr rfl fun l _ => congrArg₂ (fun a b : EReal => a * b) (norm_blk m c t r l) ((ldr_at _ l k).trans (in2 m c t l (right k))))

theorem mixed_blk (r k : Fin 1024) :
    k0_pay7 (F := Ideal) (k0_pay5 (F := Ideal) (View.ld (iblk m c 0 t) r0_0) (View.ld (iblk m c 1 t) r0_1) (View.ld (iblk m c 2 t) r0_3))
      (k0_pay6 (F := Ideal) (View.ld (iblk m c 0 t) r0_0) (View.ld (iblk m c 1 t) r0_1) (View.ld (iblk m c 2 t) r0_3)) (Scalar.ofBits .f32 0x3F4C422A#32)
      (View.ld (iblk m c 3 t) r0_1) (View.ld (iblk m c 4 t) r0_1) (ix2 r k)
    = mixedAt (X0 m c) (X1 m c) (X2 m c) (X3 m c) (X4 m c) (row t r) k := by
  refine (pay7_at _ _ _ _ r k).trans ?_
  simp only [pay6_at, hid_blk m c t]
  exact congrArg₂ (fun a b => layerNorm _ a b k) (funext fun d => (ldv_at _ d).trans (in3 m c t d)) (funext fun d => (ldv_at _ d).trans (in4 m c t d))

theorem part_blk (ch : Fin 8) (g : Fin 4) (r : Fin 128) (e : Fin 256) (n : Fin 128) (hn : n.val = 8 * t.val + ch.val) :
    part (iblk m c 0 t) (iblk m c 1 t) (iblk m c 2 t) (iblk m c 3 t) (iblk m c 4 t) (iblk m c 5 t) (iblk m c 6 t) ch g r e
      = unitAt (X0 m c) (X1 m c) (X2 m c) (X3 m c) (X4 m c) (X5 m c) (X6 m c) n r g e := by
  have hr : ∀ j : Fin 128, row t (rowc ch j) = chunkRow n j := fun j => Fin.ext (by show 1024 * t.val + (128 * ch.val + j.val) = 128 * n.val + j.val; omega)
  unfold part tile unitAt
  refine congrArg₂ (fun a b : EReal => a * b) ((gate_blk m c t (rowc ch r) (col g e)).trans (by rw [hr])) (congrArg₂ (fun a b : EReal => a + b)
    (Finset.sum_congr rfl fun j _ => congrArg₂ (fun a b : EReal => a * b) ?_ ((mixed_blk m c t (rowc ch j) (col g e)).trans (by rw [hr]))) (in6 m c t r g e))
  exact congrArg (fun w => masked w r j) (funext fun i => funext fun j => in5 m c t g i j)

end Row

/-- A block of the result array. -/
theorem out7 (t : Fin cfg0.N) (r : Fin 1024) (k : Fin 1024) : (dats m 0 c).after 7 t (ix2 r k) = G m c (ix2 (row t r) k) := by
  have hN := lt_of_lt_of_eq t.isLt N_0
  rw [after0_7]
  refine (out_at _ _ _ _ _ _ _ _).trans ?_
  refine Eq.trans (part_blk m c t _ _ _ _ ⟨8 * t.val + r.val / 128, by omega⟩ rfl) (G_at m c _ _ _ _ _ ?_ ?_).symm
  · show 1024 * t.val + r.val = 128 * (8 * t.val + r.val / 128) + r.val % 128; omega
  · show k.val = 256 * (k.val / 256) + k.val % 256; omega

/-! ## The result array -/

theorem cover7 (j : S16384x1024.Idx) : ∃ t : Fin cfg0.N, (cfg0.win 7).flush t = true ∧ j ∈ ((cfg0.win 7).blk t).view.set := by
  have h0 : (j 0).val < 16384 := (j 0).isLt
  obtain ⟨t, ht⟩ : ∃ t : Fin cfg0.N, t.val = (j 0).val / 1024 := ⟨⟨_, lt_of_lt_of_eq (by omega) N_0.symm⟩, rfl⟩
  refine ⟨t, flush0_7 t, ?_⟩
  have e := ((cfg0.win 7).blk t).view.emb_mem_set (ix2 (⟨(j 0).val % 1024, Nat.mod_lt _ (by decide)⟩ : Fin 1024) (⟨(j 1).val, (j 1).isLt⟩ : Fin 1024))
  rw [emb7] at e
  have ej : (ix2 (row t ⟨(j 0).val % 1024, Nat.mod_lt _ (by decide)⟩) (⟨(j 1).val, (j 1).isLt⟩ : Fin 1024) : S16384x1024.Idx) = j := by
    funext a; apply Fin.ext
    match a with
    | ⟨0, _⟩ => show 1024 * t.val + (j 0).val % 1024 = (j 0).val; omega
    | ⟨1, _⟩ => rfl
  exact ej ▸ e

/-- The result array after the last grid point. -/
theorem final7 : (dats m 0 c).arrAt 7 cfg0.N = G m c := by
  refine (dats m 0 c).arrAt_eq_of_cover 7 (G m c) (fun t _ => funext fun y => ?_) cover7
  obtain ⟨r, k, rfl⟩ : ∃ (r : Fin 1024) (k : Fin 1024), y = ix2 r k := ⟨y 0, y 1, by funext a; fin_cases a <;> rfl⟩
  exact (out7 m c t r k).trans (congrArg (G m c) (emb7 t r k).symm)

/-- Every run of the program ends with the result array at the formula's values and the arguments' arrays unchanged. -/
theorem value_k (ρ : Dev nD → PrngReg) : θ_run defs (onTc (τ := τ) (main (F := Ideal))) ⟨m, fun _ => 0, ρ⟩ (fun r => ∀ c : Dev nD,
      r.2.mem ((c.tc : Thread nD τ).loc main_v7) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final7 m c), h.2 c⟩) (θ_run_and (run_main m ρ) (unchanged m ρ))

end Cert.Kernel6Ideal.Hand

end
-- ==== Proof.R6Val.lean ====
/-
  The gated unit's reference at a place, which is the formula the kernel's result array has.
-/
module

public import proofs.«01_k».proof.Proof.F6Val
public import proofs.«01_k».proof.Proof.Gen.Reference6Ideal.Read

@[expose] public section

set_option maxRecDepth 16384

noncomputable section

namespace Cert.Reference6Ideal.Hand

open Cert.Reference6Ideal Cert.Reference6Ideal.Read
open Idealize.ShloMosaic Idealize.ShloMosaic.Tactic
open Cert.Rows
open Cert.Kernel6Ideal.Hand (ccube cslope chalf gelu mean layerNorm masked left right gateAt mixedAt chunkRow unitAt keep_eq)

variable (x0 : FVec Ideal S16384x1024 .f32) (x1 : FVec Ideal S1024 .f32) (x2 : FVec Ideal S1024x2048 .f32) (x3 x4 : FVec Ideal S1024 .f32) (x5 : FVec Ideal S4x128x128 .f32)
  (x6 : FVec Ideal S4x128 .f32)

/-- The reference's normalised rows. -/
theorem normed_at (t : Fin 16384) (k : Fin 1024) : val_main_v12 (F := Ideal) x0 x1 (ix2 t k) = rms c1024 (fun d => x0 (ix2 t d)) (fun d => x1 (ix1 d)) k := by
  unfold rms
  pointwise [val_main_v12, val_main_v11, val_main_v10, val_main_v9, val_main_v8, val_main_v7, val_main_v6, val_main_v5, val_main_v4, val_main_v3, val_main_v2, val_main_v1,
    val_main_v0, val_main_cst, val_main_cst_0, val_main_cst_1]

theorem hidden_at (t : Fin 16384) (j : Fin 2048) : val_main_v13 (F := Ideal) x0 x1 x2 (ix2 t j) = Cert.Kernel6Ideal.Hand.hidden x0 x1 x2 t j := by
  unfold Cert.Kernel6Ideal.Hand.hidden proj
  simp only [← normed_at]
  generalize hx : val_main_v12 (F := Ideal) x0 x1 = xn
  pointwise [val_main_v13, hx]

theorem gelu_at (t : Fin 16384) (j : Fin 2048) : val_main_v26 (F := Ideal) x0 x1 x2 (ix2 t j) = gelu (Cert.Kernel6Ideal.Hand.hidden x0 x1 x2 t j) := by
  rw [← hidden_at]
  generalize hx : val_main_v13 (F := Ideal) x0 x1 x2 = z
  have e : val_main_v26 (F := Ideal) x0 x1 x2 (ix2 t j)
      = z (ix2 t j) * (chalf * (1 + Ideal.tanh (cslope * (z (ix2 t j) + ccube * (z (ix2 t j) * z (ix2 t j) * z (ix2 t j)))))) := by
    pointwise [val_main_v26, val_main_v25, val_main_v24, val_main_v23, val_main_v22, val_main_v21, val_main_v20, val_main_v19, val_main_v18, val_main_v17, val_main_v16, val_main_v15,
      val_main_v14, val_main_cst_2, val_main_cst_3, val_main_cst_4, val_main_cst_5, hx]
  rw [e, mul_comm (z (ix2 t j) * z (ix2 t j)) (z (ix2 t j))]
  rfl

theorem gate_at (t : Fin 16384) (k : Fin 1024) : val_main_v27 (F := Ideal) x0 x1 x2 (ix2 t k) = gateAt x0 x1 x2 t k := by
  unfold gateAt
  rw [← gelu_at]
  generalize hx : val_main_v26 (F := Ideal) x0 x1 x2 = z
  pointwise [val_main_v27, hx]

theorem half_at (t : Fin 16384) (k : Fin 1024) : val_main_v28 (F := Ideal) x0 x1 x2 (ix2 t k) = gelu (Cert.Kernel6Ideal.Hand.hidden x0 x1 x2 t (right k)) := by
  rw [← gelu_at]
  generalize hx : val_main_v26 (F := Ideal) x0 x1 x2 = z
  pointwise [val_main_v28, hx]

/-- The reference's mixed half, normalised. -/
theorem mixed_at (t : Fin 16384) (k : Fin 1024) : val_main_v50 (F := Ideal) x0 x1 x2 x3 x4 (ix2 t k) = mixedAt x0 x1 x2 x3 x4 t k := by
  unfold mixedAt
  simp only [← half_at]
  unfold layerNorm mean
  generalize hx : val_main_v28 (F := Ideal) x0 x1 x2 = z
  pointwise [val_main_v50, val_main_v49, val_main_v48, val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v30, val_main_v29, val_main_cst_6, val_main_cst_7,
    val_main_cst_8, val_main_cst_9, val_main_cst_10, hx]

/-- The order of two places of a chunk, as words. -/
theorem word_ge (i j : Fin 128) : IntOp.cmpi .sge (IntOp.addi (BitVec.ofNat 32 i.val) 0#32) (BitVec.ofNat 32 j.val) = BitVec.ofBool (decide (j.val ≤ i.val)) := by
  rw [show IntOp.addi (BitVec.ofNat 32 i.val) 0#32 = BitVec.ofNat 32 i.val from BitVec.add_zero _]
  exact WordCmp.cmpi_sge_ofNat (by have := i.isLt; omega) (by have := j.isLt; omega)

/-- The lower triangle of ones. -/
theorem tril_at (i j : Fin 128) : val_main_v53 (F := Ideal) (ix2 i j) = (if j.val ≤ i.val then 1 else 0 : EReal) := by
  refine Eq.trans ?_ (keep_eq _ _ _)
  rw [← word_ge]
  pointwise [val_main_v53, val_main_v52, val_main_cst_11, val_main_call0_v0, val_main_call0_c, val_main_call0_v1, val_main_call0_v2, val_main_call0_v3, val_main_call0_v4,
    val_main_call0_cst, val_main_call0_v5]
  rfl

theorem wts_at (h : Fin 4) (i j : Fin 128) : val_main_v56 (F := Ideal) x5 (ix3 h i j) = masked (fun i j => x5 (ix3 h i j)) i j := by
  have e : val_main_v56 (F := Ideal) x5 (ix3 h i j) = (x5 (ix3 h i j) * val_main_v53 (F := Ideal) (ix2 i j) : EReal) := by
    generalize hx : val_main_v53 (F := Ideal) = z
    pointwise [val_main_v56, val_main_v55, val_main_v54, hx]
  rw [e, tril_at]
  unfold masked
  split_ifs
  · exact mul_one _
  · exact mul_zero _

theorem sum_at (n i : Fin 128) (h : Fin 4) (e : Fin 256) : val_main_v62 (F := Ideal) x0 x1 x2 x3 x4 x5 x6 (ix4 n i h e)
    = ((∑ j, val_main_v51 (F := Ideal) x0 x1 x2 x3 x4 (ix4 n j h e) * val_main_v56 (F := Ideal) x5 (ix3 h i j)) + x6 (ix2 h i) : EReal) := by
  generalize hx : val_main_v51 (F := Ideal) x0 x1 x2 x3 x4 = y
  generalize hw : val_main_v56 (F := Ideal) x5 = w
  pointwise [val_main_v62, val_main_v61, val_main_v60, val_main_v59, val_main_v58, val_main_v57, hx, hw]

theorem split_at (n j : Fin 128) (h : Fin 4) (e : Fin 256) : val_main_v51 (F := Ideal) x0 x1 x2 x3 x4 (ix4 n j h e) = val_main_v50 (F := Ideal) x0 x1 x2 x3 x4 (ix2 (chunkRow n j) (col h e)) := by
  rw [val_main_v51_apply]
  refine congrArg _ (funext fun a => Fin.ext ?_)
  match a with
  | ⟨0, _⟩ => show (((n.val * 128 + j.val) * 4 + h.val) * 256 + e.val) / 1024 = 128 * n.val + j.val; omega
  | ⟨1, _⟩ => show (((n.val * 128 + j.val) * 4 + h.val) * 256 + e.val) % 1024 = 256 * h.val + e.val; omega

theorem join_at (n i : Fin 128) (h : Fin 4) (e : Fin 256) : val_main_v63 (F := Ideal) x0 x1 x2 x3 x4 x5 x6 (ix2 (chunkRow n i) (col h e)) = val_main_v62 (F := Ideal) x0 x1 x2 x3 x4 x5 x6 (ix4 n i h e) := by
  rw [val_main_v63_apply]
  refine congrArg _ (funext fun a => Fin.ext ?_)
  match a with
  | ⟨0, _⟩ => show ((128 * n.val + i.val) * 1024 + (256 * h.val + e.val)) / 131072 = n.val; omega
  | ⟨1, _⟩ => show ((128 * n.val + i.val) * 1024 + (256 * h.val + e.val)) / 1024 % 128 = i.val; omega
  | ⟨2, _⟩ => show ((128 * n.val + i.val) * 1024 + (256 * h.val + e.val)) / 256 % 4 = h.val; omega
  | ⟨3, _⟩ => show ((128 * n.val + i.val) * 1024 + (256 * h.val + e.val)) % 256 = e.val; omega

/-- The reference's result is the formula. -/
theorem result_at (n i : Fin 128) (h : Fin 4) (e : Fin 256) : val_main_v65 (F := Ideal) x0 x1 x2 x3 x4 x5 x6 (ix2 (chunkRow n i) (col h e)) = unitAt x0 x1 x2 x3 x4 x5 x6 n i h e := by
  show (val_main_v27 (F := Ideal) x0 x1 x2 (ix2 (chunkRow n i) (col h e)) * val_main_v63 (F := Ideal) x0 x1 x2 x3 x4 x5 x6 (ix2 (chunkRow n i) (col h e)) : EReal) = _
  rw [gate_at, join_at, sum_at]
  unfold unitAt
  simp only [split_at, mixed_at, wts_at, mul_comm (masked _ _ _)]

end Cert.Reference6Ideal.Hand

end
-- ==== Proof.V6.lean ====
/-
  The gated unit's call: the reference's frame, and the kernel and the reference ending with the same result.
-/
module

public import proofs.«01_k».proof.Defs
public import proofs.«01_k».proof.Proof.R6Val
public import proofs.«01_k».proof.Proof.Gen.Reference6Ideal
public import proofs.«01_k».proof.Proof.Gen.Reference6Ideal.Run
public import Idealize.ShloMosaic.Adequacy
public import Idealize.ShloMosaic.Init

@[expose] public section

set_option maxRecDepth 16384

noncomputable section

namespace Cert.Proof

open Idealize.ShloMosaic Idealize.SL.Sem
open Cert.Kernel6Ideal.Hand (X0 X1 X2 X3 X4 X5 X6)

/-- Every run of the reference ends with its arguments unchanged and every semaphore counter at zero. -/
theorem frame_r6 : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run m ρ)

variable (m : (ℓ : Loc Cert.Kernel6Ideal.nD Cert.Kernel6Ideal.τ Cert.Kernel6Ideal.sig) → Buf (Elt Ideal) ℓ) (c : Dev Cert.Kernel6Ideal.nD)

/-- The reference's result is the kernel's. -/
theorem reference_value6 :
    Cert.Reference6Ideal.Read.val_main_v65 (F := Ideal) (X0 m c) (X1 m c) (X2 m c) (X3 m c) (X4 m c) (X5 m c) (X6 m c) = Cert.Kernel6Ideal.Hand.G m c := by
  funext y
  obtain ⟨t, k, rfl⟩ : ∃ (t : Fin 16384) (k : Fin 1024), y = ix2 t k := ⟨y 0, y 1, by funext a; fin_cases a <;> rfl⟩
  obtain ⟨h, e, rfl⟩ : ∃ h e, k = Cert.Rows.col h e := ⟨_, _, Cert.Rows.col_surj k⟩
  obtain ⟨n, i, rfl⟩ : ∃ n i : Fin 128, t = Cert.Kernel6Ideal.Hand.chunkRow n i :=
    ⟨⟨t.val / 128, by omega⟩, ⟨t.val % 128, Nat.mod_lt _ (by decide)⟩, Fin.ext (by show t.val = 128 * (t.val / 128) + t.val % 128; omega)⟩
  exact (Cert.Reference6Ideal.Hand.result_at _ _ _ _ _ _ _ n i h e).trans (Cert.Kernel6Ideal.Hand.G_at m c n i h e _ rfl rfl).symm

/-- With real numbers for floats, the kernel and the reference end with the same result, whatever the arguments, and leave them as they were. -/
theorem value6 : Cert.algebraic_Kernel6Ideal_Reference6Ideal := by
  intro m g m' g' _ ha
  refine ⟨fun c => Cert.Kernel6Ideal.Hand.G m c, Cert.Kernel6Ideal.Hand.value_k m g, ?_⟩
  refine (θ_run Cert.Reference6Ideal.defs _ _).mono (fun r h c => ⟨?_, (h c).2⟩) (Cert.Reference6Ideal.Value.run m' g')
  obtain ⟨a0, a1, a2, a3, a4, a5, a6⟩ := ha c
  refine (h c).1.trans ?_
  rw [Cert.Reference6Ideal.Read.val_main_v65_eq, a0, a1, a2, a3, a4, a5, a6]
  exact reference_value6 m c

end Cert.Proof

end
-- ==== Proof.F7Pay.lean ====
/-
  The mixing layer's first call over the prompt's rows: what its body computes at a place of a block of 1024 rows, of the values and of the convolution's input.
-/
module

public import proofs.«01_k».proof.Proof.Rows
public import proofs.«01_k».proof.Proof.Gen.Kernel7Ideal.Frame
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic Idealize.SL.Sem
open Cert.Rows

/-- The block's rows, normalised. -/
theorem pay4_at (x : FVec Ideal S1024x1024 .f32) (g : FVec Ideal S1x1024 .f32) (r k : Fin 1024) :
    k0_pay4 (F := Ideal) x g (ix2 r k) = rms c1024 (fun d => x (ix2 r d)) (fun d => g (ix2 0 d)) k := by
  unfold rms
  pointwise [k0_pay4]

/-- The projections that are stored by columns. -/
theorem pay5_at (x : FVec Ideal S1024x1024 .f32) (g : FVec Ideal S1x1024 .f32) (w : FVec Ideal S1536x1024 .bf16) (j : Fin 1536) (r : Fin 1024) :
    k0_pay5 (F := Ideal) x g w (ix2 j r) = proj (rms c1024 (fun d => x (ix2 r d)) (fun d => g (ix2 0 d))) (fun k j => w (ix2 j k)) j := by
  have e : k0_pay5 (F := Ideal) x g w (ix2 j r) = ∑ k : Fin 1024, (w (ix2 j k) * k0_pay4 (F := Ideal) x g (ix2 r k) : EReal) := by
    generalize hx : k0_pay4 (F := Ideal) x g = xn
    pointwise [k0_pay5, hx]
  rw [e]
  exact Finset.sum_congr rfl fun k _ => (mul_comm _ _).trans (congrArg (fun a : EReal => a * w (ix2 j k)) (pay4_at x g r k))

/-- The values' block: the last third of the projections. -/
theorem pay103_at (z : FVec Ideal S1536x1024 .f32) (j : Fin 512) (r : Fin 1024) :
    k0_pay103 (F := Ideal) z (ix2 j r) = z (ix2 (⟨1024 + j.val, by omega⟩ : Fin 1536) r) := by
  pointwise [k0_pay103]

/-- The convolution's input: the product of two projections. -/
theorem pay174_at (xn : FVec Ideal S1024x1024 .bf16) (a b : FVec Ideal S1024x512 .bf16) (r : Fin 1024) (j : Fin 512) :
    k0_pay174 (F := Ideal) xn a b (ix2 r j) = ((∑ k : Fin 1024, xn (ix2 r k) * a (ix2 k j)) * (∑ k : Fin 1024, xn (ix2 r k) * b (ix2 k j)) : EReal) := by
  pointwise [k0_pay174]

/-- The block's last eight rows of the convolution's input. -/
theorem pay2_at (u : FVec Ideal S1024x512 .f32) (r : Fin 8) (j : Fin 512) :
    k0_pay2 (F := Ideal) u (ix2 r j) = u (ix2 (⟨1016 + r.val, by omega⟩ : Fin 1024) j) := by
  pointwise [k0_pay2]

variable (m : (ℓ : Loc nD τ sig) → Buf (Elt Ideal) ℓ) (c : Dev nD)

/-- What a point leaves of the values. -/
theorem out_v (t : Fin cfg0.N) : (outsAt0 m c t.val t.isLt).2.2.2.1 = k0_pay103 (F := Ideal) (k0_pay5 (F := Ideal) (iblk m c 0 t) (iblk m c 1 t) (iblk m c 3 t)) := by
  by_cases h0 : t.val % 16 = 0
  · rw [outsAt0_A m c t h0]
    frame_out
  · rw [outsAt0_B m c t h0]
    frame_out

/-- What a point after the first leaves of the convolution's input. -/
theorem out_t (t : Fin cfg0.N) (h0 : ¬t.val % 16 = 0) : (outsAt0 m c t.val t.isLt).2.2.2.2.2.2.2.1
    = k0_pay2 (F := Ideal) (k0_pay174 (F := Ideal) (k0_pay4 (F := Ideal) (iblk m c 0 t) (iblk m c 1 t))
      (View.ld (iblk m c 2 t) (Rect.unit (s := S1024x1536) ![0, 512] S1024x512.size inb_S1024x1536_S1024x512_0_512))
      (View.ld (iblk m c 2 t) (Rect.unit (s := S1024x1536) ![0, 1024] S1024x512.size inb_S1024x1536_S1024x512_0_1024))) := by
  rw [outsAt0_B m c t h0]
  frame_out
  rfl

end Cert.Kernel7Ideal.Hand

end
-- ==== Proof.R7Val.lean ====
/-
  The mixing layer's reference at a place: the values and the convolution's last input rows.
-/
module

public import proofs.«01_k».proof.Proof.Rows
public import proofs.«01_k».proof.Proof.Gen.Reference7Ideal.Read

@[expose] public section

set_option maxRecDepth 16384

noncomputable section

namespace Cert.Reference7Ideal.Hand

open Cert.Reference7Ideal Cert.Reference7Ideal.Read
open Idealize.ShloMosaic Idealize.ShloMosaic.Tactic
open Cert.Rows

variable (x0 : FVec Ideal S16384x1024 .f32) (x1 : FVec Ideal S1024 .f32) (x2 : FVec Ideal S1024x3072 .f32)

/-- A row's projection: the row normalised, times a column of the weights. -/
def hidAt (x : S16384x1024.Idx → EReal) (g : S1024.Idx → EReal) (w : S1024x3072.Idx → EReal) (t : Fin 16384) (j : Fin 3072) : EReal :=
  proj (rms c1024 (fun d => x (ix2 t d)) (fun d => g (ix1 d))) (fun k j => w (ix2 k j)) j

/-- The reference's normalised rows. -/
theorem normed_at (t : Fin 16384) (k : Fin 1024) : val_main_v12 (F := Ideal) x0 x1 (ix2 t k) = rms c1024 (fun d => x0 (ix2 t d)) (fun d => x1 (ix1 d)) k := by
  unfold rms
  pointwise [val_main_v12, val_main_v11, val_main_v10, val_main_v9, val_main_v8, val_main_v7, val_main_v6, val_main_v5, val_main_v4, val_main_v3, val_main_v2, val_main_v1,
    val_main_v0, val_main_cst, val_main_cst_0, val_main_cst_1]

/-- The reference's projections. -/
theorem hid_at (t : Fin 16384) (j : Fin 3072) : val_main_v13 (F := Ideal) x0 x1 x2 (ix2 t j) = hidAt x0 x1 x2 t j := by
  unfold hidAt proj
  simp only [← normed_at]
  generalize hx : val_main_v12 (F := Ideal) x0 x1 = xn
  pointwise [val_main_v13, hx]

/-- The reference's values. -/
theorem v_at (t : Fin 16384) (h : Fin 8) (d : Fin 64) :
    val_main_v15 (F := Ideal) x0 x1 x2 (ix3 t h d) = hidAt x0 x1 x2 t ⟨1024 + (64 * h.val + d.val), by omega⟩ := by
  rw [← hid_at]
  generalize hx : val_main_v13 (F := Ideal) x0 x1 x2 = z
  have e : val_main_v15 (F := Ideal) x0 x1 x2 (ix3 t h d) = val_main_v14 (F := Ideal) x0 x1 x2 (ix2 t (⟨64 * h.val + d.val, by omega⟩ : Fin 512)) := by
    generalize hy : val_main_v14 (F := Ideal) x0 x1 x2 = y
    pointwise [val_main_v15, hy]
    exact congrArg (fun i : Fin 512 => y (ix2 t i)) (Fin.ext (by show h.val * 64 + d.val = 64 * h.val + d.val; omega))
  rw [e]
  pointwise [val_main_v14, hx]

/-- The reference's convolution input. -/
theorem u_at (t : Fin 16384) (j : Fin 512) : val_main_v19 (F := Ideal) x0 x1 x2 (ix2 t j)
    = hidAt x0 x1 x2 t ⟨2048 + j.val, by omega⟩ * hidAt x0 x1 x2 t ⟨2560 + j.val, by omega⟩ := by
  rw [← hid_at, ← hid_at]
  generalize hx : val_main_v13 (F := Ideal) x0 x1 x2 = z
  pointwise [val_main_v19, val_main_v16, val_main_v17, hx]

/-- The reference's last two rows of the convolution's input. -/
theorem tail_at (r : Fin 2) (j : Fin 512) : val_main_v21 (F := Ideal) x0 x1 x2 (ix2 r j)
    = hidAt x0 x1 x2 ⟨16382 + r.val, by omega⟩ ⟨2048 + j.val, by omega⟩ * hidAt x0 x1 x2 ⟨16382 + r.val, by omega⟩ ⟨2560 + j.val, by omega⟩ := by
  rw [← u_at]
  generalize hx : val_main_v19 (F := Ideal) x0 x1 x2 = u
  pointwise [val_main_v21, val_main_v20, hx]
  rw [dif_neg (by omega)]
  exact congrArg (fun i : Fin 16384 => u (ix2 i j)) (Fin.ext (by show 16384 + r.val - 2 = 16382 + r.val; omega))

end Cert.Reference7Ideal.Hand

end
-- ==== Proof.F7Val.lean ====
/-
  The mixing layer's first call over the prompt's rows: the values' and the convolution state's arrays have at a place the reference's numbers.
-/
module

public import proofs.«01_k».proof.Proof.F7Pay
public import proofs.«01_k».proof.Proof.R7Val

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic Idealize.SL.Sem
open Cert.Rows
open Cert.Reference7Ideal.Hand (hidAt)

variable (m : (ℓ : Loc nD τ sig) → Buf (Elt Ideal) ℓ) (c : Dev nD)

/-- Row `r` of row block `t`. -/
def row (t : Fin cfg0.N) (r : Fin 1024) : Fin 16384 := ⟨1024 * t.val + r.val, by have h := lt_of_lt_of_eq t.isLt N_0; omega⟩

/-! ## The blocks of the arrays -/

theorem idx0 : ∀ t : Fin grid0.N, win0_0.index t (0 : Fin 2) = t.val ∧ win0_0.index t (1 : Fin 2) = 0 := by decide +kernel
theorem emb0 (t : Fin cfg0.N) (r : Fin 1024) (k : Fin 1024) : ((cfg0.win 0).blk t).view.emb (ix2 r k) = (ix2 (row t r) k : S16384x1024.Idx) := by
  obtain ⟨e0, e1⟩ := idx0 t
  funext a; apply Fin.ext
  match a with
  | ⟨0, _⟩ => show win0_0.index t (0 : Fin 2) * 1024 + 1 * r.val = _; rw [e0]; show _ = 1024 * t.val + r.val; ring
  | ⟨1, _⟩ => show win0_0.index t (1 : Fin 2) * 1024 + 1 * k.val = _; rw [e1]; show _ = k.val; ring
theorem idx1 : ∀ t : Fin grid0.N, win0_1.index t (0 : Fin 2) = 0 ∧ win0_1.index t (1 : Fin 2) = 0 := by decide +kernel
theorem emb1 (t : Fin cfg0.N) (r : Fin 1) (k : Fin 1024) : ((cfg0.win 1).blk t).view.emb (ix2 r k) = (ix2 r k : S1x1024.Idx) := by
  obtain ⟨e0, e1⟩ := idx1 t
  funext a; apply Fin.ext
  match a with
  | ⟨0, _⟩ => show win0_1.index t (0 : Fin 2) * 1 + 1 * r.val = _; rw [e0]; show _ = r.val; ring
  | ⟨1, _⟩ => show win0_1.index t (1 : Fin 2) * 1024 + 1 * k.val = _; rw [e1]; show _ = k.val; ring
theorem idx2 : ∀ t : Fin grid0.N, win0_2.index t (0 : Fin 2) = 0 ∧ win0_2.index t (1 : Fin 2) = 0 := by decide +kernel
theorem emb2 (t : Fin cfg0.N) (r : Fin 1024) (k : Fin 1536) : ((cfg0.win 2).blk t).view.emb (ix2 r k) = (ix2 r k : S1024x1536.Idx) := by
  obtain ⟨e0, e1⟩ := idx2 t
  funext a; apply Fin.ext
  match a with
  | ⟨0, _⟩ => show win0_2.index t (0 : Fin 2) * 1024 + 1 * r.val = _; rw [e0]; show _ = r.val; ring
  | ⟨1, _⟩ => show win0_2.index t (1 : Fin 2) * 1536 + 1 * k.val = _; rw [e1]; show _ = k.val; ring
theorem idx3 : ∀ t : Fin grid0.N, win0_3.index t (0 : Fin 2) = 0 ∧ win0_3.index t (1 : Fin 2) = 0 := by decide +kernel
theorem emb3 (t : Fin cfg0.N) (r : Fin 1536) (k : Fin 1024) : ((cfg0.win 3).blk t).view.emb (ix2 r k) = (ix2 r k : S1536x1024.Idx) := by
  obtain ⟨e0, e1⟩ := idx3 t
  funext a; apply Fin.ext
  match a with
  | ⟨0, _⟩ => show win0_3.index t (0 : Fin 2) * 1536 + 1 * r.val = _; rw [e0]; show _ = r.val; ring
  | ⟨1, _⟩ => show win0_3.index t (1 : Fin 2) * 1024 + 1 * k.val = _; rw [e1]; show _ = k.val; ring
theorem idx11 : ∀ t : Fin grid0.N, win0_11.index t (0 : Fin 2) = 0 ∧ win0_11.index t (1 : Fin 2) = t.val := by decide +kernel
theorem emb11 (t : Fin cfg0.N) (j : Fin 512) (r : Fin 1024) : ((cfg0.win 11).blk t).view.emb (ix2 j r) = (ix2 j (row t r) : S512x16384.Idx) := by
  obtain ⟨e0, e1⟩ := idx11 t
  funext a; apply Fin.ext
  match a with
  | ⟨0, _⟩ => show win0_11.index t (0 : Fin 2) * 512 + 1 * j.val = _; rw [e0]; show _ = j.val; ring
  | ⟨1, _⟩ => show win0_11.index t (1 : Fin 2) * 1024 + 1 * r.val = _; rw [e1]; show _ = 1024 * t.val + r.val; ring
theorem idx15 : ∀ t : Fin grid0.N, win0_15.index t (0 : Fin 2) = 0 ∧ win0_15.index t (1 : Fin 2) = 0 := by decide +kernel
theorem emb15 (t : Fin cfg0.N) (r : Fin 8) (k : Fin 512) : ((cfg0.win 15).blk t).view.emb (ix2 r k) = (ix2 r k : S8x512.Idx) := by
  obtain ⟨e0, e1⟩ := idx15 t
  funext a; apply Fin.ext
  match a with
  | ⟨0, _⟩ => show win0_15.index t (0 : Fin 2) * 8 + 1 * r.val = _; rw [e0]; show _ = r.val; ring
  | ⟨1, _⟩ => show win0_15.index t (1 : Fin 2) * 512 + 1 * k.val = _; rw [e1]; show _ = k.val; ring

/-! ## The arrays' entries -/

/-- The arguments as the call is given them. -/
def X0 : S16384x1024.Idx → EReal := m ((c : Thread nD τ).loc main_arg0)
@[inherit_doc X0] def X1 : S1024.Idx → EReal := m ((c : Thread nD τ).loc main_arg1)
@[inherit_doc X0] def X2 : S1024x3072.Idx → EReal := m ((c : Thread nD τ).loc main_arg2)

theorem in0 (t : Fin cfg0.N) (r : Fin 1024) (k : Fin 1024) : iblk m c 0 t (ix2 r k) = X0 m c (ix2 (row t r) k) := by
  show V m c main_arg0 (((cfg0.win 0).blk t).view.emb (ix2 r k)) = _
  rw [emb0]; exact congrFun (V_main_arg0 m c) _
theorem V1 (k : Fin 1024) : (V (F := Ideal) m c main_v13 : S1x1024.Idx → EReal) (ix2 (0 : Fin 1) k) = X1 m c (ix1 k) := by
  unfold V X1
  after_reads_at
theorem in1 (t : Fin cfg0.N) (k : Fin 1024) : iblk m c 1 t (ix2 (0 : Fin 1) k) = X1 m c (ix1 k) := by
  show V m c main_v13 (((cfg0.win 1).blk t).view.emb (ix2 (0 : Fin 1) k)) = _
  rw [emb1]; exact V1 m c k
theorem V2 (r : Fin 1024) (k : Fin 1536) : (V (F := Ideal) m c main_v14 : S1024x1536.Idx → EReal) (ix2 r k) = X2 m c (ix2 r (⟨1536 + k.val, by omega⟩ : Fin 3072)) := by
  unfold V X2
  after_reads_at
theorem in2 (t : Fin cfg0.N) (r : Fin 1024) (k : Fin 1536) : iblk m c 2 t (ix2 r k) = X2 m c (ix2 r (⟨1536 + k.val, by omega⟩ : Fin 3072)) := by
  show V m c main_v14 (((cfg0.win 2).blk t).view.emb (ix2 r k)) = _
  rw [emb2]; exact V2 m c r k
theorem V3 (j : Fin 1536) (k : Fin 1024) : (V (F := Ideal) m c main_v16 : S1536x1024.Idx → EReal) (ix2 j k) = X2 m c (ix2 k (⟨j.val, by omega⟩ : Fin 3072)) := by
  unfold V X2
  after_reads_at
theorem in3 (t : Fin cfg0.N) (j : Fin 1536) (k : Fin 1024) : iblk m c 3 t (ix2 j k) = X2 m c (ix2 k (⟨j.val, by omega⟩ : Fin 3072)) := by
  show V m c main_v16 (((cfg0.win 3).blk t).view.emb (ix2 j k)) = _
  rw [emb3]; exact V3 m c j k

theorem lda_at (x : Vec Ideal S1024x1536 .bf16) (l : Fin 1024) (k : Fin 512) :
    View.ld x (Rect.unit (s := S1024x1536) ![0, 512] S1024x512.size inb_S1024x1536_S1024x512_0_512) (ix2 l k) = x (ix2 l (⟨512 + k.val, by omega⟩ : Fin 1536)) := by
  refine (View.ld_apply _ _ _).trans (congrArg x (funext fun a => Fin.ext ?_))
  match a with
  | ⟨0, _⟩ => show 0 + 1 * l.val = l.val; omega
  | ⟨1, _⟩ => show 512 + 1 * k.val = 512 + k.val; omega
theorem ldb_at (x : Vec Ideal S1024x1536 .bf16) (l : Fin 1024) (k : Fin 512) :
    View.ld x (Rect.unit (s := S1024x1536) ![0, 1024] S1024x512.size inb_S1024x1536_S1024x512_0_1024) (ix2 l k) = x (ix2 l (⟨1024 + k.val, by omega⟩ : Fin 1536)) := by
  refine (View.ld_apply _ _ _).trans (congrArg x (funext fun a => Fin.ext ?_))
  match a with
  | ⟨0, _⟩ => show 0 + 1 * l.val = l.val; omega
  | ⟨1, _⟩ => show 1024 + 1 * k.val = 1024 + k.val; omega

/-! ## The formulas -/

/-- The convolution's input at a row. -/
def convIn (t : Fin 16384) (j : Fin 512) : EReal :=
  hidAt (X0 m c) (X1 m c) (X2 m c) t ⟨2048 + j.val, by omega⟩ * hidAt (X0 m c) (X1 m c) (X2 m c) t ⟨2560 + j.val, by omega⟩

/-- The values by columns, as the call writes them. -/
def GA : S512x16384.Idx → EReal := fun i => hidAt (X0 m c) (X1 m c) (X2 m c) ⟨(i 1).val, (i 1).isLt⟩ ⟨1024 + (i 0).val, by have h : (i 0).val < 512 := (i 0).isLt; omega⟩

/-- The last eight rows of the convolution's input. -/
def GB : S8x512.Idx → EReal := fun i => convIn m c ⟨16376 + (i 0).val, by have h : (i 0).val < 8 := (i 0).isLt; omega⟩ ⟨(i 1).val, (i 1).isLt⟩

/-- The values, as the cache has them. -/
def GV : S16384x8x64.Idx → EReal := fun i => hidAt (X0 m c) (X1 m c) (X2 m c) ⟨(i 0).val, (i 0).isLt⟩
  ⟨1024 + (64 * (i 1).val + (i 2).val), by have h : (i 1).val < 8 := (i 1).isLt; have h' : (i 2).val < 64 := (i 2).isLt; omega⟩

/-- The last two rows of the convolution's input. -/
def GT : S2x512.Idx → EReal := fun i => convIn m c ⟨16382 + (i 0).val, by have h : (i 0).val < 2 := (i 0).isLt; omega⟩ ⟨(i 1).val, (i 1).isLt⟩

/-! ## What a point writes -/

theorem norm_blk (t : Fin cfg0.N) (r k : Fin 1024) : rms c1024 (fun d => iblk m c 0 t (ix2 r d)) (fun d => iblk m c 1 t (ix2 (0 : Fin 1) d)) k
    = rms c1024 (fun d => X0 m c (ix2 (row t r) d)) (fun d => X1 m c (ix1 d)) k :=
  congrArg₂ (fun a b => rms c1024 a b k) (funext fun d => in0 m c t r d) (funext fun d => in1 m c t d)

/-- A block of the values. -/
theorem out11 (t : Fin cfg0.N) (j : Fin 512) (r : Fin 1024) : (dats m 0 c).after 11 t (ix2 j r) = GA m c (ix2 j (row t r)) := by
  rw [after0_11, out_v]
  refine (pay103_at _ j r).trans ((pay5_at _ _ _ _ r).trans ?_)
  exact Finset.sum_congr rfl fun k _ => congrArg₂ (fun a b : EReal => a * b) (norm_blk m c t r k) (in3 m c t _ k)

/-- The last point's block of the convolution's input. -/
theorem out15 (t : Fin cfg0.N) (h : t.val % 16 = 15) (r : Fin 8) (j : Fin 512) : (dats m 0 c).after 15 t (ix2 r j) = GB m c (ix2 r j) := by
  have hN := lt_of_lt_of_eq t.isLt N_0
  have hr : row t ⟨1016 + r.val, by omega⟩ = (⟨16376 + r.val, by omega⟩ : Fin 16384) := Fin.ext (by show 1024 * t.val + (1016 + r.val) = 16376 + r.val; omega)
  rw [after0_15, out_t m c t (by omega)]
  refine (pay2_at _ r j).trans ((pay174_at _ _ _ _ j).trans ?_)
  refine congrArg₂ (fun a b : EReal => a * b) ?_ ?_
  · show _ = ∑ k : Fin 1024, rms c1024 (fun d => X0 m c (ix2 (⟨16376 + r.val, by omega⟩ : Fin 16384) d)) (fun d => X1 m c (ix1 d)) k * X2 m c (ix2 k (⟨2048 + j.val, by omega⟩ : Fin 3072))
    refine Finset.sum_congr rfl fun k _ => congrArg₂ (fun a b : EReal => a * b) ((pay4_at _ _ _ k).trans ((norm_blk m c t _ k).trans (by rw [hr]))) ((lda_at _ k j).trans ((in2 m c t k _).trans ?_))
    exact congrArg (fun i : Fin 3072 => X2 m c (ix2 k i)) (Fin.ext (by show 1536 + (512 + j.val) = 2048 + j.val; omega))
  · show _ = ∑ k : Fin 1024, rms c1024 (fun d => X0 m c (ix2 (⟨16376 + r.val, by omega⟩ : Fin 16384) d)) (fun d => X1 m c (ix1 d)) k * X2 m c (ix2 k (⟨2560 + j.val, by omega⟩ : Fin 3072))
    refine Finset.sum_congr rfl fun k _ => congrArg₂ (fun a b : EReal => a * b) ((pay4_at _ _ _ k).trans ((norm_blk m c t _ k).trans (by rw [hr]))) ((ldb_at _ k j).trans ((in2 m c t k _).trans ?_))
    exact congrArg (fun i : Fin 3072 => X2 m c (ix2 k i)) (Fin.ext (by show 1536 + (1024 + j.val) = 2560 + j.val; omega))

/-! ## The result arrays -/

theorem cover11 (j : S512x16384.Idx) : ∃ t : Fin cfg0.N, (cfg0.win 11).flush t = true ∧ j ∈ ((cfg0.win 11).blk t).view.set := by
  have h1 : (j 1).val < 16384 := (j 1).isLt
  obtain ⟨t, ht⟩ : ∃ t : Fin cfg0.N, t.val = (j 1).val / 1024 := ⟨⟨_, lt_of_lt_of_eq (by omega) N_0.symm⟩, rfl⟩
  refine ⟨t, flush0_11 t, ?_⟩
  have e := ((cfg0.win 11).blk t).view.emb_mem_set (ix2 (⟨(j 0).val, (j 0).isLt⟩ : Fin 512) (⟨(j 1).val % 1024, Nat.mod_lt _ (by decide)⟩ : Fin 1024))
  rw [emb11] at e
  have ej : (ix2 (⟨(j 0).val, (j 0).isLt⟩ : Fin 512) (row t ⟨(j 1).val % 1024, Nat.mod_lt _ (by decide)⟩) : S512x16384.Idx) = j := by
    funext a; apply Fin.ext
    match a with
    | ⟨0, _⟩ => rfl
    | ⟨1, _⟩ => show 1024 * t.val + (j 1).val % 1024 = (j 1).val; omega
  exact ej ▸ e

/-- The values' array after the last grid point. -/
theorem final11 : (dats m 0 c).arrAt 11 cfg0.N = GA m c := by
  refine (dats m 0 c).arrAt_eq_of_cover 11 (GA m c) (fun t _ => funext fun y => ?_) cover11
  obtain ⟨j, r, rfl⟩ : ∃ (j : Fin 512) (r : Fin 1024), y = ix2 j r := ⟨y 0, y 1, by funext a; fin_cases a <;> rfl⟩
  exact (out11 m c t j r).trans (congrArg (GA m c) (emb11 t j r).symm)

theorem cover15 (j : S8x512.Idx) : ∃ t : Fin cfg0.N, (cfg0.win 15).flush t = true ∧ j ∈ ((cfg0.win 15).blk t).view.set := by
  obtain ⟨t, ht⟩ : ∃ t : Fin cfg0.N, t.val = 15 := ⟨⟨15, lt_of_lt_of_eq (by omega) N_0.symm⟩, rfl⟩
  refine ⟨t, (flush0_15 t).mpr (by omega), ?_⟩
  have e := ((cfg0.win 15).blk t).view.emb_mem_set (ix2 (⟨(j 0).val, (j 0).isLt⟩ : Fin 8) (⟨(j 1).val, (j 1).isLt⟩ : Fin 512))
  rw [emb15] at e
  have ej : (ix2 (⟨(j 0).val, (j 0).isLt⟩ : Fin 8) (⟨(j 1).val, (j 1).isLt⟩ : Fin 512) : S8x512.Idx) = j := by
    funext a; apply Fin.ext
    match a with
    | ⟨0, _⟩ => rfl
    | ⟨1, _⟩ => rfl
  exact ej ▸ e

/-- The convolution state's array after the last grid point. -/
theorem final15 : (dats m 0 c).arrAt 15 cfg0.N = GB m c := by
  refine (dats m 0 c).arrAt_eq_of_cover 15 (GB m c) (fun t hf => funext fun y => ?_) cover15
  obtain ⟨r, j, rfl⟩ : ∃ (r : Fin 8) (j : Fin 512), y = ix2 r j := ⟨y 0, y 1, by funext a; fin_cases a <;> rfl⟩
  exact (out15 m c t ((flush0_15 t).mp hf) r j).trans (congrArg (GB m c) (emb15 t r j).symm)

/-! ## The operations after the call -/

section Tail
variable (W : Valuation τ sig (Elt Ideal))

theorem tail_v (t : Fin 16384) (h : Fin 8) (d : Fin 64) :
    (StableHlo.after (hostOps1 (F := Ideal)) W (Proc.devRef .tc main_v22) : S16384x8x64.Idx → EReal) (ix3 t h d)
      = (W (Proc.devRef .tc main_v20_3) : S512x16384.Idx → EReal) (ix2 (⟨64 * h.val + d.val, by omega⟩ : Fin 512) t) := by
  after_reads_at
  exact congrArg (fun i : Fin 512 => (W (Proc.devRef .tc main_v20_3) : S512x16384.Idx → EReal) (ix2 i t)) (Fin.ext (by show h.val * 64 + d.val = 64 * h.val + d.val; omega))
theorem tail_t (r : Fin 2) (j : Fin 512) :
    (StableHlo.after (hostOps1 (F := Ideal)) W (Proc.devRef .tc main_v23) : S2x512.Idx → EReal) (ix2 r j)
      = (W (Proc.devRef .tc main_v20_7) : S8x512.Idx → EReal) (ix2 (⟨6 + r.val, by omega⟩ : Fin 8) j) := by
  after_reads_at
end Tail

theorem end_v : Pipeline.afterTail₀ cfgs (dats m) 0 (V0 m) [hostOps1] c main_v22 = GV m c := by
  funext y
  obtain ⟨t, h, d, rfl⟩ : ∃ (t : Fin 16384) (h : Fin 8) (d : Fin 64), y = ix3 t h d := ⟨y 0, y 1, y 2, by funext a; fin_cases a <;> rfl⟩
  refine (tail_v _ t h d).trans ?_
  exact congrFun ((Pipeline.withArrays_arr spec0 winFacts0.arr_inj c (V0 m c) (fun w => (dats m 0 c).arrAt w cfg0.N) 11).trans (final11 m c)) _

theorem end_t : Pipeline.afterTail₀ cfgs (dats m) 0 (V0 m) [hostOps1] c main_v23 = GT m c := by
  funext y
  obtain ⟨r, j, rfl⟩ : ∃ (r : Fin 2) (j : Fin 512), y = ix2 r j := ⟨y 0, y 1, by funext a; fin_cases a <;> rfl⟩
  refine (tail_t _ r j).trans ?_
  refine (congrFun ((Pipeline.withArrays_arr spec0 winFacts0.arr_inj c (V0 m c) (fun w => (dats m 0 c).arrAt w cfg0.N) 15).trans (final15 m c)) _).trans ?_
  exact congrArg (fun i => convIn m c i j) (Fin.ext (by show 16376 + (6 + r.val) = 16382 + r.val; omega))

/-- Every run of the program ends with the two result arrays at the formulas' values and the arguments' arrays unchanged. -/
theorem value_k (ρ : Dev nD → PrngReg) : θ_run defs (onTc (τ := τ) (main (F := Ideal))) ⟨m, fun _ => 0, ρ⟩ (fun r => ∀ c : Dev nD,
      r.2.mem ((c.tc : Thread nD τ).loc main_v22) = GV m c
      ∧ r.2.mem ((c.tc : Thread nD τ).loc main_v23) = GT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).2 main_v22 (Pipeline.mem_restRefs_of main_v22 rfl (by decide))).trans (end_v m c), ((h.1 c).2 main_v23 (Pipeline.mem_restRefs_of main_v23 rfl (by decide))).trans (end_t m c), h.2 c⟩)
    (θ_run_and (run_main m ρ) (unchanged m ρ))

end Cert.Kernel7Ideal.Hand

end
-- ==== Proof.V7.lean ====
/-
  The mixing layer's first call: the reference's frame, and the kernel and the reference ending with the same results.
-/
module

public import proofs.«01_k».proof.Defs
public import proofs.«01_k».proof.Proof.F7Val
public import proofs.«01_k».proof.Proof.Gen.Reference7Ideal
public import proofs.«01_k».proof.Proof.Gen.Reference7Ideal.Run
public import Idealize.ShloMosaic.Adequacy
public import Idealize.ShloMosaic.Init

@[expose] public section

set_option maxRecDepth 16384

noncomputable section

namespace Cert.Proof

open Idealize.ShloMosaic Idealize.SL.Sem
open Cert.Kernel7Ideal.Hand (X0 X1 X2 GV GT)

/-- Every run of the reference ends with its arguments unchanged and every semaphore counter at zero. -/
theorem frame_r7 : Cert.quiescent_Reference7Ideal := by
  intro m ρ _
  exact (θ_run Cert.Reference7Ideal.defs _ _).mono (fun r h => ⟨fun c => (h c).2.2, sem_eq_zero_of_no_sems (by decide) r.2⟩)
    (Cert.Reference7Ideal.Value.run m ρ)

variable (m : (ℓ : Loc Cert.Kernel7Ideal.nD Cert.Kernel7Ideal.τ Cert.Kernel7Ideal.sig) → Buf (Elt Ideal) ℓ) (c : Dev Cert.Kernel7Ideal.nD)

/-- The reference's values are the kernel's. -/
theorem reference_v7 : Cert.Reference7Ideal.Read.val_main_v15 (F := Ideal) (X0 m c) (X1 m c) (X2 m c) = GV m c := by
  funext y
  obtain ⟨t, h, d, rfl⟩ : ∃ (t : Fin 16384) (h : Fin 8) (d : Fin 64), y = ix3 t h d := ⟨y 0, y 1, y 2, by funext a; fin_cases a <;> rfl⟩
  exact Cert.Reference7Ideal.Hand.v_at _ _ _ t h d

/-- The reference's last rows of the convolution's input are the kernel's. -/
theorem reference_t7 : Cert.Reference7Ideal.Read.val_main_v21 (F := Ideal) (X0 m c) (X1 m c) (X2 m c) = GT m c := by
  funext y
  obtain ⟨r, j, rfl⟩ : ∃ (r : Fin 2) (j : Fin 512), y = ix2 r j := ⟨y 0, y 1, by funext a; fin_cases a <;> rfl⟩
  exact Cert.Reference7Ideal.Hand.tail_at _ _ _ r j

/-- With real numbers for floats, the kernel and the reference end with the same values and the same last rows, whatever the arguments, and leave them as they were. -/
theorem value7 : Cert.algebraic_Kernel7Ideal_Reference7Ideal := by
  intro m g m' g' _ ha
  refine ⟨fun c => GV m c, fun c => GT m c, Cert.Kernel7Ideal.Hand.value_k m g, ?_⟩
  refine (θ_run Cert.Reference7Ideal.defs _ _).mono (fun r h c => ⟨?_, ?_, (h c).2.2⟩) (Cert.Reference7Ideal.Value.run m' g')
  · obtain ⟨a0, a1, a2, -⟩ := ha c
    refine (h c).1.trans ?_
    rw [Cert.Reference7Ideal.Read.val_main_v15_eq, a0, a1, a2]
    exact reference_v7 m c
  · obtain ⟨a0, a1, a2, -⟩ := ha c
    refine (h c).2.1.trans ?_
    rw [Cert.Reference7Ideal.Read.val_main_v21_eq, a0, a1, a2]
    exact reference_t7 m c

end Cert.Proof

end
-- ==== Proof.RTop.lean ====
/-
  The three best blocks as a stable descending sort finds them, and as the number of blocks that go before one.
-/
module

public import proofs.«01_k».proof.Proof.Spec
public import Idealize.ShloMosaic.Lib.SortFacts
public import Idealize.ShloMosaic.Lib.PointwiseCore

@[expose] public section

noncomputable section

namespace Cert.Moba
open Idealize.ShloMosaic

section Lex
variable {n : ℕ} (f : Fin n → EReal)

/-- Place `a` goes before place `b`: its element is greater, or equal and the place earlier. -/
def Lex (a b : Fin n) : Prop := f b < f a ∨ (f a = f b ∧ a < b)

theorem Lex.not_le {a b : Fin n} (h : Lex f a b) : ¬ Lex f b a := by
  rintro (h' | ⟨e', h'⟩) <;> rcases h with h | ⟨e, h⟩
  · exact lt_asymm h h'
  · rw [e] at h'; exact lt_irrefl _ h'
  · rw [e'] at h; exact lt_irrefl _ h
  · exact lt_asymm h h'

/-- The comparison that a descending sort asks. -/
def before (a b : Fin n) : Bool := decide (f b < f a)

theorem lex_insert (a : Fin n) (l : List (Fin n)) (ha : ∀ b ∈ l, a < b) (hl : l.Pairwise (Lex f)) :
    (insertBefore (before f) a l).Pairwise (Lex f) := by
  induction l with
  | nil => exact List.pairwise_singleton _ _
  | cons b l ih =>
    rw [List.pairwise_cons] at hl
    unfold insertBefore
    split
    · rename_i hb
      have hb' : f a < f b := of_decide_eq_true hb
      refine List.pairwise_cons.mpr ⟨fun c hc => ?_, ih (fun c hc => ha c (List.mem_cons_of_mem _ hc)) hl.2⟩
      rcases List.mem_cons.mp ((perm_insertBefore _ a l).mem_iff.mp hc) with rfl | hc'
      · exact Or.inl hb'
      · exact hl.1 c hc'
    · rename_i hb
      have hb' : f b ≤ f a := not_lt.1 fun h => hb (decide_eq_true h)
      refine List.pairwise_cons.mpr ⟨fun c hc => ?_, List.pairwise_cons.mpr hl⟩
      have hca : f c ≤ f a := by
        rcases List.mem_cons.mp hc with rfl | hc'
        · exact hb'
        · rcases hl.1 c hc' with h | ⟨h, -⟩
          · exact h.le.trans hb'
          · exact h ▸ hb'
      rcases hca.lt_or_eq with h | h
      · exact Or.inl h
      · exact Or.inr ⟨h.symm, ha c hc⟩

theorem lex_sort (l : List (Fin n)) (hl : l.Pairwise (· < ·)) : (stableSort (before f) l).Pairwise (Lex f) := by
  induction l with
  | nil => exact List.Pairwise.nil
  | cons a l ih =>
    rw [List.pairwise_cons] at hl
    unfold stableSort
    exact lex_insert f a _ (fun b hb => hl.1 b ((perm_stableSort _ l).mem_iff.mp hb)) (ih hl.2)

theorem lex_sorted {i j : Fin n} (h : i < j) : Lex f (sortedFrom (before f) i) (sortedFrom (before f) j) := by
  have hp : ∀ a b : Fin (sortPositions n (before f)).length, a < b → Lex f ((sortPositions n (before f)).get a) ((sortPositions n (before f)).get b) :=
    List.pairwise_iff_get.mp (lex_sort f (List.finRange n) (List.pairwise_lt_finRange n))
  unfold sortedFrom
  exact hp _ _ (by simp only [Fin.lt_def, Fin.val_cast]; exact h)

open Classical in
/-- A sorted place is the number of places that go before its element. -/
theorem card_before (j : Fin n) : (Finset.univ.filter fun k => Lex f k (sortedFrom (before f) j)).card = j.val := by
  have e : (Finset.univ.filter fun k => Lex f k (sortedFrom (before f) j)) = (Finset.Iio j).image (sortedFrom (before f)) := by
    ext k
    simp only [Finset.mem_filter, Finset.mem_univ, true_and, Finset.mem_image, Finset.mem_Iio]
    constructor
    · intro h
      obtain ⟨i, rfl⟩ := sortedFrom_surjective (before f) k
      refine ⟨i, ?_, rfl⟩
      rcases lt_trichotomy i j with h' | h' | h'
      · exact h'
      · subst h'; exact absurd h (Lex.not_le f h)
      · exact absurd h (Lex.not_le f (lex_sorted f h'))
    · rintro ⟨i, hi, rfl⟩; exact lex_sorted f hi
  rw [e, Finset.card_image_of_injective _ (sortedFrom_injective _), Fin.card_Iio]

end Lex

/-- The gates of the blocks before block `i`, −∞ for the others: sorted, the first three places hold exactly the picked blocks. -/
theorem picked_sorted (g : ℕ → ℝ) (i : ℕ) (f : Fin 64 → EReal) (hf : ∀ k : Fin 64, f k = if k.val < i then (g k.val : EReal) else ⊥) (hi : i ≤ 64) (n : ℕ) :
    Picked g i n ↔ n < i ∧ ∃ j : Fin 3, (sortedFrom (before f) (j.castLE (by norm_num))).val = n := by
  classical
  unfold Picked
  rw [Finset.mem_range]
  refine and_congr_right fun hn => ?_
  obtain ⟨j, hj⟩ := sortedFrom_surjective (before f) (⟨n, by omega⟩ : Fin 64)
  have hr : rank g (Finset.range i) n = j.val := by
    rw [← card_before f j, hj]
    unfold rank
    refine (Finset.card_bij (fun (k : Fin 64) _ => k.val) ?_ ?_ ?_).symm
    · intro k hk
      have hk' := (Finset.mem_filter.1 hk).2
      unfold Lex at hk'
      rw [hf, hf, if_pos (show (⟨n, by omega⟩ : Fin 64).val < i from hn)] at hk'
      by_cases hki : k.val < i
      · rw [if_pos hki] at hk'
        refine Finset.mem_filter.2 ⟨Finset.mem_range.2 hki, ?_⟩
        rcases hk' with h | ⟨h, h'⟩
        · exact Or.inl (EReal.coe_lt_coe_iff.1 h)
        · exact Or.inr ⟨EReal.coe_injective h, h'⟩
      · rw [if_neg hki] at hk'
        rcases hk' with h | ⟨h, -⟩
        · exact absurd h not_lt_bot
        · exact absurd h.symm (EReal.coe_ne_bot _)
    · intro a _ b _ h; exact Fin.ext h
    · intro k hk
      obtain ⟨h1, h2⟩ := Finset.mem_filter.1 hk
      have hki := Finset.mem_range.1 h1
      refine ⟨⟨k, by omega⟩, Finset.mem_filter.2 ⟨Finset.mem_univ _, ?_⟩, rfl⟩
      unfold Lex
      rw [hf, hf, if_pos (show (⟨n, by omega⟩ : Fin 64).val < i from hn), if_pos (show (⟨k, by omega⟩ : Fin 64).val < i from hki)]
      rcases h2 with h | ⟨h, h'⟩
      · exact Or.inl (EReal.coe_lt_coe_iff.2 h)
      · exact Or.inr ⟨by rw [h], h'⟩
  rw [hr]
  constructor
  · intro h
    exact ⟨⟨j.val, h⟩, congrArg Fin.val hj⟩
  · rintro ⟨j', hj'⟩
    have : j'.castLE (by norm_num) = j := sortedFrom_injective (before f) (Fin.ext (hj'.trans (congrArg Fin.val hj).symm))
    rw [← this]; exact j'.isLt

theorem along_ix3 (t : Fin 16384) (h : Fin 8) (j k : Fin 64) : (ix3 t h j : (⟨3, ![16384, 8, 64]⟩ : Shape).Idx).along (2 : Fin 3) k = ix3 t h k := by
  funext a
  unfold Shape.Idx.along
  match a with
  | ⟨0, _⟩ => exact Function.update_of_ne (show (0 : Fin 3) ≠ 2 by decide) _ _
  | ⟨1, _⟩ => exact Function.update_of_ne (show (1 : Fin 3) ≠ 2 by decide) _ _
  | ⟨2, _⟩ => exact Function.update_self (2 : Fin 3) _ _

/-- The position that `lax.top_k` reports. -/
theorem topK_idx (x : (⟨3, ![16384, 8, 64]⟩ : Shape).Idx → EReal) (h : (⟨3, ![16384, 8, 64]⟩ : Shape).Slices (fun _ => 0) ⟨3, ![16384, 8, 3]⟩)
    (t : Fin 16384) (hd : Fin 8) (j : Fin 3) :
    (Host.topK (⟨3, ![16384, 8, 3]⟩ : Shape) 2 (Ideal.cmpTotal .gt) x h).2 (ix3 t hd j)
      = BitVec.ofNat 32 (sortedFrom (before fun k : Fin 64 => x (ix3 t hd k)) (j.castLE (by norm_num))).val := by
  have e : (fun k k' : Fin 64 => Ideal.cmpTotal .gt (x (ix3 t hd k)) (x (ix3 t hd k')) == 1#1) = before fun k : Fin 64 => x (ix3 t hd k) := by
    funext k k'
    show (BitVec.ofBool (decide (x (ix3 t hd k') < x (ix3 t hd k))) == 1#1) = decide (x (ix3 t hd k') < x (ix3 t hd k))
    cases decide (x (ix3 t hd k') < x (ix3 t hd k)) <;> rfl
  have key : ∀ (σ : (Fin 64 → Fin 64 → Bool) → Fin 64 → Fin 64) (J : (⟨3, ![16384, 8, 64]⟩ : Shape).Idx), J = ix3 t hd (j.castLE (by norm_num) : Fin 64) →
      BitVec.ofNat 32 (J.along (2 : Fin 3) (σ (fun k k' : Fin 64 => Ideal.cmpTotal .gt (x (J.along (2 : Fin 3) k)) (x (J.along (2 : Fin 3) k')) == 1#1) (J (2 : Fin 3))) (2 : Fin 3)).val
        = BitVec.ofNat 32 (σ (before fun k : Fin 64 => x (ix3 t hd k)) (j.castLE (by norm_num))).val := by
    rintro σ _ rfl
    simp only [along_ix3]
    rw [e]
    rfl
  have h3 : 2 < (⟨3, ![16384, 8, 64]⟩ : Shape).rank := by decide
  unfold Host.topK Host.sort2
  dsimp only
  simp only [dif_pos h3]
  unfold extractStridedSlice
  refine (key sortedFrom _ ?_)
  funext a
  match a with
  | ⟨0, _⟩ => exact Fin.ext (Nat.zero_add _)
  | ⟨1, _⟩ => exact Fin.ext (Nat.zero_add _)
  | ⟨2, _⟩ => exact Fin.ext (Nat.zero_add _)

end Cert.Moba
end
-- ==== Proof.RVal.lean ====
/-
  The reference's blocks: the gates, the blocks that `top_k` reports, and the keys and values gathered from them.
-/
module

public import proofs.«01_k».proof.Proof.KHost
public import proofs.«01_k».proof.Proof.RTop
public import proofs.«01_k».proof.Proof.RSoft
public import proofs.«01_k».proof.Proof.Gen.ReferenceIdeal.Read

@[expose] public section

set_option maxRecDepth 16384
set_option maxHeartbeats 1000000

noncomputable section

namespace Cert.ReferenceIdeal.Hand

open Cert.ReferenceIdeal Cert.ReferenceIdeal.Gen Cert.ReferenceIdeal.Read Cert.Moba
open Idealize.ShloMosaic Idealize.ShloMosaic.TcCoe Idealize.ShloMosaic.Tactic

/-! ## Words -/

theorem own_word : ∀ (a : Fin 64) (b : Fin 256),
    Scalar.select (IntOp.andi (IntOp.cmpi .ne
          (if BitVec.ofNat 32 (256 * a.val + b.val) = 0 then 0 else if (BitVec.ofNat 32 (256 * a.val + b.val)).msb = true then -1 else 1)
          (if (256#32 : BitVec 32) = 0 then 0 else if (256#32 : BitVec 32).msb = true then -1 else (1 : BitVec 32)))
        (IntOp.cmpi .ne (IntOp.remsi ArithUnit.host (BitVec.ofNat 32 (256 * a.val + b.val)) 256#32) 0#32))
      (IntOp.subi (IntOp.divsi ArithUnit.host (BitVec.ofNat 32 (256 * a.val + b.val)) 256#32) 1#32)
      (IntOp.divsi ArithUnit.host (BitVec.ofNat 32 (256 * a.val + b.val)) 256#32) = BitVec.ofNat 32 a.val := by
  decide +kernel

theorem wrap64 : ∀ n : Fin 64, Scalar.select (IntOp.cmpi .slt (BitVec.ofNat 32 n.val) 0#32) (IntOp.addi (BitVec.ofNat 32 n.val) 64#32) (BitVec.ofNat 32 n.val)
    = BitVec.ofNat 32 n.val := by decide +kernel

theorem wrap8 : ∀ n : Fin 8, Scalar.select (IntOp.cmpi .slt (BitVec.ofNat 32 n.val) 0#32) (IntOp.addi (BitVec.ofNat 32 n.val) 8#32) (BitVec.ofNat 32 n.val)
    = BitVec.ofNat 32 n.val := by decide +kernel

theorem slt64 : ∀ a b : Fin 64, IntOp.cmpi .slt (BitVec.ofNat 32 a.val) (BitVec.ofNat 32 b.val) = BitVec.ofBool (decide (a.val < b.val)) := by decide +kernel

theorem start64 : ∀ n : Fin 64, min (BitVec.ofNat 32 n.val).toInt.toNat 63 = n.val := by decide +kernel
theorem start8 : ∀ n : Fin 8, min (BitVec.ofNat 32 n.val).toInt.toNat 7 = n.val := by decide +kernel

theorem ofNat_toInt' (n : ℕ) (hn : n < 2 ^ 31) : (BitVec.ofNat 32 n).toInt = n := by
  have e : (BitVec.ofNat 32 n).toNat = n := by rw [BitVec.toNat_ofNat]; omega
  rw [BitVec.toInt_eq_toNat_of_lt (by rw [e]; omega), e]

theorem sle_word (p r t : ℕ) (hp : p < 64) (hr : r < 256) (ht : t < 16384) :
    IntOp.cmpi .sle (IntOp.addi (IntOp.muli (BitVec.ofNat 32 p) 256#32) (BitVec.ofNat 32 r)) (BitVec.ofNat 32 t) = BitVec.ofBool (decide (256 * p + r ≤ t)) := by
  have e : IntOp.addi (IntOp.muli (BitVec.ofNat 32 p) 256#32) (BitVec.ofNat 32 r) = BitVec.ofNat 32 (256 * p + r) := by
    show BitVec.ofNat 32 p * BitVec.ofNat 32 256 + BitVec.ofNat 32 r = _
    rw [← BitVec.ofNat_mul, ← BitVec.ofNat_add, mul_comm p]
  rw [e]
  show BitVec.ofBool (decide ((BitVec.ofNat 32 (256 * p + r)).toInt ≤ (BitVec.ofNat 32 t).toInt)) = _
  rw [ofNat_toInt' _ (by omega), ofNat_toInt' _ (by omega)]
  congr 2
  exact propext Nat.cast_le

/-- The block of a position. -/
theorem own_eq (t : Fin 16384) : val_main_v7 (F := Ideal) (ix1 t) = BitVec.ofNat 32 (t.val / 256) := by
  pointwise [val_main_v6, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v7]
  have h := own_word ⟨t.val / 256, by omega⟩ ⟨t.val % 256, Nat.mod_lt _ (by norm_num)⟩
  simp only [Nat.div_add_mod] at h
  exact h

/-! ## The gates and the blocks chosen -/

variable (x0 x1 x2 : S16384x512.Idx → EReal) (h0 : ∀ i, x0 i ≠ ⊤ ∧ x0 i ≠ ⊥) (h1 : ∀ i, x1 i ≠ ⊤ ∧ x1 i ≠ ⊥)

/-- The gate of block `n` for position `t` and head `h`. -/
def gate (t h n : ℕ) : ℝ := ∑ f : Fin 64, KMof x1 n (64 * h + f.val) * re2 x0 t (64 * h + f.val)

include h0 h1 in
theorem gate_eq (t : Fin 16384) (h : Fin 8) (n : Fin 64) : val_main_v9 (F := Ideal) x0 x1 (ix3 t h n) = (gate x0 x1 t.val h.val n.val : EReal) := by
  pointwise [val_main_v0, val_main_v1, val_main_v2, val_main_cst, val_main_v3, val_main_cst_0, val_main_v4, val_main_v5, val_main_v8, val_main_v9]
  rw [gate, ← Cert.KernelIdeal.Hand.coe_dot]
  refine Finset.sum_congr rfl fun f _ => ?_
  rw [← mean_eq h1 _ _ n.isLt, ← at2_re h0, Cert.Moba.bits_256]
  congr 1
  · congr 1
    refine Finset.sum_congr rfl fun r _ => ?_
    exact (congrArg x1 (congrArg₂ ix2 (Fin.ext (by simp only; omega)) (Fin.ext (by simp only; omega)))).trans (at2_ix x1 ⟨256 * n.val + r.val, by omega⟩ ⟨64 * h.val + f.val, by omega⟩).symm
  · exact (congrArg x0 (congrArg₂ ix2 rfl (Fin.ext (by simp only; omega)))).trans (at2_ix x0 t ⟨64 * h.val + f.val, by omega⟩).symm

theorem neg_inf : Ideal.ofBits .f32 0xFF800000#32 = (⊥ : EReal) := by simp [Ideal.ofBits, Ideal.ieee]

include h0 h1 in
/-- The gates that `top_k` takes: −∞ from the position's own block on. -/
theorem v17_eq (t : Fin 16384) (h : Fin 8) (n : Fin 64) :
    val_main_v17 (F := Ideal) x0 x1 (ix3 t h n) = if n.val < t.val / 256 then (gate x0 x1 t.val h.val n.val : EReal) else ⊥ := by
  pointwise [val_main_v10, val_main_v11, val_main_v12, val_main_v13, val_main_v14, val_main_v15, val_main_v16, val_main_cst_1, val_main_call1_v0, val_main_call1_v1, val_main_call1_v2, val_main_v17]
  rw [own_eq, gate_eq x0 x1 h0 h1, slt64 n ⟨t.val / 256, by omega⟩]
  unfold Scalar.select
  by_cases hn : n.val < t.val / 256
  · rw [if_pos hn, decide_eq_true hn, if_pos (by decide)]
  · rw [if_neg hn, decide_eq_false hn, if_neg (by decide)]; exact neg_inf

/-- The block at place `j` of the sorted gates. -/
def pick (t : Fin 16384) (h : Fin 8) (j : Fin 3) : Fin 64 := sortedFrom (before fun k : Fin 64 => val_main_v17 (F := Ideal) x0 x1 (ix3 t h k)) (j.castLE (by norm_num))

theorem idx_eq (t : Fin 16384) (h : Fin 8) (j : Fin 3) : val_main_indices (F := Ideal) x0 x1 (ix3 t h j) = BitVec.ofNat 32 (pick x0 x1 t h j).val := by
  unfold val_main_indices pick
  exact topK_idx _ _ t h j

/-- The four blocks attended to: the three best and the own one. -/
def blk (t : Fin 16384) (h : Fin 8) (j : Fin 4) : Fin 64 := if hj : j.val < 3 then pick x0 x1 t h ⟨j.val, hj⟩ else ⟨t.val / 256, by omega⟩

theorem v20_eq (t : Fin 16384) (h : Fin 8) (j : Fin 4) : val_main_v20 (F := Ideal) x0 x1 (ix3 t h j) = BitVec.ofNat 32 (blk x0 x1 t h j).val := by
  pointwise [val_main_v18, val_main_v19, val_main_v20]
  unfold blk
  by_cases hj : j.val < 3
  · rw [dif_pos hj, dif_pos hj, idx_eq]
  · rw [dif_neg hj, dif_neg hj, own_eq]

theorem v31_eq (t : Fin 16384) (h : Fin 8) (j : Fin 4) : val_main_v31 (F := Ideal) x0 x1 (ix3 t h j) = BitVec.ofNat 32 (blk x0 x1 t h j).val := by
  pointwise [val_main_c_3, val_main_v27, val_main_v28, val_main_c_4, val_main_v29, val_main_v30, val_main_v31]
  rw [v20_eq]; exact wrap64 _

theorem v46_eq (t : Fin 16384) (h : Fin 8) (j : Fin 4) : val_main_v46 (F := Ideal) x0 x1 (ix3 t h j) = BitVec.ofNat 32 (blk x0 x1 t h j).val := by
  pointwise [val_main_c_7, val_main_v42, val_main_v43, val_main_c_8, val_main_v44, val_main_v45, val_main_v46]
  rw [v20_eq]; exact wrap64 _

theorem v40_eq (t : Fin 16384) (h : Fin 8) (j : Fin 4) : val_main_v40 (F := Ideal) x0 x1 (ix4 t h j 0) = BitVec.ofNat 32 (blk x0 x1 t h j).val
    ∧ val_main_v40 (F := Ideal) x0 x1 (ix4 t h j 1) = BitVec.ofNat 32 h.val := by
  constructor
  · pointwise [val_main_v38, val_main_v40]
    exact v31_eq x0 x1 t h j
  · pointwise [val_main_v25, val_main_v26, val_main_c_5, val_main_v32, val_main_v33, val_main_c_6, val_main_v34, val_main_v35, val_main_v36, val_main_v37, val_main_v39, val_main_v40]
    exact wrap8 h

theorem v55_eq (t : Fin 16384) (h : Fin 8) (j : Fin 4) : val_main_v55 (F := Ideal) x0 x1 (ix4 t h j 0) = BitVec.ofNat 32 (blk x0 x1 t h j).val
    ∧ val_main_v55 (F := Ideal) x0 x1 (ix4 t h j 1) = BitVec.ofNat 32 h.val := by
  constructor
  · pointwise [val_main_v53, val_main_v55]
    exact v46_eq x0 x1 t h j
  · pointwise [val_main_v25, val_main_v26, val_main_c_9, val_main_v47, val_main_v48, val_main_c_10, val_main_v49, val_main_v50, val_main_v51, val_main_v52, val_main_v54, val_main_v55]
    exact wrap8 h

/-! ## The gathered blocks -/

theorem gather_eq (x : S64x256x8x64.Idx → EReal) (ids : IVec S16384x8x4x2 32) (t : Fin 16384) (h : Fin 8) (j : Fin 4) (r : Fin 256) (f : Fin 64) (b : Fin 64)
    (hb : ids (ix4 t h j 0) = BitVec.ofNat 32 b.val) (hh : ids (ix4 t h j 1) = BitVec.ofNat 32 h.val) :
    Host.gather gather_S64x256x8x64_S16384x8x4x2_S16384x8x4x256x64_34_02_n_n_02_3_1256164 x ids (ix5 t h j r f) = x (ix4 b r h f) := by
  unfold Host.gather
  congr 1
  funext a
  refine Fin.ext ?_
  match a with
  | ⟨0, _⟩ =>
    refine Eq.trans ?_ (start64 b)
    rw [← hb]
    have e : GatherDims.siIdx gather_S64x256x8x64_S16384x8x4x2_S16384x8x4x256x64_34_02_n_n_02_3_1256164 (ix5 t h j r f) ⟨0, by decide⟩ = ix4 t h j 0 := by
      funext b; refine Fin.ext ?_
      match b with
      | ⟨0, _⟩ => rfl
      | ⟨1, _⟩ => rfl
      | ⟨2, _⟩ => rfl
      | ⟨3, _⟩ => rfl
    rw [← e]
    rfl
  | ⟨1, _⟩ => exact Nat.zero_add _
  | ⟨2, _⟩ =>
    refine Eq.trans ?_ (start8 h)
    rw [← hh]
    have e : GatherDims.siIdx gather_S64x256x8x64_S16384x8x4x2_S16384x8x4x256x64_34_02_n_n_02_3_1256164 (ix5 t h j r f) ⟨1, by decide⟩ = ix4 t h j 1 := by
      funext b; refine Fin.ext ?_
      match b with
      | ⟨0, _⟩ => rfl
      | ⟨1, _⟩ => rfl
      | ⟨2, _⟩ => rfl
      | ⟨3, _⟩ => rfl
    rw [← e]
    rfl
  | ⟨3, _⟩ => exact Nat.zero_add _

theorem v41_eq (t : Fin 16384) (h : Fin 8) (j : Fin 4) (r : Fin 256) (f : Fin 64) :
    val_main_v41 (F := Ideal) x0 x1 (ix5 t h j r f) = at2 x1 (256 * (blk x0 x1 t h j).val + r.val) (64 * h.val + f.val) := by
  unfold val_main_v41
  rw [gather_eq _ _ t h j r f _ (v40_eq x0 x1 t h j).1 (v40_eq x0 x1 t h j).2]
  pointwise [val_main_v1]
  exact (congrArg x1 (congrArg₂ ix2 (Fin.ext (by simp only; omega)) (Fin.ext (by simp only; omega)))).trans (at2_ix x1 ⟨256 * (blk x0 x1 t h j).val + r.val, by omega⟩ ⟨64 * h.val + f.val, by omega⟩).symm

theorem v56_eq (t : Fin 16384) (h : Fin 8) (j : Fin 4) (r : Fin 256) (f : Fin 64) :
    val_main_v56 (F := Ideal) x0 x1 x2 (ix5 t h j r f) = at2 x2 (256 * (blk x0 x1 t h j).val + r.val) (64 * h.val + f.val) := by
  unfold val_main_v56
  rw [gather_eq _ _ t h j r f _ (v55_eq x0 x1 t h j).1 (v55_eq x0 x1 t h j).2]
  pointwise [val_main_v2]
  exact (congrArg x2 (congrArg₂ ix2 (Fin.ext (by simp only; omega)) (Fin.ext (by simp only; omega)))).trans (at2_ix x2 ⟨256 * (blk x0 x1 t h j).val + r.val, by omega⟩ ⟨64 * h.val + f.val, by omega⟩).symm

/-! ## The scores -/

include h0 h1 in
theorem v74_eq (t : Fin 16384) (h : Fin 8) (j : Fin 4) (r : Fin 256) :
    val_main_v74 (F := Ideal) x0 x1 (ix4 t h j r) = if (j.val < 3 → (blk x0 x1 t h j).val < t.val / 256) ∧ 256 * (blk x0 x1 t h j).val + r.val ≤ t.val then
      (((∑ f : Fin 64, re2 x0 t.val (64 * h.val + f.val) * re2 x1 (256 * (blk x0 x1 t h j).val + r.val) (64 * h.val + f.val)) * 0.125 : ℝ) : EReal) else ⊥ := by
  have hkeep : (if h_1 : j.val < 3 then IntOp.cmpi CmpIPredicate.slt (val_main_indices (F := Ideal) x0 x1 (ix3 t h ⟨j.val, h_1⟩)) (val_main_v7 (F := Ideal) (ix1 t)) else 1#1)
      = BitVec.ofBool (decide (j.val < 3 → (blk x0 x1 t h j).val < t.val / 256)) := by
    by_cases hj : j.val < 3
    · rw [dif_pos hj, idx_eq, own_eq, slt64 _ ⟨t.val / 256, by omega⟩]
      congr 2
      unfold blk
      rw [dif_pos hj]
      simp [hj]
    · rw [dif_neg hj, decide_eq_true (fun h' => absurd h' hj)]; rfl
  pointwise [val_main_v57, val_main_c_11, val_main_v58, val_main_v59, val_main_v60, val_main_v61, val_main_v62, val_main_v63, val_main_v64, val_main_v65, val_main_v66, val_main_v67, val_main_v68, val_main_v69, val_main_v70, val_main_v71, val_main_cst_12, val_main_v72, val_main_v73, val_main_cst_13, val_main_call2_v0, val_main_call2_v1, val_main_v74, val_main_v6, val_main_v18, val_main_v19, val_main_v24, val_main_v23,  val_main_v22, val_main_v21, val_main_c_2]
  rw [hkeep, v20_eq, sle_word _ _ _ (blk x0 x1 t h j).isLt r.isLt t.isLt]
  have hs : (∑ x : Fin 64, val_main_v0 (F := Ideal) x0 (ix3 t h x) * val_main_v41 (F := Ideal) x0 x1 (ix5 t h j r x)) * Ideal.ofBits FTy.f32 0x3E000000#32
      = (((∑ f : Fin 64, re2 x0 t.val (64 * h.val + f.val) * re2 x1 (256 * (blk x0 x1 t h j).val + r.val) (64 * h.val + f.val)) * 0.125 : ℝ) : EReal) := by
    rw [bits_eighth, EReal.coe_mul, ← Cert.KernelIdeal.Hand.coe_dot]
    congr 1
    refine Finset.sum_congr rfl fun f _ => ?_
    rw [v41_eq, at2_re h1, ← at2_re h0]
    congr 1
    pointwise [val_main_v0]
    exact (congrArg x0 (congrArg₂ ix2 rfl (Fin.ext (by simp only; omega)))).trans (at2_ix x0 t ⟨64 * h.val + f.val, by omega⟩).symm
  rw [hs]
  by_cases hk : (j.val < 3 → (blk x0 x1 t h j).val < t.val / 256) <;> by_cases hr : 256 * (blk x0 x1 t h j).val + r.val ≤ t.val
  · rw [if_pos ⟨hk, hr⟩, decide_eq_true hk, decide_eq_true hr]; exact if_pos (by decide)
  · rw [if_neg (fun h' => hr h'.2), decide_eq_true hk, decide_eq_false hr]; exact (if_neg (by decide)).trans neg_inf
  · rw [if_neg (fun h' => hk h'.1), decide_eq_false hk, decide_eq_true hr]; exact (if_neg (by decide)).trans neg_inf
  · rw [if_neg (fun h' => hk h'.1), decide_eq_false hk, decide_eq_false hr]; exact (if_neg (by decide)).trans neg_inf

end Cert.ReferenceIdeal.Hand
end
-- ==== Proof.RRes.lean ====
/-
  The reference's result: every element is the attention of its position and head.
-/
module

public import proofs.«01_k».proof.Proof.RVal

@[expose] public section

set_option maxRecDepth 16384
set_option maxHeartbeats 1000000

noncomputable section

namespace Cert.ReferenceIdeal.Hand

open Cert.ReferenceIdeal Cert.ReferenceIdeal.Gen Cert.ReferenceIdeal.Read Cert.Moba
open Idealize.ShloMosaic Idealize.ShloMosaic.TcCoe Idealize.ShloMosaic.Tactic

/-! ## The largest score is a real number -/

theorem foldl_max_ne_top {ι : Type*} (l : List ι) (f : ι → EReal) (b : EReal) (hb : b ≠ ⊤) (hf : ∀ i ∈ l, f i ≠ ⊤) :
    l.foldl (fun a i => max a (f i)) b ≠ ⊤ := by
  induction l generalizing b with
  | nil => exact hb
  | cons i l ih =>
    refine ih _ ?_ fun k hk => hf k (List.mem_cons_of_mem _ hk)
    have := hf i List.mem_cons_self
    show max b (f i) ≠ ⊤
    rcases max_choice b (f i) with h | h <;> rw [h] <;> assumption

theorem init_le_foldl_max {ι : Type*} (l : List ι) (f : ι → EReal) (b : EReal) : b ≤ l.foldl (fun a i => max a (f i)) b := by
  induction l generalizing b with
  | nil => exact le_rfl
  | cons i l ih => exact (le_max_left _ _).trans (ih _)

theorem le_foldl_max {ι : Type*} (l : List ι) (f : ι → EReal) (b : EReal) (i : ι) (hi : i ∈ l) : f i ≤ l.foldl (fun a i => max a (f i)) b := by
  induction l generalizing b with
  | nil => exact absurd hi List.not_mem_nil
  | cons k l ih =>
    rcases List.mem_cons.1 hi with rfl | h
    · exact (le_max_right _ _).trans (init_le_foldl_max l f _)
    · exact ih _ h

variable (x0 x1 x2 : S16384x512.Idx → EReal) (h0 : ∀ i, x0 i ≠ ⊤ ∧ x0 i ≠ ⊥) (h1 : ∀ i, x1 i ≠ ⊤ ∧ x1 i ≠ ⊥)

theorem v75_eq (t : Fin 16384) (h : Fin 8) (x : Fin 1024) : val_main_v75 (F := Ideal) x0 x1 (ix3 t h x) =
    val_main_v74 (F := Ideal) x0 x1 (ix4 t h ⟨x.val / 256, by omega⟩ ⟨x.val % 256, by omega⟩) := by
  pointwise [val_main_v75]

include h0 h1 in
theorem v74_ne_top (t : Fin 16384) (h : Fin 8) (j : Fin 4) (r : Fin 256) : val_main_v74 (F := Ideal) x0 x1 (ix4 t h j r) ≠ ⊤ := by
  rw [v74_eq x0 x1 h0 h1]
  split_ifs
  · exact EReal.coe_ne_top _
  · exact bot_ne_top

include h0 h1 in
theorem v75_ne_top (i : S16384x8x1024.Idx) : val_main_v75 (F := Ideal) x0 x1 i ≠ ⊤ := by
  have e : i = ix3 (⟨(i 0).val, (i 0).isLt⟩ : Fin 16384) (⟨(i 1).val, (i 1).isLt⟩ : Fin 8) (⟨(i 2).val, (i 2).isLt⟩ : Fin 1024) := eq_ix3 i
  rw [e, v75_eq]
  exact v74_ne_top x0 x1 h0 h1 _ _ _ _

include h0 h1 in
theorem v76_real (t : Fin 16384) (h : Fin 8) : ∃ μ : ℝ, val_main_v76 (F := Ideal) x0 x1 (ix2 t h) = (μ : EReal) := by
  have hr : t.val % 256 < 256 := Nat.mod_lt _ (by norm_num)
  have hown : val_main_v75 (F := Ideal) x0 x1 (ix3 t h ⟨768 + t.val % 256, by omega⟩) ≠ ⊥ := by
    rw [v75_eq]
    have e : (ix4 t h ⟨(768 + t.val % 256) / 256, by omega⟩ ⟨(768 + t.val % 256) % 256, by omega⟩ : S16384x8x4x256.Idx) = ix4 t h (3 : Fin 4) ⟨t.val % 256, hr⟩ := by
      congr 1
      · exact Fin.ext (by show (768 + t.val % 256) / 256 = 3; omega)
      · exact Fin.ext (by show (768 + t.val % 256) % 256 = t.val % 256; omega)
    rw [e, v74_eq x0 x1 h0 h1, if_pos]
    · exact EReal.coe_ne_bot _
    · refine ⟨fun h' => absurd h' (by decide), ?_⟩
      show 256 * (t.val / 256) + t.val % 256 ≤ t.val
      omega
  unfold val_main_v76
  rw [Host.reduce_eq_foldl]
  generalize hl : (List.map (⇑S16384x8x1024.rowMajor.symm) (List.finRange S16384x8x1024.numel)).filter (fun i => decide (reducesTo_S16384x8x1024_S16384x8_d2.drop i = ix2 t h)) = l
  refine ⟨_, (EReal.coe_toReal (foldl_max_ne_top l _ _ ?_ ?_) ?_).symm⟩
  · show Ideal.ofBits .f32 0xFF800000#32 ≠ ⊤
    rw [neg_inf]; exact bot_ne_top
  · intro i _
    exact v75_ne_top x0 x1 h0 h1 i
  · intro hbot
    have hm : ix3 t h (⟨768 + t.val % 256, by omega⟩ : Fin 1024) ∈ l := by
      rw [← hl, List.mem_filter]
      refine ⟨List.mem_map.2 ⟨S16384x8x1024.rowMajor _, List.mem_finRange _, Equiv.symm_apply_apply _ _⟩, decide_eq_true ?_⟩
      funext a
      match a with
      | ⟨0, _⟩ => rfl
      | ⟨1, _⟩ => rfl
    exact hown (le_bot_iff.1 (hbot ▸ le_foldl_max l _ _ _ hm))

include h0 h1 in
theorem v78_real (t : Fin 16384) (h : Fin 8) : ∃ μ : ℝ, val_main_v78 (F := Ideal) x0 x1 (ix2 t h) = (μ : EReal) := by
  obtain ⟨μ, e⟩ := v76_real x0 x1 h0 h1 t h
  refine ⟨μ, ?_⟩
  rw [val_main_v78_apply, e]
  show max (Ideal.ofBits .f32 0xFF800000#32) (μ : EReal) = μ
  rw [neg_inf]; exact max_eq_right bot_le

/-! ## The weights -/

theorem v82_eq (t : Fin 16384) (h : Fin 8) (x : Fin 1024) : val_main_v82 (F := Ideal) x0 x1 (ix3 t h x) =
    Ideal.exp (val_main_v74 (F := Ideal) x0 x1 (ix4 t h ⟨x.val / 256, by omega⟩ ⟨x.val % 256, by omega⟩) - val_main_v78 (F := Ideal) x0 x1 (ix2 t h)) := by
  pointwise [val_main_v79, val_main_v80, val_main_v81, val_main_v82]
  rw [v75_eq]

theorem v86_eq (t : Fin 16384) (h : Fin 8) (x : Fin 1024) : val_main_v86 (F := Ideal) x0 x1 (ix3 t h x) =
    Ideal.div (val_main_v82 (F := Ideal) x0 x1 (ix3 t h x)) (∑ y : Fin 1024, val_main_v82 (F := Ideal) x0 x1 (ix3 t h y)) := by
  pointwise [val_main_cst_16, val_main_v83, val_main_v84, val_main_v85, val_main_v86]

theorem v87_eq (t : Fin 16384) (h : Fin 8) (j : Fin 4) (r : Fin 256) : val_main_v87 (F := Ideal) x0 x1 (ix4 t h j r) =
    val_main_v86 (F := Ideal) x0 x1 (ix3 t h ⟨256 * j.val + r.val, by omega⟩) := by
  rw [val_main_v87_apply]
  congr 1
  funext a
  match a with
  | ⟨0, _⟩ => exact Fin.ext (by show ((((t.val * 8 + h.val) * 4 + j.val) * 256 + r.val) / 8192 = t.val); omega)
  | ⟨1, _⟩ => exact Fin.ext (by show ((((t.val * 8 + h.val) * 4 + j.val) * 256 + r.val) / 1024 % 8 = h.val); omega)
  | ⟨2, _⟩ => exact Fin.ext (by show ((((t.val * 8 + h.val) * 4 + j.val) * 256 + r.val) % 1024 = 256 * j.val + r.val); omega)

/-- A sum over 1024 places is a sum over four blocks of 256. -/
theorem sum_1024 (f : Fin 1024 → EReal) : ∑ y : Fin 1024, f y = ∑ j : Fin 4, ∑ r : Fin 256, f ⟨256 * j.val + r.val, by omega⟩ := by
  rw [← (finProdFinEquiv : Fin 4 × Fin 256 ≃ Fin (4 * 256)).sum_comp, ← Finset.univ_product_univ, Finset.sum_product]
  refine Finset.sum_congr rfl fun j _ => Finset.sum_congr rfl fun r _ => congrArg f (Fin.ext ?_)
  show r.val + 256 * j.val = 256 * j.val + r.val
  omega

theorem v87_soft (t : Fin 16384) (h : Fin 8) (j : Fin 4) (r : Fin 256) : val_main_v87 (F := Ideal) x0 x1 (ix4 t h j r) =
    Ideal.div (Ideal.exp (val_main_v74 (F := Ideal) x0 x1 (ix4 t h j r) - val_main_v78 (F := Ideal) x0 x1 (ix2 t h)))
      (∑ j : Fin 4, ∑ r : Fin 256, Ideal.exp (val_main_v74 (F := Ideal) x0 x1 (ix4 t h j r) - val_main_v78 (F := Ideal) x0 x1 (ix2 t h))) := by
  have e : ∀ (j : Fin 4) (r : Fin 256), (ix4 t h ⟨(256 * j.val + r.val) / 256, by omega⟩ ⟨(256 * j.val + r.val) % 256, by omega⟩ : S16384x8x4x256.Idx) = ix4 t h j r := by
    intro j r
    congr 1
    · exact Fin.ext (by show (256 * j.val + r.val) / 256 = j.val; omega)
    · exact Fin.ext (by show (256 * j.val + r.val) % 256 = r.val; omega)
  rw [v87_eq, v86_eq, sum_1024]
  simp only [v82_eq, e]

theorem v90_sum (t : Fin 16384) (e : Fin 512) : val_main_v90 (F := Ideal) x0 x1 x2 (ix2 t e) =
    ∑ j : Fin 4, ∑ r : Fin 256, val_main_v87 (F := Ideal) x0 x1 (ix4 t ⟨e.val / 64, by omega⟩ j r) *
      val_main_v56 (F := Ideal) x0 x1 x2 (ix5 t ⟨e.val / 64, by omega⟩ j r ⟨e.val % 64, by omega⟩) := by
  rw [Finset.sum_comm]
  pointwise [val_main_v88, val_main_v89, val_main_v90]

/-! ## The result -/

theorem pick_inj (t : Fin 16384) (h : Fin 8) : Function.Injective (pick x0 x1 t h) := fun a b hab =>
  Fin.castLE_injective (by norm_num) (sortedFrom_injective _ hab)

include h0 h1 in
theorem result_eq (t : Fin 16384) (e : Fin 512) : val_main_v90 (F := Ideal) x0 x1 x2 (ix2 t e) =
    headAttend (QTof x0) (re2 x1) (KMof x1) (VVof x2) (e.val / 64) (e.val % 64) (t.val / 256) ⟨t.val % 256, Nat.mod_lt _ (by norm_num)⟩ := by
  obtain ⟨μ, hμ⟩ := v78_real x0 x1 h0 h1 t ⟨e.val / 64, by omega⟩
  have ht : 256 * (t.val / 256) + t.val % 256 = t.val := Nat.div_add_mod _ _
  have hl2 : Real.log 2 ≠ 0 := log2_pos.ne'
  rw [v90_sum]
  simp only [v87_soft, hμ]
  unfold headAttend
  have hs : ∀ (n : ℕ) (r : Fin 256), (∑ f : Fin 64, re2 x1 (256 * n + r.val) (64 * (e.val / 64) + f.val) * QTof x0 (64 * (e.val / 64) + f.val) (256 * (t.val / 256) + t.val % 256)) * Real.log 2
      = (∑ f : Fin 64, re2 x0 t.val (64 * (e.val / 64) + f.val) * re2 x1 (256 * n + r.val) (64 * (e.val / 64) + f.val)) * 0.125 := by
    intro n r
    rw [ht, Finset.sum_mul, Finset.sum_mul]
    refine Finset.sum_congr rfl fun f _ => ?_
    unfold QTof qscale
    field_simp
  refine soft_eq (t.val / 256) ⟨t.val % 256, Nat.mod_lt _ (by norm_num)⟩ _ _ _ (fun j => (pick x0 x1 t ⟨e.val / 64, by omega⟩ j).val)
    (fun a b hab => pick_inj x0 x1 t ⟨e.val / 64, by omega⟩ (Fin.ext hab)) (fun n => ?_) _ _ μ (fun j r => ?_) (fun r => ?_) (fun j r hj => ?_) (fun r => ?_)
  · refine (picked_scale (fun n => gate x0 x1 t.val (e.val / 64) n) qscale qscale_pos _ _ (fun n _ => ?_) n).trans
      (picked_sorted _ _ _ (fun k => v17_eq x0 x1 h0 h1 t ⟨e.val / 64, by omega⟩ k) (by omega) n)
    unfold gate QTof
    rw [ht, Finset.mul_sum]
    exact Finset.sum_congr rfl fun f _ => by ring
  · rw [v74_eq x0 x1 h0 h1, hs]
    have hb : blk x0 x1 t ⟨e.val / 64, by omega⟩ j.castSucc = pick x0 x1 t ⟨e.val / 64, by omega⟩ j := dif_pos j.isLt
    rw [hb]
    by_cases hj : (pick x0 x1 t ⟨e.val / 64, by omega⟩ j).val < t.val / 256
    · rw [if_pos hj, if_pos ⟨fun _ => hj, by omega⟩]
    · rw [if_neg hj, if_neg fun h' => hj (h'.1 j.isLt)]
  · rw [v74_eq x0 x1 h0 h1, hs]
    have hb : blk x0 x1 t ⟨e.val / 64, by omega⟩ 3 = ⟨t.val / 256, by omega⟩ := dif_neg (by decide)
    rw [hb]
    by_cases hr : r.val ≤ t.val % 256
    · rw [if_pos (show r ≤ ⟨t.val % 256, Nat.mod_lt _ (by norm_num)⟩ from hr), if_pos ⟨fun h' => absurd h' (by decide), by show 256 * (t.val / 256) + r.val ≤ t.val; omega⟩]
    · rw [if_neg (show ¬ r ≤ ⟨t.val % 256, Nat.mod_lt _ (by norm_num)⟩ from hr), if_neg fun h' => hr (by have : 256 * (t.val / 256) + r.val ≤ t.val := h'.2; omega)]
  · have hb : blk x0 x1 t ⟨e.val / 64, by omega⟩ j.castSucc = pick x0 x1 t ⟨e.val / 64, by omega⟩ j := dif_pos j.isLt
    rw [v56_eq, hb]
    exact (if_pos (Nat.mod_lt _ (by norm_num))).symm
  · have hb : blk x0 x1 t ⟨e.val / 64, by omega⟩ 3 = ⟨t.val / 256, by omega⟩ := dif_neg (by decide)
    rw [v56_eq, hb]
    exact (if_pos (Nat.mod_lt _ (by norm_num))).symm

end Cert.ReferenceIdeal.Hand
end
-- ==== Proof.lean ====
module

public import proofs.«01_k».proof.Defs
public import proofs.«01_k».proof.Proof.Gen.Pre_finite_qk
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2.Frame
public import proofs.«01_k».proof.Proof.R2Val
public import proofs.«01_k».proof.Proof.Gen.Kernel3.Frame
public import proofs.«01_k».proof.Proof.V3
public import proofs.«01_k».proof.Proof.Gen.Kernel4.Frame
public import proofs.«01_k».proof.Proof.V4
public import proofs.«01_k».proof.Proof.Gen.Kernel5.Frame
public import proofs.«01_k».proof.Proof.V5
public import proofs.«01_k».proof.Proof.Gen.Kernel6.Frame
public import proofs.«01_k».proof.Proof.V6
public import proofs.«01_k».proof.Proof.Gen.Kernel7.Frame
public import proofs.«01_k».proof.Proof.V7
public import proofs.«01_k».proof.Proof.Body
public import proofs.«01_k».proof.Proof.BodyIdeal
public import proofs.«01_k».proof.Proof.KHost
public import proofs.«01_k».proof.Proof.RRes
public import Idealize.ShloMosaic.Adequacy
public import Idealize.ShloMosaic.Init

@[expose] public section

noncomputable section

namespace Cert.Proof

open Idealize.ShloMosaic Idealize.SL.Sem

/-- Every run of the reference ends with its arguments unchanged and every semaphore counter at zero: it declares no semaphore. -/
theorem frame_r : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

/-- On finite queries and keys the reference's result is the attention of every position and head, which is what the kernel writes. -/
theorem reference_value (x0 x1 x2 : Cert.ReferenceIdeal.S16384x512.Idx → EReal) (h0 : ∀ i, x0 i ≠ ⊤ ∧ x0 i ≠ ⊥) (h1 : ∀ i, x1 i ≠ ⊤ ∧ x1 i ≠ ⊥) :
    Cert.ReferenceIdeal.Read.val_main_v90 (F := Ideal) x0 x1 x2
      = Cert.KernelIdeal.Hand.G (Cert.Moba.QTof x0) (Cert.Moba.re2 x1) (Cert.Moba.KMof x1) (Cert.Moba.VVof x2) := by
  funext j
  have e : j = ix2 (⟨(j 0).val, (j 0).isLt⟩ : Fin 16384) (⟨(j 1).val, (j 1).isLt⟩ : Fin 512) := eq_ix2 j
  rw [e]
  exact Cert.ReferenceIdeal.Hand.result_eq x0 x1 x2 h0 h1 _ _

/-- With real numbers for floats and finite queries and keys, the kernel and the reference end with the same result and leave their arguments as they were. -/
theorem value : Cert.algebraic_KernelIdeal_ReferenceIdeal_pre_finite_qk := by
  intro m g m' g' hp ha
  obtain ⟨h0, h1⟩ := Cert.KernelIdeal.Hand.finite_of_pre Cert.Pre_finite_qk.Gen.facts _ _ _ (hp 0)
  refine ⟨fun _ => Cert.KernelIdeal.Hand.G (Cert.Moba.QTof (Cert.KernelIdeal.Hand.A0 m 0)) (Cert.Moba.re2 (Cert.KernelIdeal.Hand.A1 m 0))
    (Cert.Moba.KMof (Cert.KernelIdeal.Hand.A1 m 0)) (Cert.Moba.VVof (Cert.KernelIdeal.Hand.A2 m 0)), Cert.KernelIdeal.Hand.value_k m g h0 h1, ?_⟩
  refine (θ_run Cert.ReferenceIdeal.defs _ _).mono (fun r h c => ⟨?_, (h c).2⟩) (Cert.ReferenceIdeal.Value.run m' g')
  obtain rfl : c = 0 := Subsingleton.elim (α := Fin 1) c 0
  rw [(h 0).1, Cert.ReferenceIdeal.Read.val_main_v90_eq, (ha 0).1, (ha 0).2.1, (ha 0).2.2]
  exact reference_value _ _ _ h0 h1

/-- Every run of the feed-forward network's reference ends with its arguments unchanged and every semaphore counter at zero. -/
theorem frame_r2 : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run m ρ)

/-- The feed-forward network's reference has the values of the kernel's result array. -/
theorem reference_value2 (x0 : Cert.Reference2Ideal.S16384x1024.Idx → EReal) (x1 : Cert.Reference2Ideal.S1024.Idx → EReal)
    (x2 : Cert.Reference2Ideal.S1024x4096.Idx → EReal) (x3 : Cert.Reference2Ideal.S4096x1024.Idx → EReal) :
    Cert.Reference2Ideal.Read.val_main_v17 (F := Ideal) x0 x1 x2 x3
      = fun j => Cert.Kernel2Ideal.Hand.ffnAt x0 x1 x2 x3 ⟨(j 0).val, (j 0).isLt⟩ ⟨(j 1).val, (j 1).isLt⟩ := by
  funext j
  have e : j = ix2 (⟨(j 0).val, (j 0).isLt⟩ : Fin 16384) (⟨(j 1).val, (j 1).isLt⟩ : Fin 1024) := eq_ix2 j
  exact (congrArg _ e).trans (Cert.Reference2Ideal.Hand.result_at x0 x1 x2 x3 _ _)

/-- With real numbers for floats, the feed-forward network's kernel and its reference end with the same result, whatever the arguments, and leave them as they were. -/
theorem value2 : Cert.algebraic_Kernel2Ideal_Reference2Ideal := by
  intro m g m' g' _ ha
  refine ⟨fun c => Cert.Kernel2Ideal.Hand.G m c, Cert.Kernel2Ideal.Hand.value_k m g, ?_⟩
  refine (θ_run Cert.Reference2Ideal.defs _ _).mono (fun r h c => ⟨?_, (h c).2⟩) (Cert.Reference2Ideal.Value.run m' g')
  rw [(h c).1, Cert.Reference2Ideal.Read.val_main_v17_eq, (ha c).1, (ha c).2.1, (ha c).2.2.1, (ha c).2.2.2]
  exact reference_value2 _ _ _ _

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_qk.Gen.facts, Cert.Pre_finite_mix2.Gen.facts, Cert.Pre_finite_mix.Gen.facts,
  fun m g _ => Cert.Kernel.Hand.frame m g, fun m g _ => Cert.KernelIdeal.Hand.frame m g, fun m g _ => Cert.KernelIdeal.Hand.frame m g,
  frame_r, fun m g _ => frame_r m g trivial,
  fun m g _ => Cert.Kernel2.Gen.frame m g, fun m g _ => Cert.Kernel2Ideal.Gen.frame m g, frame_r2,
  fun m g _ => Cert.Kernel3.Gen.frame m g, fun m g _ => Cert.Kernel3Ideal.Gen.frame m g, frame_r3,
  fun m g _ => Cert.Kernel4.Gen.frame m g, fun m g _ => Cert.Kernel4Ideal.Gen.frame m g, fun m g _ => Cert.Kernel4Ideal.Gen.frame m g, frame_r4, fun m g _ => frame_r4 m g trivial,
  fun m g _ => Cert.Kernel5.Gen.frame m g, fun m g _ => Cert.Kernel5Ideal.Gen.frame m g, fun m g _ => Cert.Kernel5Ideal.Gen.frame m g, frame_r5, fun m g _ => frame_r5 m g trivial,
  fun m g _ => Cert.Kernel6.Gen.frame m g, fun m g _ => Cert.Kernel6Ideal.Gen.frame m g, frame_r6,
  fun m g _ => Cert.Kernel7.Gen.frame m g, fun m g _ => Cert.Kernel7Ideal.Gen.frame m g, frame_r7,
  ⟨IdealRules.named_const.statement Cert.KernelIdeal.κ "neg" .f32 0xF149F2CA#32 ⊥ rfl,
   IdealRules.named_const.statement Cert.KernelIdeal.κ "half_neg" .f32 0xF0C9F2CA#32 ⊥ rfl,
   IdealRules.named_const.statement Cert.KernelIdeal.κ "pos" .f32 0x7149F2CA#32 ⊤ rfl⟩,
  value,
  trivial, value2,
  trivial, value3,
  trivial, value4,
  trivial, value5,
  trivial, value6,
  trivial, value7⟩

end Cert.Proof

end
